-- ==== Defs.lean ====
def Pre_Kernel (m : (ℓ : Loc Cert.Kernel.nD Cert.Kernel.τ Cert.Kernel.sig) → Buf (Elt Bits) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInSample (m : (ℓ : Loc Cert.KernelInSample.nD Cert.KernelInSample.τ Cert.KernelInSample.sig) → Buf (Elt Bits) ℓ) : Prop :=
  True

def Pre_KernelInSampleIdeal (m : (ℓ : Loc Cert.KernelInSampleIdeal.nD Cert.KernelInSampleIdeal.τ Cert.KernelInSampleIdeal.sig) → Buf (Elt Ideal) ℓ) : Prop :=
  True

def Pre_ReferenceInSampleIdeal (m : (ℓ : Loc Cert.ReferenceInSampleIdeal.nD Cert.ReferenceInSampleIdeal.τ Cert.ReferenceInSampleIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelMoe (m : (ℓ : Loc Cert.KernelMoe.nD Cert.KernelMoe.τ Cert.KernelMoe.sig) → Buf (Elt Bits) ℓ) : Prop :=
  True

def Pre_KernelMoeIdeal (m : (ℓ : Loc Cert.KernelMoeIdeal.nD Cert.KernelMoeIdeal.τ Cert.KernelMoeIdeal.sig) → Buf (Elt Ideal) ℓ) : Prop :=
  True

def Pre_ReferenceMoeIdeal (m : (ℓ : Loc Cert.ReferenceMoeIdeal.nD Cert.ReferenceMoeIdeal.τ Cert.ReferenceMoeIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6)) (m ((c.tc : Thread Cert.KernelMixIdeal.nD Cert.KernelMixIdeal.τ).loc Cert.KernelMixIdeal.main_arg7)) (m ((c.tc : Thread Cert.KernelMixIdeal.nD Cert.KernelMixIdeal.τ).loc Cert.KernelMixIdeal.main_arg8)) (m ((c.tc : Thread Cert.KernelMixIdeal.nD Cert.KernelMixIdeal.τ).loc Cert.KernelMixIdeal.main_arg9)) (m ((c.tc : Thread Cert.KernelMixIdeal.nD Cert.KernelMixIdeal.τ).loc Cert.KernelMixIdeal.main_arg10)) (m ((c.tc : Thread Cert.KernelMixIdeal.nD Cert.KernelMixIdeal.τ).loc Cert.KernelMixIdeal.main_arg11)) (m ((c.tc : Thread Cert.KernelMixIdeal.nD Cert.KernelMixIdeal.τ).loc Cert.KernelMixIdeal.main_arg12)) (m ((c.tc : Thread Cert.KernelMixIdeal.nD Cert.KernelMixIdeal.τ).loc Cert.KernelMixIdeal.main_arg13)) (m ((c.tc : Thread Cert.KernelMixIdeal.nD Cert.KernelMixIdeal.τ).loc Cert.KernelMixIdeal.main_arg14)) (m ((c.tc : Thread Cert.KernelMixIdeal.nD Cert.KernelMixIdeal.τ).loc Cert.KernelMixIdeal.main_arg15))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6)) (m ((c.tc : Thread Cert.ReferenceMixIdeal.nD Cert.ReferenceMixIdeal.τ).loc Cert.ReferenceMixIdeal.main_arg7)) (m ((c.tc : Thread Cert.ReferenceMixIdeal.nD Cert.ReferenceMixIdeal.τ).loc Cert.ReferenceMixIdeal.main_arg8)) (m ((c.tc : Thread Cert.ReferenceMixIdeal.nD Cert.ReferenceMixIdeal.τ).loc Cert.ReferenceMixIdeal.main_arg9)) (m ((c.tc : Thread Cert.ReferenceMixIdeal.nD Cert.ReferenceMixIdeal.τ).loc Cert.ReferenceMixIdeal.main_arg10)) (m ((c.tc : Thread Cert.ReferenceMixIdeal.nD Cert.ReferenceMixIdeal.τ).loc Cert.ReferenceMixIdeal.main_arg11)) (m ((c.tc : Thread Cert.ReferenceMixIdeal.nD Cert.ReferenceMixIdeal.τ).loc Cert.ReferenceMixIdeal.main_arg12)) (m ((c.tc : Thread Cert.ReferenceMixIdeal.nD Cert.ReferenceMixIdeal.τ).loc Cert.ReferenceMixIdeal.main_arg13)) (m ((c.tc : Thread Cert.ReferenceMixIdeal.nD Cert.ReferenceMixIdeal.τ).loc Cert.ReferenceMixIdeal.main_arg14)) (m ((c.tc : Thread Cert.ReferenceMixIdeal.nD Cert.ReferenceMixIdeal.τ).loc Cert.ReferenceMixIdeal.main_arg15))) = (fun _ => 1#1)

def Pre_KernelExperts (m : (ℓ : Loc Cert.KernelExperts.nD Cert.KernelExperts.τ Cert.KernelExperts.sig) → Buf (Elt Bits) ℓ) : Prop :=
  True

def Pre_KernelExpertsIdeal (m : (ℓ : Loc Cert.KernelExpertsIdeal.nD Cert.KernelExpertsIdeal.τ Cert.KernelExpertsIdeal.sig) → Buf (Elt Ideal) ℓ) : Prop :=
  True

def Pre_KernelExpertsIdeal_finite_experts [hPre_finite_experts : Cert.Pre_finite_experts.Facts] (m : (ℓ : Loc Cert.KernelExpertsIdeal.nD Cert.KernelExpertsIdeal.τ Cert.KernelExpertsIdeal.sig) → Buf (Elt Ideal) ℓ) : Prop :=
  ∀ c : Dev Cert.KernelExpertsIdeal.nD,
    (Cert.Pre_finite_experts.fn (F := Ideal) (m ((c.tc : Thread Cert.KernelExpertsIdeal.nD Cert.KernelExpertsIdeal.τ).loc Cert.KernelExpertsIdeal.main_arg0)) (m ((c.tc : Thread Cert.KernelExpertsIdeal.nD Cert.KernelExpertsIdeal.τ).loc Cert.KernelExpertsIdeal.main_arg1)) (m ((c.tc : Thread Cert.KernelExpertsIdeal.nD Cert.KernelExpertsIdeal.τ).loc Cert.KernelExpertsIdeal.main_arg2)) (m ((c.tc : Thread Cert.KernelExpertsIdeal.nD Cert.KernelExpertsIdeal.τ).loc Cert.KernelExpertsIdeal.main_arg3)) (m ((c.tc : Thread Cert.KernelExpertsIdeal.nD Cert.KernelExpertsIdeal.τ).loc Cert.KernelExpertsIdeal.main_arg4)) (m ((c.tc : Thread Cert.KernelExpertsIdeal.nD Cert.KernelExpertsIdeal.τ).loc Cert.KernelExpertsIdeal.main_arg5)) (m ((c.tc : Thread Cert.KernelExpertsIdeal.nD Cert.KernelExpertsIdeal.τ).loc Cert.KernelExpertsIdeal.main_arg6)) (m ((c.tc : Thread Cert.KernelExpertsIdeal.nD Cert.KernelExpertsIdeal.τ).loc Cert.KernelExpertsIdeal.main_arg7)) (m ((c.tc : Thread Cert.KernelExpertsIdeal.nD Cert.KernelExpertsIdeal.τ).loc Cert.KernelExpertsIdeal.main_arg8)) (m ((c.tc : Thread Cert.KernelExpertsIdeal.nD Cert.KernelExpertsIdeal.τ).loc Cert.KernelExpertsIdeal.main_arg9))) = (fun _ => 1#1)

def Pre_ReferenceExpertsIdeal (m : (ℓ : Loc Cert.ReferenceExpertsIdeal.nD Cert.ReferenceExpertsIdeal.τ Cert.ReferenceExpertsIdeal.sig) → Buf (Elt Ideal) ℓ) : Prop :=
  True

def Pre_ReferenceExpertsIdeal_finite_experts [hPre_finite_experts : Cert.Pre_finite_experts.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_finite_experts.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4)) (m ((c.tc : Thread Cert.ReferenceExpertsIdeal.nD Cert.ReferenceExpertsIdeal.τ).loc Cert.ReferenceExpertsIdeal.main_arg5)) (m ((c.tc : Thread Cert.ReferenceExpertsIdeal.nD Cert.ReferenceExpertsIdeal.τ).loc Cert.ReferenceExpertsIdeal.main_arg6)) (m ((c.tc : Thread Cert.ReferenceExpertsIdeal.nD Cert.ReferenceExpertsIdeal.τ).loc Cert.ReferenceExpertsIdeal.main_arg7)) (m ((c.tc : Thread Cert.ReferenceExpertsIdeal.nD Cert.ReferenceExpertsIdeal.τ).loc Cert.ReferenceExpertsIdeal.main_arg8)) (m ((c.tc : Thread Cert.ReferenceExpertsIdeal.nD Cert.ReferenceExpertsIdeal.τ).loc Cert.ReferenceExpertsIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelInSample [hKernelInSample : Cert.KernelInSample.Facts] : Prop :=
  ∀ (m : (ℓ : Loc Cert.KernelInSample.nD Cert.KernelInSample.τ Cert.KernelInSample.sig) → Buf (Elt Bits) ℓ) (g : Dev Cert.KernelInSample.nD → PrngReg), Pre_KernelInSample m →
    θ_run (Cert.KernelInSample.defs (F := Bits)) (onTc (τ := Cert.KernelInSample.τ) (Cert.KernelInSample.main (F := Bits))) ⟨m, fun _ => 0, g⟩ (fun r => (∀ c : Dev Cert.KernelInSample.nD,
      r.2.mem ((c.tc : Thread Cert.KernelInSample.nD Cert.KernelInSample.τ).loc Cert.KernelInSample.main_arg0) = m ((c.tc : Thread Cert.KernelInSample.nD Cert.KernelInSample.τ).loc Cert.KernelInSample.main_arg0)
      ∧ r.2.mem ((c.tc : Thread Cert.KernelInSample.nD Cert.KernelInSample.τ).loc Cert.KernelInSample.main_arg1) = m ((c.tc : Thread Cert.KernelInSample.nD Cert.KernelInSample.τ).loc Cert.KernelInSample.main_arg1)
      ∧ r.2.mem ((c.tc : Thread Cert.KernelInSample.nD Cert.KernelInSample.τ).loc Cert.KernelInSample.main_arg2) = m ((c.tc : Thread Cert.KernelInSample.nD Cert.KernelInSample.τ).loc Cert.KernelInSample.main_arg2))
      ∧ r.2.sem = fun _ => 0)

def quiescent_KernelInSampleIdeal [hKernelInSampleIdeal : Cert.KernelInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg), Pre_KernelInSampleIdeal m →
    θ_run (Cert.KernelInSampleIdeal.defs (F := Ideal)) (onTc (τ := Cert.KernelInSampleIdeal.τ) (Cert.KernelInSampleIdeal.main (F := Ideal))) ⟨m, fun _ => 0, g⟩ (fun r => (∀ c : Dev Cert.KernelInSampleIdeal.nD,
      r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
      ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
      ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2))
      ∧ r.2.sem = fun _ => 0)

def quiescent_ReferenceInSampleIdeal [hReferenceInSampleIdeal : Cert.ReferenceInSampleIdeal.Facts] : Prop :=
  ∀ (m : (ℓ : Loc Cert.ReferenceInSampleIdeal.nD Cert.ReferenceInSampleIdeal.τ Cert.ReferenceInSampleIdeal.sig) → Buf (Elt Ideal) ℓ) (g : Dev Cert.ReferenceInSampleIdeal.nD → PrngReg), Pre_ReferenceInSampleIdeal m →
    θ_run (Cert.ReferenceInSampleIdeal.defs (F := Ideal)) (onTc (τ := Cert.ReferenceInSampleIdeal.τ) (Cert.ReferenceInSampleIdeal.main (F := Ideal))) ⟨m, fun _ => 0, g⟩ (fun r => (∀ c : Dev Cert.ReferenceInSampleIdeal.nD,
      r.2.mem ((c.tc : Thread Cert.ReferenceInSampleIdeal.nD Cert.ReferenceInSampleIdeal.τ).loc Cert.ReferenceInSampleIdeal.main_arg0) = m ((c.tc : Thread Cert.ReferenceInSampleIdeal.nD Cert.ReferenceInSampleIdeal.τ).loc Cert.ReferenceInSampleIdeal.main_arg0)
      ∧ r.2.mem ((c.tc : Thread Cert.ReferenceInSampleIdeal.nD Cert.ReferenceInSampleIdeal.τ).loc Cert.ReferenceInSampleIdeal.main_arg1) = m ((c.tc : Thread Cert.ReferenceInSampleIdeal.nD Cert.ReferenceInSampleIdeal.τ).loc Cert.ReferenceInSampleIdeal.main_arg1)
      ∧ r.2.mem ((c.tc : Thread Cert.ReferenceInSampleIdeal.nD Cert.ReferenceInSampleIdeal.τ).loc Cert.ReferenceInSampleIdeal.main_arg2) = m ((c.tc : Thread Cert.ReferenceInSampleIdeal.nD Cert.ReferenceInSampleIdeal.τ).loc Cert.ReferenceInSampleIdeal.main_arg2))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3))
      ∧ r.2.sem = fun _ => 0)

def quiescent_KernelMoe [hKernelMoe : Cert.KernelMoe.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5))
      ∧ r.2.sem = fun _ => 0)

def quiescent_KernelMoeIdeal [hKernelMoeIdeal : Cert.KernelMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9)
      ∧ r.2.mem ((c.tc : Thread Cert.KernelMix.nD Cert.KernelMix.τ).loc Cert.KernelMix.main_arg10) = m ((c.tc : Thread Cert.KernelMix.nD Cert.KernelMix.τ).loc Cert.KernelMix.main_arg10)
      ∧ r.2.mem ((c.tc : Thread Cert.KernelMix.nD Cert.KernelMix.τ).loc Cert.KernelMix.main_arg11) = m ((c.tc : Thread Cert.KernelMix.nD Cert.KernelMix.τ).loc Cert.KernelMix.main_arg11)
      ∧ r.2.mem ((c.tc : Thread Cert.KernelMix.nD Cert.KernelMix.τ).loc Cert.KernelMix.main_arg12) = m ((c.tc : Thread Cert.KernelMix.nD Cert.KernelMix.τ).loc Cert.KernelMix.main_arg12)
      ∧ r.2.mem ((c.tc : Thread Cert.KernelMix.nD Cert.KernelMix.τ).loc Cert.KernelMix.main_arg13) = m ((c.tc : Thread Cert.KernelMix.nD Cert.KernelMix.τ).loc Cert.KernelMix.main_arg13)
      ∧ r.2.mem ((c.tc : Thread Cert.KernelMix.nD Cert.KernelMix.τ).loc Cert.KernelMix.main_arg14) = m ((c.tc : Thread Cert.KernelMix.nD Cert.KernelMix.τ).loc Cert.KernelMix.main_arg14)
      ∧ r.2.mem ((c.tc : Thread Cert.KernelMix.nD Cert.KernelMix.τ).loc Cert.KernelMix.main_arg15) = m ((c.tc : Thread Cert.KernelMix.nD Cert.KernelMix.τ).loc Cert.KernelMix.main_arg15))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
      ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
      ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
      ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14)
      ∧ r.2.mem ((c.tc : Thread Cert.KernelMixIdeal.nD Cert.KernelMixIdeal.τ).loc Cert.KernelMixIdeal.main_arg15) = m ((c.tc : Thread Cert.KernelMixIdeal.nD Cert.KernelMixIdeal.τ).loc Cert.KernelMixIdeal.main_arg15))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
      ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
      ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
      ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14)
      ∧ r.2.mem ((c.tc : Thread Cert.KernelMixIdeal.nD Cert.KernelMixIdeal.τ).loc Cert.KernelMixIdeal.main_arg15) = m ((c.tc : Thread Cert.KernelMixIdeal.nD Cert.KernelMixIdeal.τ).loc Cert.KernelMixIdeal.main_arg15))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11)
      ∧ r.2.mem ((c.tc : Thread Cert.ReferenceMixIdeal.nD Cert.ReferenceMixIdeal.τ).loc Cert.ReferenceMixIdeal.main_arg12) = m ((c.tc : Thread Cert.ReferenceMixIdeal.nD Cert.ReferenceMixIdeal.τ).loc Cert.ReferenceMixIdeal.main_arg12)
      ∧ r.2.mem ((c.tc : Thread Cert.ReferenceMixIdeal.nD Cert.ReferenceMixIdeal.τ).loc Cert.ReferenceMixIdeal.main_arg13) = m ((c.tc : Thread Cert.ReferenceMixIdeal.nD Cert.ReferenceMixIdeal.τ).loc Cert.ReferenceMixIdeal.main_arg13)
      ∧ r.2.mem ((c.tc : Thread Cert.ReferenceMixIdeal.nD Cert.ReferenceMixIdeal.τ).loc Cert.ReferenceMixIdeal.main_arg14) = m ((c.tc : Thread Cert.ReferenceMixIdeal.nD Cert.ReferenceMixIdeal.τ).loc Cert.ReferenceMixIdeal.main_arg14)
      ∧ r.2.mem ((c.tc : Thread Cert.ReferenceMixIdeal.nD Cert.ReferenceMixIdeal.τ).loc Cert.ReferenceMixIdeal.main_arg15) = m ((c.tc : Thread Cert.ReferenceMixIdeal.nD Cert.ReferenceMixIdeal.τ).loc Cert.ReferenceMixIdeal.main_arg15))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11)
      ∧ r.2.mem ((c.tc : Thread Cert.ReferenceMixIdeal.nD Cert.ReferenceMixIdeal.τ).loc Cert.ReferenceMixIdeal.main_arg12) = m ((c.tc : Thread Cert.ReferenceMixIdeal.nD Cert.ReferenceMixIdeal.τ).loc Cert.ReferenceMixIdeal.main_arg12)
      ∧ r.2.mem ((c.tc : Thread Cert.ReferenceMixIdeal.nD Cert.ReferenceMixIdeal.τ).loc Cert.ReferenceMixIdeal.main_arg13) = m ((c.tc : Thread Cert.ReferenceMixIdeal.nD Cert.ReferenceMixIdeal.τ).loc Cert.ReferenceMixIdeal.main_arg13)
      ∧ r.2.mem ((c.tc : Thread Cert.ReferenceMixIdeal.nD Cert.ReferenceMixIdeal.τ).loc Cert.ReferenceMixIdeal.main_arg14) = m ((c.tc : Thread Cert.ReferenceMixIdeal.nD Cert.ReferenceMixIdeal.τ).loc Cert.ReferenceMixIdeal.main_arg14)
      ∧ r.2.mem ((c.tc : Thread Cert.ReferenceMixIdeal.nD Cert.ReferenceMixIdeal.τ).loc Cert.ReferenceMixIdeal.main_arg15) = m ((c.tc : Thread Cert.ReferenceMixIdeal.nD Cert.ReferenceMixIdeal.τ).loc Cert.ReferenceMixIdeal.main_arg15))
      ∧ r.2.sem = fun _ => 0)

def quiescent_KernelExperts [hKernelExperts : Cert.KernelExperts.Facts] : Prop :=
  ∀ (m : (ℓ : Loc Cert.KernelExperts.nD Cert.KernelExperts.τ Cert.KernelExperts.sig) → Buf (Elt Bits) ℓ) (g : Dev Cert.KernelExperts.nD → PrngReg), Pre_KernelExperts m →
    θ_run (Cert.KernelExperts.defs (F := Bits)) (onTc (τ := Cert.KernelExperts.τ) (Cert.KernelExperts.main (F := Bits))) ⟨m, fun _ => 0, g⟩ (fun r => (∀ c : Dev Cert.KernelExperts.nD,
      r.2.mem ((c.tc : Thread Cert.KernelExperts.nD Cert.KernelExperts.τ).loc Cert.KernelExperts.main_arg0) = m ((c.tc : Thread Cert.KernelExperts.nD Cert.KernelExperts.τ).loc Cert.KernelExperts.main_arg0)
      ∧ r.2.mem ((c.tc : Thread Cert.KernelExperts.nD Cert.KernelExperts.τ).loc Cert.KernelExperts.main_arg1) = m ((c.tc : Thread Cert.KernelExperts.nD Cert.KernelExperts.τ).loc Cert.KernelExperts.main_arg1)
      ∧ r.2.mem ((c.tc : Thread Cert.KernelExperts.nD Cert.KernelExperts.τ).loc Cert.KernelExperts.main_arg2) = m ((c.tc : Thread Cert.KernelExperts.nD Cert.KernelExperts.τ).loc Cert.KernelExperts.main_arg2)
      ∧ r.2.mem ((c.tc : Thread Cert.KernelExperts.nD Cert.KernelExperts.τ).loc Cert.KernelExperts.main_arg3) = m ((c.tc : Thread Cert.KernelExperts.nD Cert.KernelExperts.τ).loc Cert.KernelExperts.main_arg3)
      ∧ r.2.mem ((c.tc : Thread Cert.KernelExperts.nD Cert.KernelExperts.τ).loc Cert.KernelExperts.main_arg4) = m ((c.tc : Thread Cert.KernelExperts.nD Cert.KernelExperts.τ).loc Cert.KernelExperts.main_arg4)
      ∧ r.2.mem ((c.tc : Thread Cert.KernelExperts.nD Cert.KernelExperts.τ).loc Cert.KernelExperts.main_arg5) = m ((c.tc : Thread Cert.KernelExperts.nD Cert.KernelExperts.τ).loc Cert.KernelExperts.main_arg5)
      ∧ r.2.mem ((c.tc : Thread Cert.KernelExperts.nD Cert.KernelExperts.τ).loc Cert.KernelExperts.main_arg6) = m ((c.tc : Thread Cert.KernelExperts.nD Cert.KernelExperts.τ).loc Cert.KernelExperts.main_arg6)
      ∧ r.2.mem ((c.tc : Thread Cert.KernelExperts.nD Cert.KernelExperts.τ).loc Cert.KernelExperts.main_arg7) = m ((c.tc : Thread Cert.KernelExperts.nD Cert.KernelExperts.τ).loc Cert.KernelExperts.main_arg7)
      ∧ r.2.mem ((c.tc : Thread Cert.KernelExperts.nD Cert.KernelExperts.τ).loc Cert.KernelExperts.main_arg8) = m ((c.tc : Thread Cert.KernelExperts.nD Cert.KernelExperts.τ).loc Cert.KernelExperts.main_arg8)
      ∧ r.2.mem ((c.tc : Thread Cert.KernelExperts.nD Cert.KernelExperts.τ).loc Cert.KernelExperts.main_arg9) = m ((c.tc : Thread Cert.KernelExperts.nD Cert.KernelExperts.τ).loc Cert.KernelExperts.main_arg9))
      ∧ r.2.sem = fun _ => 0)

def quiescent_KernelExpertsIdeal [hKernelExpertsIdeal : Cert.KernelExpertsIdeal.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg), Pre_KernelExpertsIdeal m →
    θ_run (Cert.KernelExpertsIdeal.defs (F := Ideal)) (onTc (τ := Cert.KernelExpertsIdeal.τ) (Cert.KernelExpertsIdeal.main (F := Ideal))) ⟨m, fun _ => 0, g⟩ (fun r => (∀ c : Dev Cert.KernelExpertsIdeal.nD,
      r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
      ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
      ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
      ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
      ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4)
      ∧ r.2.mem ((c.tc : Thread Cert.KernelExpertsIdeal.nD Cert.KernelExpertsIdeal.τ).loc Cert.KernelExpertsIdeal.main_arg5) = m ((c.tc : Thread Cert.KernelExpertsIdeal.nD Cert.KernelExpertsIdeal.τ).loc Cert.KernelExpertsIdeal.main_arg5)
      ∧ r.2.mem ((c.tc : Thread Cert.KernelExpertsIdeal.nD Cert.KernelExpertsIdeal.τ).loc Cert.KernelExpertsIdeal.main_arg6) = m ((c.tc : Thread Cert.KernelExpertsIdeal.nD Cert.KernelExpertsIdeal.τ).loc Cert.KernelExpertsIdeal.main_arg6)
      ∧ r.2.mem ((c.tc : Thread Cert.KernelExpertsIdeal.nD Cert.KernelExpertsIdeal.τ).loc Cert.KernelExpertsIdeal.main_arg7) = m ((c.tc : Thread Cert.KernelExpertsIdeal.nD Cert.KernelExpertsIdeal.τ).loc Cert.KernelExpertsIdeal.main_arg7)
      ∧ r.2.mem ((c.tc : Thread Cert.KernelExpertsIdeal.nD Cert.KernelExpertsIdeal.τ).loc Cert.KernelExpertsIdeal.main_arg8) = m ((c.tc : Thread Cert.KernelExpertsIdeal.nD Cert.KernelExpertsIdeal.τ).loc Cert.KernelExpertsIdeal.main_arg8)
      ∧ r.2.mem ((c.tc : Thread Cert.KernelExpertsIdeal.nD Cert.KernelExpertsIdeal.τ).loc Cert.KernelExpertsIdeal.main_arg9) = m ((c.tc : Thread Cert.KernelExpertsIdeal.nD Cert.KernelExpertsIdeal.τ).loc Cert.KernelExpertsIdeal.main_arg9))
      ∧ r.2.sem = fun _ => 0)

def quiescent_KernelExpertsIdeal_pre_finite_experts [hKernelExpertsIdeal : Cert.KernelExpertsIdeal.Facts] [hPre_finite_experts : Cert.Pre_finite_experts.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg), Pre_KernelExpertsIdeal_finite_experts m →
    θ_run (Cert.KernelExpertsIdeal.defs (F := Ideal)) (onTc (τ := Cert.KernelExpertsIdeal.τ) (Cert.KernelExpertsIdeal.main (F := Ideal))) ⟨m, fun _ => 0, g⟩ (fun r => (∀ c : Dev Cert.KernelExpertsIdeal.nD,
      r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
      ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
      ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
      ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
      ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4)
      ∧ r.2.mem ((c.tc : Thread Cert.KernelExpertsIdeal.nD Cert.KernelExpertsIdeal.τ).loc Cert.KernelExpertsIdeal.main_arg5) = m ((c.tc : Thread Cert.KernelExpertsIdeal.nD Cert.KernelExpertsIdeal.τ).loc Cert.KernelExpertsIdeal.main_arg5)
      ∧ r.2.mem ((c.tc : Thread Cert.KernelExpertsIdeal.nD Cert.KernelExpertsIdeal.τ).loc Cert.KernelExpertsIdeal.main_arg6) = m ((c.tc : Thread Cert.KernelExpertsIdeal.nD Cert.KernelExpertsIdeal.τ).loc Cert.KernelExpertsIdeal.main_arg6)
      ∧ r.2.mem ((c.tc : Thread Cert.KernelExpertsIdeal.nD Cert.KernelExpertsIdeal.τ).loc Cert.KernelExpertsIdeal.main_arg7) = m ((c.tc : Thread Cert.KernelExpertsIdeal.nD Cert.KernelExpertsIdeal.τ).loc Cert.KernelExpertsIdeal.main_arg7)
      ∧ r.2.mem ((c.tc : Thread Cert.KernelExpertsIdeal.nD Cert.KernelExpertsIdeal.τ).loc Cert.KernelExpertsIdeal.main_arg8) = m ((c.tc : Thread Cert.KernelExpertsIdeal.nD Cert.KernelExpertsIdeal.τ).loc Cert.KernelExpertsIdeal.main_arg8)
      ∧ r.2.mem ((c.tc : Thread Cert.KernelExpertsIdeal.nD Cert.KernelExpertsIdeal.τ).loc Cert.KernelExpertsIdeal.main_arg9) = m ((c.tc : Thread Cert.KernelExpertsIdeal.nD Cert.KernelExpertsIdeal.τ).loc Cert.KernelExpertsIdeal.main_arg9))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8)
      ∧ r.2.mem ((c.tc : Thread Cert.ReferenceExpertsIdeal.nD Cert.ReferenceExpertsIdeal.τ).loc Cert.ReferenceExpertsIdeal.main_arg9) = m ((c.tc : Thread Cert.ReferenceExpertsIdeal.nD Cert.ReferenceExpertsIdeal.τ).loc Cert.ReferenceExpertsIdeal.main_arg9))
      ∧ r.2.sem = fun _ => 0)

def quiescent_ReferenceExpertsIdeal_pre_finite_experts [hReferenceExpertsIdeal : Cert.ReferenceExpertsIdeal.Facts] [hPre_finite_experts : Cert.Pre_finite_experts.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal_finite_experts m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8)
      ∧ r.2.mem ((c.tc : Thread Cert.ReferenceExpertsIdeal.nD Cert.ReferenceExpertsIdeal.τ).loc Cert.ReferenceExpertsIdeal.main_arg9) = m ((c.tc : Thread Cert.ReferenceExpertsIdeal.nD Cert.ReferenceExpertsIdeal.τ).loc Cert.ReferenceExpertsIdeal.main_arg9))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v16_0)) (v1 : (c : Dev Cert.KernelInIdeal.nD) → Buf (Elt Ideal) ((c.tc : Thread Cert.KernelInIdeal.nD Cert.KernelInIdeal.τ).loc Cert.KernelInIdeal.main_v16_1)) (v2 : (c : Dev Cert.KernelInIdeal.nD) → Buf (Elt Ideal) ((c.tc : Thread Cert.KernelInIdeal.nD Cert.KernelInIdeal.τ).loc Cert.KernelInIdeal.main_v16_2)) (v3 : (c : Dev Cert.KernelInIdeal.nD) → Buf (Elt Ideal) ((c.tc : Thread Cert.KernelInIdeal.nD Cert.KernelInIdeal.τ).loc Cert.KernelInIdeal.main_v16_3)) (v4 : (c : Dev Cert.KernelInIdeal.nD) → Buf (Elt Ideal) ((c.tc : Thread Cert.KernelInIdeal.nD Cert.KernelInIdeal.τ).loc Cert.KernelInIdeal.main_v16_4)) (v5 : (c : Dev Cert.KernelInIdeal.nD) → Buf (Elt Ideal) ((c.tc : Thread Cert.KernelInIdeal.nD Cert.KernelInIdeal.τ).loc Cert.KernelInIdeal.main_v16_5)) (v6 : (c : Dev Cert.KernelInIdeal.nD) → Buf (Elt Ideal) ((c.tc : Thread Cert.KernelInIdeal.nD Cert.KernelInIdeal.τ).loc Cert.KernelInIdeal.main_v16_6)) (v7 : (c : Dev Cert.KernelInIdeal.nD) → Buf (Elt Ideal) ((c.tc : Thread Cert.KernelInIdeal.nD Cert.KernelInIdeal.τ).loc Cert.KernelInIdeal.main_v16_7)) (v8 : (c : Dev Cert.KernelInIdeal.nD) → Buf (Elt Ideal) ((c.tc : Thread Cert.KernelInIdeal.nD Cert.KernelInIdeal.τ).loc Cert.KernelInIdeal.main_v16_8)) (v9 : (c : Dev Cert.KernelInIdeal.nD) → Buf (Elt Ideal) ((c.tc : Thread Cert.KernelInIdeal.nD Cert.KernelInIdeal.τ).loc Cert.KernelInIdeal.main_v16_9)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v16_0) = v0 c
          ∧ r.2.mem ((c.tc : Thread Cert.KernelInIdeal.nD Cert.KernelInIdeal.τ).loc Cert.KernelInIdeal.main_v16_1) = v1 c
          ∧ r.2.mem ((c.tc : Thread Cert.KernelInIdeal.nD Cert.KernelInIdeal.τ).loc Cert.KernelInIdeal.main_v16_2) = v2 c
          ∧ r.2.mem ((c.tc : Thread Cert.KernelInIdeal.nD Cert.KernelInIdeal.τ).loc Cert.KernelInIdeal.main_v16_3) = v3 c
          ∧ r.2.mem ((c.tc : Thread Cert.KernelInIdeal.nD Cert.KernelInIdeal.τ).loc Cert.KernelInIdeal.main_v16_4) = v4 c
          ∧ r.2.mem ((c.tc : Thread Cert.KernelInIdeal.nD Cert.KernelInIdeal.τ).loc Cert.KernelInIdeal.main_v16_5) = v5 c
          ∧ r.2.mem ((c.tc : Thread Cert.KernelInIdeal.nD Cert.KernelInIdeal.τ).loc Cert.KernelInIdeal.main_v16_6) = v6 c
          ∧ r.2.mem ((c.tc : Thread Cert.KernelInIdeal.nD Cert.KernelInIdeal.τ).loc Cert.KernelInIdeal.main_v16_7) = v7 c
          ∧ r.2.mem ((c.tc : Thread Cert.KernelInIdeal.nD Cert.KernelInIdeal.τ).loc Cert.KernelInIdeal.main_v16_8) = v8 c
          ∧ r.2.mem ((c.tc : Thread Cert.KernelInIdeal.nD Cert.KernelInIdeal.τ).loc Cert.KernelInIdeal.main_v16_9) = v9 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v24) = v0 c
          ∧ r.2.mem ((c.tc : Thread Cert.ReferenceInIdeal.nD Cert.ReferenceInIdeal.τ).loc Cert.ReferenceInIdeal.main_v25) = v1 c
          ∧ r.2.mem ((c.tc : Thread Cert.ReferenceInIdeal.nD Cert.ReferenceInIdeal.τ).loc Cert.ReferenceInIdeal.main_v16) = v2 c
          ∧ r.2.mem ((c.tc : Thread Cert.ReferenceInIdeal.nD Cert.ReferenceInIdeal.τ).loc Cert.ReferenceInIdeal.main_v26) = v3 c
          ∧ r.2.mem ((c.tc : Thread Cert.ReferenceInIdeal.nD Cert.ReferenceInIdeal.τ).loc Cert.ReferenceInIdeal.main_v17) = v4 c
          ∧ r.2.mem ((c.tc : Thread Cert.ReferenceInIdeal.nD Cert.ReferenceInIdeal.τ).loc Cert.ReferenceInIdeal.main_v27) = v5 c
          ∧ r.2.mem ((c.tc : Thread Cert.ReferenceInIdeal.nD Cert.ReferenceInIdeal.τ).loc Cert.ReferenceInIdeal.main_v29) = v6 c
          ∧ r.2.mem ((c.tc : Thread Cert.ReferenceInIdeal.nD Cert.ReferenceInIdeal.τ).loc Cert.ReferenceInIdeal.main_v32) = v7 c
          ∧ r.2.mem ((c.tc : Thread Cert.ReferenceInIdeal.nD Cert.ReferenceInIdeal.τ).loc Cert.ReferenceInIdeal.main_v35) = v8 c
          ∧ r.2.mem ((c.tc : Thread Cert.ReferenceInIdeal.nD Cert.ReferenceInIdeal.τ).loc Cert.ReferenceInIdeal.main_v21) = v9 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelInSample_KernelInSampleIdeal : Prop :=
  True

def algebraic_KernelInSampleIdeal_ReferenceInSampleIdeal [hKernelInSampleIdeal : Cert.KernelInSampleIdeal.Facts] [hReferenceInSampleIdeal : Cert.ReferenceInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg)
    (m' : (ℓ : Loc Cert.ReferenceInSampleIdeal.nD Cert.ReferenceInSampleIdeal.τ Cert.ReferenceInSampleIdeal.sig) → Buf (Elt Ideal) ℓ) (g' : Dev Cert.ReferenceInSampleIdeal.nD → PrngReg), Pre_KernelInSampleIdeal m →
    (∀ c : Dev Cert.KernelInSampleIdeal.nD,
      m' ((c.tc : Thread Cert.ReferenceInSampleIdeal.nD Cert.ReferenceInSampleIdeal.τ).loc Cert.ReferenceInSampleIdeal.main_arg0) = m ((c.tc : Thread Cert.KernelInSampleIdeal.nD Cert.KernelInSampleIdeal.τ).loc Cert.KernelInSampleIdeal.main_arg0)
      ∧ m' ((c.tc : Thread Cert.ReferenceInSampleIdeal.nD Cert.ReferenceInSampleIdeal.τ).loc Cert.ReferenceInSampleIdeal.main_arg1) = m ((c.tc : Thread Cert.KernelInSampleIdeal.nD Cert.KernelInSampleIdeal.τ).loc Cert.KernelInSampleIdeal.main_arg1)
      ∧ m' ((c.tc : Thread Cert.ReferenceInSampleIdeal.nD Cert.ReferenceInSampleIdeal.τ).loc Cert.ReferenceInSampleIdeal.main_arg2) = m ((c.tc : Thread Cert.KernelInSampleIdeal.nD Cert.KernelInSampleIdeal.τ).loc Cert.KernelInSampleIdeal.main_arg2)) →
    ∃ (v0 : (c : Dev Cert.KernelInSampleIdeal.nD) → Buf (Elt Ideal) ((c.tc : Thread Cert.KernelInSampleIdeal.nD Cert.KernelInSampleIdeal.τ).loc Cert.KernelInSampleIdeal.main_v16_0)) (v1 : (c : Dev Cert.KernelInSampleIdeal.nD) → Buf (Elt Ideal) ((c.tc : Thread Cert.KernelInSampleIdeal.nD Cert.KernelInSampleIdeal.τ).loc Cert.KernelInSampleIdeal.main_v16_1)) (v2 : (c : Dev Cert.KernelInSampleIdeal.nD) → Buf (Elt Ideal) ((c.tc : Thread Cert.KernelInSampleIdeal.nD Cert.KernelInSampleIdeal.τ).loc Cert.KernelInSampleIdeal.main_v16_2)) (v3 : (c : Dev Cert.KernelInSampleIdeal.nD) → Buf (Elt Ideal) ((c.tc : Thread Cert.KernelInSampleIdeal.nD Cert.KernelInSampleIdeal.τ).loc Cert.KernelInSampleIdeal.main_v16_3)) (v4 : (c : Dev Cert.KernelInSampleIdeal.nD) → Buf (Elt Ideal) ((c.tc : Thread Cert.KernelInSampleIdeal.nD Cert.KernelInSampleIdeal.τ).loc Cert.KernelInSampleIdeal.main_v16_4)) (v5 : (c : Dev Cert.KernelInSampleIdeal.nD) → Buf (Elt Ideal) ((c.tc : Thread Cert.KernelInSampleIdeal.nD Cert.KernelInSampleIdeal.τ).loc Cert.KernelInSampleIdeal.main_v16_5)) (v6 : (c : Dev Cert.KernelInSampleIdeal.nD) → Buf (Elt Ideal) ((c.tc : Thread Cert.KernelInSampleIdeal.nD Cert.KernelInSampleIdeal.τ).loc Cert.KernelInSampleIdeal.main_v16_6)) (v7 : (c : Dev Cert.KernelInSampleIdeal.nD) → Buf (Elt Ideal) ((c.tc : Thread Cert.KernelInSampleIdeal.nD Cert.KernelInSampleIdeal.τ).loc Cert.KernelInSampleIdeal.main_v16_7)) (v8 : (c : Dev Cert.KernelInSampleIdeal.nD) → Buf (Elt Ideal) ((c.tc : Thread Cert.KernelInSampleIdeal.nD Cert.KernelInSampleIdeal.τ).loc Cert.KernelInSampleIdeal.main_v16_8)) (v9 : (c : Dev Cert.KernelInSampleIdeal.nD) → Buf (Elt Ideal) ((c.tc : Thread Cert.KernelInSampleIdeal.nD Cert.KernelInSampleIdeal.τ).loc Cert.KernelInSampleIdeal.main_v16_9)),
      θ_run (Cert.KernelInSampleIdeal.defs (F := Ideal)) (onTc (τ := Cert.KernelInSampleIdeal.τ) (Cert.KernelInSampleIdeal.main (F := Ideal))) ⟨m, fun _ => 0, g⟩ (fun r => ∀ c : Dev Cert.KernelInSampleIdeal.nD,
          r.2.mem ((c.tc : Thread Cert.KernelInSampleIdeal.nD Cert.KernelInSampleIdeal.τ).loc Cert.KernelInSampleIdeal.main_v16_0) = v0 c
          ∧ r.2.mem ((c.tc : Thread Cert.KernelInSampleIdeal.nD Cert.KernelInSampleIdeal.τ).loc Cert.KernelInSampleIdeal.main_v16_1) = v1 c
          ∧ r.2.mem ((c.tc : Thread Cert.KernelInSampleIdeal.nD Cert.KernelInSampleIdeal.τ).loc Cert.KernelInSampleIdeal.main_v16_2) = v2 c
          ∧ r.2.mem ((c.tc : Thread Cert.KernelInSampleIdeal.nD Cert.KernelInSampleIdeal.τ).loc Cert.KernelInSampleIdeal.main_v16_3) = v3 c
          ∧ r.2.mem ((c.tc : Thread Cert.KernelInSampleIdeal.nD Cert.KernelInSampleIdeal.τ).loc Cert.KernelInSampleIdeal.main_v16_4) = v4 c
          ∧ r.2.mem ((c.tc : Thread Cert.KernelInSampleIdeal.nD Cert.KernelInSampleIdeal.τ).loc Cert.KernelInSampleIdeal.main_v16_5) = v5 c
          ∧ r.2.mem ((c.tc : Thread Cert.KernelInSampleIdeal.nD Cert.KernelInSampleIdeal.τ).loc Cert.KernelInSampleIdeal.main_v16_6) = v6 c
          ∧ r.2.mem ((c.tc : Thread Cert.KernelInSampleIdeal.nD Cert.KernelInSampleIdeal.τ).loc Cert.KernelInSampleIdeal.main_v16_7) = v7 c
          ∧ r.2.mem ((c.tc : Thread Cert.KernelInSampleIdeal.nD Cert.KernelInSampleIdeal.τ).loc Cert.KernelInSampleIdeal.main_v16_8) = v8 c
          ∧ r.2.mem ((c.tc : Thread Cert.KernelInSampleIdeal.nD Cert.KernelInSampleIdeal.τ).loc Cert.KernelInSampleIdeal.main_v16_9) = v9 c
          ∧ r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
          ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
          ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2))
      ∧ θ_run (Cert.ReferenceInSampleIdeal.defs (F := Ideal)) (onTc (τ := Cert.ReferenceInSampleIdeal.τ) (Cert.ReferenceInSampleIdeal.main (F := Ideal))) ⟨m', fun _ => 0, g'⟩ (fun r => ∀ c : Dev Cert.ReferenceInSampleIdeal.nD,
          r.2.mem ((c.tc : Thread Cert.ReferenceInSampleIdeal.nD Cert.ReferenceInSampleIdeal.τ).loc Cert.ReferenceInSampleIdeal.main_v24) = v0 c
          ∧ r.2.mem ((c.tc : Thread Cert.ReferenceInSampleIdeal.nD Cert.ReferenceInSampleIdeal.τ).loc Cert.ReferenceInSampleIdeal.main_v25) = v1 c
          ∧ r.2.mem ((c.tc : Thread Cert.ReferenceInSampleIdeal.nD Cert.ReferenceInSampleIdeal.τ).loc Cert.ReferenceInSampleIdeal.main_v16) = v2 c
          ∧ r.2.mem ((c.tc : Thread Cert.ReferenceInSampleIdeal.nD Cert.ReferenceInSampleIdeal.τ).loc Cert.ReferenceInSampleIdeal.main_v26) = v3 c
          ∧ r.2.mem ((c.tc : Thread Cert.ReferenceInSampleIdeal.nD Cert.ReferenceInSampleIdeal.τ).loc Cert.ReferenceInSampleIdeal.main_v17) = v4 c
          ∧ r.2.mem ((c.tc : Thread Cert.ReferenceInSampleIdeal.nD Cert.ReferenceInSampleIdeal.τ).loc Cert.ReferenceInSampleIdeal.main_v27) = v5 c
          ∧ r.2.mem ((c.tc : Thread Cert.ReferenceInSampleIdeal.nD Cert.ReferenceInSampleIdeal.τ).loc Cert.ReferenceInSampleIdeal.main_v29) = v6 c
          ∧ r.2.mem ((c.tc : Thread Cert.ReferenceInSampleIdeal.nD Cert.ReferenceInSampleIdeal.τ).loc Cert.ReferenceInSampleIdeal.main_v32) = v7 c
          ∧ r.2.mem ((c.tc : Thread Cert.ReferenceInSampleIdeal.nD Cert.ReferenceInSampleIdeal.τ).loc Cert.ReferenceInSampleIdeal.main_v35) = v8 c
          ∧ r.2.mem ((c.tc : Thread Cert.ReferenceInSampleIdeal.nD Cert.ReferenceInSampleIdeal.τ).loc Cert.ReferenceInSampleIdeal.main_v21) = v9 c
          ∧ r.2.mem ((c.tc : Thread Cert.ReferenceInSampleIdeal.nD Cert.ReferenceInSampleIdeal.τ).loc Cert.ReferenceInSampleIdeal.main_arg0) = m' ((c.tc : Thread Cert.ReferenceInSampleIdeal.nD Cert.ReferenceInSampleIdeal.τ).loc Cert.ReferenceInSampleIdeal.main_arg0)
          ∧ r.2.mem ((c.tc : Thread Cert.ReferenceInSampleIdeal.nD Cert.ReferenceInSampleIdeal.τ).loc Cert.ReferenceInSampleIdeal.main_arg1) = m' ((c.tc : Thread Cert.ReferenceInSampleIdeal.nD Cert.ReferenceInSampleIdeal.τ).loc Cert.ReferenceInSampleIdeal.main_arg1)
          ∧ r.2.mem ((c.tc : Thread Cert.ReferenceInSampleIdeal.nD Cert.ReferenceInSampleIdeal.τ).loc Cert.ReferenceInSampleIdeal.main_arg2) = m' ((c.tc : Thread Cert.ReferenceInSampleIdeal.nD Cert.ReferenceInSampleIdeal.τ).loc Cert.ReferenceInSampleIdeal.main_arg2))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)) →
    ∃ (v0 : (c : Dev Cert.KernelMemIdeal.nD) → Buf (Elt Ideal) ((c.tc : Thread Cert.KernelMemIdeal.nD Cert.KernelMemIdeal.τ).loc Cert.KernelMemIdeal.main_v4_0)) (v1 : (c : Dev Cert.KernelMemIdeal.nD) → Buf (Elt Ideal) ((c.tc : Thread Cert.KernelMemIdeal.nD Cert.KernelMemIdeal.τ).loc Cert.KernelMemIdeal.main_v4_1)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v4_0) = v0 c
          ∧ r.2.mem ((c.tc : Thread Cert.KernelMemIdeal.nD Cert.KernelMemIdeal.τ).loc Cert.KernelMemIdeal.main_v4_1) = v1 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v15) = v0 c
          ∧ r.2.mem ((c.tc : Thread Cert.ReferenceMemIdeal.nD Cert.ReferenceMemIdeal.τ).loc Cert.ReferenceMemIdeal.main_v16) = v1 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3))

def preserves_KernelMoe_KernelMoeIdeal : Prop :=
  True

def algebraic_KernelMoeIdeal_ReferenceMoeIdeal [hKernelMoeIdeal : Cert.KernelMoeIdeal.Facts] [hReferenceMoeIdeal : Cert.ReferenceMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)) →
    ∃ (v0 : (c : Dev Cert.KernelMoeIdeal.nD) → Buf (Elt Ideal) ((c.tc : Thread Cert.KernelMoeIdeal.nD Cert.KernelMoeIdeal.τ).loc Cert.KernelMoeIdeal.main_v5)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v5) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v42) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)
      ∧ m' ((c.tc : Thread Cert.ReferenceMixIdeal.nD Cert.ReferenceMixIdeal.τ).loc Cert.ReferenceMixIdeal.main_arg9) = m ((c.tc : Thread Cert.KernelMixIdeal.nD Cert.KernelMixIdeal.τ).loc Cert.KernelMixIdeal.main_arg9)
      ∧ m' ((c.tc : Thread Cert.ReferenceMixIdeal.nD Cert.ReferenceMixIdeal.τ).loc Cert.ReferenceMixIdeal.main_arg10) = m ((c.tc : Thread Cert.KernelMixIdeal.nD Cert.KernelMixIdeal.τ).loc Cert.KernelMixIdeal.main_arg10)
      ∧ m' ((c.tc : Thread Cert.ReferenceMixIdeal.nD Cert.ReferenceMixIdeal.τ).loc Cert.ReferenceMixIdeal.main_arg11) = m ((c.tc : Thread Cert.KernelMixIdeal.nD Cert.KernelMixIdeal.τ).loc Cert.KernelMixIdeal.main_arg11)
      ∧ m' ((c.tc : Thread Cert.ReferenceMixIdeal.nD Cert.ReferenceMixIdeal.τ).loc Cert.ReferenceMixIdeal.main_arg12) = m ((c.tc : Thread Cert.KernelMixIdeal.nD Cert.KernelMixIdeal.τ).loc Cert.KernelMixIdeal.main_arg12)
      ∧ m' ((c.tc : Thread Cert.ReferenceMixIdeal.nD Cert.ReferenceMixIdeal.τ).loc Cert.ReferenceMixIdeal.main_arg13) = m ((c.tc : Thread Cert.KernelMixIdeal.nD Cert.KernelMixIdeal.τ).loc Cert.KernelMixIdeal.main_arg13)
      ∧ m' ((c.tc : Thread Cert.ReferenceMixIdeal.nD Cert.ReferenceMixIdeal.τ).loc Cert.ReferenceMixIdeal.main_arg14) = m ((c.tc : Thread Cert.KernelMixIdeal.nD Cert.KernelMixIdeal.τ).loc Cert.KernelMixIdeal.main_arg14)
      ∧ m' ((c.tc : Thread Cert.ReferenceMixIdeal.nD Cert.ReferenceMixIdeal.τ).loc Cert.ReferenceMixIdeal.main_arg15) = m ((c.tc : Thread Cert.KernelMixIdeal.nD Cert.KernelMixIdeal.τ).loc Cert.KernelMixIdeal.main_arg15)) →
    ∃ (v0 : (c : Dev Cert.KernelMixIdeal.nD) → Buf (Elt Ideal) ((c.tc : Thread Cert.KernelMixIdeal.nD Cert.KernelMixIdeal.τ).loc Cert.KernelMixIdeal.main_v18)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v18) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
          ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
          ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
          ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
          ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
          ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
          ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14)
          ∧ r.2.mem ((c.tc : Thread Cert.KernelMixIdeal.nD Cert.KernelMixIdeal.τ).loc Cert.KernelMixIdeal.main_arg15) = m ((c.tc : Thread Cert.KernelMixIdeal.nD Cert.KernelMixIdeal.τ).loc Cert.KernelMixIdeal.main_arg15))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v172) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8)
          ∧ r.2.mem ((c.tc : Thread Cert.ReferenceMixIdeal.nD Cert.ReferenceMixIdeal.τ).loc Cert.ReferenceMixIdeal.main_arg9) = m' ((c.tc : Thread Cert.ReferenceMixIdeal.nD Cert.ReferenceMixIdeal.τ).loc Cert.ReferenceMixIdeal.main_arg9)
          ∧ r.2.mem ((c.tc : Thread Cert.ReferenceMixIdeal.nD Cert.ReferenceMixIdeal.τ).loc Cert.ReferenceMixIdeal.main_arg10) = m' ((c.tc : Thread Cert.ReferenceMixIdeal.nD Cert.ReferenceMixIdeal.τ).loc Cert.ReferenceMixIdeal.main_arg10)
          ∧ r.2.mem ((c.tc : Thread Cert.ReferenceMixIdeal.nD Cert.ReferenceMixIdeal.τ).loc Cert.ReferenceMixIdeal.main_arg11) = m' ((c.tc : Thread Cert.ReferenceMixIdeal.nD Cert.ReferenceMixIdeal.τ).loc Cert.ReferenceMixIdeal.main_arg11)
          ∧ r.2.mem ((c.tc : Thread Cert.ReferenceMixIdeal.nD Cert.ReferenceMixIdeal.τ).loc Cert.ReferenceMixIdeal.main_arg12) = m' ((c.tc : Thread Cert.ReferenceMixIdeal.nD Cert.ReferenceMixIdeal.τ).loc Cert.ReferenceMixIdeal.main_arg12)
          ∧ r.2.mem ((c.tc : Thread Cert.ReferenceMixIdeal.nD Cert.ReferenceMixIdeal.τ).loc Cert.ReferenceMixIdeal.main_arg13) = m' ((c.tc : Thread Cert.ReferenceMixIdeal.nD Cert.ReferenceMixIdeal.τ).loc Cert.ReferenceMixIdeal.main_arg13)
          ∧ r.2.mem ((c.tc : Thread Cert.ReferenceMixIdeal.nD Cert.ReferenceMixIdeal.τ).loc Cert.ReferenceMixIdeal.main_arg14) = m' ((c.tc : Thread Cert.ReferenceMixIdeal.nD Cert.ReferenceMixIdeal.τ).loc Cert.ReferenceMixIdeal.main_arg14)
          ∧ r.2.mem ((c.tc : Thread Cert.ReferenceMixIdeal.nD Cert.ReferenceMixIdeal.τ).loc Cert.ReferenceMixIdeal.main_arg15) = m' ((c.tc : Thread Cert.ReferenceMixIdeal.nD Cert.ReferenceMixIdeal.τ).loc Cert.ReferenceMixIdeal.main_arg15))

def preserves_KernelExperts_KernelExpertsIdeal : Prop :=
  True

def algebraic_KernelExpertsIdeal_ReferenceExpertsIdeal_pre_finite_experts [hKernelExpertsIdeal : Cert.KernelExpertsIdeal.Facts] [hReferenceExpertsIdeal : Cert.ReferenceExpertsIdeal.Facts] [hPre_finite_experts : Cert.Pre_finite_experts.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_KernelExpertsIdeal_finite_experts m →
    (∀ c : Dev Cert.KernelExpertsIdeal.nD,
      m' ((c.tc : Thread Cert.ReferenceExpertsIdeal.nD Cert.ReferenceExpertsIdeal.τ).loc Cert.ReferenceExpertsIdeal.main_arg0) = m ((c.tc : Thread Cert.KernelExpertsIdeal.nD Cert.KernelExpertsIdeal.τ).loc Cert.KernelExpertsIdeal.main_arg0)
      ∧ m' ((c.tc : Thread Cert.ReferenceExpertsIdeal.nD Cert.ReferenceExpertsIdeal.τ).loc Cert.ReferenceExpertsIdeal.main_arg1) = m ((c.tc : Thread Cert.KernelExpertsIdeal.nD Cert.KernelExpertsIdeal.τ).loc Cert.KernelExpertsIdeal.main_arg1)
      ∧ m' ((c.tc : Thread Cert.ReferenceExpertsIdeal.nD Cert.ReferenceExpertsIdeal.τ).loc Cert.ReferenceExpertsIdeal.main_arg2) = m ((c.tc : Thread Cert.KernelExpertsIdeal.nD Cert.KernelExpertsIdeal.τ).loc Cert.KernelExpertsIdeal.main_arg2)
      ∧ m' ((c.tc : Thread Cert.ReferenceExpertsIdeal.nD Cert.ReferenceExpertsIdeal.τ).loc Cert.ReferenceExpertsIdeal.main_arg3) = m ((c.tc : Thread Cert.KernelExpertsIdeal.nD Cert.KernelExpertsIdeal.τ).loc Cert.KernelExpertsIdeal.main_arg3)
      ∧ m' ((c.tc : Thread Cert.ReferenceExpertsIdeal.nD Cert.ReferenceExpertsIdeal.τ).loc Cert.ReferenceExpertsIdeal.main_arg4) = m ((c.tc : Thread Cert.KernelExpertsIdeal.nD Cert.KernelExpertsIdeal.τ).loc Cert.KernelExpertsIdeal.main_arg4)
      ∧ m' ((c.tc : Thread Cert.ReferenceExpertsIdeal.nD Cert.ReferenceExpertsIdeal.τ).loc Cert.ReferenceExpertsIdeal.main_arg5) = m ((c.tc : Thread Cert.KernelExpertsIdeal.nD Cert.KernelExpertsIdeal.τ).loc Cert.KernelExpertsIdeal.main_arg5)
      ∧ m' ((c.tc : Thread Cert.ReferenceExpertsIdeal.nD Cert.ReferenceExpertsIdeal.τ).loc Cert.ReferenceExpertsIdeal.main_arg6) = m ((c.tc : Thread Cert.KernelExpertsIdeal.nD Cert.KernelExpertsIdeal.τ).loc Cert.KernelExpertsIdeal.main_arg6)
      ∧ m' ((c.tc : Thread Cert.ReferenceExpertsIdeal.nD Cert.ReferenceExpertsIdeal.τ).loc Cert.ReferenceExpertsIdeal.main_arg7) = m ((c.tc : Thread Cert.KernelExpertsIdeal.nD Cert.KernelExpertsIdeal.τ).loc Cert.KernelExpertsIdeal.main_arg7)
      ∧ m' ((c.tc : Thread Cert.ReferenceExpertsIdeal.nD Cert.ReferenceExpertsIdeal.τ).loc Cert.ReferenceExpertsIdeal.main_arg8) = m ((c.tc : Thread Cert.KernelExpertsIdeal.nD Cert.KernelExpertsIdeal.τ).loc Cert.KernelExpertsIdeal.main_arg8)
      ∧ m' ((c.tc : Thread Cert.ReferenceExpertsIdeal.nD Cert.ReferenceExpertsIdeal.τ).loc Cert.ReferenceExpertsIdeal.main_arg9) = m ((c.tc : Thread Cert.KernelExpertsIdeal.nD Cert.KernelExpertsIdeal.τ).loc Cert.KernelExpertsIdeal.main_arg9)) →
    ∃ (v0 : (c : Dev Cert.KernelExpertsIdeal.nD) → Buf (Elt Ideal) ((c.tc : Thread Cert.KernelExpertsIdeal.nD Cert.KernelExpertsIdeal.τ).loc Cert.KernelExpertsIdeal.main_v15)),
      θ_run (Cert.KernelExpertsIdeal.defs (F := Ideal)) (onTc (τ := Cert.KernelExpertsIdeal.τ) (Cert.KernelExpertsIdeal.main (F := Ideal))) ⟨m, fun _ => 0, g⟩ (fun r => ∀ c : Dev Cert.KernelExpertsIdeal.nD,
          r.2.mem ((c.tc : Thread Cert.KernelExpertsIdeal.nD Cert.KernelExpertsIdeal.τ).loc Cert.KernelExpertsIdeal.main_v15) = v0 c
          ∧ r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
          ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
          ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
          ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
          ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4)
          ∧ r.2.mem ((c.tc : Thread Cert.KernelExpertsIdeal.nD Cert.KernelExpertsIdeal.τ).loc Cert.KernelExpertsIdeal.main_arg5) = m ((c.tc : Thread Cert.KernelExpertsIdeal.nD Cert.KernelExpertsIdeal.τ).loc Cert.KernelExpertsIdeal.main_arg5)
          ∧ r.2.mem ((c.tc : Thread Cert.KernelExpertsIdeal.nD Cert.KernelExpertsIdeal.τ).loc Cert.KernelExpertsIdeal.main_arg6) = m ((c.tc : Thread Cert.KernelExpertsIdeal.nD Cert.KernelExpertsIdeal.τ).loc Cert.KernelExpertsIdeal.main_arg6)
          ∧ r.2.mem ((c.tc : Thread Cert.KernelExpertsIdeal.nD Cert.KernelExpertsIdeal.τ).loc Cert.KernelExpertsIdeal.main_arg7) = m ((c.tc : Thread Cert.KernelExpertsIdeal.nD Cert.KernelExpertsIdeal.τ).loc Cert.KernelExpertsIdeal.main_arg7)
          ∧ r.2.mem ((c.tc : Thread Cert.KernelExpertsIdeal.nD Cert.KernelExpertsIdeal.τ).loc Cert.KernelExpertsIdeal.main_arg8) = m ((c.tc : Thread Cert.KernelExpertsIdeal.nD Cert.KernelExpertsIdeal.τ).loc Cert.KernelExpertsIdeal.main_arg8)
          ∧ r.2.mem ((c.tc : Thread Cert.KernelExpertsIdeal.nD Cert.KernelExpertsIdeal.τ).loc Cert.KernelExpertsIdeal.main_arg9) = m ((c.tc : Thread Cert.KernelExpertsIdeal.nD Cert.KernelExpertsIdeal.τ).loc Cert.KernelExpertsIdeal.main_arg9))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v89) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4)
          ∧ r.2.mem ((c.tc : Thread Cert.ReferenceExpertsIdeal.nD Cert.ReferenceExpertsIdeal.τ).loc Cert.ReferenceExpertsIdeal.main_arg5) = m' ((c.tc : Thread Cert.ReferenceExpertsIdeal.nD Cert.ReferenceExpertsIdeal.τ).loc Cert.ReferenceExpertsIdeal.main_arg5)
          ∧ r.2.mem ((c.tc : Thread Cert.ReferenceExpertsIdeal.nD Cert.ReferenceExpertsIdeal.τ).loc Cert.ReferenceExpertsIdeal.main_arg6) = m' ((c.tc : Thread Cert.ReferenceExpertsIdeal.nD Cert.ReferenceExpertsIdeal.τ).loc Cert.ReferenceExpertsIdeal.main_arg6)
          ∧ r.2.mem ((c.tc : Thread Cert.ReferenceExpertsIdeal.nD Cert.ReferenceExpertsIdeal.τ).loc Cert.ReferenceExpertsIdeal.main_arg7) = m' ((c.tc : Thread Cert.ReferenceExpertsIdeal.nD Cert.ReferenceExpertsIdeal.τ).loc Cert.ReferenceExpertsIdeal.main_arg7)
          ∧ r.2.mem ((c.tc : Thread Cert.ReferenceExpertsIdeal.nD Cert.ReferenceExpertsIdeal.τ).loc Cert.ReferenceExpertsIdeal.main_arg8) = m' ((c.tc : Thread Cert.ReferenceExpertsIdeal.nD Cert.ReferenceExpertsIdeal.τ).loc Cert.ReferenceExpertsIdeal.main_arg8)
          ∧ r.2.mem ((c.tc : Thread Cert.ReferenceExpertsIdeal.nD Cert.ReferenceExpertsIdeal.τ).loc Cert.ReferenceExpertsIdeal.main_arg9) = m' ((c.tc : Thread Cert.ReferenceExpertsIdeal.nD Cert.ReferenceExpertsIdeal.τ).loc Cert.ReferenceExpertsIdeal.main_arg9))

def Claim : Prop :=
  ∃ (hKernel : Cert.Kernel.Facts) (hKernelIn : Cert.KernelIn.Facts) (hKernelInIdeal : Cert.KernelInIdeal.Facts) (hReferenceInIdeal : Cert.ReferenceInIdeal.Facts) (hKernelInSample : Cert.KernelInSample.Facts) (hKernelInSampleIdeal : Cert.KernelInSampleIdeal.Facts) (hReferenceInSampleIdeal : Cert.ReferenceInSampleIdeal.Facts) (hKernelMem : Cert.KernelMem.Facts) (hKernelMemIdeal : Cert.KernelMemIdeal.Facts) (hReferenceMemIdeal : Cert.ReferenceMemIdeal.Facts) (hKernelMoe : Cert.KernelMoe.Facts) (hKernelMoeIdeal : Cert.KernelMoeIdeal.Facts) (hReferenceMoeIdeal : Cert.ReferenceMoeIdeal.Facts) (hKernelMix : Cert.KernelMix.Facts) (hKernelMixIdeal : Cert.KernelMixIdeal.Facts) (hReferenceMixIdeal : Cert.ReferenceMixIdeal.Facts) (hKernelExperts : Cert.KernelExperts.Facts) (hKernelExpertsIdeal : Cert.KernelExpertsIdeal.Facts) (hReferenceExpertsIdeal : Cert.ReferenceExpertsIdeal.Facts) (hPre_finite_mix : Cert.Pre_finite_mix.Facts) (hPre_finite_experts : Cert.Pre_finite_experts.Facts),
    quiescent_Kernel (hKernel := hKernel)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInSample (hKernelInSample := hKernelInSample)
    ∧ quiescent_KernelInSampleIdeal (hKernelInSampleIdeal := hKernelInSampleIdeal)
    ∧ quiescent_ReferenceInSampleIdeal (hReferenceInSampleIdeal := hReferenceInSampleIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelMoe (hKernelMoe := hKernelMoe)
    ∧ quiescent_KernelMoeIdeal (hKernelMoeIdeal := hKernelMoeIdeal)
    ∧ quiescent_ReferenceMoeIdeal (hReferenceMoeIdeal := hReferenceMoeIdeal)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelExperts (hKernelExperts := hKernelExperts)
    ∧ quiescent_KernelExpertsIdeal (hKernelExpertsIdeal := hKernelExpertsIdeal)
    ∧ quiescent_KernelExpertsIdeal_pre_finite_experts (hKernelExpertsIdeal := hKernelExpertsIdeal) (hPre_finite_experts := hPre_finite_experts)
    ∧ quiescent_ReferenceExpertsIdeal (hReferenceExpertsIdeal := hReferenceExpertsIdeal)
    ∧ quiescent_ReferenceExpertsIdeal_pre_finite_experts (hReferenceExpertsIdeal := hReferenceExpertsIdeal) (hPre_finite_experts := hPre_finite_experts)
    ∧ preserves_KernelIn_KernelInIdeal
    ∧ algebraic_KernelInIdeal_ReferenceInIdeal (hKernelInIdeal := hKernelInIdeal) (hReferenceInIdeal := hReferenceInIdeal)
    ∧ preserves_KernelInSample_KernelInSampleIdeal
    ∧ algebraic_KernelInSampleIdeal_ReferenceInSampleIdeal (hKernelInSampleIdeal := hKernelInSampleIdeal) (hReferenceInSampleIdeal := hReferenceInSampleIdeal)
    ∧ preserves_KernelMem_KernelMemIdeal
    ∧ algebraic_KernelMemIdeal_ReferenceMemIdeal (hKernelMemIdeal := hKernelMemIdeal) (hReferenceMemIdeal := hReferenceMemIdeal)
    ∧ preserves_KernelMoe_KernelMoeIdeal
    ∧ algebraic_KernelMoeIdeal_ReferenceMoeIdeal (hKernelMoeIdeal := hKernelMoeIdeal) (hReferenceMoeIdeal := hReferenceMoeIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelExperts_KernelExpertsIdeal
    ∧ algebraic_KernelExpertsIdeal_ReferenceExpertsIdeal_pre_finite_experts (hKernelExpertsIdeal := hKernelExpertsIdeal) (hReferenceExpertsIdeal := hReferenceExpertsIdeal) (hPre_finite_experts := hPre_finite_experts)
-- ==== Pre_finite_experts.lean ====
abbrev S8x4096x2048 : Shape := ⟨3, ![8, 4096, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32x2048x256 : Shape := ⟨3, ![32, 2048, 256]⟩
abbrev S32x256x2048 : Shape := ⟨3, ![32, 256, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x4 : S_.BroadcastsInDim S2048x4 (![] : Fin 0 → Fin S2048x4.rank)
  reducesTo_S2048x4_S_d0_1 : S2048x4.ReducesTo [0, 1] S_
  bcast_S_S4 : S_.BroadcastsInDim S4 (![] : Fin 0 → Fin S4.rank)
  reducesTo_S4_S_d0 : S4.ReducesTo [0] S_
  bcast_S_S2048x32 : S_.BroadcastsInDim S2048x32 (![] : Fin 0 → Fin S2048x32.rank)
  reducesTo_S2048x32_S_d0_1 : S2048x32.ReducesTo [0, 1] S_
  bcast_S_S32 : S_.BroadcastsInDim S32 (![] : Fin 0 → Fin S32.rank)
  reducesTo_S32_S_d0 : S32.ReducesTo [0] S_

variable [Facts]

def fn_all_finite {F : FTy → Type} [FloatOps F] (arg0 : FVec F S8x4096x2048 .f32) : IVec S_ 1 :=
  let v0 : FVec F S8x4096x2048 .f32 := Host.absf arg0
  let cst : FVec F S_ .f32 := constant S_ .f32 0x7F800000#32
  let v1 : FVec F S8x4096x2048 .f32 := broadcastInDim S8x4096x2048 ![] bcast_S_S8x4096x2048 cst
  let v2 : IVec S8x4096x2048 1 := cmpf .olt v0 v1
  let c : IVec S_ 1 := constantI S_ 1 1#1
  let v3 : IVec S_ 1 := (fun x v => Host.reduce IntOp.andi x v reducesTo_S8x4096x2048_S_d0_1_2 h_S_) v2 c
  v3

def fn_all_finite_0 {F : FTy → Type} [FloatOps F] (arg0 : FVec F S2048 .f32) : IVec S_ 1 :=
  let v0 : FVec F S2048 .f32 := Host.absf arg0
  let cst : FVec F S_ .f32 := constant S_ .f32 0x7F800000#32
  let v1 : FVec F S2048 .f32 := broadcastInDim S2048 ![] bcast_S_S2048 cst
  let v2 : IVec S2048 1 := cmpf .olt v0 v1
  let c : IVec S_ 1 := constantI S_ 1 1#1
  let v3 : IVec S_ 1 := (fun x v => Host.reduce IntOp.andi x v reducesTo_S2048_S_d0 h_S_) v2 c
  v3

def fn_all_finite_1 {F : FTy → Type} [FloatOps F] (arg0 : FVec F S2048x4 .f32) : IVec S_ 1 :=
  let v0 : FVec F S2048x4 .f32 := Host.absf arg0
  let cst : FVec F S_ .f32 := constant S_ .f32 0x7F800000#32
  let v1 : FVec F S2048x4 .f32 := broadcastInDim S2048x4 ![] bcast_S_S2048x4 cst
  let v2 : IVec S2048x4 1 := cmpf .olt v0 v1
  let c : IVec S_ 1 := constantI S_ 1 1#1
  let v3 : IVec S_ 1 := (fun x v => Host.reduce IntOp.andi x v reducesTo_S2048x4_S_d0_1 h_S_) v2 c
  v3

def fn_all_finite_2 {F : FTy → Type} [FloatOps F] (arg0 : FVec F S4 .f32) : IVec S_ 1 :=
  let v0 : FVec F S4 .f32 := Host.absf arg0
  let cst : FVec F S_ .f32 := constant S_ .f32 0x7F800000#32
  let v1 : FVec F S4 .f32 := broadcastInDim S4 ![] bcast_S_S4 cst
  let v2 : IVec S4 1 := cmpf .olt v0 v1
  let c : IVec S_ 1 := constantI S_ 1 1#1
  let v3 : IVec S_ 1 := (fun x v => Host.reduce IntOp.andi x v reducesTo_S4_S_d0 h_S_) v2 c
  v3

def fn_all_finite_3 {F : FTy → Type} [FloatOps F] (arg0 : FVec F S2048x32 .f32) : IVec S_ 1 :=
  let v0 : FVec F S2048x32 .f32 := Host.absf arg0
  let cst : FVec F S_ .f32 := constant S_ .f32 0x7F800000#32
  let v1 : FVec F S2048x32 .f32 := broadcastInDim S2048x32 ![] bcast_S_S2048x32 cst
  let v2 : IVec S2048x32 1 := cmpf .olt v0 v1
  let c : IVec S_ 1 := constantI S_ 1 1#1
  let v3 : IVec S_ 1 := (fun x v => Host.reduce IntOp.andi x v reducesTo_S2048x32_S_d0_1 h_S_) v2 c
  v3

def fn_all_finite_4 {F : FTy → Type} [FloatOps F] (arg0 : FVec F S32 .f32) : IVec S_ 1 :=
  let v0 : FVec F S32 .f32 := Host.absf arg0
  let cst : FVec F S_ .f32 := constant S_ .f32 0x7F800000#32
  let v1 : FVec F S32 .f32 := broadcastInDim S32 ![] bcast_S_S32 cst
  let v2 : IVec S32 1 := cmpf .olt v0 v1
  let c : IVec S_ 1 := constantI S_ 1 1#1
  let v3 : IVec S_ 1 := (fun x v => Host.reduce IntOp.andi x v reducesTo_S32_S_d0 h_S_) v2 c
  v3

def fn {F : FTy → Type} [FloatOps F] (main_arg0 : FVec F S8x4096x2048 .f32) (main_arg1 : FVec F S2048 .f32) (main_arg2 : FVec F S2048x4 .f32) (main_arg3 : FVec F S4 .f32) (main_arg4 : FVec F S2048x32 .f32) (main_arg5 : FVec F S32 .f32) (main_arg6 : FVec F S32x2048x256 .f32) (main_arg7 : FVec F S32x2048x256 .f32) (main_arg8 : FVec F S32x256x2048 .f32) (main_arg9 : FVec F S2048 .f32) : IVec S_ 1 :=
  let main_v0 : IVec S_ 1 := fn_all_finite (F := F) main_arg0
  let main_v1 : IVec S_ 1 := fn_all_finite_0 (F := F) main_arg1
  let main_v2 : IVec S_ 1 := andi main_v0 main_v1
  let main_v3 : IVec S_ 1 := fn_all_finite_1 (F := F) main_arg2
  let main_v4 : IVec S_ 1 := andi main_v2 main_v3
  let main_v5 : IVec S_ 1 := fn_all_finite_2 (F := F) main_arg3
  let main_v6 : IVec S_ 1 := andi main_v4 main_v5
  let main_v7 : IVec S_ 1 := fn_all_finite_3 (F := F) main_arg4
  let main_v8 : IVec S_ 1 := andi main_v6 main_v7
  let main_v9 : IVec S_ 1 := fn_all_finite_4 (F := F) main_arg5
  let main_v10 : IVec S_ 1 := andi main_v8 main_v9
  main_v10
-- ==== Pre_finite_mix.lean ====
abbrev S8x4096x2048 : Shape := ⟨3, ![8, 4096, 2048]⟩
abbrev S8x4096x1024 : Shape := ⟨3, ![8, 4096, 1024]⟩
abbrev S8x256x512 : Shape := ⟨3, ![8, 256, 512]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x256x512 : S_.BroadcastsInDim S8x256x512 (![] : Fin 0 → Fin S8x256x512.rank)
  reducesTo_S8x256x512_S_d0_1_2 : S8x256x512.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x4 : S_.BroadcastsInDim S2048x4 (![] : Fin 0 → Fin S2048x4.rank)
  reducesTo_S2048x4_S_d0_1 : S2048x4.ReducesTo [0, 1] S_
  bcast_S_S4 : S_.BroadcastsInDim S4 (![] : Fin 0 → Fin S4.rank)
  reducesTo_S4_S_d0 : S4.ReducesTo [0] S_
  bcast_S_S2048x32 : S_.BroadcastsInDim S2048x32 (![] : Fin 0 → Fin S2048x32.rank)
  reducesTo_S2048x32_S_d0_1 : S2048x32.ReducesTo [0, 1] S_
  bcast_S_S32 : S_.BroadcastsInDim S32 (![] : Fin 0 → Fin S32.rank)
  reducesTo_S32_S_d0 : S32.ReducesTo [0] S_

variable [Facts]

def fn_all_finite {F : FTy → Type} [FloatOps F] (arg0 : FVec F S8x4096x2048 .f32) : IVec S_ 1 :=
  let v0 : FVec F S8x4096x2048 .f32 := Host.absf arg0
  let cst : FVec F S_ .f32 := constant S_ .f32 0x7F800000#32
  let v1 : FVec F S8x4096x2048 .f32 := broadcastInDim S8x4096x2048 ![] bcast_S_S8x4096x2048 cst
  let v2 : IVec S8x4096x2048 1 := cmpf .olt v0 v1
  let c : IVec S_ 1 := constantI S_ 1 1#1
  let v3 : IVec S_ 1 := (fun x v => Host.reduce IntOp.andi x v reducesTo_S8x4096x2048_S_d0_1_2 h_S_) v2 c
  v3

def fn_all_finite_0 {F : FTy → Type} [FloatOps F] (arg0 : FVec F S8x4096x1024 .f32) : IVec S_ 1 :=
  let v0 : FVec F S8x4096x1024 .f32 := Host.absf arg0
  let cst : FVec F S_ .f32 := constant S_ .f32 0x7F800000#32
  let v1 : FVec F S8x4096x1024 .f32 := broadcastInDim S8x4096x1024 ![] bcast_S_S8x4096x1024 cst
  let v2 : IVec S8x4096x1024 1 := cmpf .olt v0 v1
  let c : IVec S_ 1 := constantI S_ 1 1#1
  let v3 : IVec S_ 1 := (fun x v => Host.reduce IntOp.andi x v reducesTo_S8x4096x1024_S_d0_1_2 h_S_) v2 c
  v3

def fn_all_finite_1 {F : FTy → Type} [FloatOps F] (arg0 : FVec F S8x4096x1024 .f32) : IVec S_ 1 :=
  let v0 : FVec F S8x4096x1024 .f32 := Host.absf arg0
  let cst : FVec F S_ .f32 := constant S_ .f32 0x7F800000#32
  let v1 : FVec F S8x4096x1024 .f32 := broadcastInDim S8x4096x1024 ![] bcast_S_S8x4096x1024 cst
  let v2 : IVec S8x4096x1024 1 := cmpf .olt v0 v1
  let c : IVec S_ 1 := constantI S_ 1 1#1
  let v3 : IVec S_ 1 := (fun x v => Host.reduce IntOp.andi x v reducesTo_S8x4096x1024_S_d0_1_2 h_S_) v2 c
  v3

def fn_all_finite_2 {F : FTy → Type} [FloatOps F] (arg0 : FVec F S8x256x512 .f32) : IVec S_ 1 :=
  let v0 : FVec F S8x256x512 .f32 := Host.absf arg0
  let cst : FVec F S_ .f32 := constant S_ .f32 0x7F800000#32
  let v1 : FVec F S8x256x512 .f32 := broadcastInDim S8x256x512 ![] bcast_S_S8x256x512 cst
  let v2 : IVec S8x256x512 1 := cmpf .olt v0 v1
  let c : IVec S_ 1 := constantI S_ 1 1#1
  let v3 : IVec S_ 1 := (fun x v => Host.reduce IntOp.andi x v reducesTo_S8x256x512_S_d0_1_2 h_S_) v2 c
  v3

def fn_all_finite_3 {F : FTy → Type} [FloatOps F] (arg0 : FVec F S4x256x256 .f32) : IVec S_ 1 :=
  let v0 : FVec F S4x256x256 .f32 := Host.absf arg0
  let cst : FVec F S_ .f32 := constant S_ .f32 0x7F800000#32
  let v1 : FVec F S4x256x256 .f32 := broadcastInDim S4x256x256 ![] bcast_S_S4x256x256 cst
  let v2 : IVec S4x256x256 1 := cmpf .olt v0 v1
  let c : IVec S_ 1 := constantI S_ 1 1#1
  let v3 : IVec S_ 1 := (fun x v => Host.reduce IntOp.andi x v reducesTo_S4x256x256_S_d0_1_2 h_S_) v2 c
  v3

def fn_all_finite_4 {F : FTy → Type} [FloatOps F] (arg0 : FVec F S1024 .f32) : IVec S_ 1 :=
  let v0 : FVec F S1024 .f32 := Host.absf arg0
  let cst : FVec F S_ .f32 := constant S_ .f32 0x7F800000#32
  let v1 : FVec F S1024 .f32 := broadcastInDim S1024 ![] bcast_S_S1024 cst
  let v2 : IVec S1024 1 := cmpf .olt v0 v1
  let c : IVec S_ 1 := constantI S_ 1 1#1
  let v3 : IVec S_ 1 := (fun x v => Host.reduce IntOp.andi x v reducesTo_S1024_S_d0 h_S_) v2 c
  v3

def fn_all_finite_5 {F : FTy → Type} [FloatOps F] (arg0 : FVec F S2048x2048 .f32) : IVec S_ 1 :=
  let v0 : FVec F S2048x2048 .f32 := Host.absf arg0
  let cst : FVec F S_ .f32 := constant S_ .f32 0x7F800000#32
  let v1 : FVec F S2048x2048 .f32 := broadcastInDim S2048x2048 ![] bcast_S_S2048x2048 cst
  let v2 : IVec S2048x2048 1 := cmpf .olt v0 v1
  let c : IVec S_ 1 := constantI S_ 1 1#1
  let v3 : IVec S_ 1 := (fun x v => Host.reduce IntOp.andi x v reducesTo_S2048x2048_S_d0_1 h_S_) v2 c
  v3

def fn_all_finite_6 {F : FTy → Type} [FloatOps F] (arg0 : FVec F S2048 .f32) : IVec S_ 1 :=
  let v0 : FVec F S2048 .f32 := Host.absf arg0
  let cst : FVec F S_ .f32 := constant S_ .f32 0x7F800000#32
  let v1 : FVec F S2048 .f32 := broadcastInDim S2048 ![] bcast_S_S2048 cst
  let v2 : IVec S2048 1 := cmpf .olt v0 v1
  let c : IVec S_ 1 := constantI S_ 1 1#1
  let v3 : IVec S_ 1 := (fun x v => Host.reduce IntOp.andi x v reducesTo_S2048_S_d0 h_S_) v2 c
  v3

def fn_all_finite_7 {F : FTy → Type} [FloatOps F] (arg0 : FVec F S2048x512 .f32) : IVec S_ 1 :=
  let v0 : FVec F S2048x512 .f32 := Host.absf arg0
  let cst : FVec F S_ .f32 := constant S_ .f32 0x7F800000#32
  let v1 : FVec F S2048x512 .f32 := broadcastInDim S2048x512 ![] bcast_S_S2048x512 cst
  let v2 : IVec S2048x512 1 := cmpf .olt v0 v1
  let c : IVec S_ 1 := constantI S_ 1 1#1
  let v3 : IVec S_ 1 := (fun x v => Host.reduce IntOp.andi x v reducesTo_S2048x512_S_d0_1 h_S_) v2 c
  v3

def fn_all_finite_8 {F : FTy → Type} [FloatOps F] (arg0 : FVec F S512x2048 .f32) : IVec S_ 1 :=
  let v0 : FVec F S512x2048 .f32 := Host.absf arg0
  let cst : FVec F S_ .f32 := constant S_ .f32 0x7F800000#32
  let v1 : FVec F S512x2048 .f32 := broadcastInDim S512x2048 ![] bcast_S_S512x2048 cst
  let v2 : IVec S512x2048 1 := cmpf .olt v0 v1
  let c : IVec S_ 1 := constantI S_ 1 1#1
  let v3 : IVec S_ 1 := (fun x v => Host.reduce IntOp.andi x v reducesTo_S512x2048_S_d0_1 h_S_) v2 c
  v3

def fn_all_finite_9 {F : FTy → Type} [FloatOps F] (arg0 : FVec F S2048x4 .f32) : IVec S_ 1 :=
  let v0 : FVec F S2048x4 .f32 := Host.absf arg0
  let cst : FVec F S_ .f32 := constant S_ .f32 0x7F800000#32
  let v1 : FVec F S2048x4 .f32 := broadcastInDim S2048x4 ![] bcast_S_S2048x4 cst
  let v2 : IVec S2048x4 1 := cmpf .olt v0 v1
  let c : IVec S_ 1 := constantI S_ 1 1#1
  let v3 : IVec S_ 1 := (fun x v => Host.reduce IntOp.andi x v reducesTo_S2048x4_S_d0_1 h_S_) v2 c
  v3

def fn_all_finite_10 {F : FTy → Type} [FloatOps F] (arg0 : FVec F S4 .f32) : IVec S_ 1 :=
  let v0 : FVec F S4 .f32 := Host.absf arg0
  let cst : FVec F S_ .f32 := constant S_ .f32 0x7F800000#32
  let v1 : FVec F S4 .f32 := broadcastInDim S4 ![] bcast_S_S4 cst
  let v2 : IVec S4 1 := cmpf .olt v0 v1
  let c : IVec S_ 1 := constantI S_ 1 1#1
  let v3 : IVec S_ 1 := (fun x v => Host.reduce IntOp.andi x v reducesTo_S4_S_d0 h_S_) v2 c
  v3

def fn_all_finite_11 {F : FTy → Type} [FloatOps F] (arg0 : FVec F S2048x32 .f32) : IVec S_ 1 :=
  let v0 : FVec F S2048x32 .f32 := Host.absf arg0
  let cst : FVec F S_ .f32 := constant S_ .f32 0x7F800000#32
  let v1 : FVec F S2048x32 .f32 := broadcastInDim S2048x32 ![] bcast_S_S2048x32 cst
  let v2 : IVec S2048x32 1 := cmpf .olt v0 v1
  let c : IVec S_ 1 := constantI S_ 1 1#1
  let v3 : IVec S_ 1 := (fun x v => Host.reduce IntOp.andi x v reducesTo_S2048x32_S_d0_1 h_S_) v2 c
  v3

def fn_all_finite_12 {F : FTy → Type} [FloatOps F] (arg0 : FVec F S32 .f32) : IVec S_ 1 :=
  let v0 : FVec F S32 .f32 := Host.absf arg0
  let cst : FVec F S_ .f32 := constant S_ .f32 0x7F800000#32
  let v1 : FVec F S32 .f32 := broadcastInDim S32 ![] bcast_S_S32 cst
  let v2 : IVec S32 1 := cmpf .olt v0 v1
  let c : IVec S_ 1 := constantI S_ 1 1#1
  let v3 : IVec S_ 1 := (fun x v => Host.reduce IntOp.andi x v reducesTo_S32_S_d0 h_S_) v2 c
  v3

def fn_part1 {F : FTy → Type} [FloatOps F] (main_arg12 : FVec F S2048x4 .f32) (main_arg13 : FVec F S4 .f32) (main_arg14 : FVec F S2048x32 .f32) (main_arg15 : FVec F S32 .f32) (main_v23 : IVec S_ 1) : IVec S_ 1 :=
  let main_v24 : IVec S_ 1 := fn_all_finite_9 (F := F) main_arg12
  let main_v25 : IVec S_ 1 := andi main_v23 main_v24
  let main_v26 : IVec S_ 1 := fn_all_finite_10 (F := F) main_arg13
  let main_v27 : IVec S_ 1 := andi main_v25 main_v26
  let main_v28 : IVec S_ 1 := fn_all_finite_11 (F := F) main_arg14
  let main_v29 : IVec S_ 1 := andi main_v27 main_v28
  let main_v30 : IVec S_ 1 := fn_all_finite_12 (F := F) main_arg15
  let main_v31 : IVec S_ 1 := andi main_v29 main_v30
  main_v31

def fn {F : FTy → Type} [FloatOps F] (main_arg0 : FVec F S8x4096x2048 .f32) (main_arg1 : FVec F S8x4096x1024 .bf16) (main_arg2 : FVec F S8x4096x1024 .f32) (main_arg3 : FVec F S8x256x512 .f32) (main_arg4 : FVec F S8x256x512 .f32) (main_arg5 : FVec F S4x256x256 .f32) (main_arg6 : FVec F S1024 .f32) (main_arg7 : FVec F S2048x2048 .f32) (main_arg8 : FVec F S2048 .f32) (main_arg9 : FVec F S2048x512 .f32) (main_arg10 : FVec F S512x2048 .f32) (main_arg11 : FVec F S2048 .f32) (main_arg12 : FVec F S2048x4 .f32) (main_arg13 : FVec F S4 .f32) (main_arg14 : FVec F S2048x32 .f32) (main_arg15 : FVec F S32 .f32) : IVec S_ 1 :=
  let main_v0 : FVec F S8x4096x1024 .f32 := (extf .f32 · bitsLt_bf16_f32) main_arg1
  let main_v1 : IVec S_ 1 := fn_all_finite (F := F) main_arg0
  let main_v2 : IVec S_ 1 := fn_all_finite_0 (F := F) main_v0
  let main_v3 : IVec S_ 1 := andi main_v1 main_v2
  let main_v4 : IVec S_ 1 := fn_all_finite_1 (F := F) main_arg2
  let main_v5 : IVec S_ 1 := andi main_v3 main_v4
  let main_v6 : IVec S_ 1 := fn_all_finite_2 (F := F) main_arg3
  let main_v7 : IVec S_ 1 := andi main_v5 main_v6
  let main_v8 : IVec S_ 1 := fn_all_finite_2 (F := F) main_arg4
  let main_v9 : IVec S_ 1 := andi main_v7 main_v8
  let main_v10 : IVec S_ 1 := fn_all_finite_3 (F := F) main_arg5
  let main_v11 : IVec S_ 1 := andi main_v9 main_v10
  let main_v12 : IVec S_ 1 := fn_all_finite_4 (F := F) main_arg6
  let main_v13 : IVec S_ 1 := andi main_v11 main_v12
  let main_v14 : IVec S_ 1 := fn_all_finite_5 (F := F) main_arg7
  let main_v15 : IVec S_ 1 := andi main_v13 main_v14
  let main_v16 : IVec S_ 1 := fn_all_finite_6 (F := F) main_arg8
  let main_v17 : IVec S_ 1 := andi main_v15 main_v16
  let main_v18 : IVec S_ 1 := fn_all_finite_7 (F := F) main_arg9
  let main_v19 : IVec S_ 1 := andi main_v17 main_v18
  let main_v20 : IVec S_ 1 := fn_all_finite_8 (F := F) main_arg10
  let main_v21 : IVec S_ 1 := andi main_v19 main_v20
  let main_v22 : IVec S_ 1 := fn_all_finite_6 (F := F) main_arg11
  let main_v23 : IVec S_ 1 := andi main_v21 main_v22
  fn_part1 (F := F) main_arg12 main_arg13 main_arg14 main_arg15 main_v23
-- ==== Kernel.lean ====
abbrev S8x4096x1024 : Shape := ⟨3, ![8, 4096, 1024]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x16x256x256 : Shape := ⟨4, ![8, 16, 256, 256]⟩
abbrev S8x512x256 : Shape := ⟨3, ![8, 512, 256]⟩
abbrev S512x256 : Shape := ⟨2, ![512, 256]⟩
abbrev S1x256x1024 : Shape := ⟨3, ![1, 256, 1024]⟩
abbrev S1x256x512 : Shape := ⟨3, ![1, 256, 512]⟩
abbrev S1x256x128 : Shape := ⟨3, ![1, 256, 128]⟩
abbrev S1x4096x256 : Shape := ⟨3, ![1, 4096, 256]⟩
abbrev S1x16x256x256 : Shape := ⟨4, ![1, 16, 256, 256]⟩
abbrev S1x4096x128 : Shape := ⟨3, ![1, 4096, 128]⟩
abbrev S16x256x256 : Shape := ⟨3, ![16, 256, 256]⟩
abbrev S4x16x256x256 : Shape := ⟨4, ![4, 16, 256, 256]⟩
abbrev S2x1024x128 : Shape := ⟨3, ![2, 1024, 128]⟩
abbrev S8x256 : Shape := ⟨2, ![8, 256]⟩
abbrev S2x128x1024 : Shape := ⟨3, ![2, 128, 1024]⟩
abbrev S24x256x256 : Shape := ⟨3, ![24, 256, 256]⟩
abbrev S256x128 : Shape := ⟨2, ![256, 128]⟩
abbrev S128x256 : Shape := ⟨2, ![128, 256]⟩
abbrev S1x256 : Shape := ⟨2, ![1, 256]⟩
abbrev S256x256 : Shape := ⟨2, ![256, 256]⟩
abbrev S1x256x256 : Shape := ⟨3, ![1, 256, 256]⟩
abbrev S1x1x256x256 : Shape := ⟨4, ![1, 1, 256, 256]⟩
abbrev S16x256 : Shape := ⟨2, ![16, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x1024x128 : Shape := ⟨3, ![1, 1024, 128]⟩
abbrev S1024x128 : Shape := ⟨2, ![1024, 128]⟩
abbrev S256x1024 : Shape := ⟨2, ![256, 1024]⟩
abbrev S1x1x128x256 : Shape := ⟨4, ![1, 1, 128, 256]⟩
abbrev S1x128x256 : Shape := ⟨3, ![1, 128, 256]⟩

abbrev nBuf : Space → Nat
  | .hbm => 10
  | .vmem => 25
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x512, .bf16⟩
  | .hbm, ⟨2, _⟩ => ⟨S8x4096x128, .f32⟩
  | .hbm, ⟨3, _⟩ => ⟨S8x4096x256, .bf16⟩
  | .hbm, ⟨4, _⟩ => ⟨S8x16x256x256, .bf16⟩
  | .hbm, ⟨5, _⟩ => ⟨S8x4096x128, .bf16⟩
  | .hbm, ⟨6, _⟩ => ⟨S8x4096x128, .bf16⟩
  | .hbm, ⟨7, _⟩ => ⟨S8x512x256, .f32⟩
  | .hbm, ⟨8, _⟩ => ⟨S512x256, .f32⟩
  | .hbm, ⟨9, _⟩ => ⟨S8x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x128, .f32⟩
  | .local _ .vmem, ⟨5, _⟩ => ⟨S1x256x128, .f32⟩
  | .local _ .vmem, ⟨6, _⟩ => ⟨S1x4096x256, .bf16⟩
  | .local _ .vmem, ⟨7, _⟩ => ⟨S1x4096x256, .bf16⟩
  | .local _ .vmem, ⟨8, _⟩ => ⟨S1x16x256x256, .bf16⟩
  | .local _ .vmem, ⟨9, _⟩ => ⟨S1x16x256x256, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S8x512x256, .f32⟩
  | .local _ .vmem, ⟨15, _⟩ => ⟨S512x256, .f32⟩
  | .local _ .vmem, ⟨16, _⟩ => ⟨S1x256x1024, .bf16⟩
  | .local _ .vmem, ⟨17, _⟩ => ⟨S1x256x1024, .bf16⟩
  | .local _ .vmem, ⟨18, _⟩ => ⟨S16x256x256, .i32⟩
  | .local _ .vmem, ⟨19, _⟩ => ⟨S4x16x256x256, .bf16⟩
  | .local _ .vmem, ⟨20, _⟩ => ⟨S16x256x256, .f32⟩
  | .local _ .vmem, ⟨21, _⟩ => ⟨S2x1024x128, .bf16⟩
  | .local _ .vmem, ⟨22, _⟩ => ⟨S8x256, .f32⟩
  | .local _ .vmem, ⟨23, _⟩ => ⟨S2x128x1024, .f32⟩
  | .local _ .vmem, ⟨24, _⟩ => ⟨S24x256x256, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_28 : BitVec 32 := 1#32
  ⟨c0_i32_26, v86, c1_i32_28⟩
def k0_mult1 (i : grid0.Coords) (k0_t1 : Fin (k0_t1_loop i).trips) : BitVec 32 :=
  let c3_i32_236 : BitVec 32 := 3#32
  let c0_i32_26 : BitVec 32 := 0#32
  let c1_i32_28 : BitVec 32 := 1#32
  let arg19 : BitVec 32 := Scf.iv c0_i32_26 c1_i32_28 k0_t1
  let v386 : BitVec 32 := Scalar.muli c3_i32_236 arg19
  let c0_i32_237 : BitVec 32 := 0#32
  let v387 : BitVec 32 := Scalar.addi v386 c0_i32_237
  let c256_i32 : BitVec 32 := 256#32
  let v392 : BitVec 32 := Scalar.muli v387 c256_i32
  v392
def k0_off1 (i : grid0.Coords) (k0_t1 : Fin (k0_t1_loop i).trips) (c0_i32_237 : BitVec 32) : Fin 3 → Nat :=
  let c0_242 : Index := 0#32
  let c3_i32_236 : BitVec 32 := 3#32
  let c0_i32_26 : BitVec 32 := 0#32
  let c1_i32_28 : BitVec 32 := 1#32
  let arg19 : BitVec 32 := Scf.iv c0_i32_26 c1_i32_28 k0_t1
  let v386 : BitVec 32 := Scalar.muli c3_i32_236 arg19
  let v387 : BitVec 32 := Scalar.addi v386 c0_i32_237
  let c256_i32 : BitVec 32 := 256#32
  let v392 : BitVec 32 := Scalar.muli v387 c256_i32
  let v393 : BitVec 32 := v392
  let v394 : Index := Scalar.indexCast v393
  let c0_243 : Index := 0#32
  ![0, v394.toNat, 0]
def k0_mult2 (i : grid0.Coords) (k0_t1 : Fin (k0_t1_loop i).trips) : BitVec 32 :=
  let c3_i32_238 : BitVec 32 := 3#32
  let c0_i32_26 : BitVec 32 := 0#32
  let c1_i32_28 : BitVec 32 := 1#32
  let arg19 : BitVec 32 := Scf.iv c0_i32_26 c1_i32_28 k0_t1
  let v388 : BitVec 32 := Scalar.muli c3_i32_238 arg19
  let c1_i32_239 : BitVec 32 := 1#32
  let v389 : BitVec 32 := Scalar.addi v388 c1_i32_239
  let c256_i32_266 : BitVec 32 := 256#32
  let v416 : BitVec 32 := Scalar.muli v389 c256_i32_266
  v416
def k0_mult3 (i : grid0.Coords) (k0_t1 : Fin (k0_t1_loop i).trips) : BitVec 32 :=
  let c3_i32_240 : BitVec 32 := 3#32
  let c0_i32_26 : BitVec 32 := 0#32
  let c1_i32_28 : BitVec 32 := 1#32
  let arg19 : BitVec 32 := Scf.iv c0_i32_26 c1_i32_28 k0_t1
  let v390 : BitVec 32 := Scalar.muli c3_i32_240 arg19
  let c2_i32_241 : BitVec 32 := 2#32
  let v391 : BitVec 32 := Scalar.addi v390 c2_i32_241
  let c256_i32_291 : BitVec 32 := 256#32
  let v440 : BitVec 32 := Scalar.muli v391 c256_i32_291
  v440
def k0_off2 (i : grid0.Coords) (k0_t1 : Fin (k0_t1_loop i).trips) (c0_i32_237 : BitVec 32) : Fin 3 → Nat :=
  let c3_i32_236 : BitVec 32 := 3#32
  let c0_i32_26 : BitVec 32 := 0#32
  let c1_i32_28 : BitVec 32 := 1#32
  let arg19 : BitVec 32 := Scf.iv c0_i32_26 c1_i32_28 k0_t1
  let v386 : BitVec 32 := Scalar.muli c3_i32_236 arg19
  let v387 : BitVec 32 := Scalar.addi v386 c0_i32_237
  let v527 : Index := Scalar.indexCast v387
  let c0_325 : Index := 0#32
  let c0_326 : Index := 0#32
  ![v527.toNat, 0, 0]
def k0_off3 (i : grid0.Coords) (k0_t1 : Fin (k0_t1_loop i).trips) (c0_i32_237 : BitVec 32) : Fin 4 → Nat :=
  let c0_328 : Index := 0#32
  let c3_i32_236 : BitVec 32 := 3#32
  let c0_i32_26 : BitVec 32 := 0#32
  let c1_i32_28 : BitVec 32 := 1#32
  let arg19 : BitVec 32 := Scf.iv c0_i32_26 c1_i32_28 k0_t1
  let v386 : BitVec 32 := Scalar.muli c3_i32_236 arg19
  let v387 : BitVec 32 := Scalar.addi v386 c0_i32_237
  let v535 : Index := Scalar.indexCast v387
  let c0_329 : Index := 0#32
  let c0_330 : Index := 0#32
  ![0, v535.toNat, 0, 0]
def k0_off4 (i : grid0.Coords) (k0_t1 : Fin (k0_t1_loop i).trips) (c0_i32_237 : BitVec 32) : Fin 4 → Nat :=
  let c1_332 : Index := 1#32
  let c3_i32_236 : BitVec 32 := 3#32
  let c0_i32_26 : BitVec 32 := 0#32
  let c1_i32_28 : BitVec 32 := 1#32
  let arg19 : BitVec 32 := Scf.iv c0_i32_26 c1_i32_28 k0_t1
  let v386 : BitVec 32 := Scalar.muli c3_i32_236 arg19
  let v387 : BitVec 32 := Scalar.addi v386 c0_i32_237
  let v545 : Index := Scalar.indexCast v387
  let c0_333 : Index := 0#32
  let c0_334 : Index := 0#32
  ![1, v545.toNat, 0, 0]
def k0_off5 (i : grid0.Coords) (k0_t1 : Fin (k0_t1_loop i).trips) (c0_i32_237 : BitVec 32) : Fin 4 → Nat :=
  let c2 : Index := 2#32
  let c3_i32_236 : BitVec 32 := 3#32
  let c0_i32_26 : BitVec 32 := 0#32
  let c1_i32_28 : BitVec 32 := 1#32
  let arg19 : BitVec 32 := Scf.iv c0_i32_26 c1_i32_28 k0_t1
  let v386 : BitVec 32 := Scalar.muli c3_i32_236 arg19
  let v387 : BitVec 32 := Scalar.addi v386 c0_i32_237
  let v555 : Index := Scalar.indexCast v387
  let c0_337 : Index := 0#32
  let c0_338 : Index := 0#32
  ![2, v555.toNat, 0, 0]
def k0_off6 (i : grid0.Coords) (k0_t1 : Fin (k0_t1_loop i).trips) (c0_i32_237 : BitVec 32) : Fin 4 → Nat :=
  let c3 : Index := 3#32
  let c3_i32_236 : BitVec 32 := 3#32
  let c0_i32_26 : BitVec 32 := 0#32
  let c1_i32_28 : BitVec 32 := 1#32
  let arg19 : BitVec 32 := Scf.iv c0_i32_26 c1_i32_28 k0_t1
  let v386 : BitVec 32 := Scalar.muli c3_i32_236 arg19
  let v387 : BitVec 32 := Scalar.addi v386 c0_i32_237
  let v565 : Index := Scalar.indexCast v387
  let c0_341 : Index := 0#32
  let c0_342 : Index := 0#32
  ![3, v565.toNat, 0, 0]
@[reducible] def k0_t2_loop (i : grid0.Coords) : Scf.Loop 32 :=
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let v83 : BitVec 32 := Scalar.addi c0_i32_26 v82
  let c1_i32_29 : BitVec 32 := 1#32
  ⟨v86, v83, c1_i32_29⟩
def k0_mult4 (i : grid0.Coords) (k0_t2 : Fin (k0_t2_loop i).trips) : BitVec 32 :=
  let c3_i32_236 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v386 : BitVec 32 := Scalar.muli c3_i32_236 arg19
  let c0_i32_237 : BitVec 32 := 0#32
  let v387 : BitVec 32 := Scalar.addi v386 c0_i32_237
  let c256_i32 : BitVec 32 := 256#32
  let v392 : BitVec 32 := Scalar.muli v387 c256_i32
  v392
def k0_off7 (i : grid0.Coords) (k0_t2 : Fin (k0_t2_loop i).trips) (c0_i32_237 : BitVec 32) : Fin 3 → Nat :=
  let c0_242 : Index := 0#32
  let c3_i32_236 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v386 : BitVec 32 := Scalar.muli c3_i32_236 arg19
  let v387 : BitVec 32 := Scalar.addi v386 c0_i32_237
  let c256_i32 : BitVec 32 := 256#32
  let v392 : BitVec 32 := Scalar.muli v387 c256_i32
  let v393 : BitVec 32 := v392
  let v394 : Index := Scalar.indexCast v393
  let c0_243 : Index := 0#32
  ![0, v394.toNat, 0]
def k0_mult5 (i : grid0.Coords) (k0_t2 : Fin (k0_t2_loop i).trips) : BitVec 32 :=
  let c3_i32_238 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v388 : BitVec 32 := Scalar.muli c3_i32_238 arg19
  let c1_i32_239 : BitVec 32 := 1#32
  let v389 : BitVec 32 := Scalar.addi v388 c1_i32_239
  let c256_i32_266 : BitVec 32 := 256#32
  let v416 : BitVec 32 := Scalar.muli v389 c256_i32_266
  v416
def k0_mult6 (i : grid0.Coords) (k0_t2 : Fin (k0_t2_loop i).trips) : BitVec 32 :=
  let c3_i32_240 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v390 : BitVec 32 := Scalar.muli c3_i32_240 arg19
  let c2_i32_241 : BitVec 32 := 2#32
  let v391 : BitVec 32 := Scalar.addi v390 c2_i32_241
  let c256_i32_291 : BitVec 32 := 256#32
  let v440 : BitVec 32 := Scalar.muli v391 c256_i32_291
  v440
def k0_off8 (i : grid0.Coords) (k0_t2 : Fin (k0_t2_loop i).trips) (c0_i32_237 : BitVec 32) : Fin 3 → Nat :=
  let c3_i32_236 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v386 : BitVec 32 := Scalar.muli c3_i32_236 arg19
  let v387 : BitVec 32 := Scalar.addi v386 c0_i32_237
  let v527 : Index := Scalar.indexCast v387
  let c0_325 : Index := 0#32
  let c0_326 : Index := 0#32
  ![v527.toNat, 0, 0]
def k0_off9 (i : grid0.Coords) (k0_t2 : Fin (k0_t2_loop i).trips) (c0_i32_237 : BitVec 32) : Fin 4 → Nat :=
  let c0_328 : Index := 0#32
  let c3_i32_236 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v386 : BitVec 32 := Scalar.muli c3_i32_236 arg19
  let v387 : BitVec 32 := Scalar.addi v386 c0_i32_237
  let v535 : Index := Scalar.indexCast v387
  let c0_329 : Index := 0#32
  let c0_330 : Index := 0#32
  ![0, v535.toNat, 0, 0]
def k0_off10 (i : grid0.Coords) (k0_t2 : Fin (k0_t2_loop i).trips) (c0_i32_237 : BitVec 32) : Fin 4 → Nat :=
  let c1_332 : Index := 1#32
  let c3_i32_236 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v386 : BitVec 32 := Scalar.muli c3_i32_236 arg19
  let v387 : BitVec 32 := Scalar.addi v386 c0_i32_237
  let v545 : Index := Scalar.indexCast v387
  let c0_333 : Index := 0#32
  let c0_334 : Index := 0#32
  ![1, v545.toNat, 0, 0]
def k0_off11 (i : grid0.Coords) (k0_t2 : Fin (k0_t2_loop i).trips) (c0_i32_237 : BitVec 32) : Fin 4 → Nat :=
  let c2 : Index := 2#32
  let c3_i32_236 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v386 : BitVec 32 := Scalar.muli c3_i32_236 arg19
  let v387 : BitVec 32 := Scalar.addi v386 c0_i32_237
  let v555 : Index := Scalar.indexCast v387
  let c0_337 : Index := 0#32
  let c0_338 : Index := 0#32
  ![2, v555.toNat, 0, 0]
def k0_off12 (i : grid0.Coords) (k0_t2 : Fin (k0_t2_loop i).trips) (c0_i32_237 : BitVec 32) : Fin 4 → Nat :=
  let c3 : Index := 3#32
  let c3_i32_236 : BitVec 32 := 3#32
  let c0_i32_26 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v82 : BitVec 32 := Scalar.subi v79 c0_i32_26
  let c1_i32_27 : BitVec 32 := 1#32
  let v84 : BitVec 32 := Scalar.divsi v82 c1_i32_27
  let v85 : BitVec 32 := Scalar.muli v84 c1_i32_27
  let v86 : BitVec 32 := Scalar.addi c0_i32_26 v85
  let c1_i32_29 : BitVec 32 := 1#32
  let arg19 : BitVec 32 := Scf.iv v86 c1_i32_29 k0_t2
  let v386 : BitVec 32 := Scalar.muli c3_i32_236 arg19
  let v387 : BitVec 32 := Scalar.addi v386 c0_i32_237
  let v565 : Index := Scalar.indexCast v387
  let c0_341 : Index := 0#32
  let c0_342 : Index := 0#32
  ![3, v565.toNat, 0, 0]
def k0_cond1 (i : grid0.Coords) : BitVec 1 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let c3_i32_24 : BitVec 32 := 3#32
  let v80 : BitVec 32 := Scalar.muli v79 c3_i32_24
  let v81 : BitVec 32 := Scalar.subi v3 v80
  let c1_i32_30 : BitVec 32 := 1#32
  let v87 : BitVec 1 := Scalar.cmpi .eq v81 c1_i32_30
  let v88 : BitVec 32 := Scalar.extui v87
  let c0_i32_31 : BitVec 32 := 0#32
  let v89 : BitVec 1 := Scalar.cmpi .ne v88 c0_i32_31
  v89

def k0_mult7 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let c256_i32 : BitVec 32 := 256#32
  let v388 : BitVec 32 := Scalar.muli v387 c256_i32
  v388
def k0_off13 (i : grid0.Coords) : Fin 3 → Nat :=
  let c0_238 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let c256_i32 : BitVec 32 := 256#32
  let v388 : BitVec 32 := Scalar.muli v387 c256_i32
  let v389 : BitVec 32 := v388
  let v390 : Index := Scalar.indexCast v389
  let c0_239 : Index := 0#32
  ![0, v390.toNat, 0]
def k0_off14 (i : grid0.Coords) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v475 : Index := Scalar.indexCast v387
  let c0_271 : Index := 0#32
  let c0_272 : Index := 0#32
  ![v475.toNat, 0, 0]
def k0_off15 (i : grid0.Coords) : Fin 4 → Nat :=
  let c0_274 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v483 : Index := Scalar.indexCast v387
  let c0_275 : Index := 0#32
  let c0_276 : Index := 0#32
  ![0, v483.toNat, 0, 0]
def k0_off16 (i : grid0.Coords) : Fin 4 → Nat :=
  let c1_278 : Index := 1#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v493 : Index := Scalar.indexCast v387
  let c0_279 : Index := 0#32
  let c0_280 : Index := 0#32
  ![1, v493.toNat, 0, 0]
def k0_off17 (i : grid0.Coords) : Fin 4 → Nat :=
  let c2 : Index := 2#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v503 : Index := Scalar.indexCast v387
  let c0_283 : Index := 0#32
  let c0_284 : Index := 0#32
  ![2, v503.toNat, 0, 0]
def k0_off18 (i : grid0.Coords) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v513 : Index := Scalar.indexCast v387
  let c0_287 : Index := 0#32
  let c0_288 : Index := 0#32
  ![3, v513.toNat, 0, 0]
def k0_cond2 (i : grid0.Coords) : BitVec 1 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let c3_i32_24 : BitVec 32 := 3#32
  let v80 : BitVec 32 := Scalar.muli v79 c3_i32_24
  let v81 : BitVec 32 := Scalar.subi v3 v80
  let c2_i32_32 : BitVec 32 := 2#32
  let v90 : BitVec 1 := Scalar.cmpi .eq v81 c2_i32_32
  let v91 : BitVec 32 := Scalar.extui v90
  let c0_i32_33 : BitVec 32 := 0#32
  let v92 : BitVec 1 := Scalar.cmpi .ne v91 c0_i32_33
  v92

def k0_mult8 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let c0_i32_237 : BitVec 32 := 0#32
  let v387 : BitVec 32 := Scalar.addi v386 c0_i32_237
  let c256_i32 : BitVec 32 := 256#32
  let v390 : BitVec 32 := Scalar.muli v387 c256_i32
  v390
def k0_off19 (i : grid0.Coords) (c0_i32_237 : BitVec 32) : Fin 3 → Nat :=
  let c0_240 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let c256_i32 : BitVec 32 := 256#32
  let v390 : BitVec 32 := Scalar.muli v387 c256_i32
  let v391 : BitVec 32 := v390
  let v392 : Index := Scalar.indexCast v391
  let c0_241 : Index := 0#32
  ![0, v392.toNat, 0]
def k0_mult9 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_238 : BitVec 32 := 2#32
  let v388 : BitVec 32 := Scalar.subi v3 c2_i32_238
  let c1_i32_239 : BitVec 32 := 1#32
  let v389 : BitVec 32 := Scalar.addi v388 c1_i32_239
  let c256_i32_264 : BitVec 32 := 256#32
  let v414 : BitVec 32 := Scalar.muli v389 c256_i32_264
  v414
def k0_off20 (i : grid0.Coords) (c0_i32_237 : BitVec 32) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v501 : Index := Scalar.indexCast v387
  let c0_298 : Index := 0#32
  let c0_299 : Index := 0#32
  ![v501.toNat, 0, 0]
def k0_off21 (i : grid0.Coords) (c0_i32_237 : BitVec 32) : Fin 4 → Nat :=
  let c0_301 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v509 : Index := Scalar.indexCast v387
  let c0_302 : Index := 0#32
  let c0_303 : Index := 0#32
  ![0, v509.toNat, 0, 0]
def k0_off22 (i : grid0.Coords) (c0_i32_237 : BitVec 32) : Fin 4 → Nat :=
  let c1_305 : Index := 1#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v519 : Index := Scalar.indexCast v387
  let c0_306 : Index := 0#32
  let c0_307 : Index := 0#32
  ![1, v519.toNat, 0, 0]
def k0_off23 (i : grid0.Coords) (c0_i32_237 : BitVec 32) : Fin 4 → Nat :=
  let c2 : Index := 2#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v529 : Index := Scalar.indexCast v387
  let c0_310 : Index := 0#32
  let c0_311 : Index := 0#32
  ![2, v529.toNat, 0, 0]
def k0_off24 (i : grid0.Coords) (c0_i32_237 : BitVec 32) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v539 : Index := Scalar.indexCast v387
  let c0_314 : Index := 0#32
  let c0_315 : Index := 0#32
  ![3, v539.toNat, 0, 0]
def k0_cond3 (i : grid0.Coords) : BitVec 1 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32_34 : BitVec 32 := 2#32
  let v93 : BitVec 1 := Scalar.cmpi .sge v1 c2_i32_34
  let v94 : BitVec 32 := Scalar.extui v93
  let c0_i32_35 : BitVec 32 := 0#32
  let v95 : BitVec 1 := Scalar.cmpi .ne v94 c0_i32_35
  v95

def k0_mult10 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32_236 : BitVec 32 := 2#32
  let v386 : BitVec 32 := Scalar.subi v1 c2_i32_236
  let c256_i32 : BitVec 32 := 256#32
  let v388 : BitVec 32 := Scalar.muli v386 c256_i32
  v388
def k0_off25 (i : grid0.Coords) (c2_i32_236 : BitVec 32) : Fin 3 → Nat :=
  let c0_238 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let c256_i32 : BitVec 32 := 256#32
  let v388 : BitVec 32 := Scalar.muli v386 c256_i32
  let v389 : BitVec 32 := v388
  let v390 : Index := Scalar.indexCast v389
  let c0_239 : Index := 0#32
  ![0, v390.toNat, 0]
def k0_mult11 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_237 : BitVec 32 := 1#32
  let v387 : BitVec 32 := Scalar.subi v1 c1_i32_237
  let c256_i32_262 : BitVec 32 := 256#32
  let v412 : BitVec 32 := Scalar.muli v387 c256_i32_262
  v412
def k0_off26 (i : grid0.Coords) (c2_i32_236 : BitVec 32) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v504 : Index := Scalar.indexCast v386
  let c0_299 : Index := 0#32
  let c0_300 : Index := 0#32
  ![v504.toNat, 0, 0]
def k0_off27 (i : grid0.Coords) (c2_i32_236 : BitVec 32) : Fin 4 → Nat :=
  let c0_302 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v512 : Index := Scalar.indexCast v386
  let c0_303 : Index := 0#32
  let c0_304 : Index := 0#32
  ![0, v512.toNat, 0, 0]
def k0_off28 (i : grid0.Coords) (c2_i32_236 : BitVec 32) : Fin 4 → Nat :=
  let c1_306 : Index := 1#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v522 : Index := Scalar.indexCast v386
  let c0_307 : Index := 0#32
  let c0_308 : Index := 0#32
  ![1, v522.toNat, 0, 0]
def k0_off29 (i : grid0.Coords) (c2_i32_236 : BitVec 32) : Fin 4 → Nat :=
  let c2 : Index := 2#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v532 : Index := Scalar.indexCast v386
  let c0_311 : Index := 0#32
  let c0_312 : Index := 0#32
  ![2, v532.toNat, 0, 0]
def k0_off30 (i : grid0.Coords) (c2_i32_236 : BitVec 32) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v542 : Index := Scalar.indexCast v386
  let c0_315 : Index := 0#32
  let c0_316 : Index := 0#32
  ![3, v542.toNat, 0, 0]
def k0_cond4 (i : grid0.Coords) : BitVec 1 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32_36 : BitVec 32 := 2#32
  let v96 : BitVec 1 := Scalar.cmpi .slt v1 c2_i32_36
  let v97 : BitVec 32 := Scalar.extui v96
  let c0_i32_37 : BitVec 32 := 0#32
  let v98 : BitVec 1 := Scalar.cmpi .ne v97 c0_i32_37
  v98

def k0_mult12 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let c256_i32 : BitVec 32 := 256#32
  let v387 : BitVec 32 := Scalar.muli v386 c256_i32
  v387
def k0_off31 (i : grid0.Coords) : Fin 3 → Nat :=
  let c0_237 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let c256_i32 : BitVec 32 := 256#32
  let v387 : BitVec 32 := Scalar.muli v386 c256_i32
  let v388 : BitVec 32 := v387
  let v389 : Index := Scalar.indexCast v388
  let c0_238 : Index := 0#32
  ![0, v389.toNat, 0]
def k0_off32 (i : grid0.Coords) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v479 : Index := Scalar.indexCast v386
  let c0_273 : Index := 0#32
  let c0_274 : Index := 0#32
  ![v479.toNat, 0, 0]
def k0_off33 (i : grid0.Coords) : Fin 4 → Nat :=
  let c0_276 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v487 : Index := Scalar.indexCast v386
  let c0_277 : Index := 0#32
  let c0_278 : Index := 0#32
  ![0, v487.toNat, 0, 0]
def k0_off34 (i : grid0.Coords) : Fin 4 → Nat :=
  let c1_280 : Index := 1#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v497 : Index := Scalar.indexCast v386
  let c0_281 : Index := 0#32
  let c0_282 : Index := 0#32
  ![1, v497.toNat, 0, 0]
def k0_off35 (i : grid0.Coords) : Fin 4 → Nat :=
  let c2 : Index := 2#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v507 : Index := Scalar.indexCast v386
  let c0_285 : Index := 0#32
  let c0_286 : Index := 0#32
  ![2, v507.toNat, 0, 0]
def k0_off36 (i : grid0.Coords) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v517 : Index := Scalar.indexCast v386
  let c0_289 : Index := 0#32
  let c0_290 : Index := 0#32
  ![3, v517.toNat, 0, 0]
@[reducible] def k0_t3_loop : Scf.Loop 32 :=
  let c0_i32_44 : BitVec 32 := 0#32
  let c8_i32 : BitVec 32 := 8#32
  let v105 : BitVec 32 := Scalar.addi c0_i32_44 c8_i32
  let c1_i32_45 : BitVec 32 := 1#32
  ⟨c0_i32_44, v105, c1_i32_45⟩
@[reducible] def k0_t4_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_247 : BitVec 32 := 1#32
  ⟨c0_i32_245, v416, c1_i32_247⟩
def k0_off37 (i : grid0.Coords) (k0_t4 : Fin (k0_t4_loop i).trips) (c0_i32_262 : BitVec 32) : Fin 4 → Nat :=
  let c0_263 : Index := 0#32
  let c4_i32_261 : BitVec 32 := 4#32
  let c0_i32_245 : BitVec 32 := 0#32
  let c1_i32_247 : BitVec 32 := 1#32
  let arg22 : BitVec 32 := Scf.iv c0_i32_245 c1_i32_247 k0_t4
  let v449 : BitVec 32 := Scalar.muli c4_i32_261 arg22
  let v450 : BitVec 32 := Scalar.addi v449 c0_i32_262
  let v451 : Index := Scalar.indexCast v450
  let c0_264 : Index := 0#32
  let c0_265 : Index := 0#32
  ![0, v451.toNat, 0, 0]
@[reducible] def k0_t5_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let v413 : BitVec 32 := Scalar.addi c0_i32_245 v412
  let c1_i32_248 : BitVec 32 := 1#32
  ⟨v416, v413, c1_i32_248⟩
def k0_off38 (i : grid0.Coords) (k0_t5 : Fin (k0_t5_loop i).trips) (c0_i32_262 : BitVec 32) : Fin 4 → Nat :=
  let c0_263 : Index := 0#32
  let c4_i32_261 : BitVec 32 := 4#32
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_248 : BitVec 32 := 1#32
  let arg22 : BitVec 32 := Scf.iv v416 c1_i32_248 k0_t5
  let v449 : BitVec 32 := Scalar.muli c4_i32_261 arg22
  let v450 : BitVec 32 := Scalar.addi v449 c0_i32_262
  let v451 : Index := Scalar.indexCast v450
  let c0_264 : Index := 0#32
  let c0_265 : Index := 0#32
  ![0, v451.toNat, 0, 0]
@[reducible] def k0_t6_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_258 : BitVec 32 := 1#32
  ⟨v436, v441, c1_i32_258⟩
def k0_off39 (i : grid0.Coords) (k0_t6 : Fin (k0_t6_loop i).trips) : Fin 4 → Nat :=
  let c0_261 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let c1_i32_258 : BitVec 32 := 1#32
  let arg22 : BitVec 32 := Scf.iv v436 c1_i32_258 k0_t6
  let v449 : Index := Scalar.indexCast arg22
  let c0_262 : Index := 0#32
  let c0_263 : Index := 0#32
  ![0, v449.toNat, 0, 0]
@[reducible] def k0_t7_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let v438 : BitVec 32 := Scalar.addi v436 v437
  let c1_i32_259 : BitVec 32 := 1#32
  ⟨v441, v438, c1_i32_259⟩
def k0_off40 (i : grid0.Coords) (k0_t7 : Fin (k0_t7_loop i).trips) : Fin 4 → Nat :=
  let c0_261 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_259 : BitVec 32 := 1#32
  let arg22 : BitVec 32 := Scf.iv v441 c1_i32_259 k0_t7
  let v449 : Index := Scalar.indexCast arg22
  let c0_262 : Index := 0#32
  let c0_263 : Index := 0#32
  ![0, v449.toNat, 0, 0]
@[reducible] def k0_t8_loop (i : grid0.Coords) : Scf.Loop 32 :=
  let c0_i32_48 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v113 : BitVec 32 := Scalar.subi v1 c0_i32_48
  let c1_i32_49 : BitVec 32 := 1#32
  let v115 : BitVec 32 := Scalar.divsi v113 c1_i32_49
  let v116 : BitVec 32 := Scalar.muli v115 c1_i32_49
  let v117 : BitVec 32 := Scalar.addi c0_i32_48 v116
  let c1_i32_50 : BitVec 32 := 1#32
  ⟨c0_i32_48, v117, c1_i32_50⟩
def k0_off41 (i : grid0.Coords) (k0_t8 : Fin (k0_t8_loop i).trips) : Fin 4 → Nat :=
  let c0_236 : Index := 0#32
  let c0_i32_48 : BitVec 32 := 0#32
  let c1_i32_50 : BitVec 32 := 1#32
  let arg19 : BitVec 32 := Scf.iv c0_i32_48 c1_i32_50 k0_t8
  let v386 : Index := Scalar.indexCast arg19
  let c0_237 : Index := 0#32
  let c0_238 : Index := 0#32
  ![0, v386.toNat, 0, 0]
def k0_off42 (i : grid0.Coords) (k0_t8 : Fin (k0_t8_loop i).trips) : Fin 4 → Nat :=
  let c1_239 : Index := 1#32
  let c0_i32_48 : BitVec 32 := 0#32
  let c1_i32_50 : BitVec 32 := 1#32
  let arg19 : BitVec 32 := Scf.iv c0_i32_48 c1_i32_50 k0_t8
  let v391 : Index := Scalar.indexCast arg19
  let c0_240 : Index := 0#32
  let c0_241 : Index := 0#32
  ![1, v391.toNat, 0, 0]
@[reducible] def k0_t9_loop (i : grid0.Coords) : Scf.Loop 32 :=
  let c0_i32_48 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v113 : BitVec 32 := Scalar.subi v1 c0_i32_48
  let c1_i32_49 : BitVec 32 := 1#32
  let v115 : BitVec 32 := Scalar.divsi v113 c1_i32_49
  let v116 : BitVec 32 := Scalar.muli v115 c1_i32_49
  let v117 : BitVec 32 := Scalar.addi c0_i32_48 v116
  let v114 : BitVec 32 := Scalar.addi c0_i32_48 v113
  let c1_i32_51 : BitVec 32 := 1#32
  ⟨v117, v114, c1_i32_51⟩
def k0_off43 (i : grid0.Coords) (k0_t9 : Fin (k0_t9_loop i).trips) : Fin 4 → Nat :=
  let c0_236 : Index := 0#32
  let c0_i32_48 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v113 : BitVec 32 := Scalar.subi v1 c0_i32_48
  let c1_i32_49 : BitVec 32 := 1#32
  let v115 : BitVec 32 := Scalar.divsi v113 c1_i32_49
  let v116 : BitVec 32 := Scalar.muli v115 c1_i32_49
  let v117 : BitVec 32 := Scalar.addi c0_i32_48 v116
  let c1_i32_51 : BitVec 32 := 1#32
  let arg19 : BitVec 32 := Scf.iv v117 c1_i32_51 k0_t9
  let v386 : Index := Scalar.indexCast arg19
  let c0_237 : Index := 0#32
  let c0_238 : Index := 0#32
  ![0, v386.toNat, 0, 0]
def k0_off44 (i : grid0.Coords) (k0_t9 : Fin (k0_t9_loop i).trips) : Fin 4 → Nat :=
  let c1_239 : Index := 1#32
  let c0_i32_48 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v113 : BitVec 32 := Scalar.subi v1 c0_i32_48
  let c1_i32_49 : BitVec 32 := 1#32
  let v115 : BitVec 32 := Scalar.divsi v113 c1_i32_49
  let v116 : BitVec 32 := Scalar.muli v115 c1_i32_49
  let v117 : BitVec 32 := Scalar.addi c0_i32_48 v116
  let c1_i32_51 : BitVec 32 := 1#32
  let arg19 : BitVec 32 := Scf.iv v117 c1_i32_51 k0_t9
  let v391 : Index := Scalar.indexCast arg19
  let c0_240 : Index := 0#32
  let c0_241 : Index := 0#32
  ![1, v391.toNat, 0, 0]
@[reducible] def k0_t10_loop : Scf.Loop 32 :=
  let c0_i32_54 : BitVec 32 := 0#32
  let c8_i32_55 : BitVec 32 := 8#32
  let v120 : BitVec 32 := Scalar.addi c0_i32_54 c8_i32_55
  let c1_i32_56 : BitVec 32 := 1#32
  ⟨c0_i32_54, v120, c1_i32_56⟩
@[reducible] def k0_t11_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_247 : BitVec 32 := 1#32
  ⟨c0_i32_245, v416, c1_i32_247⟩
def k0_off45 (i : grid0.Coords) (k0_t11 : Fin (k0_t11_loop i).trips) (c0_i32_262 : BitVec 32) : Fin 4 → Nat :=
  let c1_263 : Index := 1#32
  let c4_i32_261 : BitVec 32 := 4#32
  let c0_i32_245 : BitVec 32 := 0#32
  let c1_i32_247 : BitVec 32 := 1#32
  let arg22 : BitVec 32 := Scf.iv c0_i32_245 c1_i32_247 k0_t11
  let v449 : BitVec 32 := Scalar.muli c4_i32_261 arg22
  let v450 : BitVec 32 := Scalar.addi v449 c0_i32_262
  let v451 : Index := Scalar.indexCast v450
  let c0_264 : Index := 0#32
  let c0_265 : Index := 0#32
  ![1, v451.toNat, 0, 0]
@[reducible] def k0_t12_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let v413 : BitVec 32 := Scalar.addi c0_i32_245 v412
  let c1_i32_248 : BitVec 32 := 1#32
  ⟨v416, v413, c1_i32_248⟩
def k0_off46 (i : grid0.Coords) (k0_t12 : Fin (k0_t12_loop i).trips) (c0_i32_262 : BitVec 32) : Fin 4 → Nat :=
  let c1_263 : Index := 1#32
  let c4_i32_261 : BitVec 32 := 4#32
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_248 : BitVec 32 := 1#32
  let arg22 : BitVec 32 := Scf.iv v416 c1_i32_248 k0_t12
  let v449 : BitVec 32 := Scalar.muli c4_i32_261 arg22
  let v450 : BitVec 32 := Scalar.addi v449 c0_i32_262
  let v451 : Index := Scalar.indexCast v450
  let c0_264 : Index := 0#32
  let c0_265 : Index := 0#32
  ![1, v451.toNat, 0, 0]
@[reducible] def k0_t13_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_258 : BitVec 32 := 1#32
  ⟨v436, v441, c1_i32_258⟩
def k0_off47 (i : grid0.Coords) (k0_t13 : Fin (k0_t13_loop i).trips) : Fin 4 → Nat :=
  let c1_261 : Index := 1#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let c1_i32_258 : BitVec 32 := 1#32
  let arg22 : BitVec 32 := Scf.iv v436 c1_i32_258 k0_t13
  let v449 : Index := Scalar.indexCast arg22
  let c0_262 : Index := 0#32
  let c0_263 : Index := 0#32
  ![1, v449.toNat, 0, 0]
@[reducible] def k0_t14_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let v438 : BitVec 32 := Scalar.addi v436 v437
  let c1_i32_259 : BitVec 32 := 1#32
  ⟨v441, v438, c1_i32_259⟩
def k0_off48 (i : grid0.Coords) (k0_t14 : Fin (k0_t14_loop i).trips) : Fin 4 → Nat :=
  let c1_261 : Index := 1#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_259 : BitVec 32 := 1#32
  let arg22 : BitVec 32 := Scf.iv v441 c1_i32_259 k0_t14
  let v449 : Index := Scalar.indexCast arg22
  let c0_262 : Index := 0#32
  let c0_263 : Index := 0#32
  ![1, v449.toNat, 0, 0]
@[reducible] def k0_t15_loop (i : grid0.Coords) : Scf.Loop 32 :=
  let c0_i32_59 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v128 : BitVec 32 := Scalar.subi v1 c0_i32_59
  let c1_i32_60 : BitVec 32 := 1#32
  let v130 : BitVec 32 := Scalar.divsi v128 c1_i32_60
  let v131 : BitVec 32 := Scalar.muli v130 c1_i32_60
  let v132 : BitVec 32 := Scalar.addi c0_i32_59 v131
  let c1_i32_61 : BitVec 32 := 1#32
  ⟨c0_i32_59, v132, c1_i32_61⟩
def k0_off49 (i : grid0.Coords) (k0_t15 : Fin (k0_t15_loop i).trips) : Fin 4 → Nat :=
  let c1_236 : Index := 1#32
  let c0_i32_59 : BitVec 32 := 0#32
  let c1_i32_61 : BitVec 32 := 1#32
  let arg19 : BitVec 32 := Scf.iv c0_i32_59 c1_i32_61 k0_t15
  let v386 : Index := Scalar.indexCast arg19
  let c0_237 : Index := 0#32
  let c0_238 : Index := 0#32
  ![1, v386.toNat, 0, 0]
def k0_off50 (i : grid0.Coords) (k0_t15 : Fin (k0_t15_loop i).trips) : Fin 4 → Nat :=
  let c2 : Index := 2#32
  let c0_i32_59 : BitVec 32 := 0#32
  let c1_i32_61 : BitVec 32 := 1#32
  let arg19 : BitVec 32 := Scf.iv c0_i32_59 c1_i32_61 k0_t15
  let v391 : Index := Scalar.indexCast arg19
  let c0_239 : Index := 0#32
  let c0_240 : Index := 0#32
  ![2, v391.toNat, 0, 0]
@[reducible] def k0_t16_loop (i : grid0.Coords) : Scf.Loop 32 :=
  let c0_i32_59 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v128 : BitVec 32 := Scalar.subi v1 c0_i32_59
  let c1_i32_60 : BitVec 32 := 1#32
  let v130 : BitVec 32 := Scalar.divsi v128 c1_i32_60
  let v131 : BitVec 32 := Scalar.muli v130 c1_i32_60
  let v132 : BitVec 32 := Scalar.addi c0_i32_59 v131
  let v129 : BitVec 32 := Scalar.addi c0_i32_59 v128
  let c1_i32_62 : BitVec 32 := 1#32
  ⟨v132, v129, c1_i32_62⟩
def k0_off51 (i : grid0.Coords) (k0_t16 : Fin (k0_t16_loop i).trips) : Fin 4 → Nat :=
  let c1_236 : Index := 1#32
  let c0_i32_59 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v128 : BitVec 32 := Scalar.subi v1 c0_i32_59
  let c1_i32_60 : BitVec 32 := 1#32
  let v130 : BitVec 32 := Scalar.divsi v128 c1_i32_60
  let v131 : BitVec 32 := Scalar.muli v130 c1_i32_60
  let v132 : BitVec 32 := Scalar.addi c0_i32_59 v131
  let c1_i32_62 : BitVec 32 := 1#32
  let arg19 : BitVec 32 := Scf.iv v132 c1_i32_62 k0_t16
  let v386 : Index := Scalar.indexCast arg19
  let c0_237 : Index := 0#32
  let c0_238 : Index := 0#32
  ![1, v386.toNat, 0, 0]
def k0_off52 (i : grid0.Coords) (k0_t16 : Fin (k0_t16_loop i).trips) : Fin 4 → Nat :=
  let c2 : Index := 2#32
  let c0_i32_59 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v128 : BitVec 32 := Scalar.subi v1 c0_i32_59
  let c1_i32_60 : BitVec 32 := 1#32
  let v130 : BitVec 32 := Scalar.divsi v128 c1_i32_60
  let v131 : BitVec 32 := Scalar.muli v130 c1_i32_60
  let v132 : BitVec 32 := Scalar.addi c0_i32_59 v131
  let c1_i32_62 : BitVec 32 := 1#32
  let arg19 : BitVec 32 := Scf.iv v132 c1_i32_62 k0_t16
  let v391 : Index := Scalar.indexCast arg19
  let c0_239 : Index := 0#32
  let c0_240 : Index := 0#32
  ![2, v391.toNat, 0, 0]
@[reducible] def k0_t17_loop : Scf.Loop 32 :=
  let c0_i32_65 : BitVec 32 := 0#32
  let c8_i32_66 : BitVec 32 := 8#32
  let v135 : BitVec 32 := Scalar.addi c0_i32_65 c8_i32_66
  let c1_i32_67 : BitVec 32 := 1#32
  ⟨c0_i32_65, v135, c1_i32_67⟩
@[reducible] def k0_t18_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_247 : BitVec 32 := 1#32
  ⟨c0_i32_245, v416, c1_i32_247⟩
def k0_off53 (i : grid0.Coords) (k0_t18 : Fin (k0_t18_loop i).trips) (c0_i32_262 : BitVec 32) : Fin 4 → Nat :=
  let c2 : Index := 2#32
  let c4_i32_261 : BitVec 32 := 4#32
  let c0_i32_245 : BitVec 32 := 0#32
  let c1_i32_247 : BitVec 32 := 1#32
  let arg22 : BitVec 32 := Scf.iv c0_i32_245 c1_i32_247 k0_t18
  let v449 : BitVec 32 := Scalar.muli c4_i32_261 arg22
  let v450 : BitVec 32 := Scalar.addi v449 c0_i32_262
  let v451 : Index := Scalar.indexCast v450
  let c0_263 : Index := 0#32
  let c0_264 : Index := 0#32
  ![2, v451.toNat, 0, 0]
@[reducible] def k0_t19_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let v413 : BitVec 32 := Scalar.addi c0_i32_245 v412
  let c1_i32_248 : BitVec 32 := 1#32
  ⟨v416, v413, c1_i32_248⟩
def k0_off54 (i : grid0.Coords) (k0_t19 : Fin (k0_t19_loop i).trips) (c0_i32_262 : BitVec 32) : Fin 4 → Nat :=
  let c2 : Index := 2#32
  let c4_i32_261 : BitVec 32 := 4#32
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_248 : BitVec 32 := 1#32
  let arg22 : BitVec 32 := Scf.iv v416 c1_i32_248 k0_t19
  let v449 : BitVec 32 := Scalar.muli c4_i32_261 arg22
  let v450 : BitVec 32 := Scalar.addi v449 c0_i32_262
  let v451 : Index := Scalar.indexCast v450
  let c0_263 : Index := 0#32
  let c0_264 : Index := 0#32
  ![2, v451.toNat, 0, 0]
@[reducible] def k0_t20_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_258 : BitVec 32 := 1#32
  ⟨v436, v441, c1_i32_258⟩
def k0_off55 (i : grid0.Coords) (k0_t20 : Fin (k0_t20_loop i).trips) : Fin 4 → Nat :=
  let c2 : Index := 2#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let c1_i32_258 : BitVec 32 := 1#32
  let arg22 : BitVec 32 := Scf.iv v436 c1_i32_258 k0_t20
  let v449 : Index := Scalar.indexCast arg22
  let c0_261 : Index := 0#32
  let c0_262 : Index := 0#32
  ![2, v449.toNat, 0, 0]
@[reducible] def k0_t21_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let v438 : BitVec 32 := Scalar.addi v436 v437
  let c1_i32_259 : BitVec 32 := 1#32
  ⟨v441, v438, c1_i32_259⟩
def k0_off56 (i : grid0.Coords) (k0_t21 : Fin (k0_t21_loop i).trips) : Fin 4 → Nat :=
  let c2 : Index := 2#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_259 : BitVec 32 := 1#32
  let arg22 : BitVec 32 := Scf.iv v441 c1_i32_259 k0_t21
  let v449 : Index := Scalar.indexCast arg22
  let c0_261 : Index := 0#32
  let c0_262 : Index := 0#32
  ![2, v449.toNat, 0, 0]
@[reducible] def k0_t22_loop (i : grid0.Coords) : Scf.Loop 32 :=
  let c0_i32_71 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v143 : BitVec 32 := Scalar.subi v1 c0_i32_71
  let c1_i32_72 : BitVec 32 := 1#32
  let v145 : BitVec 32 := Scalar.divsi v143 c1_i32_72
  let v146 : BitVec 32 := Scalar.muli v145 c1_i32_72
  let v147 : BitVec 32 := Scalar.addi c0_i32_71 v146
  let c1_i32_73 : BitVec 32 := 1#32
  ⟨c0_i32_71, v147, c1_i32_73⟩
def k0_off57 (i : grid0.Coords) (k0_t22 : Fin (k0_t22_loop i).trips) : Fin 4 → Nat :=
  let c2 : Index := 2#32
  let c0_i32_71 : BitVec 32 := 0#32
  let c1_i32_73 : BitVec 32 := 1#32
  let arg19 : BitVec 32 := Scf.iv c0_i32_71 c1_i32_73 k0_t22
  let v386 : Index := Scalar.indexCast arg19
  let c0_236 : Index := 0#32
  let c0_237 : Index := 0#32
  ![2, v386.toNat, 0, 0]
def k0_off58 (i : grid0.Coords) (k0_t22 : Fin (k0_t22_loop i).trips) : Fin 4 → Nat :=
  let c3 : Index := 3#32
  let c0_i32_71 : BitVec 32 := 0#32
  let c1_i32_73 : BitVec 32 := 1#32
  let arg19 : BitVec 32 := Scf.iv c0_i32_71 c1_i32_73 k0_t22
  let v391 : Index := Scalar.indexCast arg19
  let c0_238 : Index := 0#32
  let c0_239 : Index := 0#32
  ![3, v391.toNat, 0, 0]
@[reducible] def k0_t23_loop (i : grid0.Coords) : Scf.Loop 32 :=
  let c0_i32_71 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v143 : BitVec 32 := Scalar.subi v1 c0_i32_71
  let c1_i32_72 : BitVec 32 := 1#32
  let v145 : BitVec 32 := Scalar.divsi v143 c1_i32_72
  let v146 : BitVec 32 := Scalar.muli v145 c1_i32_72
  let v147 : BitVec 32 := Scalar.addi c0_i32_71 v146
  let v144 : BitVec 32 := Scalar.addi c0_i32_71 v143
  let c1_i32_74 : BitVec 32 := 1#32
  ⟨v147, v144, c1_i32_74⟩
def k0_off59 (i : grid0.Coords) (k0_t23 : Fin (k0_t23_loop i).trips) : Fin 4 → Nat :=
  let c2 : Index := 2#32
  let c0_i32_71 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v143 : BitVec 32 := Scalar.subi v1 c0_i32_71
  let c1_i32_72 : BitVec 32 := 1#32
  let v145 : BitVec 32 := Scalar.divsi v143 c1_i32_72
  let v146 : BitVec 32 := Scalar.muli v145 c1_i32_72
  let v147 : BitVec 32 := Scalar.addi c0_i32_71 v146
  let c1_i32_74 : BitVec 32 := 1#32
  let arg19 : BitVec 32 := Scf.iv v147 c1_i32_74 k0_t23
  let v386 : Index := Scalar.indexCast arg19
  let c0_236 : Index := 0#32
  let c0_237 : Index := 0#32
  ![2, v386.toNat, 0, 0]
def k0_off60 (i : grid0.Coords) (k0_t23 : Fin (k0_t23_loop i).trips) : Fin 4 → Nat :=
  let c3 : Index := 3#32
  let c0_i32_71 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v143 : BitVec 32 := Scalar.subi v1 c0_i32_71
  let c1_i32_72 : BitVec 32 := 1#32
  let v145 : BitVec 32 := Scalar.divsi v143 c1_i32_72
  let v146 : BitVec 32 := Scalar.muli v145 c1_i32_72
  let v147 : BitVec 32 := Scalar.addi c0_i32_71 v146
  let c1_i32_74 : BitVec 32 := 1#32
  let arg19 : BitVec 32 := Scf.iv v147 c1_i32_74 k0_t23
  let v391 : Index := Scalar.indexCast arg19
  let c0_238 : Index := 0#32
  let c0_239 : Index := 0#32
  ![3, v391.toNat, 0, 0]
@[reducible] def k0_t24_loop : Scf.Loop 32 :=
  let c0_i32_77 : BitVec 32 := 0#32
  let c8_i32_78 : BitVec 32 := 8#32
  let v150 : BitVec 32 := Scalar.addi c0_i32_77 c8_i32_78
  let c1_i32_79 : BitVec 32 := 1#32
  ⟨c0_i32_77, v150, c1_i32_79⟩
@[reducible] def k0_t25_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_247 : BitVec 32 := 1#32
  ⟨c0_i32_245, v416, c1_i32_247⟩
def k0_off61 (i : grid0.Coords) (k0_t25 : Fin (k0_t25_loop i).trips) (c0_i32_262 : BitVec 32) : Fin 4 → Nat :=
  let c3 : Index := 3#32
  let c4_i32_261 : BitVec 32 := 4#32
  let c0_i32_245 : BitVec 32 := 0#32
  let c1_i32_247 : BitVec 32 := 1#32
  let arg22 : BitVec 32 := Scf.iv c0_i32_245 c1_i32_247 k0_t25
  let v449 : BitVec 32 := Scalar.muli c4_i32_261 arg22
  let v450 : BitVec 32 := Scalar.addi v449 c0_i32_262
  let v451 : Index := Scalar.indexCast v450
  let c0_263 : Index := 0#32
  let c0_264 : Index := 0#32
  ![3, v451.toNat, 0, 0]
@[reducible] def k0_t26_loop (i : grid0.Coords) : Scf.Loop 32 :=
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let v413 : BitVec 32 := Scalar.addi c0_i32_245 v412
  let c1_i32_248 : BitVec 32 := 1#32
  ⟨v416, v413, c1_i32_248⟩
def k0_off62 (i : grid0.Coords) (k0_t26 : Fin (k0_t26_loop i).trips) (c0_i32_262 : BitVec 32) : Fin 4 → Nat :=
  let c3 : Index := 3#32
  let c4_i32_261 : BitVec 32 := 4#32
  let c0_i32_245 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_238 : BitVec 32 := 0#32
  let v395 : BitVec 1 := Scalar.cmpi .sgt v1 c0_i32_238
  let v396 : BitVec 32 := Scalar.extui v395
  let c0_i32_239 : BitVec 32 := 0#32
  let v397 : BitVec 1 := Scalar.cmpi .slt v1 c0_i32_239
  let v398 : BitVec 32 := Scalar.extui v397
  let v399 : BitVec 32 := Scalar.subi v396 v398
  let c4_i32_237 : BitVec 32 := 4#32
  let c0_i32_240 : BitVec 32 := 0#32
  let v400 : BitVec 1 := Scalar.cmpi .sgt c4_i32_237 c0_i32_240
  let v401 : BitVec 32 := Scalar.extui v400
  let c0_i32_241 : BitVec 32 := 0#32
  let v402 : BitVec 1 := Scalar.cmpi .slt c4_i32_237 c0_i32_241
  let v403 : BitVec 32 := Scalar.extui v402
  let v404 : BitVec 32 := Scalar.subi v401 v403
  let v405 : BitVec 1 := Scalar.cmpi .ne v399 v404
  let v406 : BitVec 32 := Scalar.remsi v1 c4_i32_237
  let c0_i32_242 : BitVec 32 := 0#32
  let v407 : BitVec 1 := Scalar.cmpi .ne v406 c0_i32_242
  let v408 : BitVec 1 := Scalar.andi v405 v407
  let v394 : BitVec 32 := Scalar.divsi v1 c4_i32_237
  let c1_i32_243 : BitVec 32 := 1#32
  let v409 : BitVec 32 := Scalar.subi v394 c1_i32_243
  let v410 : BitVec 32 := Scalar.select v408 v409 v394
  let v412 : BitVec 32 := Scalar.subi v410 c0_i32_245
  let c1_i32_246 : BitVec 32 := 1#32
  let v414 : BitVec 32 := Scalar.divsi v412 c1_i32_246
  let v415 : BitVec 32 := Scalar.muli v414 c1_i32_246
  let v416 : BitVec 32 := Scalar.addi c0_i32_245 v415
  let c1_i32_248 : BitVec 32 := 1#32
  let arg22 : BitVec 32 := Scf.iv v416 c1_i32_248 k0_t26
  let v449 : BitVec 32 := Scalar.muli c4_i32_261 arg22
  let v450 : BitVec 32 := Scalar.addi v449 c0_i32_262
  let v451 : Index := Scalar.indexCast v450
  let c0_263 : Index := 0#32
  let c0_264 : Index := 0#32
  ![3, v451.toNat, 0, 0]
@[reducible] def k0_t27_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_258 : BitVec 32 := 1#32
  ⟨v436, v441, c1_i32_258⟩
def k0_off63 (i : grid0.Coords) (k0_t27 : Fin (k0_t27_loop i).trips) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let c1_i32_258 : BitVec 32 := 1#32
  let arg22 : BitVec 32 := Scf.iv v436 c1_i32_258 k0_t27
  let v449 : Index := Scalar.indexCast arg22
  let c0_261 : Index := 0#32
  let c0_262 : Index := 0#32
  ![3, v449.toNat, 0, 0]
@[reducible] def k0_t28_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let v438 : BitVec 32 := Scalar.addi v436 v437
  let c1_i32_259 : BitVec 32 := 1#32
  ⟨v441, v438, c1_i32_259⟩
def k0_off64 (i : grid0.Coords) (k0_t28 : Fin (k0_t28_loop i).trips) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_250 : BitVec 32 := 0#32
  let v420 : BitVec 1 := Scalar.cmpi .sgt v1 c0_i32_250
  let v421 : BitVec 32 := Scalar.extui v420
  let c0_i32_251 : BitVec 32 := 0#32
  let v422 : BitVec 1 := Scalar.cmpi .slt v1 c0_i32_251
  let v423 : BitVec 32 := Scalar.extui v422
  let v424 : BitVec 32 := Scalar.subi v421 v423
  let c4_i32_249 : BitVec 32 := 4#32
  let c0_i32_252 : BitVec 32 := 0#32
  let v425 : BitVec 1 := Scalar.cmpi .sgt c4_i32_249 c0_i32_252
  let v426 : BitVec 32 := Scalar.extui v425
  let c0_i32_253 : BitVec 32 := 0#32
  let v427 : BitVec 1 := Scalar.cmpi .slt c4_i32_249 c0_i32_253
  let v428 : BitVec 32 := Scalar.extui v427
  let v429 : BitVec 32 := Scalar.subi v426 v428
  let v430 : BitVec 1 := Scalar.cmpi .ne v424 v429
  let v431 : BitVec 32 := Scalar.remsi v1 c4_i32_249
  let c0_i32_254 : BitVec 32 := 0#32
  let v432 : BitVec 1 := Scalar.cmpi .ne v431 c0_i32_254
  let v433 : BitVec 1 := Scalar.andi v430 v432
  let v419 : BitVec 32 := Scalar.divsi v1 c4_i32_249
  let c1_i32_255 : BitVec 32 := 1#32
  let v434 : BitVec 32 := Scalar.subi v419 c1_i32_255
  let v435 : BitVec 32 := Scalar.select v433 v434 v419
  let c4_i32_256 : BitVec 32 := 4#32
  let v436 : BitVec 32 := Scalar.muli v435 c4_i32_256
  let v437 : BitVec 32 := Scalar.subi v1 v436
  let c1_i32_257 : BitVec 32 := 1#32
  let v439 : BitVec 32 := Scalar.divsi v437 c1_i32_257
  let v440 : BitVec 32 := Scalar.muli v439 c1_i32_257
  let v441 : BitVec 32 := Scalar.addi v436 v440
  let c1_i32_259 : BitVec 32 := 1#32
  let arg22 : BitVec 32 := Scf.iv v441 c1_i32_259 k0_t28
  let v449 : Index := Scalar.indexCast arg22
  let c0_261 : Index := 0#32
  let c0_262 : Index := 0#32
  ![3, v449.toNat, 0, 0]
@[reducible] def k0_t29_loop (i : grid0.Coords) : Scf.Loop 32 :=
  let c0_i32_88 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_81 : BitVec 32 := 0#32
  let v156 : BitVec 1 := Scalar.cmpi .sgt v1 c0_i32_81
  let v157 : BitVec 32 := Scalar.extui v156
  let c0_i32_82 : BitVec 32 := 0#32
  let v158 : BitVec 1 := Scalar.cmpi .slt v1 c0_i32_82
  let v159 : BitVec 32 := Scalar.extui v158
  let v160 : BitVec 32 := Scalar.subi v157 v159
  let c4_i32 : BitVec 32 := 4#32
  let c0_i32_83 : BitVec 32 := 0#32
  let v161 : BitVec 1 := Scalar.cmpi .sgt c4_i32 c0_i32_83
  let v162 : BitVec 32 := Scalar.extui v161
  let c0_i32_84 : BitVec 32 := 0#32
  let v163 : BitVec 1 := Scalar.cmpi .slt c4_i32 c0_i32_84
  let v164 : BitVec 32 := Scalar.extui v163
  let v165 : BitVec 32 := Scalar.subi v162 v164
  let v166 : BitVec 1 := Scalar.cmpi .ne v160 v165
  let v167 : BitVec 32 := Scalar.remsi v1 c4_i32
  let c0_i32_85 : BitVec 32 := 0#32
  let v168 : BitVec 1 := Scalar.cmpi .ne v167 c0_i32_85
  let v169 : BitVec 1 := Scalar.andi v166 v168
  let v155 : BitVec 32 := Scalar.divsi v1 c4_i32
  let c1_i32_86 : BitVec 32 := 1#32
  let v170 : BitVec 32 := Scalar.subi v155 c1_i32_86
  let v171 : BitVec 32 := Scalar.select v169 v170 v155
  let v173 : BitVec 32 := Scalar.subi v171 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_90 : BitVec 32 := 1#32
  ⟨c0_i32_88, v177, c1_i32_90⟩
def k0_off65 (i : grid0.Coords) (k0_t29 : Fin (k0_t29_loop i).trips) (c0_i32_237 : BitVec 32) : Fin 4 → Nat :=
  let c3 : Index := 3#32
  let c4_i32_236 : BitVec 32 := 4#32
  let c0_i32_88 : BitVec 32 := 0#32
  let c1_i32_90 : BitVec 32 := 1#32
  let arg19 : BitVec 32 := Scf.iv c0_i32_88 c1_i32_90 k0_t29
  let v386 : BitVec 32 := Scalar.muli c4_i32_236 arg19
  let v387 : BitVec 32 := Scalar.addi v386 c0_i32_237
  let v388 : Index := Scalar.indexCast v387
  let c0_238 : Index := 0#32
  let c0_239 : Index := 0#32
  ![3, v388.toNat, 0, 0]
@[reducible] def k0_t30_loop (i : grid0.Coords) : Scf.Loop 32 :=
  let c0_i32_88 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_81 : BitVec 32 := 0#32
  let v156 : BitVec 1 := Scalar.cmpi .sgt v1 c0_i32_81
  let v157 : BitVec 32 := Scalar.extui v156
  let c0_i32_82 : BitVec 32 := 0#32
  let v158 : BitVec 1 := Scalar.cmpi .slt v1 c0_i32_82
  let v159 : BitVec 32 := Scalar.extui v158
  let v160 : BitVec 32 := Scalar.subi v157 v159
  let c4_i32 : BitVec 32 := 4#32
  let c0_i32_83 : BitVec 32 := 0#32
  let v161 : BitVec 1 := Scalar.cmpi .sgt c4_i32 c0_i32_83
  let v162 : BitVec 32 := Scalar.extui v161
  let c0_i32_84 : BitVec 32 := 0#32
  let v163 : BitVec 1 := Scalar.cmpi .slt c4_i32 c0_i32_84
  let v164 : BitVec 32 := Scalar.extui v163
  let v165 : BitVec 32 := Scalar.subi v162 v164
  let v166 : BitVec 1 := Scalar.cmpi .ne v160 v165
  let v167 : BitVec 32 := Scalar.remsi v1 c4_i32
  let c0_i32_85 : BitVec 32 := 0#32
  let v168 : BitVec 1 := Scalar.cmpi .ne v167 c0_i32_85
  let v169 : BitVec 1 := Scalar.andi v166 v168
  let v155 : BitVec 32 := Scalar.divsi v1 c4_i32
  let c1_i32_86 : BitVec 32 := 1#32
  let v170 : BitVec 32 := Scalar.subi v155 c1_i32_86
  let v171 : BitVec 32 := Scalar.select v169 v170 v155
  let v173 : BitVec 32 := Scalar.subi v171 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let v174 : BitVec 32 := Scalar.addi c0_i32_88 v173
  let c1_i32_91 : BitVec 32 := 1#32
  ⟨v177, v174, c1_i32_91⟩
def k0_off66 (i : grid0.Coords) (k0_t30 : Fin (k0_t30_loop i).trips) (c0_i32_237 : BitVec 32) : Fin 4 → Nat :=
  let c3 : Index := 3#32
  let c4_i32_236 : BitVec 32 := 4#32
  let c0_i32_88 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_81 : BitVec 32 := 0#32
  let v156 : BitVec 1 := Scalar.cmpi .sgt v1 c0_i32_81
  let v157 : BitVec 32 := Scalar.extui v156
  let c0_i32_82 : BitVec 32 := 0#32
  let v158 : BitVec 1 := Scalar.cmpi .slt v1 c0_i32_82
  let v159 : BitVec 32 := Scalar.extui v158
  let v160 : BitVec 32 := Scalar.subi v157 v159
  let c4_i32 : BitVec 32 := 4#32
  let c0_i32_83 : BitVec 32 := 0#32
  let v161 : BitVec 1 := Scalar.cmpi .sgt c4_i32 c0_i32_83
  let v162 : BitVec 32 := Scalar.extui v161
  let c0_i32_84 : BitVec 32 := 0#32
  let v163 : BitVec 1 := Scalar.cmpi .slt c4_i32 c0_i32_84
  let v164 : BitVec 32 := Scalar.extui v163
  let v165 : BitVec 32 := Scalar.subi v162 v164
  let v166 : BitVec 1 := Scalar.cmpi .ne v160 v165
  let v167 : BitVec 32 := Scalar.remsi v1 c4_i32
  let c0_i32_85 : BitVec 32 := 0#32
  let v168 : BitVec 1 := Scalar.cmpi .ne v167 c0_i32_85
  let v169 : BitVec 1 := Scalar.andi v166 v168
  let v155 : BitVec 32 := Scalar.divsi v1 c4_i32
  let c1_i32_86 : BitVec 32 := 1#32
  let v170 : BitVec 32 := Scalar.subi v155 c1_i32_86
  let v171 : BitVec 32 := Scalar.select v169 v170 v155
  let v173 : BitVec 32 := Scalar.subi v171 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg19 : BitVec 32 := Scf.iv v177 c1_i32_91 k0_t30
  let v386 : BitVec 32 := Scalar.muli c4_i32_236 arg19
  let v387 : BitVec 32 := Scalar.addi v386 c0_i32_237
  let v388 : Index := Scalar.indexCast v387
  let c0_238 : Index := 0#32
  let c0_239 : Index := 0#32
  ![3, v388.toNat, 0, 0]
@[reducible] def k0_t31_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_93 : BitVec 32 := 0#32
  let v181 : BitVec 1 := Scalar.cmpi .sgt v1 c0_i32_93
  let v182 : BitVec 32 := Scalar.extui v181
  let c0_i32_94 : BitVec 32 := 0#32
  let v183 : BitVec 1 := Scalar.cmpi .slt v1 c0_i32_94
  let v184 : BitVec 32 := Scalar.extui v183
  let v185 : BitVec 32 := Scalar.subi v182 v184
  let c4_i32_92 : BitVec 32 := 4#32
  let c0_i32_95 : BitVec 32 := 0#32
  let v186 : BitVec 1 := Scalar.cmpi .sgt c4_i32_92 c0_i32_95
  let v187 : BitVec 32 := Scalar.extui v186
  let c0_i32_96 : BitVec 32 := 0#32
  let v188 : BitVec 1 := Scalar.cmpi .slt c4_i32_92 c0_i32_96
  let v189 : BitVec 32 := Scalar.extui v188
  let v190 : BitVec 32 := Scalar.subi v187 v189
  let v191 : BitVec 1 := Scalar.cmpi .ne v185 v190
  let v192 : BitVec 32 := Scalar.remsi v1 c4_i32_92
  let c0_i32_97 : BitVec 32 := 0#32
  let v193 : BitVec 1 := Scalar.cmpi .ne v192 c0_i32_97
  let v194 : BitVec 1 := Scalar.andi v191 v193
  let v180 : BitVec 32 := Scalar.divsi v1 c4_i32_92
  let c1_i32_98 : BitVec 32 := 1#32
  let v195 : BitVec 32 := Scalar.subi v180 c1_i32_98
  let v196 : BitVec 32 := Scalar.select v194 v195 v180
  let c4_i32_99 : BitVec 32 := 4#32
  let v197 : BitVec 32 := Scalar.muli v196 c4_i32_99
  let v198 : BitVec 32 := Scalar.subi v1 v197
  let c1_i32_100 : BitVec 32 := 1#32
  let v200 : BitVec 32 := Scalar.divsi v198 c1_i32_100
  let v201 : BitVec 32 := Scalar.muli v200 c1_i32_100
  let v202 : BitVec 32 := Scalar.addi v197 v201
  let c1_i32_101 : BitVec 32 := 1#32
  ⟨v197, v202, c1_i32_101⟩
def k0_off67 (i : grid0.Coords) (k0_t31 : Fin (k0_t31_loop i).trips) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_93 : BitVec 32 := 0#32
  let v181 : BitVec 1 := Scalar.cmpi .sgt v1 c0_i32_93
  let v182 : BitVec 32 := Scalar.extui v181
  let c0_i32_94 : BitVec 32 := 0#32
  let v183 : BitVec 1 := Scalar.cmpi .slt v1 c0_i32_94
  let v184 : BitVec 32 := Scalar.extui v183
  let v185 : BitVec 32 := Scalar.subi v182 v184
  let c4_i32_92 : BitVec 32 := 4#32
  let c0_i32_95 : BitVec 32 := 0#32
  let v186 : BitVec 1 := Scalar.cmpi .sgt c4_i32_92 c0_i32_95
  let v187 : BitVec 32 := Scalar.extui v186
  let c0_i32_96 : BitVec 32 := 0#32
  let v188 : BitVec 1 := Scalar.cmpi .slt c4_i32_92 c0_i32_96
  let v189 : BitVec 32 := Scalar.extui v188
  let v190 : BitVec 32 := Scalar.subi v187 v189
  let v191 : BitVec 1 := Scalar.cmpi .ne v185 v190
  let v192 : BitVec 32 := Scalar.remsi v1 c4_i32_92
  let c0_i32_97 : BitVec 32 := 0#32
  let v193 : BitVec 1 := Scalar.cmpi .ne v192 c0_i32_97
  let v194 : BitVec 1 := Scalar.andi v191 v193
  let v180 : BitVec 32 := Scalar.divsi v1 c4_i32_92
  let c1_i32_98 : BitVec 32 := 1#32
  let v195 : BitVec 32 := Scalar.subi v180 c1_i32_98
  let v196 : BitVec 32 := Scalar.select v194 v195 v180
  let c4_i32_99 : BitVec 32 := 4#32
  let v197 : BitVec 32 := Scalar.muli v196 c4_i32_99
  let c1_i32_101 : BitVec 32 := 1#32
  let arg19 : BitVec 32 := Scf.iv v197 c1_i32_101 k0_t31
  let v386 : Index := Scalar.indexCast arg19
  let c0_236 : Index := 0#32
  let c0_237 : Index := 0#32
  ![3, v386.toNat, 0, 0]
@[reducible] def k0_t32_loop (i : grid0.Coords) : Scf.Loop 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_93 : BitVec 32 := 0#32
  let v181 : BitVec 1 := Scalar.cmpi .sgt v1 c0_i32_93
  let v182 : BitVec 32 := Scalar.extui v181
  let c0_i32_94 : BitVec 32 := 0#32
  let v183 : BitVec 1 := Scalar.cmpi .slt v1 c0_i32_94
  let v184 : BitVec 32 := Scalar.extui v183
  let v185 : BitVec 32 := Scalar.subi v182 v184
  let c4_i32_92 : BitVec 32 := 4#32
  let c0_i32_95 : BitVec 32 := 0#32
  let v186 : BitVec 1 := Scalar.cmpi .sgt c4_i32_92 c0_i32_95
  let v187 : BitVec 32 := Scalar.extui v186
  let c0_i32_96 : BitVec 32 := 0#32
  let v188 : BitVec 1 := Scalar.cmpi .slt c4_i32_92 c0_i32_96
  let v189 : BitVec 32 := Scalar.extui v188
  let v190 : BitVec 32 := Scalar.subi v187 v189
  let v191 : BitVec 1 := Scalar.cmpi .ne v185 v190
  let v192 : BitVec 32 := Scalar.remsi v1 c4_i32_92
  let c0_i32_97 : BitVec 32 := 0#32
  let v193 : BitVec 1 := Scalar.cmpi .ne v192 c0_i32_97
  let v194 : BitVec 1 := Scalar.andi v191 v193
  let v180 : BitVec 32 := Scalar.divsi v1 c4_i32_92
  let c1_i32_98 : BitVec 32 := 1#32
  let v195 : BitVec 32 := Scalar.subi v180 c1_i32_98
  let v196 : BitVec 32 := Scalar.select v194 v195 v180
  let c4_i32_99 : BitVec 32 := 4#32
  let v197 : BitVec 32 := Scalar.muli v196 c4_i32_99
  let v198 : BitVec 32 := Scalar.subi v1 v197
  let c1_i32_100 : BitVec 32 := 1#32
  let v200 : BitVec 32 := Scalar.divsi v198 c1_i32_100
  let v201 : BitVec 32 := Scalar.muli v200 c1_i32_100
  let v202 : BitVec 32 := Scalar.addi v197 v201
  let v199 : BitVec 32 := Scalar.addi v197 v198
  let c1_i32_102 : BitVec 32 := 1#32
  ⟨v202, v199, c1_i32_102⟩
def k0_off68 (i : grid0.Coords) (k0_t32 : Fin (k0_t32_loop i).trips) : Fin 4 → Nat :=
  let c3 : Index := 3#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c0_i32_93 : BitVec 32 := 0#32
  let v181 : BitVec 1 := Scalar.cmpi .sgt v1 c0_i32_93
  let v182 : BitVec 32 := Scalar.extui v181
  let c0_i32_94 : BitVec 32 := 0#32
  let v183 : BitVec 1 := Scalar.cmpi .slt v1 c0_i32_94
  let v184 : BitVec 32 := Scalar.extui v183
  let v185 : BitVec 32 := Scalar.subi v182 v184
  let c4_i32_92 : BitVec 32 := 4#32
  let c0_i32_95 : BitVec 32 := 0#32
  let v186 : BitVec 1 := Scalar.cmpi .sgt c4_i32_92 c0_i32_95
  let v187 : BitVec 32 := Scalar.extui v186
  let c0_i32_96 : BitVec 32 := 0#32
  let v188 : BitVec 1 := Scalar.cmpi .slt c4_i32_92 c0_i32_96
  let v189 : BitVec 32 := Scalar.extui v188
  let v190 : BitVec 32 := Scalar.subi v187 v189
  let v191 : BitVec 1 := Scalar.cmpi .ne v185 v190
  let v192 : BitVec 32 := Scalar.remsi v1 c4_i32_92
  let c0_i32_97 : BitVec 32 := 0#32
  let v193 : BitVec 1 := Scalar.cmpi .ne v192 c0_i32_97
  let v194 : BitVec 1 := Scalar.andi v191 v193
  let v180 : BitVec 32 := Scalar.divsi v1 c4_i32_92
  let c1_i32_98 : BitVec 32 := 1#32
  let v195 : BitVec 32 := Scalar.subi v180 c1_i32_98
  let v196 : BitVec 32 := Scalar.select v194 v195 v180
  let c4_i32_99 : BitVec 32 := 4#32
  let v197 : BitVec 32 := Scalar.muli v196 c4_i32_99
  let v198 : BitVec 32 := Scalar.subi v1 v197
  let c1_i32_100 : BitVec 32 := 1#32
  let v200 : BitVec 32 := Scalar.divsi v198 c1_i32_100
  let v201 : BitVec 32 := Scalar.muli v200 c1_i32_100
  let v202 : BitVec 32 := Scalar.addi v197 v201
  let c1_i32_102 : BitVec 32 := 1#32
  let arg19 : BitVec 32 := Scf.iv v202 c1_i32_102 k0_t32
  let v386 : Index := Scalar.indexCast arg19
  let c0_236 : Index := 0#32
  let c0_237 : Index := 0#32
  ![3, v386.toNat, 0, 0]
@[reducible] def k0_t33_loop : Scf.Loop 32 :=
  let c0_i32_237 : BitVec 32 := 0#32
  let c13_i32 : BitVec 32 := 13#32
  let v387 : BitVec 32 := Scalar.addi c0_i32_237 c13_i32
  let c1_i32_238 : BitVec 32 := 1#32
  ⟨c0_i32_237, v387, c1_i32_238⟩
@[reducible] def k0_t34_loop (i : grid0.Coords) : Scf.Loop 32 :=
  let c0_i32_244 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v400 : BitVec 32 := Scalar.subi v1 c0_i32_244
  let c1_i32_245 : BitVec 32 := 1#32
  let v402 : BitVec 32 := Scalar.divsi v400 c1_i32_245
  let v403 : BitVec 32 := Scalar.muli v402 c1_i32_245
  let v404 : BitVec 32 := Scalar.addi c0_i32_244 v403
  let c1_i32_246 : BitVec 32 := 1#32
  ⟨c0_i32_244, v404, c1_i32_246⟩
def k0_off69 (i : grid0.Coords) (k0_t34 : Fin (k0_t34_loop i).trips) : Fin 3 → Nat :=
  let c0_i32_244 : BitVec 32 := 0#32
  let c1_i32_246 : BitVec 32 := 1#32
  let arg21 : BitVec 32 := Scf.iv c0_i32_244 c1_i32_246 k0_t34
  let v415 : Index := Scalar.indexCast arg21
  let c0_249 : Index := 0#32
  let c0_250 : Index := 0#32
  ![v415.toNat, 0, 0]
@[reducible] def k0_t35_loop (i : grid0.Coords) : Scf.Loop 32 :=
  let c0_i32_244 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v400 : BitVec 32 := Scalar.subi v1 c0_i32_244
  let c1_i32_245 : BitVec 32 := 1#32
  let v402 : BitVec 32 := Scalar.divsi v400 c1_i32_245
  let v403 : BitVec 32 := Scalar.muli v402 c1_i32_245
  let v404 : BitVec 32 := Scalar.addi c0_i32_244 v403
  let v401 : BitVec 32 := Scalar.addi c0_i32_244 v400
  let c1_i32_247 : BitVec 32 := 1#32
  ⟨v404, v401, c1_i32_247⟩
def k0_off70 (i : grid0.Coords) (k0_t35 : Fin (k0_t35_loop i).trips) : Fin 3 → Nat :=
  let c0_i32_244 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v400 : BitVec 32 := Scalar.subi v1 c0_i32_244
  let c1_i32_245 : BitVec 32 := 1#32
  let v402 : BitVec 32 := Scalar.divsi v400 c1_i32_245
  let v403 : BitVec 32 := Scalar.muli v402 c1_i32_245
  let v404 : BitVec 32 := Scalar.addi c0_i32_244 v403
  let c1_i32_247 : BitVec 32 := 1#32
  let arg21 : BitVec 32 := Scf.iv v404 c1_i32_247 k0_t35
  let v415 : Index := Scalar.indexCast arg21
  let c0_249 : Index := 0#32
  let c0_250 : Index := 0#32
  ![v415.toNat, 0, 0]
@[reducible] def k0_t36_loop (i : grid0.Coords) : Scf.Loop 32 :=
  let c0_i32_114 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v230 : BitVec 32 := Scalar.subi v1 c0_i32_114
  let c1_i32_115 : BitVec 32 := 1#32
  let v232 : BitVec 32 := Scalar.divsi v230 c1_i32_115
  let v233 : BitVec 32 := Scalar.muli v232 c1_i32_115
  let v234 : BitVec 32 := Scalar.addi c0_i32_114 v233
  let c1_i32_116 : BitVec 32 := 1#32
  ⟨c0_i32_114, v234, c1_i32_116⟩
def k0_off71 (i : grid0.Coords) (k0_t36 : Fin (k0_t36_loop i).trips) : Fin 3 → Nat :=
  let c0_i32_114 : BitVec 32 := 0#32
  let c1_i32_116 : BitVec 32 := 1#32
  let arg19 : BitVec 32 := Scf.iv c0_i32_114 c1_i32_116 k0_t36
  let v386 : Index := Scalar.indexCast arg19
  let c0_236 : Index := 0#32
  let c0_237 : Index := 0#32
  ![v386.toNat, 0, 0]
@[reducible] def k0_t37_loop (i : grid0.Coords) : Scf.Loop 32 :=
  let c0_i32_114 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v230 : BitVec 32 := Scalar.subi v1 c0_i32_114
  let c1_i32_115 : BitVec 32 := 1#32
  let v232 : BitVec 32 := Scalar.divsi v230 c1_i32_115
  let v233 : BitVec 32 := Scalar.muli v232 c1_i32_115
  let v234 : BitVec 32 := Scalar.addi c0_i32_114 v233
  let v231 : BitVec 32 := Scalar.addi c0_i32_114 v230
  let c1_i32_117 : BitVec 32 := 1#32
  ⟨v234, v231, c1_i32_117⟩
def k0_off72 (i : grid0.Coords) (k0_t37 : Fin (k0_t37_loop i).trips) : Fin 3 → Nat :=
  let c0_i32_114 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v230 : BitVec 32 := Scalar.subi v1 c0_i32_114
  let c1_i32_115 : BitVec 32 := 1#32
  let v232 : BitVec 32 := Scalar.divsi v230 c1_i32_115
  let v233 : BitVec 32 := Scalar.muli v232 c1_i32_115
  let v234 : BitVec 32 := Scalar.addi c0_i32_114 v233
  let c1_i32_117 : BitVec 32 := 1#32
  let arg19 : BitVec 32 := Scf.iv v234 c1_i32_117 k0_t37
  let v386 : Index := Scalar.indexCast arg19
  let c0_236 : Index := 0#32
  let c0_237 : Index := 0#32
  ![v386.toNat, 0, 0]
@[reducible] def k0_t38_loop (i : grid0.Coords) : Scf.Loop 32 :=
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_180 : BitVec 32 := 1#32
  ⟨c0_i32_178, v299, c1_i32_180⟩
def k0_mult13 (i : grid0.Coords) (k0_t38 : Fin (k0_t38_loop i).trips) : BitVec 32 :=
  let c3_i32_236 : BitVec 32 := 3#32
  let c0_i32_178 : BitVec 32 := 0#32
  let c1_i32_180 : BitVec 32 := 1#32
  let arg19 : BitVec 32 := Scf.iv c0_i32_178 c1_i32_180 k0_t38
  let v386 : BitVec 32 := Scalar.muli c3_i32_236 arg19
  let c0_i32_237 : BitVec 32 := 0#32
  let v387 : BitVec 32 := Scalar.addi v386 c0_i32_237
  let c256_i32 : BitVec 32 := 256#32
  let v392 : BitVec 32 := Scalar.muli v387 c256_i32
  v392
def k0_off73 (i : grid0.Coords) (k0_t38 : Fin (k0_t38_loop i).trips) (c0_i32_237 : BitVec 32) : Fin 3 → Nat :=
  let c0_242 : Index := 0#32
  let c3_i32_236 : BitVec 32 := 3#32
  let c0_i32_178 : BitVec 32 := 0#32
  let c1_i32_180 : BitVec 32 := 1#32
  let arg19 : BitVec 32 := Scf.iv c0_i32_178 c1_i32_180 k0_t38
  let v386 : BitVec 32 := Scalar.muli c3_i32_236 arg19
  let v387 : BitVec 32 := Scalar.addi v386 c0_i32_237
  let c256_i32 : BitVec 32 := 256#32
  let v392 : BitVec 32 := Scalar.muli v387 c256_i32
  let v393 : BitVec 32 := v392
  let v394 : Index := Scalar.indexCast v393
  let c0_243 : Index := 0#32
  ![0, v394.toNat, 0]
def k0_off74 (i : grid0.Coords) (k0_t38 : Fin (k0_t38_loop i).trips) (c0_i32_237 : BitVec 32) : Fin 3 → Nat :=
  let c0_248 : Index := 0#32
  let c3_i32_236 : BitVec 32 := 3#32
  let c0_i32_178 : BitVec 32 := 0#32
  let c1_i32_180 : BitVec 32 := 1#32
  let arg19 : BitVec 32 := Scf.iv c0_i32_178 c1_i32_180 k0_t38
  let v386 : BitVec 32 := Scalar.muli c3_i32_236 arg19
  let v387 : BitVec 32 := Scalar.addi v386 c0_i32_237
  let c256_i32 : BitVec 32 := 256#32
  let v392 : BitVec 32 := Scalar.muli v387 c256_i32
  let v393 : BitVec 32 := v392
  let v400 : Index := Scalar.indexCast v393
  let c128_249 : Index := 128#32
  ![0, v400.toNat, 128]
def k0_mult14 (i : grid0.Coords) (k0_t38 : Fin (k0_t38_loop i).trips) : BitVec 32 :=
  let c3_i32_238 : BitVec 32 := 3#32
  let c0_i32_178 : BitVec 32 := 0#32
  let c1_i32_180 : BitVec 32 := 1#32
  let arg19 : BitVec 32 := Scf.iv c0_i32_178 c1_i32_180 k0_t38
  let v388 : BitVec 32 := Scalar.muli c3_i32_238 arg19
  let c1_i32_239 : BitVec 32 := 1#32
  let v389 : BitVec 32 := Scalar.addi v388 c1_i32_239
  let c256_i32_254 : BitVec 32 := 256#32
  let v406 : BitVec 32 := Scalar.muli v389 c256_i32_254
  v406
def k0_mult15 (i : grid0.Coords) (k0_t38 : Fin (k0_t38_loop i).trips) : BitVec 32 :=
  let c3_i32_240 : BitVec 32 := 3#32
  let c0_i32_178 : BitVec 32 := 0#32
  let c1_i32_180 : BitVec 32 := 1#32
  let arg19 : BitVec 32 := Scf.iv c0_i32_178 c1_i32_180 k0_t38
  let v390 : BitVec 32 := Scalar.muli c3_i32_240 arg19
  let c2_i32_241 : BitVec 32 := 2#32
  let v391 : BitVec 32 := Scalar.addi v390 c2_i32_241
  let c256_i32_267 : BitVec 32 := 256#32
  let v420 : BitVec 32 := Scalar.muli v391 c256_i32_267
  v420
def k0_off75 (i : grid0.Coords) (k0_t38 : Fin (k0_t38_loop i).trips) (c0_i32_237 : BitVec 32) : Fin 3 → Nat :=
  let c3_i32_236 : BitVec 32 := 3#32
  let c0_i32_178 : BitVec 32 := 0#32
  let c1_i32_180 : BitVec 32 := 1#32
  let arg19 : BitVec 32 := Scf.iv c0_i32_178 c1_i32_180 k0_t38
  let v386 : BitVec 32 := Scalar.muli c3_i32_236 arg19
  let v387 : BitVec 32 := Scalar.addi v386 c0_i32_237
  let v434 : Index := Scalar.indexCast v387
  let c0_280 : Index := 0#32
  let c0_281 : Index := 0#32
  ![v434.toNat, 0, 0]
def k0_off76 (i : grid0.Coords) (k0_t38 : Fin (k0_t38_loop i).trips) (c0_i32_237 : BitVec 32) : Fin 4 → Nat :=
  let c0_308 : Index := 0#32
  let c3_i32_236 : BitVec 32 := 3#32
  let c0_i32_178 : BitVec 32 := 0#32
  let c1_i32_180 : BitVec 32 := 1#32
  let arg19 : BitVec 32 := Scf.iv c0_i32_178 c1_i32_180 k0_t38
  let v386 : BitVec 32 := Scalar.muli c3_i32_236 arg19
  let v387 : BitVec 32 := Scalar.addi v386 c0_i32_237
  let v501 : Index := Scalar.indexCast v387
  let c0_309 : Index := 0#32
  let c0_310 : Index := 0#32
  ![0, v501.toNat, 0, 0]
def k0_off77 (i : grid0.Coords) (k0_t38 : Fin (k0_t38_loop i).trips) (c0_i32_237 : BitVec 32) : Fin 4 → Nat :=
  let c0_355 : Index := 0#32
  let c3_i32_236 : BitVec 32 := 3#32
  let c0_i32_178 : BitVec 32 := 0#32
  let c1_i32_180 : BitVec 32 := 1#32
  let arg19 : BitVec 32 := Scf.iv c0_i32_178 c1_i32_180 k0_t38
  let v386 : BitVec 32 := Scalar.muli c3_i32_236 arg19
  let v387 : BitVec 32 := Scalar.addi v386 c0_i32_237
  let v588 : Index := Scalar.indexCast v387
  let c128_356 : Index := 128#32
  let c0_357 : Index := 0#32
  ![0, v588.toNat, 128, 0]
@[reducible] def k0_t39_loop (i : grid0.Coords) : Scf.Loop 32 :=
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let v296 : BitVec 32 := Scalar.addi c0_i32_178 v295
  let c1_i32_181 : BitVec 32 := 1#32
  ⟨v299, v296, c1_i32_181⟩
def k0_mult16 (i : grid0.Coords) (k0_t39 : Fin (k0_t39_loop i).trips) : BitVec 32 :=
  let c3_i32_236 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v386 : BitVec 32 := Scalar.muli c3_i32_236 arg19
  let c0_i32_237 : BitVec 32 := 0#32
  let v387 : BitVec 32 := Scalar.addi v386 c0_i32_237
  let c256_i32 : BitVec 32 := 256#32
  let v392 : BitVec 32 := Scalar.muli v387 c256_i32
  v392
def k0_off78 (i : grid0.Coords) (k0_t39 : Fin (k0_t39_loop i).trips) (c0_i32_237 : BitVec 32) : Fin 3 → Nat :=
  let c0_242 : Index := 0#32
  let c3_i32_236 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v386 : BitVec 32 := Scalar.muli c3_i32_236 arg19
  let v387 : BitVec 32 := Scalar.addi v386 c0_i32_237
  let c256_i32 : BitVec 32 := 256#32
  let v392 : BitVec 32 := Scalar.muli v387 c256_i32
  let v393 : BitVec 32 := v392
  let v394 : Index := Scalar.indexCast v393
  let c0_243 : Index := 0#32
  ![0, v394.toNat, 0]
def k0_off79 (i : grid0.Coords) (k0_t39 : Fin (k0_t39_loop i).trips) (c0_i32_237 : BitVec 32) : Fin 3 → Nat :=
  let c0_248 : Index := 0#32
  let c3_i32_236 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v386 : BitVec 32 := Scalar.muli c3_i32_236 arg19
  let v387 : BitVec 32 := Scalar.addi v386 c0_i32_237
  let c256_i32 : BitVec 32 := 256#32
  let v392 : BitVec 32 := Scalar.muli v387 c256_i32
  let v393 : BitVec 32 := v392
  let v400 : Index := Scalar.indexCast v393
  let c128_249 : Index := 128#32
  ![0, v400.toNat, 128]
def k0_mult17 (i : grid0.Coords) (k0_t39 : Fin (k0_t39_loop i).trips) : BitVec 32 :=
  let c3_i32_238 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v388 : BitVec 32 := Scalar.muli c3_i32_238 arg19
  let c1_i32_239 : BitVec 32 := 1#32
  let v389 : BitVec 32 := Scalar.addi v388 c1_i32_239
  let c256_i32_254 : BitVec 32 := 256#32
  let v406 : BitVec 32 := Scalar.muli v389 c256_i32_254
  v406
def k0_mult18 (i : grid0.Coords) (k0_t39 : Fin (k0_t39_loop i).trips) : BitVec 32 :=
  let c3_i32_240 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v390 : BitVec 32 := Scalar.muli c3_i32_240 arg19
  let c2_i32_241 : BitVec 32 := 2#32
  let v391 : BitVec 32 := Scalar.addi v390 c2_i32_241
  let c256_i32_267 : BitVec 32 := 256#32
  let v420 : BitVec 32 := Scalar.muli v391 c256_i32_267
  v420
def k0_off80 (i : grid0.Coords) (k0_t39 : Fin (k0_t39_loop i).trips) (c0_i32_237 : BitVec 32) : Fin 3 → Nat :=
  let c3_i32_236 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v386 : BitVec 32 := Scalar.muli c3_i32_236 arg19
  let v387 : BitVec 32 := Scalar.addi v386 c0_i32_237
  let v434 : Index := Scalar.indexCast v387
  let c0_280 : Index := 0#32
  let c0_281 : Index := 0#32
  ![v434.toNat, 0, 0]
def k0_off81 (i : grid0.Coords) (k0_t39 : Fin (k0_t39_loop i).trips) (c0_i32_237 : BitVec 32) : Fin 4 → Nat :=
  let c0_308 : Index := 0#32
  let c3_i32_236 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v386 : BitVec 32 := Scalar.muli c3_i32_236 arg19
  let v387 : BitVec 32 := Scalar.addi v386 c0_i32_237
  let v501 : Index := Scalar.indexCast v387
  let c0_309 : Index := 0#32
  let c0_310 : Index := 0#32
  ![0, v501.toNat, 0, 0]
def k0_off82 (i : grid0.Coords) (k0_t39 : Fin (k0_t39_loop i).trips) (c0_i32_237 : BitVec 32) : Fin 4 → Nat :=
  let c0_355 : Index := 0#32
  let c3_i32_236 : BitVec 32 := 3#32
  let c0_i32_178 : BitVec 32 := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let v295 : BitVec 32 := Scalar.subi v79 c0_i32_178
  let c1_i32_179 : BitVec 32 := 1#32
  let v297 : BitVec 32 := Scalar.divsi v295 c1_i32_179
  let v298 : BitVec 32 := Scalar.muli v297 c1_i32_179
  let v299 : BitVec 32 := Scalar.addi c0_i32_178 v298
  let c1_i32_181 : BitVec 32 := 1#32
  let arg19 : BitVec 32 := Scf.iv v299 c1_i32_181 k0_t39
  let v386 : BitVec 32 := Scalar.muli c3_i32_236 arg19
  let v387 : BitVec 32 := Scalar.addi v386 c0_i32_237
  let v588 : Index := Scalar.indexCast v387
  let c128_356 : Index := 128#32
  let c0_357 : Index := 0#32
  ![0, v588.toNat, 128, 0]
def k0_cond6 (i : grid0.Coords) : BitVec 1 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let c3_i32_24 : BitVec 32 := 3#32
  let v80 : BitVec 32 := Scalar.muli v79 c3_i32_24
  let v81 : BitVec 32 := Scalar.subi v3 v80
  let c1_i32_182 : BitVec 32 := 1#32
  let v302 : BitVec 1 := Scalar.cmpi .eq v81 c1_i32_182
  let v303 : BitVec 32 := Scalar.extui v302
  let c0_i32_183 : BitVec 32 := 0#32
  let v304 : BitVec 1 := Scalar.cmpi .ne v303 c0_i32_183
  v304

def k0_mult19 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let c256_i32 : BitVec 32 := 256#32
  let v388 : BitVec 32 := Scalar.muli v387 c256_i32
  v388
def k0_off83 (i : grid0.Coords) : Fin 3 → Nat :=
  let c0_238 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let c256_i32 : BitVec 32 := 256#32
  let v388 : BitVec 32 := Scalar.muli v387 c256_i32
  let v389 : BitVec 32 := v388
  let v390 : Index := Scalar.indexCast v389
  let c0_239 : Index := 0#32
  ![0, v390.toNat, 0]
def k0_off84 (i : grid0.Coords) : Fin 3 → Nat :=
  let c0_244 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let c256_i32 : BitVec 32 := 256#32
  let v388 : BitVec 32 := Scalar.muli v387 c256_i32
  let v389 : BitVec 32 := v388
  let v396 : Index := Scalar.indexCast v389
  let c128_245 : Index := 128#32
  ![0, v396.toNat, 128]
def k0_off85 (i : grid0.Coords) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v402 : Index := Scalar.indexCast v387
  let c0_250 : Index := 0#32
  let c0_251 : Index := 0#32
  ![v402.toNat, 0, 0]
def k0_off86 (i : grid0.Coords) : Fin 4 → Nat :=
  let c0_278 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v469 : Index := Scalar.indexCast v387
  let c0_279 : Index := 0#32
  let c0_280 : Index := 0#32
  ![0, v469.toNat, 0, 0]
def k0_off87 (i : grid0.Coords) : Fin 4 → Nat :=
  let c0_325 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c1_i32_236 : BitVec 32 := 1#32
  let v386 : BitVec 32 := Scalar.subi v3 c1_i32_236
  let c0_i32_237 : BitVec 32 := 0#32
  let v387 : BitVec 32 := Scalar.addi v386 c0_i32_237
  let v556 : Index := Scalar.indexCast v387
  let c128_326 : Index := 128#32
  let c0_327 : Index := 0#32
  ![0, v556.toNat, 128, 0]
def k0_cond7 (i : grid0.Coords) : BitVec 1 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c0_i32_18 : BitVec 32 := 0#32
  let v64 : BitVec 1 := Scalar.cmpi .sgt v3 c0_i32_18
  let v65 : BitVec 32 := Scalar.extui v64
  let c0_i32_19 : BitVec 32 := 0#32
  let v66 : BitVec 1 := Scalar.cmpi .slt v3 c0_i32_19
  let v67 : BitVec 32 := Scalar.extui v66
  let v68 : BitVec 32 := Scalar.subi v65 v67
  let c3_i32 : BitVec 32 := 3#32
  let c0_i32_20 : BitVec 32 := 0#32
  let v69 : BitVec 1 := Scalar.cmpi .sgt c3_i32 c0_i32_20
  let v70 : BitVec 32 := Scalar.extui v69
  let c0_i32_21 : BitVec 32 := 0#32
  let v71 : BitVec 1 := Scalar.cmpi .slt c3_i32 c0_i32_21
  let v72 : BitVec 32 := Scalar.extui v71
  let v73 : BitVec 32 := Scalar.subi v70 v72
  let v74 : BitVec 1 := Scalar.cmpi .ne v68 v73
  let v75 : BitVec 32 := Scalar.remsi v3 c3_i32
  let c0_i32_22 : BitVec 32 := 0#32
  let v76 : BitVec 1 := Scalar.cmpi .ne v75 c0_i32_22
  let v77 : BitVec 1 := Scalar.andi v74 v76
  let v63 : BitVec 32 := Scalar.divsi v3 c3_i32
  let c1_i32_23 : BitVec 32 := 1#32
  let v78 : BitVec 32 := Scalar.subi v63 c1_i32_23
  let v79 : BitVec 32 := Scalar.select v77 v78 v63
  let c3_i32_24 : BitVec 32 := 3#32
  let v80 : BitVec 32 := Scalar.muli v79 c3_i32_24
  let v81 : BitVec 32 := Scalar.subi v3 v80
  let c2_i32_184 : BitVec 32 := 2#32
  let v306 : BitVec 1 := Scalar.cmpi .eq v81 c2_i32_184
  let v307 : BitVec 32 := Scalar.extui v306
  let c0_i32_185 : BitVec 32 := 0#32
  let v308 : BitVec 1 := Scalar.cmpi .ne v307 c0_i32_185
  v308

def k0_mult20 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let c0_i32_237 : BitVec 32 := 0#32
  let v387 : BitVec 32 := Scalar.addi v386 c0_i32_237
  let c256_i32 : BitVec 32 := 256#32
  let v390 : BitVec 32 := Scalar.muli v387 c256_i32
  v390
def k0_off88 (i : grid0.Coords) (c0_i32_237 : BitVec 32) : Fin 3 → Nat :=
  let c0_240 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let c256_i32 : BitVec 32 := 256#32
  let v390 : BitVec 32 := Scalar.muli v387 c256_i32
  let v391 : BitVec 32 := v390
  let v392 : Index := Scalar.indexCast v391
  let c0_241 : Index := 0#32
  ![0, v392.toNat, 0]
def k0_off89 (i : grid0.Coords) (c0_i32_237 : BitVec 32) : Fin 3 → Nat :=
  let c0_246 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let c256_i32 : BitVec 32 := 256#32
  let v390 : BitVec 32 := Scalar.muli v387 c256_i32
  let v391 : BitVec 32 := v390
  let v398 : Index := Scalar.indexCast v391
  let c128_247 : Index := 128#32
  ![0, v398.toNat, 128]
def k0_mult21 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_238 : BitVec 32 := 2#32
  let v388 : BitVec 32 := Scalar.subi v3 c2_i32_238
  let c1_i32_239 : BitVec 32 := 1#32
  let v389 : BitVec 32 := Scalar.addi v388 c1_i32_239
  let c256_i32_252 : BitVec 32 := 256#32
  let v404 : BitVec 32 := Scalar.muli v389 c256_i32_252
  v404
def k0_off90 (i : grid0.Coords) (c0_i32_237 : BitVec 32) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v418 : Index := Scalar.indexCast v387
  let c0_265 : Index := 0#32
  let c0_266 : Index := 0#32
  ![v418.toNat, 0, 0]
def k0_off91 (i : grid0.Coords) (c0_i32_237 : BitVec 32) : Fin 4 → Nat :=
  let c0_293 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v485 : Index := Scalar.indexCast v387
  let c0_294 : Index := 0#32
  let c0_295 : Index := 0#32
  ![0, v485.toNat, 0, 0]
def k0_off92 (i : grid0.Coords) (c0_i32_237 : BitVec 32) : Fin 4 → Nat :=
  let c0_340 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32 : BitVec 32 := 2#32
  let v2 : BitVec 32 := Scalar.subi v1 c2_i32
  let c0_i32 : BitVec 32 := 0#32
  let v3 : BitVec 32 := Scalar.maxsi v2 c0_i32
  let c2_i32_236 : BitVec 32 := 2#32
  let v386 : BitVec 32 := Scalar.subi v3 c2_i32_236
  let v387 : BitVec 32 := Scalar.addi v386 c0_i32_237
  let v572 : Index := Scalar.indexCast v387
  let c128_341 : Index := 128#32
  let c0_342 : Index := 0#32
  ![0, v572.toNat, 128, 0]
def k0_cond8 (i : grid0.Coords) : BitVec 1 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32_186 : BitVec 32 := 2#32
  let v310 : BitVec 1 := Scalar.cmpi .sge v1 c2_i32_186
  let v311 : BitVec 32 := Scalar.extui v310
  let c0_i32_187 : BitVec 32 := 0#32
  let v312 : BitVec 1 := Scalar.cmpi .ne v311 c0_i32_187
  v312

def k0_mult22 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c2_i32_236 : BitVec 32 := 2#32
  let v386 : BitVec 32 := Scalar.subi v1 c2_i32_236
  let c256_i32 : BitVec 32 := 256#32
  let v388 : BitVec 32 := Scalar.muli v386 c256_i32
  v388
def k0_off93 (i : grid0.Coords) (c2_i32_236 : BitVec 32) : Fin 3 → Nat :=
  let c0_238 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let c256_i32 : BitVec 32 := 256#32
  let v388 : BitVec 32 := Scalar.muli v386 c256_i32
  let v389 : BitVec 32 := v388
  let v390 : Index := Scalar.indexCast v389
  let c0_239 : Index := 0#32
  ![0, v390.toNat, 0]
def k0_off94 (i : grid0.Coords) (c2_i32_236 : BitVec 32) : Fin 3 → Nat :=
  let c0_244 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let c256_i32 : BitVec 32 := 256#32
  let v388 : BitVec 32 := Scalar.muli v386 c256_i32
  let v389 : BitVec 32 := v388
  let v396 : Index := Scalar.indexCast v389
  let c128_245 : Index := 128#32
  ![0, v396.toNat, 128]
def k0_mult23 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_237 : BitVec 32 := 1#32
  let v387 : BitVec 32 := Scalar.subi v1 c1_i32_237
  let c256_i32_250 : BitVec 32 := 256#32
  let v402 : BitVec 32 := Scalar.muli v387 c256_i32_250
  v402
def k0_off95 (i : grid0.Coords) (c2_i32_236 : BitVec 32) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v416 : Index := Scalar.indexCast v386
  let c0_263 : Index := 0#32
  let c0_264 : Index := 0#32
  ![v416.toNat, 0, 0]
def k0_off96 (i : grid0.Coords) (c2_i32_236 : BitVec 32) : Fin 4 → Nat :=
  let c0_315 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v507 : Index := Scalar.indexCast v386
  let c0_316 : Index := 0#32
  let c0_317 : Index := 0#32
  ![0, v507.toNat, 0, 0]
def k0_off97 (i : grid0.Coords) (c2_i32_236 : BitVec 32) : Fin 4 → Nat :=
  let c0_362 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let v386 : BitVec 32 := Scalar.subi v1 c2_i32_236
  let v594 : Index := Scalar.indexCast v386
  let c128_363 : Index := 128#32
  let c0_364 : Index := 0#32
  ![0, v594.toNat, 128, 0]
def k0_mult24 (i : grid0.Coords) : BitVec 32 :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let c256_i32 : BitVec 32 := 256#32
  let v387 : BitVec 32 := Scalar.muli v386 c256_i32
  v387
def k0_off98 (i : grid0.Coords) : Fin 3 → Nat :=
  let c0_237 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let c256_i32 : BitVec 32 := 256#32
  let v387 : BitVec 32 := Scalar.muli v386 c256_i32
  let v388 : BitVec 32 := v387
  let v389 : Index := Scalar.indexCast v388
  let c0_238 : Index := 0#32
  ![0, v389.toNat, 0]
def k0_off99 (i : grid0.Coords) : Fin 3 → Nat :=
  let c0_243 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let c256_i32 : BitVec 32 := 256#32
  let v387 : BitVec 32 := Scalar.muli v386 c256_i32
  let v388 : BitVec 32 := v387
  let v395 : Index := Scalar.indexCast v388
  let c128_244 : Index := 128#32
  ![0, v395.toNat, 128]
def k0_off100 (i : grid0.Coords) : Fin 3 → Nat :=
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v401 : Index := Scalar.indexCast v386
  let c0_249 : Index := 0#32
  let c0_250 : Index := 0#32
  ![v401.toNat, 0, 0]
def k0_off101 (i : grid0.Coords) : Fin 4 → Nat :=
  let c0_301 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v492 : Index := Scalar.indexCast v386
  let c0_302 : Index := 0#32
  let c0_303 : Index := 0#32
  ![0, v492.toNat, 0, 0]
def k0_off102 (i : grid0.Coords) : Fin 4 → Nat :=
  let c0_348 : Index := 0#32
  let c1_i32_0 : BitVec 32 := 1#32
  let c1_i32 : BitVec 32 := 1#32
  let arg1 : BitVec 32 := BitVec.ofNat 32 (i 1).val
  let v0 : BitVec 32 := Scalar.muli c1_i32 arg1
  let v1 : BitVec 32 := Scalar.addi c1_i32_0 v0
  let c1_i32_236 : BitVec 32 := 1#32
  let v386 : BitVec 32 := Scalar.subi v1 c1_i32_236
  let v579 : Index := Scalar.indexCast v386
  let c128_349 : Index := 128#32
  let c0_350 : Index := 0#32
  ![0, v579.toNat, 128, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIn.lean ====
abbrev S8x4096x2048 : Shape := ⟨3, ![8, 4096, 2048]⟩
abbrev S2048 : Shape := ⟨1, ![2048]⟩
abbrev S2048x3144 : Shape := ⟨2, ![2048, 3144]⟩
abbrev S32768x2048 : Shape := ⟨2, ![32768, 2048]⟩
abbrev S2048x1024 : Shape := ⟨2, ![2048, 1024]⟩
abbrev S2048x256 : Shape := ⟨2, ![2048, 256]⟩
abbrev S2048x512 : Shape := ⟨2, ![2048, 512]⟩
abbrev S2048x64 : Shape := ⟨2, ![2048, 64]⟩
abbrev S2048x8 : Shape := ⟨2, ![2048, 8]⟩
abbrev S_ : Shape := ⟨0, ![]⟩
abbrev S2048x56 : Shape := ⟨2, ![2048, 56]⟩
abbrev S2048x3456 : Shape := ⟨2, ![2048, 3456]⟩
abbrev S1x2048 : Shape := ⟨2, ![1, 2048]⟩
abbrev S32768x1024 : Shape := ⟨2, ![32768, 1024]⟩
abbrev S32768x512 : Shape := ⟨2, ![32768, 512]⟩
abbrev S32768x256 : Shape := ⟨2, ![32768, 256]⟩
abbrev S32768x128 : Shape := ⟨2, ![32768, 128]⟩
abbrev S512x2048 : Shape := ⟨2, ![512, 2048]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S2048x128 : Shape := ⟨2, ![2048, 128]⟩

abbrev nBuf : Space → Nat
  | .hbm => 33
  | .vmem => 24
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x3144, .f32⟩
  | .hbm, ⟨3, _⟩ => ⟨S32768x2048, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x512, .f32⟩
  | .hbm, ⟨8, _⟩ => ⟨S2048x64, .f32⟩
  | .hbm, ⟨9, _⟩ => ⟨S2048x8, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x56, .f32⟩
  | .hbm, ⟨16, _⟩ => ⟨S_, .f32⟩
  | .hbm, ⟨17, _⟩ => ⟨S2048x64, .f32⟩
  | .hbm, ⟨18, _⟩ => ⟨S_, .f32⟩
  | .hbm, ⟨19, _⟩ => ⟨S2048x64, .f32⟩
  | .hbm, ⟨20, _⟩ => ⟨S2048x3456, .f32⟩
  | .hbm, ⟨21, _⟩ => ⟨S2048x3456, .bf16⟩
  | .hbm, ⟨22, _⟩ => ⟨S1x2048, .f32⟩
  | .hbm, ⟨23, _⟩ => ⟨S32768x1024, .bf16⟩
  | .hbm, ⟨24, _⟩ => ⟨S32768x512, .bf16⟩
  | .hbm, ⟨25, _⟩ => ⟨S32768x256, .f32⟩
  | .hbm, ⟨26, _⟩ => ⟨S32768x256, .bf16⟩
  | .hbm, ⟨27, _⟩ => ⟨S32768x256, .f32⟩
  | .hbm, ⟨28, _⟩ => ⟨S32768x256, .bf16⟩
  | .hbm, ⟨29, _⟩ => ⟨S32768x128, .f32⟩
  | .hbm, ⟨30, _⟩ => ⟨S32768x128, .bf16⟩
  | .hbm, ⟨31, _⟩ => ⟨S32768x128, .bf16⟩
  | .hbm, ⟨32, _⟩ => ⟨S32768x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3456, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | .local _ .vmem, ⟨16, _⟩ => ⟨S512x128, .f32⟩
  | .local _ .vmem, ⟨17, _⟩ => ⟨S512x128, .f32⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x1024, .f32⟩
  | .local _ .vmem, ⟨23, _⟩ => ⟨S512x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev main_v16_8 : Ref sig .tc := ⟨.hbm, 31, rfl⟩
abbrev main_v16_9 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceInIdeal.lean ====
abbrev S8x4096x2048 : Shape := ⟨3, ![8, 4096, 2048]⟩
abbrev S2048 : Shape := ⟨1, ![2048]⟩
abbrev S2048x3144 : Shape := ⟨2, ![2048, 3144]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x3144 : Shape := ⟨3, ![8, 4096, 3144]⟩
abbrev S32768x3144 : Shape := ⟨2, ![32768, 3144]⟩
abbrev S32768x1024 : Shape := ⟨2, ![32768, 1024]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩
abbrev S32768x56 : Shape := ⟨2, ![32768, 56]⟩
abbrev S32768x128 : Shape := ⟨2, ![32768, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x3144, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x3144, .f32⟩
  | .hbm, ⟨20, _⟩ => ⟨S32768x3144, .f32⟩
  | .hbm, ⟨21, _⟩ => ⟨S32768x1024, .f32⟩
  | .hbm, ⟨22, _⟩ => ⟨S32768x256, .f32⟩
  | .hbm, ⟨23, _⟩ => ⟨S32768x256, .f32⟩
  | .hbm, ⟨24, _⟩ => ⟨S32768x512, .f32⟩
  | .hbm, ⟨25, _⟩ => ⟨S32768x64, .f32⟩
  | .hbm, ⟨26, _⟩ => ⟨S32768x8, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .bf16⟩
  | .hbm, ⟨32, _⟩ => ⟨S32768x512, .bf16⟩
  | .hbm, ⟨33, _⟩ => ⟨S32768x256, .bf16⟩
  | .hbm, ⟨34, _⟩ => ⟨S32768x256, .bf16⟩
  | .hbm, ⟨35, _⟩ => ⟨S_, .f32⟩
  | .hbm, ⟨36, _⟩ => ⟨S32768x56, .f32⟩
  | .hbm, ⟨37, _⟩ => ⟨S32768x128, .f32⟩
  | .hbm, ⟨38, _⟩ => ⟨S_, .f32⟩
  | .hbm, ⟨39, _⟩ => ⟨S32768x64, .f32⟩
  | .hbm, ⟨40, _⟩ => ⟨S32768x128, .f32⟩
  | .hbm, ⟨41, _⟩ => ⟨S32768x128, .bf16⟩
  | .hbm, ⟨42, _⟩ => ⟨S_, .f32⟩
  | .hbm, ⟨43, _⟩ => ⟨S32768x64, .f32⟩
  | .hbm, ⟨44, _⟩ => ⟨S32768x128, .f32⟩
  | .hbm, ⟨45, _⟩ => ⟨S32768x128, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== KernelInSample.lean ====
abbrev S8x16x2048 : Shape := ⟨3, ![8, 16, 2048]⟩
abbrev S2048 : Shape := ⟨1, ![2048]⟩
abbrev S2048x3144 : Shape := ⟨2, ![2048, 3144]⟩
abbrev S128x2048 : Shape := ⟨2, ![128, 2048]⟩
abbrev S2048x1024 : Shape := ⟨2, ![2048, 1024]⟩
abbrev S2048x256 : Shape := ⟨2, ![2048, 256]⟩
abbrev S2048x512 : Shape := ⟨2, ![2048, 512]⟩
abbrev S2048x64 : Shape := ⟨2, ![2048, 64]⟩
abbrev S2048x8 : Shape := ⟨2, ![2048, 8]⟩
abbrev S_ : Shape := ⟨0, ![]⟩
abbrev S2048x56 : Shape := ⟨2, ![2048, 56]⟩
abbrev S2048x3456 : Shape := ⟨2, ![2048, 3456]⟩
abbrev S1x2048 : Shape := ⟨2, ![1, 2048]⟩
abbrev S128x1024 : Shape := ⟨2, ![128, 1024]⟩
abbrev S128x512 : Shape := ⟨2, ![128, 512]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S2048x128 : Shape := ⟨2, ![2048, 128]⟩

abbrev nBuf : Space → Nat
  | .hbm => 33
  | .vmem => 13
  | .smem => 0
  | _ => 0

abbrev bufTy : (tb : Table) → Fin (tcTables nBuf tb) → BufTy
  | .hbm, ⟨0, _⟩ => ⟨S8x16x2048, .f32⟩
  | .hbm, ⟨1, _⟩ => ⟨S2048, .f32⟩
  | .hbm, ⟨2, _⟩ => ⟨S2048x3144, .f32⟩
  | .hbm, ⟨3, _⟩ => ⟨S128x2048, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x512, .f32⟩
  | .hbm, ⟨8, _⟩ => ⟨S2048x64, .f32⟩
  | .hbm, ⟨9, _⟩ => ⟨S2048x8, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x56, .f32⟩
  | .hbm, ⟨16, _⟩ => ⟨S_, .f32⟩
  | .hbm, ⟨17, _⟩ => ⟨S2048x64, .f32⟩
  | .hbm, ⟨18, _⟩ => ⟨S_, .f32⟩
  | .hbm, ⟨19, _⟩ => ⟨S2048x64, .f32⟩
  | .hbm, ⟨20, _⟩ => ⟨S2048x3456, .f32⟩
  | .hbm, ⟨21, _⟩ => ⟨S2048x3456, .bf16⟩
  | .hbm, ⟨22, _⟩ => ⟨S1x2048, .f32⟩
  | .hbm, ⟨23, _⟩ => ⟨S128x1024, .bf16⟩
  | .hbm, ⟨24, _⟩ => ⟨S128x512, .bf16⟩
  | .hbm, ⟨25, _⟩ => ⟨S128x256, .f32⟩
  | .hbm, ⟨26, _⟩ => ⟨S128x256, .bf16⟩
  | .hbm, ⟨27, _⟩ => ⟨S128x256, .f32⟩
  | .hbm, ⟨28, _⟩ => ⟨S128x256, .bf16⟩
  | .hbm, ⟨29, _⟩ => ⟨S128x128, .f32⟩
  | .hbm, ⟨30, _⟩ => ⟨S128x128, .bf16⟩
  | .hbm, ⟨31, _⟩ => ⟨S128x128, .bf16⟩
  | .hbm, ⟨32, _⟩ => ⟨S128x1024, .f32⟩
  | .local _ .vmem, ⟨0, _⟩ => ⟨S128x2048, .f32⟩
  | .local _ .vmem, ⟨1, _⟩ => ⟨S1x2048, .f32⟩
  | .local _ .vmem, ⟨2, _⟩ => ⟨S2048x3456, .bf16⟩
  | .local _ .vmem, ⟨3, _⟩ => ⟨S128x1024, .bf16⟩
  | .local _ .vmem, ⟨4, _⟩ => ⟨S128x512, .bf16⟩
  | .local _ .vmem, ⟨5, _⟩ => ⟨S128x256, .f32⟩
  | .local _ .vmem, ⟨6, _⟩ => ⟨S128x256, .bf16⟩
  | .local _ .vmem, ⟨7, _⟩ => ⟨S128x256, .f32⟩
  | .local _ .vmem, ⟨8, _⟩ => ⟨S128x256, .bf16⟩
  | .local _ .vmem, ⟨9, _⟩ => ⟨S128x128, .f32⟩
  | .local _ .vmem, ⟨10, _⟩ => ⟨S128x128, .bf16⟩
  | .local _ .vmem, ⟨11, _⟩ => ⟨S128x128, .bf16⟩
  | .local _ .vmem, ⟨12, _⟩ => ⟨S128x1024, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev main_v16_8 : Ref sig .tc := ⟨.hbm, 31, rfl⟩
abbrev main_v16_9 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== ReferenceInSampleIdeal.lean ====
abbrev S8x16x2048 : Shape := ⟨3, ![8, 16, 2048]⟩
abbrev S2048 : Shape := ⟨1, ![2048]⟩
abbrev S2048x3144 : Shape := ⟨2, ![2048, 3144]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S8x16x3144 : Shape := ⟨3, ![8, 16, 3144]⟩
abbrev S128x3144 : Shape := ⟨2, ![128, 3144]⟩
abbrev S128x1024 : Shape := ⟨2, ![128, 1024]⟩
abbrev S128x256 : Shape := ⟨2, ![128, 256]⟩
abbrev S128x512 : Shape := ⟨2, ![128, 512]⟩
abbrev S128x64 : Shape := ⟨2, ![128, 64]⟩
abbrev S128x8 : Shape := ⟨2, ![128, 8]⟩
abbrev S128x56 : Shape := ⟨2, ![128, 56]⟩
abbrev S128x128 : Shape := ⟨2, ![128, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S2048, .f32⟩
  | .hbm, ⟨2, _⟩ => ⟨S2048x3144, .f32⟩
  | .hbm, ⟨3, _⟩ => ⟨S8x16x2048, .f32⟩
  | .hbm, ⟨4, _⟩ => ⟨S_, .f32⟩
  | .hbm, ⟨5, _⟩ => ⟨S8x16, .f32⟩
  | .hbm, ⟨6, _⟩ => ⟨S8x16x1, .f32⟩
  | .hbm, ⟨7, _⟩ => ⟨S_, .f32⟩
  | .hbm, ⟨8, _⟩ => ⟨S8x16x1, .f32⟩
  | .hbm, ⟨9, _⟩ => ⟨S8x16x1, .f32⟩
  | .hbm, ⟨10, _⟩ => ⟨S_, .f32⟩
  | .hbm, ⟨11, _⟩ => ⟨S8x16x1, .f32⟩
  | .hbm, ⟨12, _⟩ => ⟨S8x16x1, .f32⟩
  | .hbm, ⟨13, _⟩ => ⟨S8x16x1, .f32⟩
  | .hbm, ⟨14, _⟩ => ⟨S8x16x2048, .f32⟩
  | .hbm, ⟨15, _⟩ => ⟨S8x16x2048, .f32⟩
  | .hbm, ⟨16, _⟩ => ⟨S1x1x2048, .f32⟩
  | .hbm, ⟨17, _⟩ => ⟨S8x16x2048, .f32⟩
  | .hbm, ⟨18, _⟩ => ⟨S8x16x2048, .f32⟩
  | .hbm, ⟨19, _⟩ => ⟨S8x16x3144, .f32⟩
  | .hbm, ⟨20, _⟩ => ⟨S128x3144, .f32⟩
  | .hbm, ⟨21, _⟩ => ⟨S128x1024, .f32⟩
  | .hbm, ⟨22, _⟩ => ⟨S128x256, .f32⟩
  | .hbm, ⟨23, _⟩ => ⟨S128x256, .f32⟩
  | .hbm, ⟨24, _⟩ => ⟨S128x512, .f32⟩
  | .hbm, ⟨25, _⟩ => ⟨S128x64, .f32⟩
  | .hbm, ⟨26, _⟩ => ⟨S128x8, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .bf16⟩
  | .hbm, ⟨32, _⟩ => ⟨S128x512, .bf16⟩
  | .hbm, ⟨33, _⟩ => ⟨S128x256, .bf16⟩
  | .hbm, ⟨34, _⟩ => ⟨S128x256, .bf16⟩
  | .hbm, ⟨35, _⟩ => ⟨S_, .f32⟩
  | .hbm, ⟨36, _⟩ => ⟨S128x56, .f32⟩
  | .hbm, ⟨37, _⟩ => ⟨S128x128, .f32⟩
  | .hbm, ⟨38, _⟩ => ⟨S_, .f32⟩
  | .hbm, ⟨39, _⟩ => ⟨S128x64, .f32⟩
  | .hbm, ⟨40, _⟩ => ⟨S128x128, .f32⟩
  | .hbm, ⟨41, _⟩ => ⟨S128x128, .bf16⟩
  | .hbm, ⟨42, _⟩ => ⟨S_, .f32⟩
  | .hbm, ⟨43, _⟩ => ⟨S128x64, .f32⟩
  | .hbm, ⟨44, _⟩ => ⟨S128x128, .f32⟩
  | .hbm, ⟨45, _⟩ => ⟨S128x128, .bf16⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== KernelMem.lean ====
abbrev S8x256x2048 : Shape := ⟨3, ![8, 256, 2048]⟩
abbrev S2048 : Shape := ⟨1, ![2048]⟩
abbrev S2048x512 : Shape := ⟨2, ![2048, 512]⟩
abbrev S2048x1024 : Shape := ⟨2, ![2048, 1024]⟩
abbrev S2048x2048 : Shape := ⟨2, ![2048, 2048]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x1024, .bf16⟩
  | .hbm, ⟨6, _⟩ => ⟨S2048x2048, .f32⟩
  | .hbm, ⟨7, _⟩ => ⟨S1x2048, .f32⟩
  | .hbm, ⟨8, _⟩ => ⟨S2048x512, .f32⟩
  | .hbm, ⟨9, _⟩ => ⟨S2048x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMemIdeal.lean ====
abbrev S8x256x2048 : Shape := ⟨3, ![8, 256, 2048]⟩
abbrev S2048 : Shape := ⟨1, ![2048]⟩
abbrev S2048x512 : Shape := ⟨2, ![2048, 512]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x256x512 : Shape := ⟨3, ![8, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S8x256x2048, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x2048, .f32⟩
  | .hbm, ⟨16, _⟩ => ⟨S8x256x2048, .f32⟩
  | .hbm, ⟨17, _⟩ => ⟨S1x1x2048, .f32⟩
  | .hbm, ⟨18, _⟩ => ⟨S8x256x2048, .f32⟩
  | .hbm, ⟨19, _⟩ => ⟨S8x256x2048, .f32⟩
  | .hbm, ⟨20, _⟩ => ⟨S8x256x512, .f32⟩
  | .hbm, ⟨21, _⟩ => ⟨S8x256x512, .f32⟩
  | .hbm, ⟨22, _⟩ => ⟨S2048x512, .f32⟩
  | .hbm, ⟨23, _⟩ => ⟨S2048x512, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelMoe.lean ====
abbrev S128x2176 : Shape := ⟨2, ![128, 2176]⟩
abbrev S2048 : Shape := ⟨1, ![2048]⟩
abbrev S32x2048x256 : Shape := ⟨3, ![32, 2048, 256]⟩
abbrev S32x256x2048 : Shape := ⟨3, ![32, 256, 2048]⟩
abbrev S1x2048 : Shape := ⟨2, ![1, 2048]⟩
abbrev S128x2048 : Shape := ⟨2, ![128, 2048]⟩
abbrev S1x2048x256 : Shape := ⟨3, ![1, 2048, 256]⟩
abbrev S1x256x2048 : Shape := ⟨3, ![1, 256, 2048]⟩
abbrev S128 : Shape := ⟨1, ![128]⟩
abbrev S128x1 : Shape := ⟨2, ![128, 1]⟩
abbrev S128x128 : Shape := ⟨2, ![128, 128]⟩
abbrev S2048x256 : Shape := ⟨2, ![2048, 256]⟩
abbrev S256x2048 : Shape := ⟨2, ![256, 2048]⟩
abbrev S128x256 : Shape := ⟨2, ![128, 256]⟩

abbrev nBuf : Space → Nat
  | .hbm => 12
  | .vmem => 12
  | .smem => 0
  | _ => 0

abbrev bufTy : (tb : Table) → Fin (tcTables nBuf tb) → BufTy
  | .hbm, ⟨0, _⟩ => ⟨S128x2176, .f32⟩
  | .hbm, ⟨1, _⟩ => ⟨S2048, .f32⟩
  | .hbm, ⟨2, _⟩ => ⟨S32x2048x256, .f32⟩
  | .hbm, ⟨3, _⟩ => ⟨S32x2048x256, .f32⟩
  | .hbm, ⟨4, _⟩ => ⟨S32x256x2048, .f32⟩
  | .hbm, ⟨5, _⟩ => ⟨S2048, .f32⟩
  | .hbm, ⟨6, _⟩ => ⟨S32x2048x256, .bf16⟩
  | .hbm, ⟨7, _⟩ => ⟨S32x2048x256, .bf16⟩
  | .hbm, ⟨8, _⟩ => ⟨S32x256x2048, .bf16⟩
  | .hbm, ⟨9, _⟩ => ⟨S1x2048, .f32⟩
  | .hbm, ⟨10, _⟩ => ⟨S1x2048, .f32⟩
  | .hbm, ⟨11, _⟩ => ⟨S128x2048, .f32⟩
  | .local _ .vmem, ⟨0, _⟩ => ⟨S128x2176, .f32⟩
  | .local _ .vmem, ⟨1, _⟩ => ⟨S1x2048, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .f32⟩
  | _, _ => ⟨S128x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ReferenceMoeIdeal.lean ====
abbrev S128x2176 : Shape := ⟨2, ![128, 2176]⟩
abbrev S2048 : Shape := ⟨1, ![2048]⟩
abbrev S32x2048x256 : Shape := ⟨3, ![32, 2048, 256]⟩
abbrev S32x256x2048 : Shape := ⟨3, ![32, 256, 2048]⟩
abbrev S128x2048 : Shape := ⟨2, ![128, 2048]⟩
abbrev S128x32 : Shape := ⟨2, ![128, 32]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x32x256 : Shape := ⟨3, ![128, 32, 256]⟩
abbrev S128x32x1 : Shape := ⟨3, ![128, 32, 1]⟩

abbrev nBuf : Space → Nat
  | .hbm => 57
  | .vmem => 0
  | .smem => 0
  | _ => 0

abbrev bufTy : (tb : Table) → Fin (tcTables nBuf tb) → BufTy
  | .hbm, ⟨0, _⟩ => ⟨S128x2176, .f32⟩
  | .hbm, ⟨1, _⟩ => ⟨S2048, .f32⟩
  | .hbm, ⟨2, _⟩ => ⟨S32x2048x256, .f32⟩
  | .hbm, ⟨3, _⟩ => ⟨S32x2048x256, .f32⟩
  | .hbm, ⟨4, _⟩ => ⟨S32x256x2048, .f32⟩
  | .hbm, ⟨5, _⟩ => ⟨S2048, .f32⟩
  | .hbm, ⟨6, _⟩ => ⟨S128x2048, .f32⟩
  | .hbm, ⟨7, _⟩ => ⟨S128x32, .f32⟩
  | .hbm, ⟨8, _⟩ => ⟨S128x2048, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S1x2048, .f32⟩
  | .hbm, ⟨22, _⟩ => ⟨S128x2048, .f32⟩
  | .hbm, ⟨23, _⟩ => ⟨S128x2048, .f32⟩
  | .hbm, ⟨24, _⟩ => ⟨S128x32x256, .f32⟩
  | .hbm, ⟨25, _⟩ => ⟨S128x32x256, .f32⟩
  | .hbm, ⟨26, _⟩ => ⟨S128x32x256, .f32⟩
  | .hbm, ⟨27, _⟩ => ⟨S128x32x256, .f32⟩
  | .hbm, ⟨28, _⟩ => ⟨S_, .f32⟩
  | .hbm, ⟨29, _⟩ => ⟨S128x32x256, .f32⟩
  | .hbm, ⟨30, _⟩ => ⟨S128x32x256, .f32⟩
  | .hbm, ⟨31, _⟩ => ⟨S_, .f32⟩
  | .hbm, ⟨32, _⟩ => ⟨S128x32x256, .f32⟩
  | .hbm, ⟨33, _⟩ => ⟨S128x32x256, .f32⟩
  | .hbm, ⟨34, _⟩ => ⟨S128x32x256, .f32⟩
  | .hbm, ⟨35, _⟩ => ⟨S128x32x256, .f32⟩
  | .hbm, ⟨36, _⟩ => ⟨S128x32x1, .f32⟩
  | .hbm, ⟨37, _⟩ => ⟨S128x32x256, .f32⟩
  | .hbm, ⟨38, _⟩ => ⟨S128x32x256, .f32⟩
  | .hbm, ⟨39, _⟩ => ⟨S128x2048, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S128x1, .f32⟩
  | .hbm, ⟨52, _⟩ => ⟨S128x2048, .f32⟩
  | .hbm, ⟨53, _⟩ => ⟨S128x2048, .f32⟩
  | .hbm, ⟨54, _⟩ => ⟨S1x2048, .f32⟩
  | .hbm, ⟨55, _⟩ => ⟨S128x2048, .f32⟩
  | .hbm, ⟨56, _⟩ => ⟨S128x2048, .f32⟩
  | _, _ => ⟨S128x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelMix.lean ====
abbrev S8x4096x2048 : Shape := ⟨3, ![8, 4096, 2048]⟩
abbrev S8x4096x1024 : Shape := ⟨3, ![8, 4096, 1024]⟩
abbrev S8x256x512 : Shape := ⟨3, ![8, 256, 512]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S2048x92 : Shape := ⟨2, ![2048, 92]⟩
abbrev S2048x128 : Shape := ⟨2, ![2048, 128]⟩
abbrev S92 : Shape := ⟨1, ![92]⟩
abbrev S128 : Shape := ⟨1, ![128]⟩
abbrev S1x128 : Shape := ⟨2, ![1, 128]⟩
abbrev S8x15x1024 : Shape := ⟨3, ![8, 15, 1024]⟩
abbrev S8x1x1024 : Shape := ⟨3, ![8, 1, 1024]⟩
abbrev S8x16x1024 : Shape := ⟨3, ![8, 16, 1024]⟩
abbrev S1x1024 : Shape := ⟨2, ![1, 1024]⟩
abbrev S1x2048 : Shape := ⟨2, ![1, 2048]⟩
abbrev S8x4096x2176 : Shape := ⟨3, ![8, 4096, 2176]⟩
abbrev S1x512x2048 : Shape := ⟨3, ![1, 512, 2048]⟩
abbrev S1x512x1024 : Shape := ⟨3, ![1, 512, 1024]⟩
abbrev S1x16x1024 : Shape := ⟨3, ![1, 16, 1024]⟩
abbrev S1x256x512 : Shape := ⟨3, ![1, 256, 512]⟩
abbrev S1x512x2176 : Shape := ⟨3, ![1, 512, 2176]⟩
abbrev S528x1024 : Shape := ⟨2, ![528, 1024]⟩
abbrev S16x1024 : Shape := ⟨2, ![16, 1024]⟩
abbrev S512x1024 : Shape := ⟨2, ![512, 1024]⟩
abbrev S1024x2048 : Shape := ⟨2, ![1024, 2048]⟩
abbrev S512x1 : Shape := ⟨2, ![512, 1]⟩
abbrev S512x256 : Shape := ⟨2, ![512, 256]⟩
abbrev S1x512x256 : Shape := ⟨3, ![1, 512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S1x512x128 : Shape := ⟨3, ![1, 512, 128]⟩

abbrev nBuf : Space → Nat
  | .hbm => 39
  | .vmem => 24
  | .smem => 0
  | _ => 0

abbrev bufTy : (tb : Table) → Fin (tcTables nBuf tb) → BufTy
  | .hbm, ⟨0, _⟩ => ⟨S8x4096x2048, .f32⟩
  | .hbm, ⟨1, _⟩ => ⟨S8x4096x1024, .bf16⟩
  | .hbm, ⟨2, _⟩ => ⟨S8x4096x1024, .f32⟩
  | .hbm, ⟨3, _⟩ => ⟨S8x256x512, .f32⟩
  | .hbm, ⟨4, _⟩ => ⟨S8x256x512, .f32⟩
  | .hbm, ⟨5, _⟩ => ⟨S4x256x256, .f32⟩
  | .hbm, ⟨6, _⟩ => ⟨S1024, .f32⟩
  | .hbm, ⟨7, _⟩ => ⟨S2048x2048, .f32⟩
  | .hbm, ⟨8, _⟩ => ⟨S2048, .f32⟩
  | .hbm, ⟨9, _⟩ => ⟨S2048x512, .f32⟩
  | .hbm, ⟨10, _⟩ => ⟨S512x2048, .f32⟩
  | .hbm, ⟨11, _⟩ => ⟨S2048, .f32⟩
  | .hbm, ⟨12, _⟩ => ⟨S2048x4, .f32⟩
  | .hbm, ⟨13, _⟩ => ⟨S4, .f32⟩
  | .hbm, ⟨14, _⟩ => ⟨S2048x32, .f32⟩
  | .hbm, ⟨15, _⟩ => ⟨S32, .f32⟩
  | .hbm, ⟨16, _⟩ => ⟨S_, .f32⟩
  | .hbm, ⟨17, _⟩ => ⟨S2048x92, .f32⟩
  | .hbm, ⟨18, _⟩ => ⟨S2048x128, .f32⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S8x15x1024, .f32⟩
  | .hbm, ⟨25, _⟩ => ⟨S8x256x512, .bf16⟩
  | .hbm, ⟨26, _⟩ => ⟨S8x256x512, .bf16⟩
  | .hbm, ⟨27, _⟩ => ⟨S4x256x256, .bf16⟩
  | .hbm, ⟨28, _⟩ => ⟨S2048x2048, .bf16⟩
  | .hbm, ⟨29, _⟩ => ⟨S2048x512, .bf16⟩
  | .hbm, ⟨30, _⟩ => ⟨S512x2048, .bf16⟩
  | .hbm, ⟨31, _⟩ => ⟨S2048x128, .bf16⟩
  | .hbm, ⟨32, _⟩ => ⟨S_, .f32⟩
  | .hbm, ⟨33, _⟩ => ⟨S8x1x1024, .f32⟩
  | .hbm, ⟨34, _⟩ => ⟨S8x16x1024, .f32⟩
  | .hbm, ⟨35, _⟩ => ⟨S1x1024, .f32⟩
  | .hbm, ⟨36, _⟩ => ⟨S1x2048, .f32⟩
  | .hbm, ⟨37, _⟩ => ⟨S1x2048, .f32⟩
  | .hbm, ⟨38, _⟩ => ⟨S8x4096x2176, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S4x256x256, .bf16⟩
  | .local _ .vmem, ⟨13, _⟩ => ⟨S1x1024, .f32⟩
  | .local _ .vmem, ⟨14, _⟩ => ⟨S2048x2048, .bf16⟩
  | .local _ .vmem, ⟨15, _⟩ => ⟨S1x2048, .f32⟩
  | .local _ .vmem, ⟨16, _⟩ => ⟨S2048x512, .bf16⟩
  | .local _ .vmem, ⟨17, _⟩ => ⟨S512x2048, .bf16⟩
  | .local _ .vmem, ⟨18, _⟩ => ⟨S1x2048, .f32⟩
  | .local _ .vmem, ⟨19, _⟩ => ⟨S2048x128, .bf16⟩
  | .local _ .vmem, ⟨20, _⟩ => ⟨S1x128, .f32⟩
  | .local _ .vmem, ⟨21, _⟩ => ⟨S1x512x2176, .f32⟩
  | .local _ .vmem, ⟨22, _⟩ => ⟨S1x512x2176, .f32⟩
  | .local _ .vmem, ⟨23, _⟩ => ⟨S528x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x2176 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceMixIdeal.lean ====
abbrev S8x4096x2048 : Shape := ⟨3, ![8, 4096, 2048]⟩
abbrev S8x4096x1024 : Shape := ⟨3, ![8, 4096, 1024]⟩
abbrev S8x256x512 : Shape := ⟨3, ![8, 256, 512]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S8x15x1024 : Shape := ⟨3, ![8, 15, 1024]⟩
abbrev S8x4111x1024 : Shape := ⟨3, ![8, 4111, 1024]⟩
abbrev S8x1x1024 : Shape := ⟨3, ![8, 1, 1024]⟩
abbrev S8x4112x1024 : Shape := ⟨3, ![8, 4112, 1024]⟩
abbrev S4096 : Shape := ⟨1, ![4096]⟩
abbrev S8x4096x256 : Shape := ⟨3, ![8, 4096, 256]⟩
abbrev S1x4096x1 : Shape := ⟨3, ![1, 4096, 1]⟩
abbrev S8x4096x1x256 : Shape := ⟨4, ![8, 4096, 1, 256]⟩
abbrev S8x4096x4x256 : Shape := ⟨4, ![8, 4096, 4, 256]⟩
abbrev S4x256x8x4096 : Shape := ⟨4, ![4, 256, 8, 4096]⟩
abbrev S1x1x1024 : Shape := ⟨3, ![1, 1, 1024]⟩
abbrev S8x4096 : Shape := ⟨2, ![8, 4096]⟩
abbrev S8x4096x1 : Shape := ⟨3, ![8, 4096, 1]⟩
abbrev S1x1x2048 : Shape := ⟨3, ![1, 1, 2048]⟩
abbrev S8x256x4x128 : Shape := ⟨4, ![8, 256, 4, 128]⟩
abbrev S8x4096x512 : Shape := ⟨3, ![8, 4096, 512]⟩
abbrev S8x4096x4x128 : Shape := ⟨4, ![8, 4096, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S8x4096x4 : Shape := ⟨3, ![8, 4096, 4]⟩
abbrev S1x1x4 : Shape := ⟨3, ![1, 1, 4]⟩
abbrev S8x4096x32 : Shape := ⟨3, ![8, 4096, 32]⟩
abbrev S1x1x32 : Shape := ⟨3, ![1, 1, 32]⟩
abbrev S8x4096x4x8 : Shape := ⟨4, ![8, 4096, 4, 8]⟩
abbrev S8x4096x8 : Shape := ⟨3, ![8, 4096, 8]⟩
abbrev S8x4096x2 : Shape := ⟨3, ![8, 4096, 2]⟩
abbrev S8x4096x2x1 : Shape := ⟨4, ![8, 4096, 2, 1]⟩
abbrev S1x1x1x32 : Shape := ⟨4, ![1, 1, 1, 32]⟩
abbrev S8x4096x2x32 : Shape := ⟨4, ![8, 4096, 2, 32]⟩
abbrev S8x4096x92 : Shape := ⟨3, ![8, 4096, 92]⟩
abbrev S8x4096x2176 : Shape := ⟨3, ![8, 4096, 2176]⟩

abbrev nBuf : Space → Nat
  | .hbm => 238
  | .vmem => 0
  | .smem => 0
  | _ => 0

abbrev hbmTy0_0 (i : Nat) : BufTy := match i % 128 with
  | 0 => ⟨S8x4096x2048, .f32⟩
  | 1 => ⟨S8x4096x1024, .bf16⟩
  | 2 => ⟨S8x4096x1024, .f32⟩
  | 3 => ⟨S8x256x512, .f32⟩
  | 4 => ⟨S8x256x512, .f32⟩
  | 5 => ⟨S4x256x256, .f32⟩
  | 6 => ⟨S1024, .f32⟩
  | 7 => ⟨S2048x2048, .f32⟩
  | 8 => ⟨S2048, .f32⟩
  | 9 => ⟨S2048x512, .f32⟩
  | 10 => ⟨S512x2048, .f32⟩
  | 11 => ⟨S2048, .f32⟩
  | 12 => ⟨S2048x4, .f32⟩
  | 13 => ⟨S4, .f32⟩
  | 14 => ⟨S2048x32, .f32⟩
  | 15 => ⟨S32, .f32⟩
  | 16 => ⟨S_, .f32⟩
  | 17 => ⟨S8x15x1024, .f32⟩
  | 18 => ⟨S8x4111x1024, .f32⟩
  | 19 => ⟨S_, .f32⟩
  | 20 => ⟨S_, .f32⟩
  | 21 => ⟨S8x4111x1024, .f32⟩
  | 22 => ⟨S_, .f32⟩
  | 23 => ⟨S8x1x1024, .f32⟩
  | 24 => ⟨S8x4112x1024, .f32⟩
  | 25 => ⟨S4096, .i32⟩
  | 26 => ⟨S8x4096x256, .f32⟩
  | 27 => ⟨S8x4096x256, .f32⟩
  | 28 => ⟨S8x4096x256, .f32⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S4096, .f32⟩
  | 36 => ⟨S1x4096x1, .f32⟩
  | 37 => ⟨S8x4096x256, .f32⟩
  | 38 => ⟨S8x4096x256, .f32⟩
  | 39 => ⟨S8x4096x256, .f32⟩
  | 40 => ⟨S8x4096x256, .f32⟩
  | 41 => ⟨S8x4096x256, .f32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S4096, .f32⟩
  | 49 => ⟨S1x4096x1, .f32⟩
  | 50 => ⟨S8x4096x256, .f32⟩
  | 51 => ⟨S8x4096x256, .f32⟩
  | 52 => ⟨S8x4096x256, .f32⟩
  | 53 => ⟨S8x4096x256, .f32⟩
  | 54 => ⟨S8x4096x256, .f32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .f32⟩
  | 62 => ⟨S1x4096x1, .f32⟩
  | 63 => ⟨S8x4096x256, .f32⟩
  | 64 => ⟨S8x4096x256, .f32⟩
  | 65 => ⟨S8x4096x256, .f32⟩
  | 66 => ⟨S8x4096x256, .f32⟩
  | 67 => ⟨S8x4096x256, .f32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .f32⟩
  | 75 => ⟨S1x4096x1, .f32⟩
  | 76 => ⟨S8x4096x256, .f32⟩
  | 77 => ⟨S8x4096x256, .f32⟩
  | 78 => ⟨S8x4096x1x256, .f32⟩
  | 79 => ⟨S8x4096x1x256, .f32⟩
  | 80 => ⟨S8x4096x1x256, .f32⟩
  | 81 => ⟨S8x4096x1x256, .f32⟩
  | 82 => ⟨S8x4096x4x256, .f32⟩
  | 83 => ⟨S8x4096x4x256, .f32⟩
  | 84 => ⟨S8x4096x4x256, .f32⟩
  | 85 => ⟨S4x256x8x4096, .f32⟩
  | 86 => ⟨S8x4096x4x256, .f32⟩
  | 87 => ⟨S8x4096x1024, .f32⟩
  | 88 => ⟨S1x1x1024, .f32⟩
  | 89 => ⟨S8x4096x1024, .f32⟩
  | 90 => ⟨S8x4096x1024, .f32⟩
  | 91 => ⟨S8x4096x1024, .f32⟩
  | 92 => ⟨S8x4096x2048, .f32⟩
  | 93 => ⟨S8x4096x2048, .f32⟩
  | 94 => ⟨S8x4096x2048, .f32⟩
  | 95 => ⟨S8x4096x2048, .f32⟩
  | 96 => ⟨S_, .f32⟩
  | 97 => ⟨S8x4096, .f32⟩
  | 98 => ⟨S8x4096x1, .f32⟩
  | 99 => ⟨S_, .f32⟩
  | 100 => ⟨S8x4096x1, .f32⟩
  | 101 => ⟨S8x4096x1, .f32⟩
  | 102 => ⟨S_, .f32⟩
  | 103 => ⟨S8x4096x1, .f32⟩
  | 104 => ⟨S8x4096x1, .f32⟩
  | 105 => ⟨S8x4096x1, .f32⟩
  | 106 => ⟨S8x4096x2048, .f32⟩
  | 107 => ⟨S8x4096x2048, .f32⟩
  | 108 => ⟨S1x1x2048, .f32⟩
  | 109 => ⟨S8x4096x2048, .f32⟩
  | 110 => ⟨S8x4096x2048, .f32⟩
  | 111 => ⟨S8x256x4x128, .f32⟩
  | 112 => ⟨S8x256x4x128, .f32⟩
  | 113 => ⟨S8x4096x512, .f32⟩
  | 114 => ⟨S8x4096x4x128, .f32⟩
  | 115 => ⟨S8x4x4096x256, .f32⟩
  | 116 => ⟨S_, .f32⟩
  | 117 => ⟨S8x4x4096x256, .f32⟩
  | 118 => ⟨S8x4x4096x256, .f32⟩
  | 119 => ⟨S_, .f32⟩
  | 120 => ⟨S8x4x4096, .f32⟩
  | 121 => ⟨S_, .f32⟩
  | 122 => ⟨S8x4x4096, .f32⟩
  | 123 => ⟨S8x4x4096, .f32⟩
  | 124 => ⟨S8x4x4096x1, .f32⟩
  | 125 => ⟨S8x4x4096x256, .f32⟩
  | 126 => ⟨S8x4x4096x256, .f32⟩
  | 127 => ⟨S8x4x4096x256, .f32⟩
  | _ => ⟨S8x4096x2048, .f32⟩

abbrev hbmTy0_1 (i : Nat) : BufTy := match i % 128 with
  | 0 => ⟨S_, .f32⟩
  | 1 => ⟨S8x4x4096, .f32⟩
  | 2 => ⟨S8x4x4096x1, .f32⟩
  | 3 => ⟨S8x4x4096x256, .f32⟩
  | 4 => ⟨S8x4x4096x256, .f32⟩
  | 5 => ⟨S8x4x128x4096, .f32⟩
  | 6 => ⟨S8x4096x4x128, .f32⟩
  | 7 => ⟨S8x4096x512, .f32⟩
  | 8 => ⟨S8x4096x2048, .f32⟩
  | 9 => ⟨S8x4096x2048, .f32⟩
  | 10 => ⟨S8x4096x2048, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x2048, .f32⟩
  | 22 => ⟨S8x4096x2048, .f32⟩
  | 23 => ⟨S1x1x2048, .f32⟩
  | 24 => ⟨S8x4096x2048, .f32⟩
  | 25 => ⟨S8x4096x2048, .f32⟩
  | 26 => ⟨S8x4096x4, .f32⟩
  | 27 => ⟨S1x1x4, .f32⟩
  | 28 => ⟨S8x4096x4, .f32⟩
  | 29 => ⟨S8x4096x4, .f32⟩
  | 30 => ⟨S8x4096x1, .f32⟩
  | 31 => ⟨S8x4096x1, .i32⟩
  | 32 => ⟨S8x4096, .i32⟩
  | 33 => ⟨S_, .f32⟩
  | 34 => ⟨S8x4096, .f32⟩
  | 35 => ⟨S_, .f32⟩
  | 36 => ⟨S8x4096, .f32⟩
  | 37 => ⟨S8x4096, .f32⟩
  | 38 => ⟨S8x4096x1, .f32⟩
  | 39 => ⟨S8x4096x4, .f32⟩
  | 40 => ⟨S8x4096x4, .f32⟩
  | 41 => ⟨S8x4096x4, .f32⟩
  | 42 => ⟨S_, .f32⟩
  | 43 => ⟨S8x4096, .f32⟩
  | 44 => ⟨S8x4096x1, .f32⟩
  | 45 => ⟨S8x4096x4, .f32⟩
  | 46 => ⟨S8x4096x4, .f32⟩
  | 47 => ⟨S_, .f32⟩
  | 48 => ⟨S8x4096, .f32⟩
  | 49 => ⟨S8x4096x32, .f32⟩
  | 50 => ⟨S1x1x32, .f32⟩
  | 51 => ⟨S8x4096x32, .f32⟩
  | 52 => ⟨S8x4096x32, .f32⟩
  | 53 => ⟨S8x4096x4x8, .f32⟩
  | 54 => ⟨S8x4096x1, .i32⟩
  | 55 => ⟨S1x1x4, .i32⟩
  | 56 => ⟨S8x4096x4, .i32⟩
  | 57 => ⟨S8x4096x4, .i32⟩
  | 58 => ⟨S8x4096x4, .i1⟩
  | 59 => ⟨S8x4096x4, .f32⟩
  | 60 => ⟨S8x4096x8, .f32⟩
  | 61 => ⟨S8x4096x2, .f32⟩
  | 62 => ⟨S8x4096x2, .i32⟩
  | 63 => ⟨S_, .f32⟩
  | 64 => ⟨S8x4096, .f32⟩
  | 65 => ⟨S_, .f32⟩
  | 66 => ⟨S8x4096, .f32⟩
  | 67 => ⟨S8x4096, .f32⟩
  | 68 => ⟨S8x4096x1, .f32⟩
  | 69 => ⟨S8x4096x2, .f32⟩
  | 70 => ⟨S8x4096x2, .f32⟩
  | 71 => ⟨S8x4096x2, .f32⟩
  | 72 => ⟨S_, .f32⟩
  | 73 => ⟨S8x4096, .f32⟩
  | 74 => ⟨S8x4096x1, .f32⟩
  | 75 => ⟨S8x4096x2, .f32⟩
  | 76 => ⟨S8x4096x2, .f32⟩
  | 77 => ⟨S8x4096x1, .f32⟩
  | 78 => ⟨S8x4096x2, .f32⟩
  | 79 => ⟨S8x4096x2, .f32⟩
  | 80 => ⟨S8x4096x1, .i32⟩
  | 81 => ⟨S_, .i32⟩
  | 82 => ⟨S8x4096x1, .i32⟩
  | 83 => ⟨S8x4096x1, .i32⟩
  | 84 => ⟨S8x4096x2, .i32⟩
  | 85 => ⟨S8x4096x2, .i32⟩
  | 86 => ⟨S8x4096x2x1, .i32⟩
  | 87 => ⟨S1x1x1x32, .i32⟩
  | 88 => ⟨S8x4096x2x32, .i32⟩
  | 89 => ⟨S8x4096x2x32, .i32⟩
  | 90 => ⟨S8x4096x2x32, .i1⟩
  | 91 => ⟨S8x4096x2x32, .f32⟩
  | 92 => ⟨S8x4096x2x1, .f32⟩
  | 93 => ⟨S8x4096x2x32, .f32⟩
  | 94 => ⟨S8x4096x2x32, .f32⟩
  | 95 => ⟨S_, .f32⟩
  | 96 => ⟨S8x4096x32, .f32⟩
  | 97 => ⟨S_, .i32⟩
  | 98 => ⟨S8x4096, .i32⟩
  | 99 => ⟨S_, .i32⟩
  | 100 => ⟨S8x4096, .i32⟩
  | 101 => ⟨S8x4096x1, .i32⟩
  | 102 => ⟨S8x4096x1, .i32⟩
  | 103 => ⟨S8x4096x2, .i32⟩
  | 104 => ⟨S8x4096x2, .f32⟩
  | 105 => ⟨S_, .f32⟩
  | 106 => ⟨S8x4096x2, .f32⟩
  | 107 => ⟨S_, .f32⟩
  | 108 => ⟨S8x4096x92, .f32⟩
  | 109 => ⟨S8x4096x2176, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_call0_call0_cst : Ref sig .tc := ⟨.hbm, 19, rfl⟩
abbrev main_call0_call0_v0 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_11 : Ref sig .tc := ⟨.hbm, 116, rfl⟩
abbrev main_v85 : Ref sig .tc := ⟨.hbm, 117, rfl⟩
abbrev main_v86 : Ref sig .tc := ⟨.hbm, 118, rfl⟩
abbrev main_cst_12 : Ref sig .tc := ⟨.hbm, 119, rfl⟩
abbrev main_v87 : Ref sig .tc := ⟨.hbm, 120, rfl⟩
abbrev main_cst_13 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_14 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_15 : Ref sig .tc := ⟨.hbm, 139, rfl⟩
abbrev main_v104 : Ref sig .tc := ⟨.hbm, 140, rfl⟩
abbrev main_v105 : Ref sig .tc := ⟨.hbm, 141, rfl⟩
abbrev main_cst_16 : Ref sig .tc := ⟨.hbm, 142, rfl⟩
abbrev main_v106 : Ref sig .tc := ⟨.hbm, 143, rfl⟩
abbrev main_v107 : Ref sig .tc := ⟨.hbm, 144, rfl⟩
abbrev main_cst_17 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_values : Ref sig .tc := ⟨.hbm, 158, rfl⟩
abbrev main_indices : Ref sig .tc := ⟨.hbm, 159, rfl⟩
abbrev main_v120 : Ref sig .tc := ⟨.hbm, 160, rfl⟩
abbrev main_cst_18 : Ref sig .tc := ⟨.hbm, 161, rfl⟩
abbrev main_v121 : Ref sig .tc := ⟨.hbm, 162, rfl⟩
abbrev main_cst_19 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_20 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_21 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call1_v0 : Ref sig .tc := ⟨.hbm, 182, rfl⟩
abbrev main_call1_v1 : Ref sig .tc := ⟨.hbm, 183, rfl⟩
abbrev main_call1_v2 : Ref sig .tc := ⟨.hbm, 184, rfl⟩
abbrev main_call1_v3 : Ref sig .tc := ⟨.hbm, 185, rfl⟩
abbrev main_call1_v4 : Ref sig .tc := ⟨.hbm, 186, rfl⟩
abbrev main_v138 : Ref sig .tc := ⟨.hbm, 187, rfl⟩
abbrev main_v139 : Ref sig .tc := ⟨.hbm, 188, rfl⟩
abbrev main_values_22 : Ref sig .tc := ⟨.hbm, 189, rfl⟩
abbrev main_indices_23 : Ref sig .tc := ⟨.hbm, 190, rfl⟩
abbrev main_cst_24 : Ref sig .tc := ⟨.hbm, 191, rfl⟩
abbrev main_v140 : Ref sig .tc := ⟨.hbm, 192, rfl⟩
abbrev main_cst_25 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_26 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_c_27 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_call2_v0 : Ref sig .tc := ⟨.hbm, 214, rfl⟩
abbrev main_call2_v1 : Ref sig .tc := ⟨.hbm, 215, rfl⟩
abbrev main_call2_v2 : Ref sig .tc := ⟨.hbm, 216, rfl⟩
abbrev main_call2_v3 : Ref sig .tc := ⟨.hbm, 217, rfl⟩
abbrev main_call2_v4 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_28 : Ref sig .tc := ⟨.hbm, 223, rfl⟩
abbrev main_v163 : Ref sig .tc := ⟨.hbm, 224, rfl⟩
abbrev main_c_29 : Ref sig .tc := ⟨.hbm, 225, rfl⟩
abbrev main_v164 : Ref sig .tc := ⟨.hbm, 226, rfl⟩
abbrev main_c_30 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_31 : Ref sig .tc := ⟨.hbm, 233, rfl⟩
abbrev main_v170 : Ref sig .tc := ⟨.hbm, 234, rfl⟩
abbrev main_cst_32 : Ref sig .tc := ⟨.hbm, 235, rfl⟩
abbrev main_v171 : Ref sig .tc := ⟨.hbm, 236, rfl⟩
abbrev main_v172 : Ref sig .tc := ⟨.hbm, 237, rfl⟩

abbrev nD : Nat := 1
abbrev τ : Topo := Topo.v7x

variable {F : FTy → Type} [FloatOps F]
-- ==== KernelExperts.lean ====
abbrev S8x4096x2048 : Shape := ⟨3, ![8, 4096, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32x2048x256 : Shape := ⟨3, ![32, 2048, 256]⟩
abbrev S32x256x2048 : Shape := ⟨3, ![32, 256, 2048]⟩
abbrev S_ : Shape := ⟨0, ![]⟩
abbrev S2048x92 : Shape := ⟨2, ![2048, 92]⟩
abbrev S2048x128 : Shape := ⟨2, ![2048, 128]⟩
abbrev S92 : Shape := ⟨1, ![92]⟩
abbrev S128 : Shape := ⟨1, ![128]⟩
abbrev S1x128 : Shape := ⟨2, ![1, 128]⟩
abbrev S32768x2048 : Shape := ⟨2, ![32768, 2048]⟩
abbrev S1x2048 : Shape := ⟨2, ![1, 2048]⟩
abbrev S512x2048 : Shape := ⟨2, ![512, 2048]⟩
abbrev S1x2048x256 : Shape := ⟨3, ![1, 2048, 256]⟩
abbrev S1x256x2048 : Shape := ⟨3, ![1, 256, 2048]⟩
abbrev S512x128 : Shape := ⟨2, ![512, 128]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 28
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x4, .f32⟩
  | .hbm, ⟨3, _⟩ => ⟨S4, .f32⟩
  | .hbm, ⟨4, _⟩ => ⟨S2048x32, .f32⟩
  | .hbm, ⟨5, _⟩ => ⟨S32, .f32⟩
  | .hbm, ⟨6, _⟩ => ⟨S32x2048x256, .f32⟩
  | .hbm, ⟨7, _⟩ => ⟨S32x2048x256, .f32⟩
  | .hbm, ⟨8, _⟩ => ⟨S32x256x2048, .f32⟩
  | .hbm, ⟨9, _⟩ => ⟨S2048, .f32⟩
  | .hbm, ⟨10, _⟩ => ⟨S_, .f32⟩
  | .hbm, ⟨11, _⟩ => ⟨S2048x92, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S_, .f32⟩
  | .hbm, ⟨18, _⟩ => ⟨S92, .f32⟩
  | .hbm, ⟨19, _⟩ => ⟨S128, .f32⟩
  | .hbm, ⟨20, _⟩ => ⟨S1x128, .f32⟩
  | .hbm, ⟨21, _⟩ => ⟨S32768x2048, .f32⟩
  | .hbm, ⟨22, _⟩ => ⟨S32x2048x256, .bf16⟩
  | .hbm, ⟨23, _⟩ => ⟨S32x2048x256, .bf16⟩
  | .hbm, ⟨24, _⟩ => ⟨S32x256x2048, .bf16⟩
  | .hbm, ⟨25, _⟩ => ⟨S1x2048, .f32⟩
  | .hbm, ⟨26, _⟩ => ⟨S1x2048, .f32⟩
  | .hbm, ⟨27, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S2048x128, .bf16⟩
  | .local _ .vmem, ⟨5, _⟩ => ⟨S1x128, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x128, .f32⟩
  | .local _ .vmem, ⟨17, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 32], ![false, false]⟩

def k0_cond2 (i : grid0.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceExpertsIdeal.lean ====
abbrev S8x4096x2048 : Shape := ⟨3, ![8, 4096, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32x2048x256 : Shape := ⟨3, ![32, 2048, 256]⟩
abbrev S32x256x2048 : Shape := ⟨3, ![32, 256, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x4 : Shape := ⟨3, ![8, 4096, 4]⟩
abbrev S1x1x4 : Shape := ⟨3, ![1, 1, 4]⟩
abbrev S8x4096x32 : Shape := ⟨3, ![8, 4096, 32]⟩
abbrev S1x1x32 : Shape := ⟨3, ![1, 1, 32]⟩
abbrev S8x4096x4x8 : Shape := ⟨4, ![8, 4096, 4, 8]⟩
abbrev S8x4096x8 : Shape := ⟨3, ![8, 4096, 8]⟩
abbrev S8x4096x2 : Shape := ⟨3, ![8, 4096, 2]⟩
abbrev S8x4096x2x1 : Shape := ⟨4, ![8, 4096, 2, 1]⟩
abbrev S1x1x1x32 : Shape := ⟨4, ![1, 1, 1, 32]⟩
abbrev S8x4096x2x32 : Shape := ⟨4, ![8, 4096, 2, 32]⟩
abbrev S8x4096x32x256 : Shape := ⟨4, ![8, 4096, 32, 256]⟩
abbrev S8x4096x32x1 : Shape := ⟨4, ![8, 4096, 32, 1]⟩
abbrev S32768x2048 : Shape := ⟨2, ![32768, 2048]⟩

abbrev nBuf : Space → Nat
  | .hbm => 131
  | .vmem => 0
  | .smem => 0
  | _ => 0

abbrev hbmTy0_0 (i : Nat) : BufTy := match i % 128 with
  | 0 => ⟨S8x4096x2048, .f32⟩
  | 1 => ⟨S2048, .f32⟩
  | 2 => ⟨S2048x4, .f32⟩
  | 3 => ⟨S4, .f32⟩
  | 4 => ⟨S2048x32, .f32⟩
  | 5 => ⟨S32, .f32⟩
  | 6 => ⟨S32x2048x256, .f32⟩
  | 7 => ⟨S32x2048x256, .f32⟩
  | 8 => ⟨S32x256x2048, .f32⟩
  | 9 => ⟨S2048, .f32⟩
  | 10 => ⟨S8x4096x2048, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x2048, .f32⟩
  | 22 => ⟨S8x4096x2048, .f32⟩
  | 23 => ⟨S1x1x2048, .f32⟩
  | 24 => ⟨S8x4096x2048, .f32⟩
  | 25 => ⟨S8x4096x2048, .f32⟩
  | 26 => ⟨S8x4096x4, .f32⟩
  | 27 => ⟨S1x1x4, .f32⟩
  | 28 => ⟨S8x4096x4, .f32⟩
  | 29 => ⟨S8x4096x4, .f32⟩
  | 30 => ⟨S8x4096x1, .f32⟩
  | 31 => ⟨S8x4096x1, .i32⟩
  | 32 => ⟨S8x4096, .i32⟩
  | 33 => ⟨S_, .f32⟩
  | 34 => ⟨S8x4096, .f32⟩
  | 35 => ⟨S_, .f32⟩
  | 36 => ⟨S8x4096, .f32⟩
  | 37 => ⟨S8x4096, .f32⟩
  | 38 => ⟨S8x4096x1, .f32⟩
  | 39 => ⟨S8x4096x4, .f32⟩
  | 40 => ⟨S8x4096x4, .f32⟩
  | 41 => ⟨S8x4096x4, .f32⟩
  | 42 => ⟨S_, .f32⟩
  | 43 => ⟨S8x4096, .f32⟩
  | 44 => ⟨S8x4096x1, .f32⟩
  | 45 => ⟨S8x4096x4, .f32⟩
  | 46 => ⟨S8x4096x4, .f32⟩
  | 47 => ⟨S_, .f32⟩
  | 48 => ⟨S8x4096, .f32⟩
  | 49 => ⟨S8x4096x32, .f32⟩
  | 50 => ⟨S1x1x32, .f32⟩
  | 51 => ⟨S8x4096x32, .f32⟩
  | 52 => ⟨S8x4096x32, .f32⟩
  | 53 => ⟨S8x4096x4x8, .f32⟩
  | 54 => ⟨S8x4096x1, .i32⟩
  | 55 => ⟨S1x1x4, .i32⟩
  | 56 => ⟨S8x4096x4, .i32⟩
  | 57 => ⟨S8x4096x4, .i32⟩
  | 58 => ⟨S8x4096x4, .i1⟩
  | 59 => ⟨S8x4096x4, .f32⟩
  | 60 => ⟨S8x4096x8, .f32⟩
  | 61 => ⟨S8x4096x2, .f32⟩
  | 62 => ⟨S8x4096x2, .i32⟩
  | 63 => ⟨S_, .f32⟩
  | 64 => ⟨S8x4096, .f32⟩
  | 65 => ⟨S_, .f32⟩
  | 66 => ⟨S8x4096, .f32⟩
  | 67 => ⟨S8x4096, .f32⟩
  | 68 => ⟨S8x4096x1, .f32⟩
  | 69 => ⟨S8x4096x2, .f32⟩
  | 70 => ⟨S8x4096x2, .f32⟩
  | 71 => ⟨S8x4096x2, .f32⟩
  | 72 => ⟨S_, .f32⟩
  | 73 => ⟨S8x4096, .f32⟩
  | 74 => ⟨S8x4096x1, .f32⟩
  | 75 => ⟨S8x4096x2, .f32⟩
  | 76 => ⟨S8x4096x2, .f32⟩
  | 77 => ⟨S8x4096x1, .f32⟩
  | 78 => ⟨S8x4096x2, .f32⟩
  | 79 => ⟨S8x4096x2, .f32⟩
  | 80 => ⟨S8x4096x1, .i32⟩
  | 81 => ⟨S_, .i32⟩
  | 82 => ⟨S8x4096x1, .i32⟩
  | 83 => ⟨S8x4096x1, .i32⟩
  | 84 => ⟨S8x4096x2, .i32⟩
  | 85 => ⟨S8x4096x2, .i32⟩
  | 86 => ⟨S8x4096x2x1, .i32⟩
  | 87 => ⟨S1x1x1x32, .i32⟩
  | 88 => ⟨S8x4096x2x32, .i32⟩
  | 89 => ⟨S8x4096x2x32, .i32⟩
  | 90 => ⟨S8x4096x2x32, .i1⟩
  | 91 => ⟨S8x4096x2x32, .f32⟩
  | 92 => ⟨S8x4096x2x1, .f32⟩
  | 93 => ⟨S8x4096x2x32, .f32⟩
  | 94 => ⟨S8x4096x2x32, .f32⟩
  | 95 => ⟨S_, .f32⟩
  | 96 => ⟨S8x4096x32, .f32⟩
  | 97 => ⟨S8x4096x32x256, .f32⟩
  | 98 => ⟨S8x4096x32x256, .f32⟩
  | 99 => ⟨S8x4096x32x256, .f32⟩
  | 100 => ⟨S8x4096x32x256, .f32⟩
  | 101 => ⟨S_, .f32⟩
  | 102 => ⟨S8x4096x32x256, .f32⟩
  | 103 => ⟨S8x4096x32x256, .f32⟩
  | 104 => ⟨S_, .f32⟩
  | 105 => ⟨S8x4096x32x256, .f32⟩
  | 106 => ⟨S8x4096x32x256, .f32⟩
  | 107 => ⟨S8x4096x32x256, .f32⟩
  | 108 => ⟨S8x4096x32x256, .f32⟩
  | 109 => ⟨S8x4096x32x1, .f32⟩
  | 110 => ⟨S8x4096x32x256, .f32⟩
  | 111 => ⟨S8x4096x32x256, .f32⟩
  | 112 => ⟨S8x4096x2048, .f32⟩
  | 113 => ⟨S8x4096x2048, .f32⟩
  | 114 => ⟨S8x4096x2048, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S_, .f32⟩
  | 122 => ⟨S8x4096x1, .f32⟩
  | 123 => ⟨S8x4096x1, .f32⟩
  | 124 => ⟨S8x4096x1, .f32⟩
  | 125 => ⟨S8x4096x2048, .f32⟩
  | 126 => ⟨S8x4096x2048, .f32⟩
  | 127 => ⟨S1x1x2048, .f32⟩
  | _ => ⟨S8x4096x2048, .f32⟩

abbrev hbmTy0_1 (i : Nat) : BufTy := match i % 128 with
  | 0 => ⟨S8x4096x2048, .f32⟩
  | 1 => ⟨S8x4096x2048, .f32⟩
  | 2 => ⟨S32768x2048, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_values : Ref sig .tc := ⟨.hbm, 30, rfl⟩
abbrev main_indices : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v35 : Ref sig .tc := ⟨.hbm, 59, rfl⟩
abbrev main_v36 : Ref sig .tc := ⟨.hbm, 60, rfl⟩
abbrev main_values_6 : Ref sig .tc := ⟨.hbm, 61, rfl⟩
abbrev main_indices_7 : Ref sig .tc := ⟨.hbm, 62, rfl⟩
abbrev main_cst_8 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_cst_13 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩

abbrev nD : Nat := 1
abbrev τ : Topo := Topo.v7x

variable {F : FTy → Type} [FloatOps F]
-- ==== Proof.Safe.lean ====
/-
  Memory safety of a kernel body, by its structure alone. A body whose effects are loads and stores through whole
  memrefs is safe when every memref it touches is owned at SOME contents: no value has to be followed through a load,
  a loop or a branch. `Safe R p` says that `p`, run from the resources `R`, ends with `R` again.
-/
module

public import Idealize.ShloMosaic.Lib.Pipeline.Frame
public import Idealize.ShloMosaic.Lib.Ring
public import Idealize.ShloMosaic.Lib.Exec
public import Idealize.ShloMosaic.Lib.ReshapeSlab
public import Idealize.ShloMosaic.Lib.Tactic

@[expose] public section

noncomputable section

namespace Cert.Proof.Safety

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {defs : Defs nD τ sig Val Λ} {c : Thread nD τ}

local notation "𝕄" => MT nD τ sig Unit Val ℕ (UR sig nD τ) ℕ

/-- `p` runs from the resources `R` back to `R`, whatever it returns. -/
def Safe {α : Type} (defs : Defs nD τ sig Val Λ) (c : Thread nD τ) (R : sProp 𝕄) (p : Prog (TpuEff nD τ sig Val Λ c.2) α) : Prop :=
  R ⊢ wp frame (wpE defs Variants.none c none) Set.univ p (fun _ => R)

/-- The resources `R` hold the memref `m` whole, at some contents, and take it back at any other. -/
def Held (R : sProp 𝕄) {sp : Space} {s : Shape} {e : EltTy} (m : Memref sig c.2.kind sp s e) : Prop :=
  R ⊢ iprop((∃ f, m.view.loc c ↦[m.view.set]{fullShare} f) ∗ ((∃ f, m.view.loc c ↦[m.view.set]{fullShare} f) -∗ R))

variable {R : sProp (MT nD τ sig Unit Val ℕ (UR sig nD τ) ℕ)}

/-- Returning touches nothing. -/
theorem safe_ret {α : Type} (a : α) : Safe defs c R (pure a) := le_wp_ret _ _ _ a (fun _ => R)

/-- One program after another. -/
theorem safe_bind {α β : Type} {p : Prog (TpuEff nD τ sig Val Λ c.2) α} {k : α → Prog (TpuEff nD τ sig Val Λ c.2) β}
    (hp : Safe defs c R p) (hk : ∀ a, Safe defs c R (k a)) : Safe defs c R (p >>= k) := by
  unfold Safe
  rw [wp_bind]
  exact BIBase.Entails.trans hp (wp_mono _ _ _ fun a => hk a)

/-- A counted loop whose region is safe at every trip and every carried value. -/
theorem safe_for {σ : Type} {w : Nat} {lb ub st : BitVec w} {hok : Scf.OK lb ub st} {init : σ}
    {body : Fin (Scf.trips lb ub st) → σ → Prog (TpuEff nD τ sig Val Λ c.2) σ}
    (hb : ∀ k acc, Safe defs c R (body k acc)) : Safe defs c R (Scf.for lb ub st hok init body) := by
  unfold Safe
  refine BIBase.Entails.trans ?_ (Scf.wp_for frame _ Set.univ lb ub st hok init body (fun _ _ => R) fun k acc => hb k acc)
  iintro H
  isplitl [H]; · iexact H
  iintro %acc H
  iexact H

/-- A branch whose two sides are safe, each under its condition. -/
theorem safe_dite {α : Type} {C : Prop} [Decidable C] {p : C → Prog (TpuEff nD τ sig Val Λ c.2) α}
    {q : ¬C → Prog (TpuEff nD τ sig Val Λ c.2) α} (hp : ∀ h, Safe defs c R (p h)) (hq : ∀ h, Safe defs c R (q h)) :
    Safe defs c R (if h : C then p h else q h) := by
  split
  · exact hp _
  · exact hq _

/-- The same of a branch that does not use its condition. -/
theorem safe_ite {α : Type} {C : Prop} [Decidable C] {p q : Prog (TpuEff nD τ sig Val Λ c.2) α}
    (hp : Safe defs c R p) (hq : Safe defs c R q) : Safe defs c R (if C then p else q) := by
  split
  · exact hp
  · exact hq

/-- A load through a memref held. -/
theorem safe_load {cs : CoreSpace} {s : Shape} {e : EltTy} {m : Memref sig c.2.kind cs s e} {r : LoadRect s}
    {hl : m.view.LoadsAt r} (hm : Held (c := c) R m) :
    Safe defs c R (Prog.lift (.load m r hl)) := by
  unfold Safe
  refine BIBase.Entails.trans hm ?_
  iintro ⟨⟨%f, H⟩, HK⟩
  iapply (wp_load Variants.none c none Set.univ (hl := hl) (k := .ret) (m.view.setOn_subset_set _)) $$ [H]
  · iexact H
  iintro H
  iapply le_wp_ret
  iapply HK
  iexists f
  iexact H

/-- A store through a memref held. -/
theorem safe_store {cs : CoreSpace} {s : Shape} {e : EltTy} {m : Memref sig c.2.kind cs s e} {r : Rect s}
    {w : r.shape.Idx → Val e} {Mk : Finset r.shape.Idx} {hx : (m.access r).Stores Mk}
    {hs : Mk = Finset.univ ∨ ∀ a, r.stride a = 1} (hm : Held (c := c) R m) :
    Safe defs c R (Prog.lift (.store m r w Mk hx hs)) := by
  unfold Safe
  refine BIBase.Entails.trans hm ?_
  iintro ⟨⟨%f, H⟩, HK⟩
  iapply (wp_store Variants.none c none Set.univ (hx := hx) (hm := hs) (k := .ret) (S := m.view.set) (f := f)
    (((m.access r).setOn_subset_set Mk).trans (m.view.set_slice_subset r))) $$ [H]
  · iexact H
  iintro H
  iapply le_wp_ret
  iapply HK
  iexists _
  iexact H

/-! ## A list of memrefs held together -/

/-- The memref `m` owned whole at some contents. -/
def own1 (c : Thread nD τ) {sp : Space} {s : Shape} {e : EltTy} (m : Memref sig c.2.kind sp s e) : sProp 𝕄 :=
  iprop(∃ f, m.view.loc c ↦[m.view.set]{fullShare} f)

/-- The head of a chain of resources is held by it. -/
theorem held_head {sp : Space} {s : Shape} {e : EltTy} (m : Memref sig c.2.kind sp s e) (Q : sProp 𝕄) :
    Held (c := c) iprop(own1 c m ∗ Q) m := by
  unfold Held own1
  iintro ⟨H, HQ⟩
  isplitl [H]; · iexact H
  iintro H
  isplitl [H]; · iexact H
  iexact HQ

/-- A chain of one. -/
theorem held_self {sp : Space} {s : Shape} {e : EltTy} (m : Memref sig c.2.kind sp s e) : Held (c := c) (own1 c m : sProp 𝕄) m := by
  unfold Held own1
  iintro H
  isplitl [H]; · iexact H
  iintro H
  iexact H

/-- What the rest of a chain holds, the chain holds. -/
theorem held_tail {sp : Space} {s : Shape} {e : EltTy} {m : Memref sig c.2.kind sp s e} {P Q : sProp 𝕄}
    (h : Held (c := c) Q m) : Held (c := c) iprop(P ∗ Q) m := by
  unfold Held at h ⊢
  refine BIBase.Entails.trans (sep_mono_right h) ?_
  iintro ⟨HP, H, HK⟩
  isplitl [H]; · iexact H
  iintro H
  isplitl [HP]; · iexact HP
  iapply HK
  iexact H

/-- Owned at named contents is owned at some. -/
theorem own1_of_owns {sp : Space} {s : Shape} {e : EltTy} (m : Memref sig c.2.kind sp s e) :
    iprop(∃ X, owns c m fullShare X) ⊢ (own1 c m : sProp 𝕄) := by
  unfold own1 owns
  iintro ⟨%X, %f, -, H⟩
  iexists f; iexact H

/-- Owned at some contents is owned at what the memref reads of them. -/
theorem owns_of_own1 {sp : Space} {s : Shape} {e : EltTy} (m : Memref sig c.2.kind sp s e) :
    (own1 c m : sProp 𝕄) ⊢ iprop(∃ X, owns c m fullShare X) := by
  unfold own1 owns
  iintro ⟨%f, H⟩
  iexists _, f
  isplitr; · ipureintro; rfl
  iexact H

/-- A safe program run beside resources it does not touch. -/
theorem Safe.run {α : Type} {p : Prog (TpuEff nD τ sig Val Λ c.2) α} (h : Safe defs c R p) {P X Q : sProp 𝕄}
    (hP : P ⊢ iprop(R ∗ X)) (hQ : iprop(R ∗ X) ⊢ Q) :
    P ⊢ wp frame (wpE defs Variants.none c none) Set.univ p (fun _ => Q) :=
  hP.trans ((sep_mono_left h).trans ((wp_frame_r _ _ _).trans (wp_mono _ _ _ fun _ => hQ)))

-- a goal `Safe R p` stays one: only the lemmas above take it apart
attribute [irreducible] Safe Held

end Cert.Proof.Safety

end
-- ==== Proof.Dsa.lean ====
/-
  The frame of the sparse attention kernel `dsa_t`: its body is safe by its structure (Proof/Safe.lean), at any value
  instance, so that the launch ends with every argument array as it found it and every counter at zero.
-/
module

public import proofs.«01_k».proof.Proof.Safe
public import proofs.«01_k».proof.Proof.Gen.Kernel.Frame
public import proofs.«01_k».proof.Defs

@[expose] public section

set_option maxRecDepth 16384

noncomputable section

namespace Cert.Proof.Dsa

open Cert.Kernel Cert.Kernel.Gen Cert.Proof.Safety
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]
variable {c : Dev nD} {R : sProp (MT nD τ sig Unit (Elt F) ℕ (UR sig nD τ) ℕ)}
variable (i : grid0.Coords)
variable (arg2 : Memref sig .tc .vmem S1x256x1024 .bf16) (arg3 : Memref sig .tc .vmem S1x256x512 .bf16) (arg4 : Memref sig .tc .vmem S1x256x128 .f32) (arg5 : Memref sig .tc .vmem S1x4096x256 .bf16) (arg6 : Memref sig .tc .vmem S1x16x256x256 .bf16) (arg7 : Memref sig .tc .vmem S1x4096x128 .bf16) (arg8 : Memref sig .tc .vmem S1x4096x128 .bf16) (arg9 : Memref sig .tc .vmem S8x512x256 .f32) (arg10 : Memref sig .tc .vmem S512x256 .f32) (arg11 : Memref sig .tc .vmem S1x256x1024 .bf16) (arg12 : Memref sig .tc .vmem S16x256x256 .i32) (arg13 : Memref sig .tc .vmem S4x16x256x256 .bf16) (arg14 : Memref sig .tc .vmem S16x256x256 .f32) (arg15 : Memref sig .tc .vmem S2x1024x128 .bf16) (arg16 : Memref sig .tc .vmem S8x256 .f32) (arg17 : Memref sig .tc .vmem S2x128x1024 .f32) (arg18 : Memref sig .tc .vmem S24x256x256 .f32)
variable (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
variable (H2 : Held (c := (c : Thread nD τ)) R arg2) (H3 : Held (c := (c : Thread nD τ)) R arg3) (H4 : Held (c := (c : Thread nD τ)) R arg4) (H5 : Held (c := (c : Thread nD τ)) R arg5) (H6 : Held (c := (c : Thread nD τ)) R arg6) (H7 : Held (c := (c : Thread nD τ)) R arg7) (H8 : Held (c := (c : Thread nD τ)) R arg8) (H9 : Held (c := (c : Thread nD τ)) R arg9) (H10 : Held (c := (c : Thread nD τ)) R arg10) (H11 : Held (c := (c : Thread nD τ)) R arg11) (H12 : Held (c := (c : Thread nD τ)) R arg12) (H13 : Held (c := (c : Thread nD τ)) R arg13) (H14 : Held (c := (c : Thread nD τ)) R arg14) (H15 : Held (c := (c : Thread nD τ)) R arg15) (H16 : Held (c := (c : Thread nD τ)) R arg16) (H17 : Held (c := (c : Thread nD τ)) R arg17) (H18 : Held (c := (c : Thread nD τ)) R arg18)

section Body
include H2 H3 H4 H5 H6 H7 H8 H9 H10 H11 H12 H13 H14 H15 H16 H17 H18

set_option maxHeartbeats 8000000 in
/-- The kernel's body is safe from any resources that hold its ten windows' staging memrefs and its seven scratch
    memrefs: every load and store is in a memref held, every loop and branch is gone through at any values. -/
theorem safe_body : Safe (defs₀ (F := F)) (c : Thread nD τ) R (cc0_dsa_t i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  unfold cc0_dsa_t
  repeat' first
    | with_reducible intro _
    | with_reducible exact safe_ret _
    | with_reducible refine safe_bind ?_ ?_
    | (with_reducible refine safe_load ?_; assumption)
    | (with_reducible refine safe_store ?_; assumption)
    | with_reducible refine safe_for ?_
    | with_reducible refine safe_dite ?_ ?_
    | with_reducible refine safe_ite ?_ ?_
    | refine safe_bind ?_ ?_
    | exact safe_ret _
    | refine safe_for ?_
    | refine safe_dite ?_ ?_
    | refine safe_ite ?_ ?_

end Body

/-! ## The proof data and the body obligation -/

variable (m : (ℓ : Loc nD τ sig) → Buf (Elt F) ℓ) (ρ : Dev nD → PrngReg)

/-- What the body needs at point `t`: each staging memref and each scratch buffer, at some contents, and nothing else. -/
def held (c : Dev nD) (t : Fin cfg0.N) : sProp (MT nD τ sig Unit (Elt F) ℕ (UR sig nD τ) ℕ) :=
  iprop(own1 (c : Thread nD τ) (win0_0.stage (cfg0.slots t 0)) ∗ own1 (c : Thread nD τ) (win0_1.stage (cfg0.slots t 1)) ∗ own1 (c : Thread nD τ) (win0_2.stage (cfg0.slots t 2)) ∗ own1 (c : Thread nD τ) (win0_3.stage (cfg0.slots t 3)) ∗ own1 (c : Thread nD τ) (win0_4.stage (cfg0.slots t 4)) ∗ own1 (c : Thread nD τ) (win0_5.stage (cfg0.slots t 5)) ∗ own1 (c : Thread nD τ) (win0_6.stage (cfg0.slots t 6)) ∗ own1 (c : Thread nD τ) (win0_7.stage (cfg0.slots t 7)) ∗ own1 (c : Thread nD τ) (win0_8.stage (cfg0.slots t 8)) ∗ own1 (c : Thread nD τ) (win0_9.stage (cfg0.slots t 9)) ∗ own1 (c : Thread nD τ) (Memref.whole cc0_scratch0) ∗ own1 (c : Thread nD τ) (Memref.whole cc0_scratch1) ∗ own1 (c : Thread nD τ) (Memref.whole cc0_scratch2) ∗ own1 (c : Thread nD τ) (Memref.whole cc0_scratch3) ∗ own1 (c : Thread nD τ) (Memref.whole cc0_scratch4) ∗ own1 (c : Thread nD τ) (Memref.whole cc0_scratch5) ∗ own1 (c : Thread nD τ) (Memref.whole cc0_scratch6))

/-- The body at point `t` runs from what it needs back to it. -/
theorem safe_bodyAt (c : Dev nD) (t : Fin cfg0.N) :
    Safe (defs₀ (F := F)) (c : Thread nD τ) (held c t) (bodyAt0 t) := by
  unfold bodyAt0 held
  apply safe_body <;> repeat (first | exact held_head _ _ | exact held_self _ | apply held_tail)

/-- Every window is forgotten: the claim reads no staging buffer, and of the arrays only the inputs, which no
    write-back touches. -/
def forgets0 : Fin 10 → Bool := fun _ => true

/-- The proof data on core `c`: the arrays as the launch finds them, nothing said of what the body leaves. -/
def dats [∀ e, Nonempty (Elt F e)] (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

variable [∀ e, Nonempty (Elt F e)]

/-- The scratch, buffer by buffer. -/
theorem scratch_eq (c : Dev nD) :
    (Pipeline.scopedRest (Ix := Unit) (Name := ℕ) (U := UR sig nD τ) (Lvl := ℕ) (Val := Elt F) spec0 c : sProp (MT nD τ sig Unit (Elt F) ℕ (UR sig nD τ) ℕ))
      = iprop(own1 (c : Thread nD τ) (Memref.whole cc0_scratch0) ∗ own1 (c : Thread nD τ) (Memref.whole cc0_scratch1) ∗ own1 (c : Thread nD τ) (Memref.whole cc0_scratch2) ∗ own1 (c : Thread nD τ) (Memref.whole cc0_scratch3) ∗ own1 (c : Thread nD τ) (Memref.whole cc0_scratch4) ∗ own1 (c : Thread nD τ) (Memref.whole cc0_scratch5) ∗ own1 (c : Thread nD τ) (Memref.whole cc0_scratch6)) := by
  rw [scopedRest0_eq]
  simp only [own1, Memref.view_whole, View.set_whole]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- What the body is handed at point `t`, and what it gives back. -/
def around (c : Dev nD) (t : Fin cfg0.N) : sProp (MT nD τ sig Unit (Elt F) ℕ (UR sig nD τ) ℕ) :=
  iprop(Pipeline.ΦA spec0 c ∗ (dats m 0 c).owesAt () t.castSucc ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))

/-- What the body needs is taken out of the invariant and the staging buffers, and given back. -/
theorem sound_body (c : Dev nD) (t : Fin cfg0.N) :
    around m c t ⊢ wp frame (wpE (defs₀ (F := F)) Variants.none c none) Set.univ (bodyAt0 t) (fun _ => around m c t) := by
  refine (safe_bodyAt c t).run (X := iprop((∃ r, prngReg c r) ∗ (dats m 0 c).owesAt () t.castSucc)) ?_ ?_
  · unfold around Pipeline.ΦA held
    rw [scratch_eq]
    iintro ⟨⟨⟨C0, C1, C2, C3, C4, C5, C6⟩, Hg⟩, HO, S0, S1, S2, S3, S4, S5, S6, S7, S8, S9⟩
    isplitr [Hg HO]
    · isplitl [S0]; · iapply own1_of_owns; iexact S0
      isplitl [S1]; · iapply own1_of_owns; iexact S1
      isplitl [S2]; · iapply own1_of_owns; iexact S2
      isplitl [S3]; · iapply own1_of_owns; iexact S3
      isplitl [S4]; · iapply own1_of_owns; iexact S4
      isplitl [S5]; · iapply own1_of_owns; iexact S5
      isplitl [S6]; · iapply own1_of_owns; iexact S6
      isplitl [S7]; · iapply own1_of_owns; iexact S7
      isplitl [S8]; · iapply own1_of_owns; iexact S8
      isplitl [S9]; · iapply own1_of_owns; iexact S9
      isplitl [C0]; · iexact C0
      isplitl [C1]; · iexact C1
      isplitl [C2]; · iexact C2
      isplitl [C3]; · iexact C3
      isplitl [C4]; · iexact C4
      isplitl [C5]; · iexact C5
      iexact C6
    isplitl [Hg]; · iexact Hg
    iexact HO
  · unfold around Pipeline.ΦA held
    rw [scratch_eq]
    iintro ⟨⟨S0, S1, S2, S3, S4, S5, S6, S7, S8, S9, C0, C1, C2, C3, C4, C5, C6⟩, Hg, HO⟩
    isplitl [C0 C1 C2 C3 C4 C5 C6 Hg]
    · isplitr [Hg]
      · isplitl [C0]; · iexact C0
        isplitl [C1]; · iexact C1
        isplitl [C2]; · iexact C2
        isplitl [C3]; · iexact C3
        isplitl [C4]; · iexact C4
        isplitl [C5]; · iexact C5
        iexact C6
      iexact Hg
    isplitl [HO]; · iexact HO
    isplitl [S0]; · iapply owns_of_own1; iexact S0
    isplitl [S1]; · iapply owns_of_own1; iexact S1
    isplitl [S2]; · iapply owns_of_own1; iexact S2
    isplitl [S3]; · iapply owns_of_own1; iexact S3
    isplitl [S4]; · iapply owns_of_own1; iexact S4
    isplitl [S5]; · iapply owns_of_own1; iexact S5
    isplitl [S6]; · iapply owns_of_own1; iexact S6
    isplitl [S7]; · iapply owns_of_own1; iexact S7
    isplitl [S8]; · iapply owns_of_own1; iexact S8
    iapply owns_of_own1; iexact S9

/-- The library's body obligation, every window forgotten. -/
theorem body_obligation (c : Dev nD) :
    BodyObligation (dats m 0 c) (defs₀ (F := F)) Variants.none () Set.univ forgets0 := fun t => by
  rw [bigSep_W0, bigSep_W0, defs₀_row]
  exact triple_restated (sound_body m c t) rfl .rfl fun _ => .rfl

/-- The launch, at any value instance: from any memory with zero counters every weakly fair execution terminates, every
    input array as it was at launch and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := fun _ _ => rfl)
    (hΦ := fun _ _ => rfl)

/-- The frame of the sparse attention kernel: every run ends, every argument array holds what it held, every counter is
    back at zero. -/
theorem frame : Cert.quiescent_Kernel := fun m ρ _ =>
  (θ_run Cert.Kernel.defs _ _).mono
    (fun _ h => ⟨fun c => ⟨h.1.arr_in c 0 rfl, h.1.arr_in c 1 rfl, h.1.arr_in c 2 rfl, h.1.arr_in c 3 rfl, h.1.arr_in c 4 rfl,
      h.1.arr_in c 5 rfl, h.1.arr_in c 6 rfl, h.1.arr_in c 7 rfl, h.1.arr_in c 8 rfl⟩, h.2⟩)
    (run_main (F := Bits) m ρ)

end Cert.Proof.Dsa

end
-- ==== Proof.Rms.lean ====
/- The row-wise normalisation both programs of each pair compute, as one scalar function, and the one fact about zero
   offsets that the whole-buffer loads and stores need. -/
module

public import Idealize.ShloMosaic.Lib.Pointwise
public import Idealize.ShloMosaic.Lib.Pipeline.Value

@[expose] public section

noncomputable section

namespace Cert.Proof

open Idealize.ShloMosaic

/-- Coordinate `k` of the RMS-normalised row `x` with gains `g`: `x k · rsqrt ((∑ x²) / 2048 + ε) · g k`, the two
    constants as the programs' float words. -/
def rmsRow (x g : Fin 2048 → EReal) (k : Fin 2048) : EReal :=
  x k * Ideal.rsqrt (Ideal.div (∑ j, x j * x j) (Ideal.ofBits FTy.f32 1157627904#32) + Ideal.ofBits FTy.f32 897988541#32) * g k

/-- The all-zero offsets of a load or store of a whole rank-two buffer. -/
theorem zeros2 : (![0, 0] : Fin 2 → Nat) = fun _ => 0 := funext fun a => by fin_cases a <;> rfl

end Cert.Proof

end
-- ==== Proof.Layout.lean ====
/- The layer's input projection: the weights as the kernel's host code lays them side by side (queries scaled, index keys
   twice more with zeros beside), column range by column range, and the normalised row's product with a column. -/
module

public import proofs.«01_k».proof.Defs
public import proofs.«01_k».proof.Proof.Gen.KernelInIdeal
public import proofs.«01_k».proof.Proof.Rms

@[expose] public section

set_option maxRecDepth 16384

noncomputable section

namespace Cert.Proof.Layout

open Cert.KernelInIdeal Cert.KernelInIdeal.Gen
open Idealize.ShloMosaic Idealize.ShloMosaic.TcCoe Idealize.SL.Sem

/-- The product of a row, normalised with the gains `g`, with a column. -/
def col (x g w : Fin 2048 → EReal) : EReal := ∑ k, rmsRow x g k * w k

/-- A finite nonnegative factor of every element comes out of a column's product. -/
theorem sum_scale {n : ℕ} (h w : Fin n → EReal) (s : EReal) (h0 : 0 ≤ s) (ht : s ≠ ⊤) : ∑ k, h k * (w k * s) = (∑ k, h k * w k) * s := by
  rw [show (∑ k, h k * w k) * s = ∑ k, h k * w k * s from
    map_sum (⟨⟨fun a => a * s, zero_mul s⟩, fun a b => EReal.right_distrib_of_nonneg_of_ne_top h0 ht a b⟩ : EReal →+ EReal) _ _]
  exact Finset.sum_congr rfl fun k _ => (mul_assoc _ _ _).symm

theorem col_scale (x g w : Fin 2048 → EReal) (s : EReal) (h0 : 0 ≤ s) (ht : s ≠ ⊤) : col x g (fun k => w k * s) = col x g w * s :=
  sum_scale _ _ _ h0 ht

theorem col_zero (x g : Fin 2048 → EReal) : col x g (fun _ => 0) = 0 := by simp [col]

/-- The factor the queries' columns carry, as the rational its word spells. -/
theorem scale_eq : Ideal.ofBits FTy.f32 0x3E0293EE#32 = (((4278775 : ℝ) / 33554432 : ℝ) : EReal) := by
  simp [Ideal.ofBits, Ideal.ieee, -EReal.coe_mul]; norm_num

/-- It is finite and not negative. -/
theorem scale_nonneg : (0 : EReal) ≤ Ideal.ofBits FTy.f32 0x3E0293EE#32 := by
  rw [scale_eq]; exact EReal.coe_nonneg.2 (by norm_num)
theorem scale_ne_top : Ideal.ofBits FTy.f32 0x3E0293EE#32 ≠ (⊤ : EReal) := by
  rw [scale_eq]; exact EReal.coe_ne_top _

/-- The projection's weights as the kernel reads them. -/
abbrev laid (w : Vec Ideal S2048x3144 .f32) : Vec Ideal S2048x3456 .bf16 :=
  truncf (F := Ideal) .bf16 (concatenate S2048x3456 1 [
    ⟨S2048x1024, mulf (F := Ideal) (extractStridedSlice S2048x1024 ![0, 0] w slices_S2048x3144_S2048x1024_0_0)
      (broadcastInDim S2048x1024 ![] bcast_S_S2048x1024 (constant (F := Ideal) S_ .f32 0x3E0293EE#32))⟩,
    ⟨S2048x512, extractStridedSlice S2048x512 ![0, 1536] w slices_S2048x3144_S2048x512_0_1536⟩,
    ⟨S2048x256, extractStridedSlice S2048x256 ![0, 1024] w slices_S2048x3144_S2048x256_0_1024⟩,
    ⟨S2048x256, extractStridedSlice S2048x256 ![0, 1280] w slices_S2048x3144_S2048x256_0_1280⟩,
    ⟨S2048x64, extractStridedSlice S2048x64 ![0, 2048] w slices_S2048x3144_S2048x64_0_2048⟩,
    ⟨S2048x8, extractStridedSlice S2048x8 ![0, 2112] w slices_S2048x3144_S2048x8_0_2112⟩,
    ⟨S2048x56, broadcastInDim S2048x56 ![] bcast_S_S2048x56 (constant (F := Ideal) S_ .f32 0x00000000#32)⟩,
    ⟨S2048x64, extractStridedSlice S2048x64 ![0, 2048] w slices_S2048x3144_S2048x64_0_2048⟩,
    ⟨S2048x64, broadcastInDim S2048x64 ![] bcast_S_S2048x64 (constant (F := Ideal) S_ .f32 0x00000000#32)⟩,
    ⟨S2048x64, broadcastInDim S2048x64 ![] bcast_S_S2048x64 (constant (F := Ideal) S_ .f32 0x00000000#32)⟩,
    ⟨S2048x64, extractStridedSlice S2048x64 ![0, 2048] w slices_S2048x3144_S2048x64_0_2048⟩,
    ⟨S2048x1024, extractStridedSlice S2048x1024 ![0, 2120] w slices_S2048x3144_S2048x1024_0_2120⟩]
    concatenates_S2048x1024_S2048x512_S2048x256_S2048x256_S2048x64_S2048x8_S2048x56_S2048x64_S2048x64_S2048x64_S2048x64_S2048x1024_S2048x3456_d1) bitsLt_bf16_f32

variable (w : Vec Ideal S2048x3144 .f32) (k : Fin 2048)

/-- Equal columns, equal entries. -/
theorem entry_congr {a b : Fin 3144} (h : a.val = b.val) : w (ix2 k a) = w (ix2 k b) := by rw [Fin.ext h]

set_option maxHeartbeats 2000000 in
/-- The queries' columns. -/
theorem laid_q (l : Fin 1024) : laid w (ix2 k ⟨l.val, by omega⟩) = w (ix2 k ⟨l.val, by omega⟩) * Ideal.ofBits FTy.f32 0x3E0293EE#32 := by
  pointwise [laid]

set_option maxHeartbeats 2000000 in
/-- The index queries' columns. -/
theorem laid_qi (l : Fin 512) : laid w (ix2 k ⟨1024 + l.val, by omega⟩) = w (ix2 k ⟨1536 + l.val, by omega⟩) := by
  pointwise [laid]

set_option maxHeartbeats 2000000 in
/-- The keys' columns. -/
theorem laid_k (l : Fin 256) : laid w (ix2 k ⟨1536 + l.val, by omega⟩) = w (ix2 k ⟨1024 + l.val, by omega⟩) := by
  pointwise [laid]
  · repeat first
      | (refine (dif_pos ?_).trans ?_; · omega)
      | (refine (dif_neg ?_).trans ?_; · omega)
    first
      | rfl
      | exact entry_congr w k (by dsimp only; omega)

set_option maxHeartbeats 2000000 in
/-- The values' columns. -/
theorem laid_v (l : Fin 256) : laid w (ix2 k ⟨1792 + l.val, by omega⟩) = w (ix2 k ⟨1280 + l.val, by omega⟩) := by
  pointwise [laid]
  · repeat first
      | (refine (dif_pos ?_).trans ?_; · omega)
      | (refine (dif_neg ?_).trans ?_; · omega)
    first
      | rfl
      | exact entry_congr w k (by dsimp only; omega)

set_option maxHeartbeats 2000000 in
/-- The index keys' columns, the index weights' beside them, then zeros. -/
theorem laid_kiwi (l : Fin 128) : laid w (ix2 k ⟨2048 + l.val, by omega⟩) = if h : l.val < 72 then w (ix2 k ⟨2048 + l.val, by omega⟩) else 0 := by
  pointwise [laid]
  by_cases h : l.val < 72
  · rw [dif_pos h]
    by_cases h' : l.val < 64
    all_goals
      repeat first
        | (refine (dif_pos ?_).trans ?_; · omega)
        | (refine (dif_neg ?_).trans ?_; · omega)
      first
        | rfl
        | exact entry_congr w k (by dsimp only; omega)
  · rw [dif_neg h]
    repeat first
      | (refine (dif_pos ?_).trans ?_; · omega)
      | (refine (dif_neg ?_).trans ?_; · omega)
    first
      | rfl
      | exact entry_congr w k (by dsimp only; omega)

set_option maxHeartbeats 2000000 in
/-- The index keys' columns on the left. -/
theorem laid_kie (l : Fin 128) : laid w (ix2 k ⟨2176 + l.val, by omega⟩) = if h : l.val < 64 then w (ix2 k ⟨2048 + l.val, by omega⟩) else 0 := by
  pointwise [laid]
  by_cases h : l.val < 64
  · rw [dif_pos h]
    repeat first
      | (refine (dif_pos ?_).trans ?_; · omega)
      | (refine (dif_neg ?_).trans ?_; · omega)
    first
      | rfl
      | exact entry_congr w k (by dsimp only; omega)
  · rw [dif_neg h]
    repeat first
      | (refine (dif_pos ?_).trans ?_; · omega)
      | (refine (dif_neg ?_).trans ?_; · omega)
    first
      | rfl
      | exact entry_congr w k (by dsimp only; omega)

set_option maxHeartbeats 2000000 in
/-- The index keys' columns on the right. -/
theorem laid_kio (l : Fin 128) : laid w (ix2 k ⟨2304 + l.val, by omega⟩) = if h : l.val < 64 then 0 else w (ix2 k ⟨1984 + l.val, by omega⟩) := by
  pointwise [laid]
  by_cases h : l.val < 64
  · rw [dif_pos h]
    repeat first
      | (refine (dif_pos ?_).trans ?_; · omega)
      | (refine (dif_neg ?_).trans ?_; · omega)
    first
      | rfl
      | exact entry_congr w k (by dsimp only; omega)
  · rw [dif_neg h]
    repeat first
      | (refine (dif_pos ?_).trans ?_; · omega)
      | (refine (dif_neg ?_).trans ?_; · omega)
    first
      | rfl
      | exact entry_congr w k (by dsimp only; omega)

set_option maxHeartbeats 2000000 in
/-- The pool's columns. -/
theorem laid_u (l : Fin 1024) : laid w (ix2 k ⟨2432 + l.val, by omega⟩) = w (ix2 k ⟨2120 + l.val, by omega⟩) := by
  pointwise [laid]
  · repeat first
      | (refine (dif_pos ?_).trans ?_; · omega)
      | (refine (dif_neg ?_).trans ?_; · omega)
    first
      | rfl
      | exact entry_congr w k (by dsimp only; omega)

end Cert.Proof.Layout

end
-- ==== Proof.Blocks.lean ====
/- Rows and blocks of rows: where a row of a block lies in its array. -/
module

public import Idealize.ShloMosaic.Lib.Pointwise

@[expose] public section

namespace Cert.Proof.Blocks

open Idealize.ShloMosaic

/-- Every index of an array of rows is a row of the block that holds it. -/
theorem ix2_rows {N W : ℕ} {n : ℕ} (i : Shape.Idx ⟨2, ![N, W]⟩) (t : Fin n) (R : ℕ) (ht : t.val = (i 0).val / R) {h : t.val * R + (i 0).val % R < N} :
    (ix2 ⟨t.val * R + (i 0).val % R, h⟩ (i 1) : Shape.Idx ⟨2, ![N, W]⟩) = i :=
  funext fun a => Fin.ext (by
    match a with
    | ⟨0, _⟩ => show t.val * R + (i 0).val % R = (i 0).val; rw [ht, Nat.mul_comm]; exact Nat.div_add_mod _ _
    | ⟨1, _⟩ => rfl)

end Cert.Proof.Blocks

end
-- ==== Proof.In.lean ====
/- The layer's input projection over the rows of the prompt: the normalised matrix product kernel with its ten results, against
   the plain projection sliced into its parts, index by index at the ideal instance. -/
module

public import proofs.«01_k».proof.Defs
public import proofs.«01_k».proof.Proof.Gen.KernelInIdeal.Value
public import proofs.«01_k».proof.Proof.Gen.ReferenceInIdeal.Read
public import proofs.«01_k».proof.Proof.Layout
public import proofs.«01_k».proof.Proof.Blocks

@[expose] public section

set_option maxRecDepth 16384

noncomputable section

namespace Cert.Proof.In

open Cert.KernelInIdeal Cert.KernelInIdeal.Gen Cert.KernelInIdeal.Value
open Cert.Proof.Layout Cert.Proof.Blocks
open Idealize.ShloMosaic Idealize.ShloMosaic.TcCoe Idealize.SL.Sem
open Cert.ReferenceInIdeal.Read

/-- Row `n` of the layer's input, its two leading axes flattened. -/
abbrev row (x : Vec Ideal S8x4096x2048 .f32) (n : Fin 32768) (k : Fin 2048) : EReal :=
  x (ix3 ⟨n.val / 4096, by omega⟩ ⟨n.val % 4096, by omega⟩ k)

section Reference

variable (x : Vec Ideal S8x4096x2048 .f32) (g : Vec Ideal S2048 .f32) (w : Vec Ideal S2048x3144 .f32) (n : Fin 32768)

/-- The reference's projection at an index. -/
theorem proj_at (e : Fin 3144) :
    val_main_v14 (F := Ideal) x g w (ix2 n e) = col (row x n) (fun k => g (ix1 k)) (fun k => w (ix2 k e)) := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, col, rmsRow, row]

/-- The reference's result `v24` at an index, as a column of the laid weights. -/
theorem v24_at (l : Fin 1024) : val_main_v24 (F := Ideal) x g w (ix2 n l) =
    col (row x n) (fun k => g (ix1 k)) (fun k => laid w (ix2 k ⟨l.val, by omega⟩)) := by
  simp only [laid_q]
  rw [col_scale _ _ _ _ scale_nonneg scale_ne_top, ← proj_at]
  pointwise [val_main_v24, val_main_v23, val_main_v22, val_main_v15, val_main_cst_2]

/-- The reference's result `v25` at an index, as a column of the laid weights. -/
theorem v25_at (l : Fin 512) : val_main_v25 (F := Ideal) x g w (ix2 n l) =
    col (row x n) (fun k => g (ix1 k)) (fun k => laid w (ix2 k ⟨1024 + l.val, by omega⟩)) := by
  simp only [laid_qi]
  rw [← proj_at]
  pointwise [val_main_v25, val_main_v18]

/-- The reference's result `v16` at an index, as a column of the laid weights. -/
theorem v16_at (l : Fin 256) : val_main_v16 (F := Ideal) x g w (ix2 n l) =
    col (row x n) (fun k => g (ix1 k)) (fun k => laid w (ix2 k ⟨1536 + l.val, by omega⟩)) := by
  simp only [laid_k]
  rw [← proj_at]
  pointwise [val_main_v16]

/-- The reference's result `v26` at an index, as a column of the laid weights. -/
theorem v26_at (l : Fin 256) : val_main_v26 (F := Ideal) x g w (ix2 n l) =
    col (row x n) (fun k => g (ix1 k)) (fun k => laid w (ix2 k ⟨1536 + l.val, by omega⟩)) := by
  simp only [laid_k]
  rw [← proj_at]
  pointwise [val_main_v26, val_main_v16]

/-- The reference's result `v17` at an index, as a column of the laid weights. -/
theorem v17_at (l : Fin 256) : val_main_v17 (F := Ideal) x g w (ix2 n l) =
    col (row x n) (fun k => g (ix1 k)) (fun k => laid w (ix2 k ⟨1792 + l.val, by omega⟩)) := by
  simp only [laid_v]
  rw [← proj_at]
  pointwise [val_main_v17]

/-- The reference's result `v27` at an index, as a column of the laid weights. -/
theorem v27_at (l : Fin 256) : val_main_v27 (F := Ideal) x g w (ix2 n l) =
    col (row x n) (fun k => g (ix1 k)) (fun k => laid w (ix2 k ⟨1792 + l.val, by omega⟩)) := by
  simp only [laid_v]
  rw [← proj_at]
  pointwise [val_main_v27, val_main_v17]

/-- The reference's result `v29` at an index, as a column of the laid weights. -/
theorem v29_at (l : Fin 128) : val_main_v29 (F := Ideal) x g w (ix2 n l) =
    col (row x n) (fun k => g (ix1 k)) (fun k => laid w (ix2 k ⟨2048 + l.val, by omega⟩)) := by
  simp only [laid_kiwi]
  by_cases h : l.val < 72
  · simp only [dif_pos h]
    rw [← proj_at]
    by_cases h' : l.val < 64
    · pointwise [val_main_v29, val_main_v28, val_main_v20, val_main_v19, val_main_cst_3]
      exact dif_pos h'
    · pointwise [val_main_v29, val_main_v28, val_main_v20, val_main_v19, val_main_cst_3]
      exact (dif_neg h').trans ((dif_pos (by omega)).trans
        (congrArg (fun e => val_main_v14 (F := Ideal) x g w (ix2 n e)) (Fin.ext (by dsimp only; omega))))
  · simp only [dif_neg h]
    rw [col_zero]
    pointwise [val_main_v29, val_main_v28, val_main_v20, val_main_v19, val_main_cst_3]
    exact (dif_neg (by omega)).trans (dif_neg (by omega))

/-- The reference's result `v32` at an index, as a column of the laid weights. -/
theorem v32_at (l : Fin 128) : val_main_v32 (F := Ideal) x g w (ix2 n l) =
    col (row x n) (fun k => g (ix1 k)) (fun k => laid w (ix2 k ⟨2176 + l.val, by omega⟩)) := by
  simp only [laid_kie]
  by_cases h : l.val < 64
  · simp only [dif_pos h]
    rw [← proj_at]
    pointwise [val_main_v32, val_main_v31, val_main_v30, val_main_v19, val_main_cst_4]
    exact dif_pos h
  · simp only [dif_neg h]
    rw [col_zero]
    pointwise [val_main_v32, val_main_v31, val_main_v30, val_main_v19, val_main_cst_4]
    exact dif_neg h

/-- The reference's result `v35` at an index, as a column of the laid weights. -/
theorem v35_at (l : Fin 128) : val_main_v35 (F := Ideal) x g w (ix2 n l) =
    col (row x n) (fun k => g (ix1 k)) (fun k => laid w (ix2 k ⟨2304 + l.val, by omega⟩)) := by
  simp only [laid_kio]
  by_cases h : l.val < 64
  · simp only [dif_pos h]
    rw [col_zero]
    pointwise [val_main_v35, val_main_v34, val_main_v33, val_main_v19, val_main_cst_5]
    exact dif_pos h
  · simp only [dif_neg h]
    rw [← proj_at]
    pointwise [val_main_v35, val_main_v34, val_main_v33, val_main_v19, val_main_cst_5]
    exact (dif_neg h).trans (congrArg (fun e => val_main_v14 (F := Ideal) x g w (ix2 n e)) (Fin.ext (by dsimp only; omega)))

/-- The reference's result `v21` at an index, as a column of the laid weights. -/
theorem v21_at (l : Fin 1024) : val_main_v21 (F := Ideal) x g w (ix2 n l) =
    col (row x n) (fun k => g (ix1 k)) (fun k => laid w (ix2 k ⟨2432 + l.val, by omega⟩)) := by
  simp only [laid_u]
  rw [← proj_at]
  pointwise [val_main_v21]

end Reference

section Payloads

variable (x0 : Vec Ideal S512x2048 .f32) (x1 : Vec Ideal S1x2048 .f32) (r : Fin 512)

/-- The normalised rows at an index. -/
theorem pay1_at (k : Fin 2048) : k0_pay1 x0 x1 (ix2 r k) = rmsRow (fun k => x0 (ix2 r k)) (fun k => x1 (ix2 0 k)) k := by
  pointwise [k0_pay1, rmsRow]

theorem pay2_at (w : Vec Ideal S2048x1024 .bf16) (l : Fin 1024) :
    k0_pay2 x0 x1 w (ix2 r l) = col (fun k => x0 (ix2 r k)) (fun k => x1 (ix2 0 k)) (fun k => w (ix2 k l)) := by
  pointwise [k0_pay2, k0_pay1, col, rmsRow]

theorem pay3_at (w : Vec Ideal S2048x512 .bf16) (l : Fin 512) :
    k0_pay3 x0 x1 w (ix2 r l) = col (fun k => x0 (ix2 r k)) (fun k => x1 (ix2 0 k)) (fun k => w (ix2 k l)) := by
  pointwise [k0_pay3, k0_pay1, col, rmsRow]

theorem pay4_at (w : Vec Ideal S2048x256 .bf16) (l : Fin 256) :
    k0_pay4 x0 x1 w (ix2 r l) = col (fun k => x0 (ix2 r k)) (fun k => x1 (ix2 0 k)) (fun k => w (ix2 k l)) := by
  pointwise [k0_pay4, k0_pay1, col, rmsRow]

theorem pay5_at (w : Vec Ideal S2048x256 .bf16) (l : Fin 256) :
    k0_pay5 x0 x1 w (ix2 r l) = col (fun k => x0 (ix2 r k)) (fun k => x1 (ix2 0 k)) (fun k => w (ix2 k l)) := by
  pointwise [k0_pay5, k0_pay4, k0_pay1, col, rmsRow]

theorem pay6_at (w : Vec Ideal S2048x256 .bf16) (l : Fin 256) :
    k0_pay6 (k0_pay1 x0 x1) w (ix2 r l) = col (fun k => x0 (ix2 r k)) (fun k => x1 (ix2 0 k)) (fun k => w (ix2 k l)) := by
  pointwise [k0_pay6, k0_pay1, col, rmsRow]

theorem pay7_at (w : Vec Ideal S2048x256 .bf16) (l : Fin 256) :
    k0_pay7 (k0_pay1 x0 x1) w (ix2 r l) = col (fun k => x0 (ix2 r k)) (fun k => x1 (ix2 0 k)) (fun k => w (ix2 k l)) := by
  pointwise [k0_pay7, k0_pay6, k0_pay1, col, rmsRow]

theorem pay8_at (w : Vec Ideal S2048x128 .bf16) (l : Fin 128) :
    k0_pay8 (k0_pay1 x0 x1) w (ix2 r l) = col (fun k => x0 (ix2 r k)) (fun k => x1 (ix2 0 k)) (fun k => w (ix2 k l)) := by
  pointwise [k0_pay8, k0_pay1, col, rmsRow]

theorem pay9_at (w : Vec Ideal S2048x128 .bf16) (l : Fin 128) :
    k0_pay9 (k0_pay1 x0 x1) w (ix2 r l) = col (fun k => x0 (ix2 r k)) (fun k => x1 (ix2 0 k)) (fun k => w (ix2 k l)) := by
  pointwise [k0_pay9, k0_pay1, col, rmsRow]

theorem pay10_at (w : Vec Ideal S2048x128 .bf16) (l : Fin 128) :
    k0_pay10 (k0_pay1 x0 x1) w (ix2 r l) = col (fun k => x0 (ix2 r k)) (fun k => x1 (ix2 0 k)) (fun k => w (ix2 k l)) := by
  pointwise [k0_pay10, k0_pay1, col, rmsRow]

theorem pay11_at (w : Vec Ideal S2048x1024 .bf16) (l : Fin 1024) :
    k0_pay11 (k0_pay1 x0 x1) w (ix2 r l) = col (fun k => x0 (ix2 r k)) (fun k => x1 (ix2 0 k)) (fun k => w (ix2 k l)) := by
  pointwise [k0_pay11, k0_pay1, col, rmsRow]

end Payloads

/-- The input reshaped to rows, at an index. -/
theorem rows_at (x : Vec Ideal S8x4096x2048 .f32) (n : Fin 32768) (k : Fin 2048) :
    shapeCast S32768x2048 x shapeCasts_S8x4096x2048_S32768x2048 (ix2 n k) = row x n k := by
  pointwise [row]

/-- The gains as one row, at an index. -/
theorem gains_at (g : Vec Ideal S2048 .f32) (k : Fin 2048) : shapeCast S1x2048 g shapeCasts_S2048_S1x2048 (ix2 0 k) = g (ix1 k) := by
  pointwise

variable (m : (ℓ : Loc nD τ sig) → Buf (Elt Ideal) ℓ) (ρ : Dev nD → PrngReg)

/-- The rows' array as the kernel finds it: the input reshaped. -/
theorem V_x (c : Dev nD) : V m c main_v0 = shapeCast S32768x2048 (m (c.tc.loc main_arg0)) shapeCasts_S8x4096x2048_S32768x2048 := by
  unfold V; after_results <;> rfl

/-- The gains as the kernel finds them: one row. -/
theorem V_g (c : Dev nD) : V m c main_v15 = shapeCast S1x2048 (m (c.tc.loc main_arg1)) shapeCasts_S2048_S1x2048 := by
  unfold V; after_results <;> rfl

/-- The weights as the kernel finds them. -/
theorem V_w (c : Dev nD) : V m c main_v14 = laid (m (c.tc.loc main_arg2)) := by
  unfold V; after_results <;> rfl

/-- Where the windows' blocks lie at each point. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)

theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)

/-- Row `r` of point `t`'s block is this row of the array. -/
abbrev at_row (t : Fin cfg0.N) (r : Fin 512) : Fin 32768 := ⟨t.val * 512 + r.val, by have := t.isLt; have : cfg0.N = 64 := N_0; omega⟩

/-- The loaded rows at an index. -/
theorem x_at (c : Dev nD) (t : Fin cfg0.N) (r : Fin 512) (k : Fin 2048) :
    iblk m c 0 t (ix2 r k) = row (m (c.tc.loc main_arg0)) (at_row t r) k := by
  obtain ⟨e0, e1⟩ := idx0 t
  show V m c main_v0 (((cfg0.win 0).blk t).view.emb (ix2 r k)) = _
  rw [V_x, show ((cfg0.win 0).blk t).view.emb (ix2 r k) = ix2 (at_row t r) k from funext fun a => Fin.ext (by
    match a with
    | ⟨0, _⟩ => show win0_0.index t (0 : Fin 2) * 512 + 1 * r.val = t.val * 512 + r.val; omega
    | ⟨1, _⟩ => show win0_0.index t (1 : Fin 2) * 2048 + 1 * k.val = k.val; omega)]
  exact rows_at _ _ _

/-- The loaded gains at an index. -/
theorem g_at (c : Dev nD) (t : Fin cfg0.N) (k : Fin 2048) :
    iblk m c 1 t (ix2 0 k) = m (c.tc.loc main_arg1) (ix1 k) := by
  obtain ⟨e0, e1⟩ := idx1 t
  show V m c main_v15 (((cfg0.win 1).blk t).view.emb (ix2 0 k)) = _
  rw [V_g, show ((cfg0.win 1).blk t).view.emb (ix2 0 k) = ix2 0 k from funext fun a => Fin.ext (by
    match a with
    | ⟨0, _⟩ => show win0_1.index t (0 : Fin 2) * 1 + 1 * 0 = 0; omega
    | ⟨1, _⟩ => show win0_1.index t (1 : Fin 2) * 2048 + 1 * k.val = k.val; omega)]
  exact gains_at _ _

/-- The weights' block is the whole array. -/
theorem w_at (c : Dev nD) (t : Fin cfg0.N) (k : Fin 2048) (l : Fin 3456) :
    iblk m c 2 t (ix2 k l) = laid (m (c.tc.loc main_arg2)) (ix2 k l) := by
  obtain ⟨e0, e1⟩ := idx2 t
  show V m c main_v14 (((cfg0.win 2).blk t).view.emb (ix2 k l)) = _
  rw [V_w, show ((cfg0.win 2).blk t).view.emb (ix2 k l) = ix2 k l from funext fun a => Fin.ext (by
    match a with
    | ⟨0, _⟩ => show win0_2.index t (0 : Fin 2) * 2048 + 1 * k.val = k.val; omega
    | ⟨1, _⟩ => show win0_2.index t (1 : Fin 2) * 3456 + 1 * l.val = l.val; omega)]

/-- The arrays the reference's results are taken of. -/
abbrev A {α : Type} (m : (ℓ : Loc nD τ sig) → Buf (Elt Ideal) ℓ) (c : Dev nD) (f : Vec Ideal S8x4096x2048 .f32 → Vec Ideal S2048 .f32 → Vec Ideal S2048x3144 .f32 → α) : α :=
  f (m (c.tc.loc main_arg0)) (m (c.tc.loc main_arg1)) (m (c.tc.loc main_arg2))

/-- Where window 3's block lies in its array. -/
theorem emb3 (t : Fin cfg0.N) (j : Shape.Idx ⟨2, ![512, 1024]⟩) : ((cfg0.win 3).blk t).view.emb j = ix2 (at_row t (j 0)) (j 1) := by
  obtain ⟨e0, e1⟩ := idx3 t
  exact funext fun a => Fin.ext (by
    match a with
    | ⟨0, _⟩ => show win0_3.index t (0 : Fin 2) * 512 + 1 * (j 0).val = t.val * 512 + (j 0).val; omega
    | ⟨1, _⟩ => show win0_3.index t (1 : Fin 2) * 1024 + 1 * (j 1).val = (j 1).val; omega)

/-- What point `t` writes back through window 3 is its block of the reference's result. -/
theorem flushed3_eq (c : Dev nD) (t : Fin cfg0.N) :
    (dats m 0 c).flushed 3 t = ((cfg0.win 3).blk t).view.read (Elt Ideal) (A m c (val_main_v24 (F := Ideal))) := by
  rw [flushed3]; unfold out0_3
  rw [View.canon_unit_zero zeros2, View.ld_unit_zero zeros2, View.ld_unit_zero zeros2]
  funext j
  obtain ⟨r, l, rfl⟩ : ∃ (a : Fin 512) (b : Fin 1024), j = ix2 a b := ⟨j 0, j 1, eq_ix2 j⟩
  show k0_pay2 (iblk m c 0 t) (iblk m c 1 t) (View.ld (iblk m c 2 t) r0_2) (ix2 r l) = A m c (val_main_v24 (F := Ideal)) (((cfg0.win 3).blk t).view.emb (ix2 r l))
  rw [emb3, pay2_at]
  refine Eq.trans ?_ (v24_at _ _ _ _ l).symm
  have hw : ∀ k, View.ld (iblk m c 2 t) r0_2 (ix2 k l) = laid (m (c.tc.loc main_arg2)) (ix2 k ⟨l.val, by omega⟩) := fun k =>
    (show View.ld (iblk m c 2 t) r0_2 (ix2 k l) = iblk m c 2 t (ix2 k ⟨l.val, by omega⟩) from by pointwise).trans (w_at m c t k _)
  simp only [x_at, g_at, hw]
  rfl

/-- Window 3's array after the run. -/
theorem arr3 (c : Dev nD) : (dats m 0 c).arrAt 3 cfg0.N = A m c (val_main_v24 (F := Ideal)) :=
  (dats m 0 c).arrAt_eq_of_cover 3 _ (fun t _ => flushed3_eq m c t) fun i => by
    have hN : cfg0.N = 64 := N_0
    have h0 : (i 0 : Nat) < 32768 := (i 0).isLt
    let t : Fin cfg0.N := ⟨(i 0).val / 512, by omega⟩
    refine ⟨t, flush0_3 _, ?_⟩
    have h := ((cfg0.win 3).blk t).view.emb_mem_set (ix2 ⟨(i 0).val % 512, by omega⟩ (i 1) : Shape.Idx ⟨2, ![512, 1024]⟩)
    rw [emb3] at h
    exact cast (congrArg (· ∈ _) (ix2_rows i t 512 rfl)) h

/-- Where window 4's block lies in its array. -/
theorem emb4 (t : Fin cfg0.N) (j : Shape.Idx ⟨2, ![512, 512]⟩) : ((cfg0.win 4).blk t).view.emb j = ix2 (at_row t (j 0)) (j 1) := by
  obtain ⟨e0, e1⟩ := idx4 t
  exact funext fun a => Fin.ext (by
    match a with
    | ⟨0, _⟩ => show win0_4.index t (0 : Fin 2) * 512 + 1 * (j 0).val = t.val * 512 + (j 0).val; omega
    | ⟨1, _⟩ => show win0_4.index t (1 : Fin 2) * 512 + 1 * (j 1).val = (j 1).val; omega)

/-- What point `t` writes back through window 4 is its block of the reference's result. -/
theorem flushed4_eq (c : Dev nD) (t : Fin cfg0.N) :
    (dats m 0 c).flushed 4 t = ((cfg0.win 4).blk t).view.read (Elt Ideal) (A m c (val_main_v25 (F := Ideal))) := by
  rw [flushed4]; unfold out0_4
  rw [View.canon_unit_zero zeros2, View.ld_unit_zero zeros2, View.ld_unit_zero zeros2]
  funext j
  obtain ⟨r, l, rfl⟩ : ∃ (a : Fin 512) (b : Fin 512), j = ix2 a b := ⟨j 0, j 1, eq_ix2 j⟩
  show k0_pay3 (iblk m c 0 t) (iblk m c 1 t) (View.ld (iblk m c 2 t) r0_4) (ix2 r l) = A m c (val_main_v25 (F := Ideal)) (((cfg0.win 4).blk t).view.emb (ix2 r l))
  rw [emb4, pay3_at]
  refine Eq.trans ?_ (v25_at _ _ _ _ l).symm
  have hw : ∀ k, View.ld (iblk m c 2 t) r0_4 (ix2 k l) = laid (m (c.tc.loc main_arg2)) (ix2 k ⟨1024 + l.val, by omega⟩) := fun k =>
    (show View.ld (iblk m c 2 t) r0_4 (ix2 k l) = iblk m c 2 t (ix2 k ⟨1024 + l.val, by omega⟩) from by pointwise).trans (w_at m c t k _)
  simp only [x_at, g_at, hw]
  rfl

/-- Window 4's array after the run. -/
theorem arr4 (c : Dev nD) : (dats m 0 c).arrAt 4 cfg0.N = A m c (val_main_v25 (F := Ideal)) :=
  (dats m 0 c).arrAt_eq_of_cover 4 _ (fun t _ => flushed4_eq m c t) fun i => by
    have hN : cfg0.N = 64 := N_0
    have h0 : (i 0 : Nat) < 32768 := (i 0).isLt
    let t : Fin cfg0.N := ⟨(i 0).val / 512, by omega⟩
    refine ⟨t, flush0_4 _, ?_⟩
    have h := ((cfg0.win 4).blk t).view.emb_mem_set (ix2 ⟨(i 0).val % 512, by omega⟩ (i 1) : Shape.Idx ⟨2, ![512, 512]⟩)
    rw [emb4] at h
    exact cast (congrArg (· ∈ _) (ix2_rows i t 512 rfl)) h

/-- Where window 5's block lies in its array. -/
theorem emb5 (t : Fin cfg0.N) (j : Shape.Idx ⟨2, ![512, 256]⟩) : ((cfg0.win 5).blk t).view.emb j = ix2 (at_row t (j 0)) (j 1) := by
  obtain ⟨e0, e1⟩ := idx5 t
  exact funext fun a => Fin.ext (by
    match a with
    | ⟨0, _⟩ => show win0_5.index t (0 : Fin 2) * 512 + 1 * (j 0).val = t.val * 512 + (j 0).val; omega
    | ⟨1, _⟩ => show win0_5.index t (1 : Fin 2) * 256 + 1 * (j 1).val = (j 1).val; omega)

/-- What point `t` writes back through window 5 is its block of the reference's result. -/
theorem flushed5_eq (c : Dev nD) (t : Fin cfg0.N) :
    (dats m 0 c).flushed 5 t = ((cfg0.win 5).blk t).view.read (Elt Ideal) (A m c (val_main_v16 (F := Ideal))) := by
  rw [flushed5]; unfold out0_5
  rw [View.canon_unit_zero zeros2, View.ld_unit_zero zeros2, View.ld_unit_zero zeros2]
  funext j
  obtain ⟨r, l, rfl⟩ : ∃ (a : Fin 512) (b : Fin 256), j = ix2 a b := ⟨j 0, j 1, eq_ix2 j⟩
  show k0_pay4 (iblk m c 0 t) (iblk m c 1 t) (View.ld (iblk m c 2 t) r0_6) (ix2 r l) = A m c (val_main_v16 (F := Ideal)) (((cfg0.win 5).blk t).view.emb (ix2 r l))
  rw [emb5, pay4_at]
  refine Eq.trans ?_ (v16_at _ _ _ _ l).symm
  have hw : ∀ k, View.ld (iblk m c 2 t) r0_6 (ix2 k l) = laid (m (c.tc.loc main_arg2)) (ix2 k ⟨1536 + l.val, by omega⟩) := fun k =>
    (show View.ld (iblk m c 2 t) r0_6 (ix2 k l) = iblk m c 2 t (ix2 k ⟨1536 + l.val, by omega⟩) from by pointwise).trans (w_at m c t k _)
  simp only [x_at, g_at, hw]
  rfl

/-- Window 5's array after the run. -/
theorem arr5 (c : Dev nD) : (dats m 0 c).arrAt 5 cfg0.N = A m c (val_main_v16 (F := Ideal)) :=
  (dats m 0 c).arrAt_eq_of_cover 5 _ (fun t _ => flushed5_eq m c t) fun i => by
    have hN : cfg0.N = 64 := N_0
    have h0 : (i 0 : Nat) < 32768 := (i 0).isLt
    let t : Fin cfg0.N := ⟨(i 0).val / 512, by omega⟩
    refine ⟨t, flush0_5 _, ?_⟩
    have h := ((cfg0.win 5).blk t).view.emb_mem_set (ix2 ⟨(i 0).val % 512, by omega⟩ (i 1) : Shape.Idx ⟨2, ![512, 256]⟩)
    rw [emb5] at h
    exact cast (congrArg (· ∈ _) (ix2_rows i t 512 rfl)) h

/-- Where window 6's block lies in its array. -/
theorem emb6 (t : Fin cfg0.N) (j : Shape.Idx ⟨2, ![512, 256]⟩) : ((cfg0.win 6).blk t).view.emb j = ix2 (at_row t (j 0)) (j 1) := by
  obtain ⟨e0, e1⟩ := idx6 t
  exact funext fun a => Fin.ext (by
    match a with
    | ⟨0, _⟩ => show win0_6.index t (0 : Fin 2) * 512 + 1 * (j 0).val = t.val * 512 + (j 0).val; omega
    | ⟨1, _⟩ => show win0_6.index t (1 : Fin 2) * 256 + 1 * (j 1).val = (j 1).val; omega)

/-- What point `t` writes back through window 6 is its block of the reference's result. -/
theorem flushed6_eq (c : Dev nD) (t : Fin cfg0.N) :
    (dats m 0 c).flushed 6 t = ((cfg0.win 6).blk t).view.read (Elt Ideal) (A m c (val_main_v26 (F := Ideal))) := by
  rw [flushed6]; unfold out0_6
  rw [View.canon_unit_zero zeros2, View.ld_unit_zero zeros2, View.ld_unit_zero zeros2]
  funext j
  obtain ⟨r, l, rfl⟩ : ∃ (a : Fin 512) (b : Fin 256), j = ix2 a b := ⟨j 0, j 1, eq_ix2 j⟩
  show k0_pay5 (iblk m c 0 t) (iblk m c 1 t) (View.ld (iblk m c 2 t) r0_6) (ix2 r l) = A m c (val_main_v26 (F := Ideal)) (((cfg0.win 6).blk t).view.emb (ix2 r l))
  rw [emb6, pay5_at]
  refine Eq.trans ?_ (v26_at _ _ _ _ l).symm
  have hw : ∀ k, View.ld (iblk m c 2 t) r0_6 (ix2 k l) = laid (m (c.tc.loc main_arg2)) (ix2 k ⟨1536 + l.val, by omega⟩) := fun k =>
    (show View.ld (iblk m c 2 t) r0_6 (ix2 k l) = iblk m c 2 t (ix2 k ⟨1536 + l.val, by omega⟩) from by pointwise).trans (w_at m c t k _)
  simp only [x_at, g_at, hw]
  rfl

/-- Window 6's array after the run. -/
theorem arr6 (c : Dev nD) : (dats m 0 c).arrAt 6 cfg0.N = A m c (val_main_v26 (F := Ideal)) :=
  (dats m 0 c).arrAt_eq_of_cover 6 _ (fun t _ => flushed6_eq m c t) fun i => by
    have hN : cfg0.N = 64 := N_0
    have h0 : (i 0 : Nat) < 32768 := (i 0).isLt
    let t : Fin cfg0.N := ⟨(i 0).val / 512, by omega⟩
    refine ⟨t, flush0_6 _, ?_⟩
    have h := ((cfg0.win 6).blk t).view.emb_mem_set (ix2 ⟨(i 0).val % 512, by omega⟩ (i 1) : Shape.Idx ⟨2, ![512, 256]⟩)
    rw [emb6] at h
    exact cast (congrArg (· ∈ _) (ix2_rows i t 512 rfl)) h

/-- Where window 7's block lies in its array. -/
theorem emb7 (t : Fin cfg0.N) (j : Shape.Idx ⟨2, ![512, 256]⟩) : ((cfg0.win 7).blk t).view.emb j = ix2 (at_row t (j 0)) (j 1) := by
  obtain ⟨e0, e1⟩ := idx7 t
  exact funext fun a => Fin.ext (by
    match a with
    | ⟨0, _⟩ => show win0_7.index t (0 : Fin 2) * 512 + 1 * (j 0).val = t.val * 512 + (j 0).val; omega
    | ⟨1, _⟩ => show win0_7.index t (1 : Fin 2) * 256 + 1 * (j 1).val = (j 1).val; omega)

/-- What point `t` writes back through window 7 is its block of the reference's result. -/
theorem flushed7_eq (c : Dev nD) (t : Fin cfg0.N) :
    (dats m 0 c).flushed 7 t = ((cfg0.win 7).blk t).view.read (Elt Ideal) (A m c (val_main_v17 (F := Ideal))) := by
  rw [flushed7]; unfold out0_7 k0_pay12
  rw [View.canon_unit_zero zeros2, View.ld_unit_zero zeros2, View.ld_unit_zero zeros2]
  funext j
  obtain ⟨r, l, rfl⟩ : ∃ (a : Fin 512) (b : Fin 256), j = ix2 a b := ⟨j 0, j 1, eq_ix2 j⟩
  show k0_pay6 (k0_pay1 (iblk m c 0 t) (iblk m c 1 t)) (View.ld (iblk m c 2 t) r0_8) (ix2 r l) = A m c (val_main_v17 (F := Ideal)) (((cfg0.win 7).blk t).view.emb (ix2 r l))
  rw [emb7, pay6_at]
  refine Eq.trans ?_ (v17_at _ _ _ _ l).symm
  have hw : ∀ k, View.ld (iblk m c 2 t) r0_8 (ix2 k l) = laid (m (c.tc.loc main_arg2)) (ix2 k ⟨1792 + l.val, by omega⟩) := fun k =>
    (show View.ld (iblk m c 2 t) r0_8 (ix2 k l) = iblk m c 2 t (ix2 k ⟨1792 + l.val, by omega⟩) from by pointwise).trans (w_at m c t k _)
  simp only [x_at, g_at, hw]
  rfl

/-- Window 7's array after the run. -/
theorem arr7 (c : Dev nD) : (dats m 0 c).arrAt 7 cfg0.N = A m c (val_main_v17 (F := Ideal)) :=
  (dats m 0 c).arrAt_eq_of_cover 7 _ (fun t _ => flushed7_eq m c t) fun i => by
    have hN : cfg0.N = 64 := N_0
    have h0 : (i 0 : Nat) < 32768 := (i 0).isLt
    let t : Fin cfg0.N := ⟨(i 0).val / 512, by omega⟩
    refine ⟨t, flush0_7 _, ?_⟩
    have h := ((cfg0.win 7).blk t).view.emb_mem_set (ix2 ⟨(i 0).val % 512, by omega⟩ (i 1) : Shape.Idx ⟨2, ![512, 256]⟩)
    rw [emb7] at h
    exact cast (congrArg (· ∈ _) (ix2_rows i t 512 rfl)) h

/-- Where window 8's block lies in its array. -/
theorem emb8 (t : Fin cfg0.N) (j : Shape.Idx ⟨2, ![512, 256]⟩) : ((cfg0.win 8).blk t).view.emb j = ix2 (at_row t (j 0)) (j 1) := by
  obtain ⟨e0, e1⟩ := idx8 t
  exact funext fun a => Fin.ext (by
    match a with
    | ⟨0, _⟩ => show win0_8.index t (0 : Fin 2) * 512 + 1 * (j 0).val = t.val * 512 + (j 0).val; omega
    | ⟨1, _⟩ => show win0_8.index t (1 : Fin 2) * 256 + 1 * (j 1).val = (j 1).val; omega)

/-- What point `t` writes back through window 8 is its block of the reference's result. -/
theorem flushed8_eq (c : Dev nD) (t : Fin cfg0.N) :
    (dats m 0 c).flushed 8 t = ((cfg0.win 8).blk t).view.read (Elt Ideal) (A m c (val_main_v27 (F := Ideal))) := by
  rw [flushed8]; unfold out0_8 k0_pay12
  rw [View.canon_unit_zero zeros2, View.ld_unit_zero zeros2, View.ld_unit_zero zeros2]
  funext j
  obtain ⟨r, l, rfl⟩ : ∃ (a : Fin 512) (b : Fin 256), j = ix2 a b := ⟨j 0, j 1, eq_ix2 j⟩
  show k0_pay7 (k0_pay1 (iblk m c 0 t) (iblk m c 1 t)) (View.ld (iblk m c 2 t) r0_8) (ix2 r l) = A m c (val_main_v27 (F := Ideal)) (((cfg0.win 8).blk t).view.emb (ix2 r l))
  rw [emb8, pay7_at]
  refine Eq.trans ?_ (v27_at _ _ _ _ l).symm
  have hw : ∀ k, View.ld (iblk m c 2 t) r0_8 (ix2 k l) = laid (m (c.tc.loc main_arg2)) (ix2 k ⟨1792 + l.val, by omega⟩) := fun k =>
    (show View.ld (iblk m c 2 t) r0_8 (ix2 k l) = iblk m c 2 t (ix2 k ⟨1792 + l.val, by omega⟩) from by pointwise).trans (w_at m c t k _)
  simp only [x_at, g_at, hw]
  rfl

/-- Window 8's array after the run. -/
theorem arr8 (c : Dev nD) : (dats m 0 c).arrAt 8 cfg0.N = A m c (val_main_v27 (F := Ideal)) :=
  (dats m 0 c).arrAt_eq_of_cover 8 _ (fun t _ => flushed8_eq m c t) fun i => by
    have hN : cfg0.N = 64 := N_0
    have h0 : (i 0 : Nat) < 32768 := (i 0).isLt
    let t : Fin cfg0.N := ⟨(i 0).val / 512, by omega⟩
    refine ⟨t, flush0_8 _, ?_⟩
    have h := ((cfg0.win 8).blk t).view.emb_mem_set (ix2 ⟨(i 0).val % 512, by omega⟩ (i 1) : Shape.Idx ⟨2, ![512, 256]⟩)
    rw [emb8] at h
    exact cast (congrArg (· ∈ _) (ix2_rows i t 512 rfl)) h

/-- Where window 9's block lies in its array. -/
theorem emb9 (t : Fin cfg0.N) (j : Shape.Idx ⟨2, ![512, 128]⟩) : ((cfg0.win 9).blk t).view.emb j = ix2 (at_row t (j 0)) (j 1) := by
  obtain ⟨e0, e1⟩ := idx9 t
  exact funext fun a => Fin.ext (by
    match a with
    | ⟨0, _⟩ => show win0_9.index t (0 : Fin 2) * 512 + 1 * (j 0).val = t.val * 512 + (j 0).val; omega
    | ⟨1, _⟩ => show win0_9.index t (1 : Fin 2) * 128 + 1 * (j 1).val = (j 1).val; omega)

/-- What point `t` writes back through window 9 is its block of the reference's result. -/
theorem flushed9_eq (c : Dev nD) (t : Fin cfg0.N) :
    (dats m 0 c).flushed 9 t = ((cfg0.win 9).blk t).view.read (Elt Ideal) (A m c (val_main_v29 (F := Ideal))) := by
  rw [flushed9]; unfold out0_9 k0_pay12
  rw [View.canon_unit_zero zeros2, View.ld_unit_zero zeros2, View.ld_unit_zero zeros2]
  funext j
  obtain ⟨r, l, rfl⟩ : ∃ (a : Fin 512) (b : Fin 128), j = ix2 a b := ⟨j 0, j 1, eq_ix2 j⟩
  show k0_pay8 (k0_pay1 (iblk m c 0 t) (iblk m c 1 t)) (View.ld (iblk m c 2 t) r0_9) (ix2 r l) = A m c (val_main_v29 (F := Ideal)) (((cfg0.win 9).blk t).view.emb (ix2 r l))
  rw [emb9, pay8_at]
  refine Eq.trans ?_ (v29_at _ _ _ _ l).symm
  have hw : ∀ k, View.ld (iblk m c 2 t) r0_9 (ix2 k l) = laid (m (c.tc.loc main_arg2)) (ix2 k ⟨2048 + l.val, by omega⟩) := fun k =>
    (show View.ld (iblk m c 2 t) r0_9 (ix2 k l) = iblk m c 2 t (ix2 k ⟨2048 + l.val, by omega⟩) from by pointwise).trans (w_at m c t k _)
  simp only [x_at, g_at, hw]
  rfl

/-- Window 9's array after the run. -/
theorem arr9 (c : Dev nD) : (dats m 0 c).arrAt 9 cfg0.N = A m c (val_main_v29 (F := Ideal)) :=
  (dats m 0 c).arrAt_eq_of_cover 9 _ (fun t _ => flushed9_eq m c t) fun i => by
    have hN : cfg0.N = 64 := N_0
    have h0 : (i 0 : Nat) < 32768 := (i 0).isLt
    let t : Fin cfg0.N := ⟨(i 0).val / 512, by omega⟩
    refine ⟨t, flush0_9 _, ?_⟩
    have h := ((cfg0.win 9).blk t).view.emb_mem_set (ix2 ⟨(i 0).val % 512, by omega⟩ (i 1) : Shape.Idx ⟨2, ![512, 128]⟩)
    rw [emb9] at h
    exact cast (congrArg (· ∈ _) (ix2_rows i t 512 rfl)) h

/-- Where window 10's block lies in its array. -/
theorem emb10 (t : Fin cfg0.N) (j : Shape.Idx ⟨2, ![512, 128]⟩) : ((cfg0.win 10).blk t).view.emb j = ix2 (at_row t (j 0)) (j 1) := by
  obtain ⟨e0, e1⟩ := idx10 t
  exact funext fun a => Fin.ext (by
    match a with
    | ⟨0, _⟩ => show win0_10.index t (0 : Fin 2) * 512 + 1 * (j 0).val = t.val * 512 + (j 0).val; omega
    | ⟨1, _⟩ => show win0_10.index t (1 : Fin 2) * 128 + 1 * (j 1).val = (j 1).val; omega)

/-- What point `t` writes back through window 10 is its block of the reference's result. -/
theorem flushed10_eq (c : Dev nD) (t : Fin cfg0.N) :
    (dats m 0 c).flushed 10 t = ((cfg0.win 10).blk t).view.read (Elt Ideal) (A m c (val_main_v32 (F := Ideal))) := by
  rw [flushed10]; unfold out0_10 k0_pay12
  rw [View.canon_unit_zero zeros2, View.ld_unit_zero zeros2, View.ld_unit_zero zeros2]
  funext j
  obtain ⟨r, l, rfl⟩ : ∃ (a : Fin 512) (b : Fin 128), j = ix2 a b := ⟨j 0, j 1, eq_ix2 j⟩
  show k0_pay9 (k0_pay1 (iblk m c 0 t) (iblk m c 1 t)) (View.ld (iblk m c 2 t) r0_11) (ix2 r l) = A m c (val_main_v32 (F := Ideal)) (((cfg0.win 10).blk t).view.emb (ix2 r l))
  rw [emb10, pay9_at]
  refine Eq.trans ?_ (v32_at _ _ _ _ l).symm
  have hw : ∀ k, View.ld (iblk m c 2 t) r0_11 (ix2 k l) = laid (m (c.tc.loc main_arg2)) (ix2 k ⟨2176 + l.val, by omega⟩) := fun k =>
    (show View.ld (iblk m c 2 t) r0_11 (ix2 k l) = iblk m c 2 t (ix2 k ⟨2176 + l.val, by omega⟩) from by pointwise).trans (w_at m c t k _)
  simp only [x_at, g_at, hw]
  rfl

/-- Window 10's array after the run. -/
theorem arr10 (c : Dev nD) : (dats m 0 c).arrAt 10 cfg0.N = A m c (val_main_v32 (F := Ideal)) :=
  (dats m 0 c).arrAt_eq_of_cover 10 _ (fun t _ => flushed10_eq m c t) fun i => by
    have hN : cfg0.N = 64 := N_0
    have h0 : (i 0 : Nat) < 32768 := (i 0).isLt
    let t : Fin cfg0.N := ⟨(i 0).val / 512, by omega⟩
    refine ⟨t, flush0_10 _, ?_⟩
    have h := ((cfg0.win 10).blk t).view.emb_mem_set (ix2 ⟨(i 0).val % 512, by omega⟩ (i 1) : Shape.Idx ⟨2, ![512, 128]⟩)
    rw [emb10] at h
    exact cast (congrArg (· ∈ _) (ix2_rows i t 512 rfl)) h

/-- Where window 11's block lies in its array. -/
theorem emb11 (t : Fin cfg0.N) (j : Shape.Idx ⟨2, ![512, 128]⟩) : ((cfg0.win 11).blk t).view.emb j = ix2 (at_row t (j 0)) (j 1) := by
  obtain ⟨e0, e1⟩ := idx11 t
  exact funext fun a => Fin.ext (by
    match a with
    | ⟨0, _⟩ => show win0_11.index t (0 : Fin 2) * 512 + 1 * (j 0).val = t.val * 512 + (j 0).val; omega
    | ⟨1, _⟩ => show win0_11.index t (1 : Fin 2) * 128 + 1 * (j 1).val = (j 1).val; omega)

/-- What point `t` writes back through window 11 is its block of the reference's result. -/
theorem flushed11_eq (c : Dev nD) (t : Fin cfg0.N) :
    (dats m 0 c).flushed 11 t = ((cfg0.win 11).blk t).view.read (Elt Ideal) (A m c (val_main_v35 (F := Ideal))) := by
  rw [flushed11]; unfold out0_11 k0_pay12
  rw [View.canon_unit_zero zeros2, View.ld_unit_zero zeros2, View.ld_unit_zero zeros2]
  funext j
  obtain ⟨r, l, rfl⟩ : ∃ (a : Fin 512) (b : Fin 128), j = ix2 a b := ⟨j 0, j 1, eq_ix2 j⟩
  show k0_pay10 (k0_pay1 (iblk m c 0 t) (iblk m c 1 t)) (View.ld (iblk m c 2 t) r0_12) (ix2 r l) = A m c (val_main_v35 (F := Ideal)) (((cfg0.win 11).blk t).view.emb (ix2 r l))
  rw [emb11, pay10_at]
  refine Eq.trans ?_ (v35_at _ _ _ _ l).symm
  have hw : ∀ k, View.ld (iblk m c 2 t) r0_12 (ix2 k l) = laid (m (c.tc.loc main_arg2)) (ix2 k ⟨2304 + l.val, by omega⟩) := fun k =>
    (show View.ld (iblk m c 2 t) r0_12 (ix2 k l) = iblk m c 2 t (ix2 k ⟨2304 + l.val, by omega⟩) from by pointwise).trans (w_at m c t k _)
  simp only [x_at, g_at, hw]
  rfl

/-- Window 11's array after the run. -/
theorem arr11 (c : Dev nD) : (dats m 0 c).arrAt 11 cfg0.N = A m c (val_main_v35 (F := Ideal)) :=
  (dats m 0 c).arrAt_eq_of_cover 11 _ (fun t _ => flushed11_eq m c t) fun i => by
    have hN : cfg0.N = 64 := N_0
    have h0 : (i 0 : Nat) < 32768 := (i 0).isLt
    let t : Fin cfg0.N := ⟨(i 0).val / 512, by omega⟩
    refine ⟨t, flush0_11 _, ?_⟩
    have h := ((cfg0.win 11).blk t).view.emb_mem_set (ix2 ⟨(i 0).val % 512, by omega⟩ (i 1) : Shape.Idx ⟨2, ![512, 128]⟩)
    rw [emb11] at h
    exact cast (congrArg (· ∈ _) (ix2_rows i t 512 rfl)) h

/-- Where window 12's block lies in its array. -/
theorem emb12 (t : Fin cfg0.N) (j : Shape.Idx ⟨2, ![512, 1024]⟩) : ((cfg0.win 12).blk t).view.emb j = ix2 (at_row t (j 0)) (j 1) := by
  obtain ⟨e0, e1⟩ := idx12 t
  exact funext fun a => Fin.ext (by
    match a with
    | ⟨0, _⟩ => show win0_12.index t (0 : Fin 2) * 512 + 1 * (j 0).val = t.val * 512 + (j 0).val; omega
    | ⟨1, _⟩ => show win0_12.index t (1 : Fin 2) * 1024 + 1 * (j 1).val = (j 1).val; omega)

/-- What point `t` writes back through window 12 is its block of the reference's result. -/
theorem flushed12_eq (c : Dev nD) (t : Fin cfg0.N) :
    (dats m 0 c).flushed 12 t = ((cfg0.win 12).blk t).view.read (Elt Ideal) (A m c (val_main_v21 (F := Ideal))) := by
  rw [flushed12]; unfold out0_12 k0_pay12
  rw [View.canon_unit_zero zeros2, View.ld_unit_zero zeros2, View.ld_unit_zero zeros2]
  funext j
  obtain ⟨r, l, rfl⟩ : ∃ (a : Fin 512) (b : Fin 1024), j = ix2 a b := ⟨j 0, j 1, eq_ix2 j⟩
  show k0_pay11 (k0_pay1 (iblk m c 0 t) (iblk m c 1 t)) (View.ld (iblk m c 2 t) r0_13) (ix2 r l) = A m c (val_main_v21 (F := Ideal)) (((cfg0.win 12).blk t).view.emb (ix2 r l))
  rw [emb12, pay11_at]
  refine Eq.trans ?_ (v21_at _ _ _ _ l).symm
  have hw : ∀ k, View.ld (iblk m c 2 t) r0_13 (ix2 k l) = laid (m (c.tc.loc main_arg2)) (ix2 k ⟨2432 + l.val, by omega⟩) := fun k =>
    (show View.ld (iblk m c 2 t) r0_13 (ix2 k l) = iblk m c 2 t (ix2 k ⟨2432 + l.val, by omega⟩) from by pointwise).trans (w_at m c t k _)
  simp only [x_at, g_at, hw]
  rfl

/-- Window 12's array after the run. -/
theorem arr12 (c : Dev nD) : (dats m 0 c).arrAt 12 cfg0.N = A m c (val_main_v21 (F := Ideal)) :=
  (dats m 0 c).arrAt_eq_of_cover 12 _ (fun t _ => flushed12_eq m c t) fun i => by
    have hN : cfg0.N = 64 := N_0
    have h0 : (i 0 : Nat) < 32768 := (i 0).isLt
    let t : Fin cfg0.N := ⟨(i 0).val / 512, by omega⟩
    refine ⟨t, flush0_12 _, ?_⟩
    have h := ((cfg0.win 12).blk t).view.emb_mem_set (ix2 ⟨(i 0).val % 512, by omega⟩ (i 1) : Shape.Idx ⟨2, ![512, 1024]⟩)
    rw [emb12] at h
    exact cast (congrArg (· ∈ _) (ix2_rows i t 512 rfl)) h

/-- The kernel's ten results are the reference's. -/
theorem algebraic : Cert.algebraic_KernelInIdeal_ReferenceInIdeal
    (hKernelInIdeal := Cert.KernelInIdeal.Gen.facts) (hReferenceInIdeal := Cert.ReferenceInIdeal.Gen.facts) := by
  intro m g m' g' _ hargs
  refine ⟨fun c => A m c (val_main_v24 (F := Ideal)), fun c => A m c (val_main_v25 (F := Ideal)), fun c => A m c (val_main_v16 (F := Ideal)), fun c => A m c (val_main_v26 (F := Ideal)), fun c => A m c (val_main_v17 (F := Ideal)), fun c => A m c (val_main_v27 (F := Ideal)), fun c => A m c (val_main_v29 (F := Ideal)), fun c => A m c (val_main_v32 (F := Ideal)), fun c => A m c (val_main_v35 (F := Ideal)), fun c => A m c (val_main_v21 (F := Ideal)), ?_, ?_⟩
  · refine (θ_run _ _ _).mono (fun r h c => ?_) (run_blocks m g)
    obtain ⟨h3, h4, h5, h6, h7, h8, h9, h10, h11, h12, hk⟩ := h c
    exact ⟨h3.trans (arr3 m c), h4.trans (arr4 m c), h5.trans (arr5 m c), h6.trans (arr6 m c), h7.trans (arr7 m c), h8.trans (arr8 m c), h9.trans (arr9 m c), h10.trans (arr10 m c), h11.trans (arr11 m c), h12.trans (arr12 m c), hk⟩
  · refine (θ_run _ _ _).mono (fun r h c => ?_) (Cert.ReferenceInIdeal.Value.run m' g')
    obtain ⟨h3, h4, h5, h6, h7, h8, h9, h10, h11, h12, hk⟩ := h c
    obtain ⟨a0, a1, a2⟩ := hargs c
    refine ⟨h3.trans ?_, h4.trans ?_, h5.trans ?_, h6.trans ?_, h7.trans ?_, h8.trans ?_, h9.trans ?_, h10.trans ?_, h11.trans ?_, h12.trans ?_, hk⟩

    · rw [val_main_v24_eq, a0, a1, a2]
    · rw [val_main_v25_eq, a0, a1, a2]
    · rw [val_main_v16_eq, a0, a1, a2]
    · rw [val_main_v26_eq, a0, a1, a2]
    · rw [val_main_v17_eq, a0, a1, a2]
    · rw [val_main_v27_eq, a0, a1, a2]
    · rw [val_main_v29_eq, a0, a1, a2]
    · rw [val_main_v32_eq, a0, a1, a2]
    · rw [val_main_v35_eq, a0, a1, a2]
    · rw [val_main_v21_eq, a0, a1, a2]

end Cert.Proof.In

end
-- ==== Proof.InSample.lean ====
/- The layer's input projection over the rows of the sample: the normalised matrix product kernel with its ten results, against
   the plain projection sliced into its parts, index by index at the ideal instance. -/
module

public import proofs.«01_k».proof.Defs
public import proofs.«01_k».proof.Proof.Gen.KernelInSampleIdeal.Value
public import proofs.«01_k».proof.Proof.Gen.ReferenceInSampleIdeal.Read
public import proofs.«01_k».proof.Proof.Layout
public import proofs.«01_k».proof.Proof.Blocks

@[expose] public section

set_option maxRecDepth 16384

noncomputable section

namespace Cert.Proof.InSample

open Cert.KernelInSampleIdeal Cert.KernelInSampleIdeal.Gen Cert.KernelInSampleIdeal.Value
open Cert.Proof.Layout Cert.Proof.Blocks
open Idealize.ShloMosaic Idealize.ShloMosaic.TcCoe Idealize.SL.Sem
open Cert.ReferenceInSampleIdeal.Read

/-- Row `n` of the layer's input, its two leading axes flattened. -/
abbrev row (x : Vec Ideal S8x16x2048 .f32) (n : Fin 128) (k : Fin 2048) : EReal :=
  x (ix3 ⟨n.val / 16, by omega⟩ ⟨n.val % 16, by omega⟩ k)

section Reference

variable (x : Vec Ideal S8x16x2048 .f32) (g : Vec Ideal S2048 .f32) (w : Vec Ideal S2048x3144 .f32) (n : Fin 128)

/-- The reference's projection at an index. -/
theorem proj_at (e : Fin 3144) :
    val_main_v14 (F := Ideal) x g w (ix2 n e) = col (row x n) (fun k => g (ix1 k)) (fun k => w (ix2 k e)) := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, col, rmsRow, row]

/-- The reference's result `v24` at an index, as a column of the laid weights. -/
theorem v24_at (l : Fin 1024) : val_main_v24 (F := Ideal) x g w (ix2 n l) =
    col (row x n) (fun k => g (ix1 k)) (fun k => laid w (ix2 k ⟨l.val, by omega⟩)) := by
  simp only [laid_q]
  rw [col_scale _ _ _ _ scale_nonneg scale_ne_top, ← proj_at]
  pointwise [val_main_v24, val_main_v23, val_main_v22, val_main_v15, val_main_cst_2]

/-- The reference's result `v25` at an index, as a column of the laid weights. -/
theorem v25_at (l : Fin 512) : val_main_v25 (F := Ideal) x g w (ix2 n l) =
    col (row x n) (fun k => g (ix1 k)) (fun k => laid w (ix2 k ⟨1024 + l.val, by omega⟩)) := by
  simp only [laid_qi]
  rw [← proj_at]
  pointwise [val_main_v25, val_main_v18]

/-- The reference's result `v16` at an index, as a column of the laid weights. -/
theorem v16_at (l : Fin 256) : val_main_v16 (F := Ideal) x g w (ix2 n l) =
    col (row x n) (fun k => g (ix1 k)) (fun k => laid w (ix2 k ⟨1536 + l.val, by omega⟩)) := by
  simp only [laid_k]
  rw [← proj_at]
  pointwise [val_main_v16]

/-- The reference's result `v26` at an index, as a column of the laid weights. -/
theorem v26_at (l : Fin 256) : val_main_v26 (F := Ideal) x g w (ix2 n l) =
    col (row x n) (fun k => g (ix1 k)) (fun k => laid w (ix2 k ⟨1536 + l.val, by omega⟩)) := by
  simp only [laid_k]
  rw [← proj_at]
  pointwise [val_main_v26, val_main_v16]

/-- The reference's result `v17` at an index, as a column of the laid weights. -/
theorem v17_at (l : Fin 256) : val_main_v17 (F := Ideal) x g w (ix2 n l) =
    col (row x n) (fun k => g (ix1 k)) (fun k => laid w (ix2 k ⟨1792 + l.val, by omega⟩)) := by
  simp only [laid_v]
  rw [← proj_at]
  pointwise [val_main_v17]

/-- The reference's result `v27` at an index, as a column of the laid weights. -/
theorem v27_at (l : Fin 256) : val_main_v27 (F := Ideal) x g w (ix2 n l) =
    col (row x n) (fun k => g (ix1 k)) (fun k => laid w (ix2 k ⟨1792 + l.val, by omega⟩)) := by
  simp only [laid_v]
  rw [← proj_at]
  pointwise [val_main_v27, val_main_v17]

/-- The reference's result `v29` at an index, as a column of the laid weights. -/
theorem v29_at (l : Fin 128) : val_main_v29 (F := Ideal) x g w (ix2 n l) =
    col (row x n) (fun k => g (ix1 k)) (fun k => laid w (ix2 k ⟨2048 + l.val, by omega⟩)) := by
  simp only [laid_kiwi]
  by_cases h : l.val < 72
  · simp only [dif_pos h]
    rw [← proj_at]
    by_cases h' : l.val < 64
    · pointwise [val_main_v29, val_main_v28, val_main_v20, val_main_v19, val_main_cst_3]
      exact dif_pos h'
    · pointwise [val_main_v29, val_main_v28, val_main_v20, val_main_v19, val_main_cst_3]
      exact (dif_neg h').trans ((dif_pos (by omega)).trans
        (congrArg (fun e => val_main_v14 (F := Ideal) x g w (ix2 n e)) (Fin.ext (by dsimp only; omega))))
  · simp only [dif_neg h]
    rw [col_zero]
    pointwise [val_main_v29, val_main_v28, val_main_v20, val_main_v19, val_main_cst_3]
    exact (dif_neg (by omega)).trans (dif_neg (by omega))

/-- The reference's result `v32` at an index, as a column of the laid weights. -/
theorem v32_at (l : Fin 128) : val_main_v32 (F := Ideal) x g w (ix2 n l) =
    col (row x n) (fun k => g (ix1 k)) (fun k => laid w (ix2 k ⟨2176 + l.val, by omega⟩)) := by
  simp only [laid_kie]
  by_cases h : l.val < 64
  · simp only [dif_pos h]
    rw [← proj_at]
    pointwise [val_main_v32, val_main_v31, val_main_v30, val_main_v19, val_main_cst_4]
    exact dif_pos h
  · simp only [dif_neg h]
    rw [col_zero]
    pointwise [val_main_v32, val_main_v31, val_main_v30, val_main_v19, val_main_cst_4]
    exact dif_neg h

/-- The reference's result `v35` at an index, as a column of the laid weights. -/
theorem v35_at (l : Fin 128) : val_main_v35 (F := Ideal) x g w (ix2 n l) =
    col (row x n) (fun k => g (ix1 k)) (fun k => laid w (ix2 k ⟨2304 + l.val, by omega⟩)) := by
  simp only [laid_kio]
  by_cases h : l.val < 64
  · simp only [dif_pos h]
    rw [col_zero]
    pointwise [val_main_v35, val_main_v34, val_main_v33, val_main_v19, val_main_cst_5]
    exact dif_pos h
  · simp only [dif_neg h]
    rw [← proj_at]
    pointwise [val_main_v35, val_main_v34, val_main_v33, val_main_v19, val_main_cst_5]
    exact (dif_neg h).trans (congrArg (fun e => val_main_v14 (F := Ideal) x g w (ix2 n e)) (Fin.ext (by dsimp only; omega)))

/-- The reference's result `v21` at an index, as a column of the laid weights. -/
theorem v21_at (l : Fin 1024) : val_main_v21 (F := Ideal) x g w (ix2 n l) =
    col (row x n) (fun k => g (ix1 k)) (fun k => laid w (ix2 k ⟨2432 + l.val, by omega⟩)) := by
  simp only [laid_u]
  rw [← proj_at]
  pointwise [val_main_v21]

end Reference

section Payloads

variable (x0 : Vec Ideal S128x2048 .f32) (x1 : Vec Ideal S1x2048 .f32) (r : Fin 128)

/-- The normalised rows at an index. -/
theorem pay1_at (k : Fin 2048) : k0_pay1 x0 x1 (ix2 r k) = rmsRow (fun k => x0 (ix2 r k)) (fun k => x1 (ix2 0 k)) k := by
  pointwise [k0_pay1, rmsRow]

theorem pay2_at (w : Vec Ideal S2048x1024 .bf16) (l : Fin 1024) :
    k0_pay2 x0 x1 w (ix2 r l) = col (fun k => x0 (ix2 r k)) (fun k => x1 (ix2 0 k)) (fun k => w (ix2 k l)) := by
  pointwise [k0_pay2, k0_pay1, col, rmsRow]

theorem pay3_at (w : Vec Ideal S2048x512 .bf16) (l : Fin 512) :
    k0_pay3 x0 x1 w (ix2 r l) = col (fun k => x0 (ix2 r k)) (fun k => x1 (ix2 0 k)) (fun k => w (ix2 k l)) := by
  pointwise [k0_pay3, k0_pay1, col, rmsRow]

theorem pay4_at (w : Vec Ideal S2048x256 .bf16) (l : Fin 256) :
    k0_pay4 x0 x1 w (ix2 r l) = col (fun k => x0 (ix2 r k)) (fun k => x1 (ix2 0 k)) (fun k => w (ix2 k l)) := by
  pointwise [k0_pay4, k0_pay1, col, rmsRow]

theorem pay5_at (w : Vec Ideal S2048x256 .bf16) (l : Fin 256) :
    k0_pay5 x0 x1 w (ix2 r l) = col (fun k => x0 (ix2 r k)) (fun k => x1 (ix2 0 k)) (fun k => w (ix2 k l)) := by
  pointwise [k0_pay5, k0_pay4, k0_pay1, col, rmsRow]

theorem pay6_at (w : Vec Ideal S2048x256 .bf16) (l : Fin 256) :
    k0_pay6 (k0_pay1 x0 x1) w (ix2 r l) = col (fun k => x0 (ix2 r k)) (fun k => x1 (ix2 0 k)) (fun k => w (ix2 k l)) := by
  pointwise [k0_pay6, k0_pay1, col, rmsRow]

theorem pay7_at (w : Vec Ideal S2048x256 .bf16) (l : Fin 256) :
    k0_pay7 (k0_pay1 x0 x1) w (ix2 r l) = col (fun k => x0 (ix2 r k)) (fun k => x1 (ix2 0 k)) (fun k => w (ix2 k l)) := by
  pointwise [k0_pay7, k0_pay6, k0_pay1, col, rmsRow]

theorem pay8_at (w : Vec Ideal S2048x128 .bf16) (l : Fin 128) :
    k0_pay8 (k0_pay1 x0 x1) w (ix2 r l) = col (fun k => x0 (ix2 r k)) (fun k => x1 (ix2 0 k)) (fun k => w (ix2 k l)) := by
  pointwise [k0_pay8, k0_pay1, col, rmsRow]

theorem pay9_at (w : Vec Ideal S2048x128 .bf16) (l : Fin 128) :
    k0_pay9 (k0_pay1 x0 x1) w (ix2 r l) = col (fun k => x0 (ix2 r k)) (fun k => x1 (ix2 0 k)) (fun k => w (ix2 k l)) := by
  pointwise [k0_pay9, k0_pay1, col, rmsRow]

theorem pay10_at (w : Vec Ideal S2048x128 .bf16) (l : Fin 128) :
    k0_pay10 (k0_pay1 x0 x1) w (ix2 r l) = col (fun k => x0 (ix2 r k)) (fun k => x1 (ix2 0 k)) (fun k => w (ix2 k l)) := by
  pointwise [k0_pay10, k0_pay1, col, rmsRow]

theorem pay11_at (w : Vec Ideal S2048x1024 .bf16) (l : Fin 1024) :
    k0_pay11 (k0_pay1 x0 x1) w (ix2 r l) = col (fun k => x0 (ix2 r k)) (fun k => x1 (ix2 0 k)) (fun k => w (ix2 k l)) := by
  pointwise [k0_pay11, k0_pay1, col, rmsRow]

end Payloads

/-- The input reshaped to rows, at an index. -/
theorem rows_at (x : Vec Ideal S8x16x2048 .f32) (n : Fin 128) (k : Fin 2048) :
    shapeCast S128x2048 x shapeCasts_S8x16x2048_S128x2048 (ix2 n k) = row x n k := by
  pointwise [row]

/-- The gains as one row, at an index. -/
theorem gains_at (g : Vec Ideal S2048 .f32) (k : Fin 2048) : shapeCast S1x2048 g shapeCasts_S2048_S1x2048 (ix2 0 k) = g (ix1 k) := by
  pointwise

variable (m : (ℓ : Loc nD τ sig) → Buf (Elt Ideal) ℓ) (ρ : Dev nD → PrngReg)

/-- The rows' array as the kernel finds it: the input reshaped. -/
theorem V_x (c : Dev nD) : V m c main_v0 = shapeCast S128x2048 (m (c.tc.loc main_arg0)) shapeCasts_S8x16x2048_S128x2048 := by
  unfold V; after_results <;> rfl

/-- The gains as the kernel finds them: one row. -/
theorem V_g (c : Dev nD) : V m c main_v15 = shapeCast S1x2048 (m (c.tc.loc main_arg1)) shapeCasts_S2048_S1x2048 := by
  unfold V; after_results <;> rfl

/-- The weights as the kernel finds them. -/
theorem V_w (c : Dev nD) : V m c main_v14 = laid (m (c.tc.loc main_arg2)) := by
  unfold V; after_results <;> rfl

/-- Where the windows' blocks lie at each point. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)

theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)

/-- Row `r` of point `t`'s block is this row of the array. -/
abbrev at_row (t : Fin cfg0.N) (r : Fin 128) : Fin 128 := ⟨t.val * 128 + r.val, by have := t.isLt; have : cfg0.N = 1 := N_0; omega⟩

/-- The loaded rows at an index. -/
theorem x_at (c : Dev nD) (t : Fin cfg0.N) (r : Fin 128) (k : Fin 2048) :
    iblk m c 0 t (ix2 r k) = row (m (c.tc.loc main_arg0)) (at_row t r) k := by
  obtain ⟨e0, e1⟩ := idx0 t
  show V m c main_v0 (((cfg0.win 0).blk t).view.emb (ix2 r k)) = _
  rw [V_x, show ((cfg0.win 0).blk t).view.emb (ix2 r k) = ix2 (at_row t r) k from funext fun a => Fin.ext (by
    match a with
    | ⟨0, _⟩ => show win0_0.index t (0 : Fin 2) * 128 + 1 * r.val = t.val * 128 + r.val; omega
    | ⟨1, _⟩ => show win0_0.index t (1 : Fin 2) * 2048 + 1 * k.val = k.val; omega)]
  exact rows_at _ _ _

/-- The loaded gains at an index. -/
theorem g_at (c : Dev nD) (t : Fin cfg0.N) (k : Fin 2048) :
    iblk m c 1 t (ix2 0 k) = m (c.tc.loc main_arg1) (ix1 k) := by
  obtain ⟨e0, e1⟩ := idx1 t
  show V m c main_v15 (((cfg0.win 1).blk t).view.emb (ix2 0 k)) = _
  rw [V_g, show ((cfg0.win 1).blk t).view.emb (ix2 0 k) = ix2 0 k from funext fun a => Fin.ext (by
    match a with
    | ⟨0, _⟩ => show win0_1.index t (0 : Fin 2) * 1 + 1 * 0 = 0; omega
    | ⟨1, _⟩ => show win0_1.index t (1 : Fin 2) * 2048 + 1 * k.val = k.val; omega)]
  exact gains_at _ _

/-- The weights' block is the whole array. -/
theorem w_at (c : Dev nD) (t : Fin cfg0.N) (k : Fin 2048) (l : Fin 3456) :
    iblk m c 2 t (ix2 k l) = laid (m (c.tc.loc main_arg2)) (ix2 k l) := by
  obtain ⟨e0, e1⟩ := idx2 t
  show V m c main_v14 (((cfg0.win 2).blk t).view.emb (ix2 k l)) = _
  rw [V_w, show ((cfg0.win 2).blk t).view.emb (ix2 k l) = ix2 k l from funext fun a => Fin.ext (by
    match a with
    | ⟨0, _⟩ => show win0_2.index t (0 : Fin 2) * 2048 + 1 * k.val = k.val; omega
    | ⟨1, _⟩ => show win0_2.index t (1 : Fin 2) * 3456 + 1 * l.val = l.val; omega)]

/-- The arrays the reference's results are taken of. -/
abbrev A {α : Type} (m : (ℓ : Loc nD τ sig) → Buf (Elt Ideal) ℓ) (c : Dev nD) (f : Vec Ideal S8x16x2048 .f32 → Vec Ideal S2048 .f32 → Vec Ideal S2048x3144 .f32 → α) : α :=
  f (m (c.tc.loc main_arg0)) (m (c.tc.loc main_arg1)) (m (c.tc.loc main_arg2))

/-- Where window 3's block lies in its array. -/
theorem emb3 (t : Fin cfg0.N) (j : Shape.Idx ⟨2, ![128, 1024]⟩) : ((cfg0.win 3).blk t).view.emb j = ix2 (at_row t (j 0)) (j 1) := by
  obtain ⟨e0, e1⟩ := idx3 t
  exact funext fun a => Fin.ext (by
    match a with
    | ⟨0, _⟩ => show win0_3.index t (0 : Fin 2) * 128 + 1 * (j 0).val = t.val * 128 + (j 0).val; omega
    | ⟨1, _⟩ => show win0_3.index t (1 : Fin 2) * 1024 + 1 * (j 1).val = (j 1).val; omega)

/-- What point `t` writes back through window 3 is its block of the reference's result. -/
theorem flushed3_eq (c : Dev nD) (t : Fin cfg0.N) :
    (dats m 0 c).flushed 3 t = ((cfg0.win 3).blk t).view.read (Elt Ideal) (A m c (val_main_v24 (F := Ideal))) := by
  rw [flushed3]; unfold out0_3
  rw [View.canon_unit_zero zeros2, View.ld_unit_zero zeros2, View.ld_unit_zero zeros2]
  funext j
  obtain ⟨r, l, rfl⟩ : ∃ (a : Fin 128) (b : Fin 1024), j = ix2 a b := ⟨j 0, j 1, eq_ix2 j⟩
  show k0_pay2 (iblk m c 0 t) (iblk m c 1 t) (View.ld (iblk m c 2 t) r0_2) (ix2 r l) = A m c (val_main_v24 (F := Ideal)) (((cfg0.win 3).blk t).view.emb (ix2 r l))
  rw [emb3, pay2_at]
  refine Eq.trans ?_ (v24_at _ _ _ _ l).symm
  have hw : ∀ k, View.ld (iblk m c 2 t) r0_2 (ix2 k l) = laid (m (c.tc.loc main_arg2)) (ix2 k ⟨l.val, by omega⟩) := fun k =>
    (show View.ld (iblk m c 2 t) r0_2 (ix2 k l) = iblk m c 2 t (ix2 k ⟨l.val, by omega⟩) from by pointwise).trans (w_at m c t k _)
  simp only [x_at, g_at, hw]
  rfl

/-- Window 3's array after the run. -/
theorem arr3 (c : Dev nD) : (dats m 0 c).arrAt 3 cfg0.N = A m c (val_main_v24 (F := Ideal)) :=
  (dats m 0 c).arrAt_eq_of_cover 3 _ (fun t _ => flushed3_eq m c t) fun i => by
    have hN : cfg0.N = 1 := N_0
    have h0 : (i 0 : Nat) < 128 := (i 0).isLt
    let t : Fin cfg0.N := ⟨(i 0).val / 128, by omega⟩
    refine ⟨t, flush0_3 _, ?_⟩
    have h := ((cfg0.win 3).blk t).view.emb_mem_set (ix2 ⟨(i 0).val % 128, by omega⟩ (i 1) : Shape.Idx ⟨2, ![128, 1024]⟩)
    rw [emb3] at h
    exact cast (congrArg (· ∈ _) (ix2_rows i t 128 rfl)) h

/-- Where window 4's block lies in its array. -/
theorem emb4 (t : Fin cfg0.N) (j : Shape.Idx ⟨2, ![128, 512]⟩) : ((cfg0.win 4).blk t).view.emb j = ix2 (at_row t (j 0)) (j 1) := by
  obtain ⟨e0, e1⟩ := idx4 t
  exact funext fun a => Fin.ext (by
    match a with
    | ⟨0, _⟩ => show win0_4.index t (0 : Fin 2) * 128 + 1 * (j 0).val = t.val * 128 + (j 0).val; omega
    | ⟨1, _⟩ => show win0_4.index t (1 : Fin 2) * 512 + 1 * (j 1).val = (j 1).val; omega)

/-- What point `t` writes back through window 4 is its block of the reference's result. -/
theorem flushed4_eq (c : Dev nD) (t : Fin cfg0.N) :
    (dats m 0 c).flushed 4 t = ((cfg0.win 4).blk t).view.read (Elt Ideal) (A m c (val_main_v25 (F := Ideal))) := by
  rw [flushed4]; unfold out0_4
  rw [View.canon_unit_zero zeros2, View.ld_unit_zero zeros2, View.ld_unit_zero zeros2]
  funext j
  obtain ⟨r, l, rfl⟩ : ∃ (a : Fin 128) (b : Fin 512), j = ix2 a b := ⟨j 0, j 1, eq_ix2 j⟩
  show k0_pay3 (iblk m c 0 t) (iblk m c 1 t) (View.ld (iblk m c 2 t) r0_4) (ix2 r l) = A m c (val_main_v25 (F := Ideal)) (((cfg0.win 4).blk t).view.emb (ix2 r l))
  rw [emb4, pay3_at]
  refine Eq.trans ?_ (v25_at _ _ _ _ l).symm
  have hw : ∀ k, View.ld (iblk m c 2 t) r0_4 (ix2 k l) = laid (m (c.tc.loc main_arg2)) (ix2 k ⟨1024 + l.val, by omega⟩) := fun k =>
    (show View.ld (iblk m c 2 t) r0_4 (ix2 k l) = iblk m c 2 t (ix2 k ⟨1024 + l.val, by omega⟩) from by pointwise).trans (w_at m c t k _)
  simp only [x_at, g_at, hw]
  rfl

/-- Window 4's array after the run. -/
theorem arr4 (c : Dev nD) : (dats m 0 c).arrAt 4 cfg0.N = A m c (val_main_v25 (F := Ideal)) :=
  (dats m 0 c).arrAt_eq_of_cover 4 _ (fun t _ => flushed4_eq m c t) fun i => by
    have hN : cfg0.N = 1 := N_0
    have h0 : (i 0 : Nat) < 128 := (i 0).isLt
    let t : Fin cfg0.N := ⟨(i 0).val / 128, by omega⟩
    refine ⟨t, flush0_4 _, ?_⟩
    have h := ((cfg0.win 4).blk t).view.emb_mem_set (ix2 ⟨(i 0).val % 128, by omega⟩ (i 1) : Shape.Idx ⟨2, ![128, 512]⟩)
    rw [emb4] at h
    exact cast (congrArg (· ∈ _) (ix2_rows i t 128 rfl)) h

/-- Where window 5's block lies in its array. -/
theorem emb5 (t : Fin cfg0.N) (j : Shape.Idx ⟨2, ![128, 256]⟩) : ((cfg0.win 5).blk t).view.emb j = ix2 (at_row t (j 0)) (j 1) := by
  obtain ⟨e0, e1⟩ := idx5 t
  exact funext fun a => Fin.ext (by
    match a with
    | ⟨0, _⟩ => show win0_5.index t (0 : Fin 2) * 128 + 1 * (j 0).val = t.val * 128 + (j 0).val; omega
    | ⟨1, _⟩ => show win0_5.index t (1 : Fin 2) * 256 + 1 * (j 1).val = (j 1).val; omega)

/-- What point `t` writes back through window 5 is its block of the reference's result. -/
theorem flushed5_eq (c : Dev nD) (t : Fin cfg0.N) :
    (dats m 0 c).flushed 5 t = ((cfg0.win 5).blk t).view.read (Elt Ideal) (A m c (val_main_v16 (F := Ideal))) := by
  rw [flushed5]; unfold out0_5
  rw [View.canon_unit_zero zeros2, View.ld_unit_zero zeros2, View.ld_unit_zero zeros2]
  funext j
  obtain ⟨r, l, rfl⟩ : ∃ (a : Fin 128) (b : Fin 256), j = ix2 a b := ⟨j 0, j 1, eq_ix2 j⟩
  show k0_pay4 (iblk m c 0 t) (iblk m c 1 t) (View.ld (iblk m c 2 t) r0_6) (ix2 r l) = A m c (val_main_v16 (F := Ideal)) (((cfg0.win 5).blk t).view.emb (ix2 r l))
  rw [emb5, pay4_at]
  refine Eq.trans ?_ (v16_at _ _ _ _ l).symm
  have hw : ∀ k, View.ld (iblk m c 2 t) r0_6 (ix2 k l) = laid (m (c.tc.loc main_arg2)) (ix2 k ⟨1536 + l.val, by omega⟩) := fun k =>
    (show View.ld (iblk m c 2 t) r0_6 (ix2 k l) = iblk m c 2 t (ix2 k ⟨1536 + l.val, by omega⟩) from by pointwise).trans (w_at m c t k _)
  simp only [x_at, g_at, hw]
  rfl

/-- Window 5's array after the run. -/
theorem arr5 (c : Dev nD) : (dats m 0 c).arrAt 5 cfg0.N = A m c (val_main_v16 (F := Ideal)) :=
  (dats m 0 c).arrAt_eq_of_cover 5 _ (fun t _ => flushed5_eq m c t) fun i => by
    have hN : cfg0.N = 1 := N_0
    have h0 : (i 0 : Nat) < 128 := (i 0).isLt
    let t : Fin cfg0.N := ⟨(i 0).val / 128, by omega⟩
    refine ⟨t, flush0_5 _, ?_⟩
    have h := ((cfg0.win 5).blk t).view.emb_mem_set (ix2 ⟨(i 0).val % 128, by omega⟩ (i 1) : Shape.Idx ⟨2, ![128, 256]⟩)
    rw [emb5] at h
    exact cast (congrArg (· ∈ _) (ix2_rows i t 128 rfl)) h

/-- Where window 6's block lies in its array. -/
theorem emb6 (t : Fin cfg0.N) (j : Shape.Idx ⟨2, ![128, 256]⟩) : ((cfg0.win 6).blk t).view.emb j = ix2 (at_row t (j 0)) (j 1) := by
  obtain ⟨e0, e1⟩ := idx6 t
  exact funext fun a => Fin.ext (by
    match a with
    | ⟨0, _⟩ => show win0_6.index t (0 : Fin 2) * 128 + 1 * (j 0).val = t.val * 128 + (j 0).val; omega
    | ⟨1, _⟩ => show win0_6.index t (1 : Fin 2) * 256 + 1 * (j 1).val = (j 1).val; omega)

/-- What point `t` writes back through window 6 is its block of the reference's result. -/
theorem flushed6_eq (c : Dev nD) (t : Fin cfg0.N) :
    (dats m 0 c).flushed 6 t = ((cfg0.win 6).blk t).view.read (Elt Ideal) (A m c (val_main_v26 (F := Ideal))) := by
  rw [flushed6]; unfold out0_6
  rw [View.canon_unit_zero zeros2, View.ld_unit_zero zeros2, View.ld_unit_zero zeros2]
  funext j
  obtain ⟨r, l, rfl⟩ : ∃ (a : Fin 128) (b : Fin 256), j = ix2 a b := ⟨j 0, j 1, eq_ix2 j⟩
  show k0_pay5 (iblk m c 0 t) (iblk m c 1 t) (View.ld (iblk m c 2 t) r0_6) (ix2 r l) = A m c (val_main_v26 (F := Ideal)) (((cfg0.win 6).blk t).view.emb (ix2 r l))
  rw [emb6, pay5_at]
  refine Eq.trans ?_ (v26_at _ _ _ _ l).symm
  have hw : ∀ k, View.ld (iblk m c 2 t) r0_6 (ix2 k l) = laid (m (c.tc.loc main_arg2)) (ix2 k ⟨1536 + l.val, by omega⟩) := fun k =>
    (show View.ld (iblk m c 2 t) r0_6 (ix2 k l) = iblk m c 2 t (ix2 k ⟨1536 + l.val, by omega⟩) from by pointwise).trans (w_at m c t k _)
  simp only [x_at, g_at, hw]
  rfl

/-- Window 6's array after the run. -/
theorem arr6 (c : Dev nD) : (dats m 0 c).arrAt 6 cfg0.N = A m c (val_main_v26 (F := Ideal)) :=
  (dats m 0 c).arrAt_eq_of_cover 6 _ (fun t _ => flushed6_eq m c t) fun i => by
    have hN : cfg0.N = 1 := N_0
    have h0 : (i 0 : Nat) < 128 := (i 0).isLt
    let t : Fin cfg0.N := ⟨(i 0).val / 128, by omega⟩
    refine ⟨t, flush0_6 _, ?_⟩
    have h := ((cfg0.win 6).blk t).view.emb_mem_set (ix2 ⟨(i 0).val % 128, by omega⟩ (i 1) : Shape.Idx ⟨2, ![128, 256]⟩)
    rw [emb6] at h
    exact cast (congrArg (· ∈ _) (ix2_rows i t 128 rfl)) h

/-- Where window 7's block lies in its array. -/
theorem emb7 (t : Fin cfg0.N) (j : Shape.Idx ⟨2, ![128, 256]⟩) : ((cfg0.win 7).blk t).view.emb j = ix2 (at_row t (j 0)) (j 1) := by
  obtain ⟨e0, e1⟩ := idx7 t
  exact funext fun a => Fin.ext (by
    match a with
    | ⟨0, _⟩ => show win0_7.index t (0 : Fin 2) * 128 + 1 * (j 0).val = t.val * 128 + (j 0).val; omega
    | ⟨1, _⟩ => show win0_7.index t (1 : Fin 2) * 256 + 1 * (j 1).val = (j 1).val; omega)

/-- What point `t` writes back through window 7 is its block of the reference's result. -/
theorem flushed7_eq (c : Dev nD) (t : Fin cfg0.N) :
    (dats m 0 c).flushed 7 t = ((cfg0.win 7).blk t).view.read (Elt Ideal) (A m c (val_main_v17 (F := Ideal))) := by
  rw [flushed7]; unfold out0_7 k0_pay12
  rw [View.canon_unit_zero zeros2, View.ld_unit_zero zeros2, View.ld_unit_zero zeros2]
  funext j
  obtain ⟨r, l, rfl⟩ : ∃ (a : Fin 128) (b : Fin 256), j = ix2 a b := ⟨j 0, j 1, eq_ix2 j⟩
  show k0_pay6 (k0_pay1 (iblk m c 0 t) (iblk m c 1 t)) (View.ld (iblk m c 2 t) r0_8) (ix2 r l) = A m c (val_main_v17 (F := Ideal)) (((cfg0.win 7).blk t).view.emb (ix2 r l))
  rw [emb7, pay6_at]
  refine Eq.trans ?_ (v17_at _ _ _ _ l).symm
  have hw : ∀ k, View.ld (iblk m c 2 t) r0_8 (ix2 k l) = laid (m (c.tc.loc main_arg2)) (ix2 k ⟨1792 + l.val, by omega⟩) := fun k =>
    (show View.ld (iblk m c 2 t) r0_8 (ix2 k l) = iblk m c 2 t (ix2 k ⟨1792 + l.val, by omega⟩) from by pointwise).trans (w_at m c t k _)
  simp only [x_at, g_at, hw]
  rfl

/-- Window 7's array after the run. -/
theorem arr7 (c : Dev nD) : (dats m 0 c).arrAt 7 cfg0.N = A m c (val_main_v17 (F := Ideal)) :=
  (dats m 0 c).arrAt_eq_of_cover 7 _ (fun t _ => flushed7_eq m c t) fun i => by
    have hN : cfg0.N = 1 := N_0
    have h0 : (i 0 : Nat) < 128 := (i 0).isLt
    let t : Fin cfg0.N := ⟨(i 0).val / 128, by omega⟩
    refine ⟨t, flush0_7 _, ?_⟩
    have h := ((cfg0.win 7).blk t).view.emb_mem_set (ix2 ⟨(i 0).val % 128, by omega⟩ (i 1) : Shape.Idx ⟨2, ![128, 256]⟩)
    rw [emb7] at h
    exact cast (congrArg (· ∈ _) (ix2_rows i t 128 rfl)) h

/-- Where window 8's block lies in its array. -/
theorem emb8 (t : Fin cfg0.N) (j : Shape.Idx ⟨2, ![128, 256]⟩) : ((cfg0.win 8).blk t).view.emb j = ix2 (at_row t (j 0)) (j 1) := by
  obtain ⟨e0, e1⟩ := idx8 t
  exact funext fun a => Fin.ext (by
    match a with
    | ⟨0, _⟩ => show win0_8.index t (0 : Fin 2) * 128 + 1 * (j 0).val = t.val * 128 + (j 0).val; omega
    | ⟨1, _⟩ => show win0_8.index t (1 : Fin 2) * 256 + 1 * (j 1).val = (j 1).val; omega)

/-- What point `t` writes back through window 8 is its block of the reference's result. -/
theorem flushed8_eq (c : Dev nD) (t : Fin cfg0.N) :
    (dats m 0 c).flushed 8 t = ((cfg0.win 8).blk t).view.read (Elt Ideal) (A m c (val_main_v27 (F := Ideal))) := by
  rw [flushed8]; unfold out0_8 k0_pay12
  rw [View.canon_unit_zero zeros2, View.ld_unit_zero zeros2, View.ld_unit_zero zeros2]
  funext j
  obtain ⟨r, l, rfl⟩ : ∃ (a : Fin 128) (b : Fin 256), j = ix2 a b := ⟨j 0, j 1, eq_ix2 j⟩
  show k0_pay7 (k0_pay1 (iblk m c 0 t) (iblk m c 1 t)) (View.ld (iblk m c 2 t) r0_8) (ix2 r l) = A m c (val_main_v27 (F := Ideal)) (((cfg0.win 8).blk t).view.emb (ix2 r l))
  rw [emb8, pay7_at]
  refine Eq.trans ?_ (v27_at _ _ _ _ l).symm
  have hw : ∀ k, View.ld (iblk m c 2 t) r0_8 (ix2 k l) = laid (m (c.tc.loc main_arg2)) (ix2 k ⟨1792 + l.val, by omega⟩) := fun k =>
    (show View.ld (iblk m c 2 t) r0_8 (ix2 k l) = iblk m c 2 t (ix2 k ⟨1792 + l.val, by omega⟩) from by pointwise).trans (w_at m c t k _)
  simp only [x_at, g_at, hw]
  rfl

/-- Window 8's array after the run. -/
theorem arr8 (c : Dev nD) : (dats m 0 c).arrAt 8 cfg0.N = A m c (val_main_v27 (F := Ideal)) :=
  (dats m 0 c).arrAt_eq_of_cover 8 _ (fun t _ => flushed8_eq m c t) fun i => by
    have hN : cfg0.N = 1 := N_0
    have h0 : (i 0 : Nat) < 128 := (i 0).isLt
    let t : Fin cfg0.N := ⟨(i 0).val / 128, by omega⟩
    refine ⟨t, flush0_8 _, ?_⟩
    have h := ((cfg0.win 8).blk t).view.emb_mem_set (ix2 ⟨(i 0).val % 128, by omega⟩ (i 1) : Shape.Idx ⟨2, ![128, 256]⟩)
    rw [emb8] at h
    exact cast (congrArg (· ∈ _) (ix2_rows i t 128 rfl)) h

/-- Where window 9's block lies in its array. -/
theorem emb9 (t : Fin cfg0.N) (j : Shape.Idx ⟨2, ![128, 128]⟩) : ((cfg0.win 9).blk t).view.emb j = ix2 (at_row t (j 0)) (j 1) := by
  obtain ⟨e0, e1⟩ := idx9 t
  exact funext fun a => Fin.ext (by
    match a with
    | ⟨0, _⟩ => show win0_9.index t (0 : Fin 2) * 128 + 1 * (j 0).val = t.val * 128 + (j 0).val; omega
    | ⟨1, _⟩ => show win0_9.index t (1 : Fin 2) * 128 + 1 * (j 1).val = (j 1).val; omega)

/-- What point `t` writes back through window 9 is its block of the reference's result. -/
theorem flushed9_eq (c : Dev nD) (t : Fin cfg0.N) :
    (dats m 0 c).flushed 9 t = ((cfg0.win 9).blk t).view.read (Elt Ideal) (A m c (val_main_v29 (F := Ideal))) := by
  rw [flushed9]; unfold out0_9 k0_pay12
  rw [View.canon_unit_zero zeros2, View.ld_unit_zero zeros2, View.ld_unit_zero zeros2]
  funext j
  obtain ⟨r, l, rfl⟩ : ∃ (a : Fin 128) (b : Fin 128), j = ix2 a b := ⟨j 0, j 1, eq_ix2 j⟩
  show k0_pay8 (k0_pay1 (iblk m c 0 t) (iblk m c 1 t)) (View.ld (iblk m c 2 t) r0_9) (ix2 r l) = A m c (val_main_v29 (F := Ideal)) (((cfg0.win 9).blk t).view.emb (ix2 r l))
  rw [emb9, pay8_at]
  refine Eq.trans ?_ (v29_at _ _ _ _ l).symm
  have hw : ∀ k, View.ld (iblk m c 2 t) r0_9 (ix2 k l) = laid (m (c.tc.loc main_arg2)) (ix2 k ⟨2048 + l.val, by omega⟩) := fun k =>
    (show View.ld (iblk m c 2 t) r0_9 (ix2 k l) = iblk m c 2 t (ix2 k ⟨2048 + l.val, by omega⟩) from by pointwise).trans (w_at m c t k _)
  simp only [x_at, g_at, hw]
  rfl

/-- Window 9's array after the run. -/
theorem arr9 (c : Dev nD) : (dats m 0 c).arrAt 9 cfg0.N = A m c (val_main_v29 (F := Ideal)) :=
  (dats m 0 c).arrAt_eq_of_cover 9 _ (fun t _ => flushed9_eq m c t) fun i => by
    have hN : cfg0.N = 1 := N_0
    have h0 : (i 0 : Nat) < 128 := (i 0).isLt
    let t : Fin cfg0.N := ⟨(i 0).val / 128, by omega⟩
    refine ⟨t, flush0_9 _, ?_⟩
    have h := ((cfg0.win 9).blk t).view.emb_mem_set (ix2 ⟨(i 0).val % 128, by omega⟩ (i 1) : Shape.Idx ⟨2, ![128, 128]⟩)
    rw [emb9] at h
    exact cast (congrArg (· ∈ _) (ix2_rows i t 128 rfl)) h

/-- Where window 10's block lies in its array. -/
theorem emb10 (t : Fin cfg0.N) (j : Shape.Idx ⟨2, ![128, 128]⟩) : ((cfg0.win 10).blk t).view.emb j = ix2 (at_row t (j 0)) (j 1) := by
  obtain ⟨e0, e1⟩ := idx10 t
  exact funext fun a => Fin.ext (by
    match a with
    | ⟨0, _⟩ => show win0_10.index t (0 : Fin 2) * 128 + 1 * (j 0).val = t.val * 128 + (j 0).val; omega
    | ⟨1, _⟩ => show win0_10.index t (1 : Fin 2) * 128 + 1 * (j 1).val = (j 1).val; omega)

/-- What point `t` writes back through window 10 is its block of the reference's result. -/
theorem flushed10_eq (c : Dev nD) (t : Fin cfg0.N) :
    (dats m 0 c).flushed 10 t = ((cfg0.win 10).blk t).view.read (Elt Ideal) (A m c (val_main_v32 (F := Ideal))) := by
  rw [flushed10]; unfold out0_10 k0_pay12
  rw [View.canon_unit_zero zeros2, View.ld_unit_zero zeros2, View.ld_unit_zero zeros2]
  funext j
  obtain ⟨r, l, rfl⟩ : ∃ (a : Fin 128) (b : Fin 128), j = ix2 a b := ⟨j 0, j 1, eq_ix2 j⟩
  show k0_pay9 (k0_pay1 (iblk m c 0 t) (iblk m c 1 t)) (View.ld (iblk m c 2 t) r0_11) (ix2 r l) = A m c (val_main_v32 (F := Ideal)) (((cfg0.win 10).blk t).view.emb (ix2 r l))
  rw [emb10, pay9_at]
  refine Eq.trans ?_ (v32_at _ _ _ _ l).symm
  have hw : ∀ k, View.ld (iblk m c 2 t) r0_11 (ix2 k l) = laid (m (c.tc.loc main_arg2)) (ix2 k ⟨2176 + l.val, by omega⟩) := fun k =>
    (show View.ld (iblk m c 2 t) r0_11 (ix2 k l) = iblk m c 2 t (ix2 k ⟨2176 + l.val, by omega⟩) from by pointwise).trans (w_at m c t k _)
  simp only [x_at, g_at, hw]
  rfl

/-- Window 10's array after the run. -/
theorem arr10 (c : Dev nD) : (dats m 0 c).arrAt 10 cfg0.N = A m c (val_main_v32 (F := Ideal)) :=
  (dats m 0 c).arrAt_eq_of_cover 10 _ (fun t _ => flushed10_eq m c t) fun i => by
    have hN : cfg0.N = 1 := N_0
    have h0 : (i 0 : Nat) < 128 := (i 0).isLt
    let t : Fin cfg0.N := ⟨(i 0).val / 128, by omega⟩
    refine ⟨t, flush0_10 _, ?_⟩
    have h := ((cfg0.win 10).blk t).view.emb_mem_set (ix2 ⟨(i 0).val % 128, by omega⟩ (i 1) : Shape.Idx ⟨2, ![128, 128]⟩)
    rw [emb10] at h
    exact cast (congrArg (· ∈ _) (ix2_rows i t 128 rfl)) h

/-- Where window 11's block lies in its array. -/
theorem emb11 (t : Fin cfg0.N) (j : Shape.Idx ⟨2, ![128, 128]⟩) : ((cfg0.win 11).blk t).view.emb j = ix2 (at_row t (j 0)) (j 1) := by
  obtain ⟨e0, e1⟩ := idx11 t
  exact funext fun a => Fin.ext (by
    match a with
    | ⟨0, _⟩ => show win0_11.index t (0 : Fin 2) * 128 + 1 * (j 0).val = t.val * 128 + (j 0).val; omega
    | ⟨1, _⟩ => show win0_11.index t (1 : Fin 2) * 128 + 1 * (j 1).val = (j 1).val; omega)

/-- What point `t` writes back through window 11 is its block of the reference's result. -/
theorem flushed11_eq (c : Dev nD) (t : Fin cfg0.N) :
    (dats m 0 c).flushed 11 t = ((cfg0.win 11).blk t).view.read (Elt Ideal) (A m c (val_main_v35 (F := Ideal))) := by
  rw [flushed11]; unfold out0_11 k0_pay12
  rw [View.canon_unit_zero zeros2, View.ld_unit_zero zeros2, View.ld_unit_zero zeros2]
  funext j
  obtain ⟨r, l, rfl⟩ : ∃ (a : Fin 128) (b : Fin 128), j = ix2 a b := ⟨j 0, j 1, eq_ix2 j⟩
  show k0_pay10 (k0_pay1 (iblk m c 0 t) (iblk m c 1 t)) (View.ld (iblk m c 2 t) r0_12) (ix2 r l) = A m c (val_main_v35 (F := Ideal)) (((cfg0.win 11).blk t).view.emb (ix2 r l))
  rw [emb11, pay10_at]
  refine Eq.trans ?_ (v35_at _ _ _ _ l).symm
  have hw : ∀ k, View.ld (iblk m c 2 t) r0_12 (ix2 k l) = laid (m (c.tc.loc main_arg2)) (ix2 k ⟨2304 + l.val, by omega⟩) := fun k =>
    (show View.ld (iblk m c 2 t) r0_12 (ix2 k l) = iblk m c 2 t (ix2 k ⟨2304 + l.val, by omega⟩) from by pointwise).trans (w_at m c t k _)
  simp only [x_at, g_at, hw]
  rfl

/-- Window 11's array after the run. -/
theorem arr11 (c : Dev nD) : (dats m 0 c).arrAt 11 cfg0.N = A m c (val_main_v35 (F := Ideal)) :=
  (dats m 0 c).arrAt_eq_of_cover 11 _ (fun t _ => flushed11_eq m c t) fun i => by
    have hN : cfg0.N = 1 := N_0
    have h0 : (i 0 : Nat) < 128 := (i 0).isLt
    let t : Fin cfg0.N := ⟨(i 0).val / 128, by omega⟩
    refine ⟨t, flush0_11 _, ?_⟩
    have h := ((cfg0.win 11).blk t).view.emb_mem_set (ix2 ⟨(i 0).val % 128, by omega⟩ (i 1) : Shape.Idx ⟨2, ![128, 128]⟩)
    rw [emb11] at h
    exact cast (congrArg (· ∈ _) (ix2_rows i t 128 rfl)) h

/-- Where window 12's block lies in its array. -/
theorem emb12 (t : Fin cfg0.N) (j : Shape.Idx ⟨2, ![128, 1024]⟩) : ((cfg0.win 12).blk t).view.emb j = ix2 (at_row t (j 0)) (j 1) := by
  obtain ⟨e0, e1⟩ := idx12 t
  exact funext fun a => Fin.ext (by
    match a with
    | ⟨0, _⟩ => show win0_12.index t (0 : Fin 2) * 128 + 1 * (j 0).val = t.val * 128 + (j 0).val; omega
    | ⟨1, _⟩ => show win0_12.index t (1 : Fin 2) * 1024 + 1 * (j 1).val = (j 1).val; omega)

/-- What point `t` writes back through window 12 is its block of the reference's result. -/
theorem flushed12_eq (c : Dev nD) (t : Fin cfg0.N) :
    (dats m 0 c).flushed 12 t = ((cfg0.win 12).blk t).view.read (Elt Ideal) (A m c (val_main_v21 (F := Ideal))) := by
  rw [flushed12]; unfold out0_12 k0_pay12
  rw [View.canon_unit_zero zeros2, View.ld_unit_zero zeros2, View.ld_unit_zero zeros2]
  funext j
  obtain ⟨r, l, rfl⟩ : ∃ (a : Fin 128) (b : Fin 1024), j = ix2 a b := ⟨j 0, j 1, eq_ix2 j⟩
  show k0_pay11 (k0_pay1 (iblk m c 0 t) (iblk m c 1 t)) (View.ld (iblk m c 2 t) r0_13) (ix2 r l) = A m c (val_main_v21 (F := Ideal)) (((cfg0.win 12).blk t).view.emb (ix2 r l))
  rw [emb12, pay11_at]
  refine Eq.trans ?_ (v21_at _ _ _ _ l).symm
  have hw : ∀ k, View.ld (iblk m c 2 t) r0_13 (ix2 k l) = laid (m (c.tc.loc main_arg2)) (ix2 k ⟨2432 + l.val, by omega⟩) := fun k =>
    (show View.ld (iblk m c 2 t) r0_13 (ix2 k l) = iblk m c 2 t (ix2 k ⟨2432 + l.val, by omega⟩) from by pointwise).trans (w_at m c t k _)
  simp only [x_at, g_at, hw]
  rfl

/-- Window 12's array after the run. -/
theorem arr12 (c : Dev nD) : (dats m 0 c).arrAt 12 cfg0.N = A m c (val_main_v21 (F := Ideal)) :=
  (dats m 0 c).arrAt_eq_of_cover 12 _ (fun t _ => flushed12_eq m c t) fun i => by
    have hN : cfg0.N = 1 := N_0
    have h0 : (i 0 : Nat) < 128 := (i 0).isLt
    let t : Fin cfg0.N := ⟨(i 0).val / 128, by omega⟩
    refine ⟨t, flush0_12 _, ?_⟩
    have h := ((cfg0.win 12).blk t).view.emb_mem_set (ix2 ⟨(i 0).val % 128, by omega⟩ (i 1) : Shape.Idx ⟨2, ![128, 1024]⟩)
    rw [emb12] at h
    exact cast (congrArg (· ∈ _) (ix2_rows i t 128 rfl)) h

/-- The kernel's ten results are the reference's. -/
theorem algebraic : Cert.algebraic_KernelInSampleIdeal_ReferenceInSampleIdeal
    (hKernelInSampleIdeal := Cert.KernelInSampleIdeal.Gen.facts) (hReferenceInSampleIdeal := Cert.ReferenceInSampleIdeal.Gen.facts) := by
  intro m g m' g' _ hargs
  refine ⟨fun c => A m c (val_main_v24 (F := Ideal)), fun c => A m c (val_main_v25 (F := Ideal)), fun c => A m c (val_main_v16 (F := Ideal)), fun c => A m c (val_main_v26 (F := Ideal)), fun c => A m c (val_main_v17 (F := Ideal)), fun c => A m c (val_main_v27 (F := Ideal)), fun c => A m c (val_main_v29 (F := Ideal)), fun c => A m c (val_main_v32 (F := Ideal)), fun c => A m c (val_main_v35 (F := Ideal)), fun c => A m c (val_main_v21 (F := Ideal)), ?_, ?_⟩
  · refine (θ_run _ _ _).mono (fun r h c => ?_) (run_blocks m g)
    obtain ⟨h3, h4, h5, h6, h7, h8, h9, h10, h11, h12, hk⟩ := h c
    exact ⟨h3.trans (arr3 m c), h4.trans (arr4 m c), h5.trans (arr5 m c), h6.trans (arr6 m c), h7.trans (arr7 m c), h8.trans (arr8 m c), h9.trans (arr9 m c), h10.trans (arr10 m c), h11.trans (arr11 m c), h12.trans (arr12 m c), hk⟩
  · refine (θ_run _ _ _).mono (fun r h c => ?_) (Cert.ReferenceInSampleIdeal.Value.run m' g')
    obtain ⟨h3, h4, h5, h6, h7, h8, h9, h10, h11, h12, hk⟩ := h c
    obtain ⟨a0, a1, a2⟩ := hargs c
    refine ⟨h3.trans ?_, h4.trans ?_, h5.trans ?_, h6.trans ?_, h7.trans ?_, h8.trans ?_, h9.trans ?_, h10.trans ?_, h11.trans ?_, h12.trans ?_, hk⟩

    · rw [val_main_v24_eq, a0, a1, a2]
    · rw [val_main_v25_eq, a0, a1, a2]
    · rw [val_main_v16_eq, a0, a1, a2]
    · rw [val_main_v26_eq, a0, a1, a2]
    · rw [val_main_v17_eq, a0, a1, a2]
    · rw [val_main_v27_eq, a0, a1, a2]
    · rw [val_main_v29_eq, a0, a1, a2]
    · rw [val_main_v32_eq, a0, a1, a2]
    · rw [val_main_v35_eq, a0, a1, a2]
    · rw [val_main_v21_eq, a0, a1, a2]

end Cert.Proof.InSample

end
-- ==== Proof.Mem.lean ====
/- The memory keys and values: the normalised matrix product kernel over the rows of the memory, against its plain
   reference, index by index at the ideal instance. -/
module

public import proofs.«01_k».proof.Defs
public import proofs.«01_k».proof.Proof.Gen.KernelMemIdeal.Value
public import proofs.«01_k».proof.Proof.Gen.ReferenceMemIdeal.Read
public import proofs.«01_k».proof.Proof.Rms

@[expose] public section

set_option maxRecDepth 16384

noncomputable section

namespace Cert.Proof.Mem

open Cert.KernelMemIdeal Cert.KernelMemIdeal.Gen Cert.KernelMemIdeal.Value
open Idealize.ShloMosaic Idealize.ShloMosaic.TcCoe Idealize.SL.Sem
open Cert.ReferenceMemIdeal.Read (val_main_v15 val_main_v16 val_main_v14 val_main_v13 val_main_v12 val_main_v11 val_main_v10 val_main_v9
  val_main_v8 val_main_v7 val_main_v6 val_main_v5 val_main_v4 val_main_v3 val_main_v2 val_main_v1 val_main_v0
  val_main_cst val_main_cst_0 val_main_cst_1)

/-- Row `n` of the memory array, its two leading axes flattened. -/
abbrev row (x : Vec Ideal S8x256x2048 .f32) (n : Fin 2048) (k : Fin 2048) : EReal :=
  x (ix3 ⟨n.val / 256, by omega⟩ ⟨n.val % 256, by omega⟩ k)

/-- The kernel's first product at an index. -/
theorem pay2_at (x0 : Vec Ideal S512x2048 .f32) (x1 : Vec Ideal S1x2048 .f32) (w : Vec Ideal S2048x512 .bf16) (r l : Fin 512) :
    k0_pay2 x0 x1 w (ix2 r l) = ∑ k, rmsRow (fun k => x0 (ix2 r k)) (fun k => x1 (ix2 0 k)) k * w (ix2 k l) := by
  pointwise [k0_pay2, k0_pay1, rmsRow]

/-- The kernel's second product at an index. -/
theorem pay3_at (x0 : Vec Ideal S512x2048 .f32) (x1 : Vec Ideal S1x2048 .f32) (w : Vec Ideal S2048x512 .bf16) (r l : Fin 512) :
    k0_pay3 x0 x1 w (ix2 r l) = ∑ k, rmsRow (fun k => x0 (ix2 r k)) (fun k => x1 (ix2 0 k)) k * w (ix2 k l) := by
  pointwise [k0_pay3, k0_pay1, rmsRow]

/-- The reference's keys at an index. -/
theorem refk_at (x : Vec Ideal S8x256x2048 .f32) (g : Vec Ideal S2048 .f32) (w : Vec Ideal S2048x512 .f32) (n : Fin 2048) (l : Fin 512) :
    val_main_v15 (F := Ideal) x g w (ix2 n l) = ∑ k, rmsRow (row x n) (fun k => g (ix1 k)) k * w (ix2 k l) := by
  pointwise [val_main_v15, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, rmsRow, row]

/-- The reference's values at an index. -/
theorem refv_at (x : Vec Ideal S8x256x2048 .f32) (g : Vec Ideal S2048 .f32) (w : Vec Ideal S2048x512 .f32) (n : Fin 2048) (l : Fin 512) :
    val_main_v16 (F := Ideal) x g w (ix2 n l) = ∑ k, rmsRow (row x n) (fun k => g (ix1 k)) k * w (ix2 k l) := by
  pointwise [val_main_v16, val_main_v14, val_main_v12, val_main_v11, val_main_v10, val_main_v9, val_main_v8, val_main_v7,
    val_main_v6, val_main_v5, val_main_v4, val_main_v3, val_main_v2, val_main_v1, val_main_v0, val_main_cst, val_main_cst_0,
    val_main_cst_1, rmsRow, row]

/-- The memory reshaped to rows, at an index. -/
theorem rows_at (x : Vec Ideal S8x256x2048 .f32) (n k : Fin 2048) :
    shapeCast S2048x2048 x shapeCasts_S8x256x2048_S2048x2048 (ix2 n k) = row x n k := by
  pointwise [row]

/-- The gains as one row, at an index. -/
theorem gains_at (g : Vec Ideal S2048 .f32) (k : Fin 2048) : shapeCast S1x2048 g shapeCasts_S2048_S1x2048 (ix2 0 k) = g (ix1 k) := by
  pointwise

/-- The two weight matrices side by side, as the kernel's host code lays them. -/
abbrev sides (a b : Vec Ideal S2048x512 .f32) : Vec Ideal S2048x1024 .bf16 :=
  truncf (F := Ideal) .bf16 (concatenate S2048x1024 1 [⟨S2048x512, a⟩, ⟨S2048x512, b⟩] concatenates_S2048x512_S2048x512_S2048x1024_d1) bitsLt_bf16_f32

/-- The left half of the two matrices, -/
theorem sides_left (a b : Vec Ideal S2048x512 .f32) (k : Fin 2048) (l : Fin 512) : sides a b (ix2 k ⟨l.val, by omega⟩) = a (ix2 k l) := by
  pointwise [sides]

/-- and the right half. -/
theorem sides_right (a b : Vec Ideal S2048x512 .f32) (k : Fin 2048) (l : Fin 512) : sides a b (ix2 k ⟨512 + l.val, by omega⟩) = b (ix2 k l) := by
  pointwise [sides]

variable (m : (ℓ : Loc nD τ sig) → Buf (Elt Ideal) ℓ) (ρ : Dev nD → PrngReg)

/-- The rows' array as the kernel finds it: the memory reshaped. -/
theorem V_x (c : Dev nD) : V m c main_v2 = shapeCast S2048x2048 (m (c.tc.loc main_arg0)) shapeCasts_S8x256x2048_S2048x2048 := by
  unfold V; after_results <;> rfl

/-- The gains as the kernel finds them: one row. -/
theorem V_g (c : Dev nD) : V m c main_v3 = shapeCast S1x2048 (m (c.tc.loc main_arg1)) shapeCasts_S2048_S1x2048 := by
  unfold V; after_results <;> rfl

/-- The weights as the kernel finds them: the two matrices side by side. -/
theorem V_w (c : Dev nD) : V m c main_v1 = sides (m (c.tc.loc main_arg2)) (m (c.tc.loc main_arg3)) := by
  unfold V; after_results <;> rfl

/-- Where the windows' blocks lie at each point. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

/-- Row `r` of point `t`'s block is this row of the array. -/
abbrev at_row (t : Fin cfg0.N) (r : Fin 512) : Fin 2048 := ⟨t.val * 512 + r.val, by have := t.isLt; have : cfg0.N = 4 := N_0; omega⟩

/-- The loaded rows at an index. -/
theorem x_at (c : Dev nD) (t : Fin cfg0.N) (r : Fin 512) (k : Fin 2048) :
    iblk m c 0 t (ix2 r k) = row (m (c.tc.loc main_arg0)) (at_row t r) k := by
  obtain ⟨e0, e1⟩ := idx0 t
  show V m c main_v2 (((cfg0.win 0).blk t).view.emb (ix2 r k)) = _
  rw [V_x, show ((cfg0.win 0).blk t).view.emb (ix2 r k) = ix2 (at_row t r) k from funext fun a => Fin.ext (by
    match a with
    | ⟨0, _⟩ => show win0_0.index t (0 : Fin 2) * 512 + 1 * r.val = t.val * 512 + r.val; omega
    | ⟨1, _⟩ => show win0_0.index t (1 : Fin 2) * 2048 + 1 * k.val = k.val; omega)]
  exact rows_at _ _ _

/-- The loaded gains at an index. -/
theorem g_at (c : Dev nD) (t : Fin cfg0.N) (k : Fin 2048) :
    iblk m c 1 t (ix2 0 k) = m (c.tc.loc main_arg1) (ix1 k) := by
  obtain ⟨e0, e1⟩ := idx1 t
  show V m c main_v3 (((cfg0.win 1).blk t).view.emb (ix2 0 k)) = _
  rw [V_g, show ((cfg0.win 1).blk t).view.emb (ix2 0 k) = ix2 0 k from funext fun a => Fin.ext (by
    match a with
    | ⟨0, _⟩ => show win0_1.index t (0 : Fin 2) * 1 + 1 * 0 = 0; omega
    | ⟨1, _⟩ => show win0_1.index t (1 : Fin 2) * 2048 + 1 * k.val = k.val; omega)]
  exact gains_at _ _

/-- The weights' block is the whole array. -/
theorem w_at (c : Dev nD) (t : Fin cfg0.N) (k : Fin 2048) (l : Fin 1024) :
    iblk m c 2 t (ix2 k l) = V m c main_v1 (ix2 k l) := by
  obtain ⟨e0, e1⟩ := idx2 t
  show V m c main_v1 (((cfg0.win 2).blk t).view.emb (ix2 k l)) = _
  rw [show ((cfg0.win 2).blk t).view.emb (ix2 k l) = ix2 k l from funext fun a => Fin.ext (by
    match a with
    | ⟨0, _⟩ => show win0_2.index t (0 : Fin 2) * 2048 + 1 * k.val = k.val; omega
    | ⟨1, _⟩ => show win0_2.index t (1 : Fin 2) * 1024 + 1 * l.val = l.val; omega)]

/-- The first product's loaded weights at an index are the key weights. -/
theorem wk_at (c : Dev nD) (t : Fin cfg0.N) (k : Fin 2048) (l : Fin 512) :
    View.ld (iblk m c 2 t) r0_2 (ix2 k l) = m (c.tc.loc main_arg2) (ix2 k l) := by
  refine (show View.ld (iblk m c 2 t) r0_2 (ix2 k l) = iblk m c 2 t (ix2 k ⟨l.val, by omega⟩) from by pointwise).trans ?_
  rw [w_at, V_w]
  exact sides_left _ _ _ _

/-- The second product's loaded weights at an index are the value weights. -/
theorem wv_at (c : Dev nD) (t : Fin cfg0.N) (k : Fin 2048) (l : Fin 512) :
    View.ld (iblk m c 2 t) r0_4 (ix2 k l) = m (c.tc.loc main_arg3) (ix2 k l) := by
  refine (show View.ld (iblk m c 2 t) r0_4 (ix2 k l) = iblk m c 2 t (ix2 k ⟨512 + l.val, by omega⟩) from by pointwise).trans ?_
  rw [w_at, V_w]
  exact sides_right _ _ _ _

/-- What point `t` writes back to the keys' array is its block of the reference's keys. -/
theorem flushed3_eq (c : Dev nD) (t : Fin cfg0.N) :
    (dats m 0 c).flushed 3 t = ((cfg0.win 3).blk t).view.read (Elt Ideal)
      (val_main_v15 (F := Ideal) (m (c.tc.loc main_arg0)) (m (c.tc.loc main_arg1)) (m (c.tc.loc main_arg2))) := by
  obtain ⟨e0, e1⟩ := idx3 t
  rw [flushed3]; unfold out0_3
  rw [View.canon_unit_zero zeros2, View.ld_unit_zero zeros2, View.ld_unit_zero zeros2]
  funext j
  obtain ⟨r, l, rfl⟩ : ∃ (a b : Fin 512), j = ix2 a b := ⟨j 0, j 1, eq_ix2 j⟩
  show k0_pay2 (iblk m c 0 t) (iblk m c 1 t) (View.ld (iblk m c 2 t) r0_2) (ix2 r l) = val_main_v15 (F := Ideal) _ _ _ (((cfg0.win 3).blk t).view.emb (ix2 r l))
  rw [show ((cfg0.win 3).blk t).view.emb (ix2 r l) = ix2 (at_row t r) l from funext fun a => Fin.ext (by
    match a with
    | ⟨0, _⟩ => show win0_3.index t (0 : Fin 2) * 512 + 1 * r.val = t.val * 512 + r.val; omega
    | ⟨1, _⟩ => show win0_3.index t (1 : Fin 2) * 512 + 1 * l.val = l.val; omega)]
  rw [pay2_at, refk_at]
  simp only [x_at, g_at, wk_at]

/-- What point `t` writes back to the values' array is its block of the reference's values. -/
theorem flushed4_eq (c : Dev nD) (t : Fin cfg0.N) :
    (dats m 0 c).flushed 4 t = ((cfg0.win 4).blk t).view.read (Elt Ideal)
      (val_main_v16 (F := Ideal) (m (c.tc.loc main_arg0)) (m (c.tc.loc main_arg1)) (m (c.tc.loc main_arg3))) := by
  obtain ⟨e0, e1⟩ := idx4 t
  rw [flushed4]; unfold out0_4
  rw [View.canon_unit_zero zeros2, View.ld_unit_zero zeros2, View.ld_unit_zero zeros2]
  funext j
  obtain ⟨r, l, rfl⟩ : ∃ (a b : Fin 512), j = ix2 a b := ⟨j 0, j 1, eq_ix2 j⟩
  show k0_pay3 (iblk m c 0 t) (iblk m c 1 t) (View.ld (iblk m c 2 t) r0_4) (ix2 r l) = val_main_v16 (F := Ideal) _ _ _ (((cfg0.win 4).blk t).view.emb (ix2 r l))
  rw [show ((cfg0.win 4).blk t).view.emb (ix2 r l) = ix2 (at_row t r) l from funext fun a => Fin.ext (by
    match a with
    | ⟨0, _⟩ => show win0_4.index t (0 : Fin 2) * 512 + 1 * r.val = t.val * 512 + r.val; omega
    | ⟨1, _⟩ => show win0_4.index t (1 : Fin 2) * 512 + 1 * l.val = l.val; omega)]
  rw [pay3_at, refv_at]
  simp only [x_at, g_at, wv_at]

/-- Every index of a result is in the block of the point that holds its row. -/
theorem covered3 (i : S2048x512.Idx) : ∃ t : Fin cfg0.N, (cfg0.win 3).flush t = true ∧ i ∈ ((cfg0.win 3).blk t).view.set := by
  have h0 : (i 0 : Nat) < 2048 := (i 0).isLt
  have h1 : (i 1 : Nat) < 512 := (i 1).isLt
  have hN : cfg0.N = 4 := N_0
  let t : Fin cfg0.N := ⟨(i 0).val / 512, by omega⟩
  obtain ⟨e0, e1⟩ := idx3 t
  refine ⟨t, flush0_3 _, ?_⟩
  have h := ((cfg0.win 3).blk t).view.emb_mem_set (ix2 ⟨(i 0).val % 512, by omega⟩ ⟨(i 1).val, h1⟩ : S512x512.Idx)
  rwa [show ((cfg0.win 3).blk t).view.emb (ix2 ⟨(i 0).val % 512, by omega⟩ ⟨(i 1).val, h1⟩ : S512x512.Idx) = i from funext fun a => Fin.ext (by
    match a with
    | ⟨0, _⟩ => show win0_3.index t (0 : Fin 2) * 512 + 1 * ((i 0).val % 512) = (i 0).val; have : t.val = (i 0).val / 512 := rfl; omega
    | ⟨1, _⟩ => show win0_3.index t (1 : Fin 2) * 512 + 1 * (i 1).val = (i 1).val; omega)] at h

theorem covered4 (i : S2048x512.Idx) : ∃ t : Fin cfg0.N, (cfg0.win 4).flush t = true ∧ i ∈ ((cfg0.win 4).blk t).view.set := by
  have h0 : (i 0 : Nat) < 2048 := (i 0).isLt
  have h1 : (i 1 : Nat) < 512 := (i 1).isLt
  have hN : cfg0.N = 4 := N_0
  let t : Fin cfg0.N := ⟨(i 0).val / 512, by omega⟩
  obtain ⟨e0, e1⟩ := idx4 t
  refine ⟨t, flush0_4 _, ?_⟩
  have h := ((cfg0.win 4).blk t).view.emb_mem_set (ix2 ⟨(i 0).val % 512, by omega⟩ ⟨(i 1).val, h1⟩ : S512x512.Idx)
  rwa [show ((cfg0.win 4).blk t).view.emb (ix2 ⟨(i 0).val % 512, by omega⟩ ⟨(i 1).val, h1⟩ : S512x512.Idx) = i from funext fun a => Fin.ext (by
    match a with
    | ⟨0, _⟩ => show win0_4.index t (0 : Fin 2) * 512 + 1 * ((i 0).val % 512) = (i 0).val; have : t.val = (i 0).val / 512 := rfl; omega
    | ⟨1, _⟩ => show win0_4.index t (1 : Fin 2) * 512 + 1 * (i 1).val = (i 1).val; omega)] at h

/-- The kernel's keys and values are the reference's. -/
theorem algebraic : Cert.algebraic_KernelMemIdeal_ReferenceMemIdeal
    (hKernelMemIdeal := Cert.KernelMemIdeal.Gen.facts) (hReferenceMemIdeal := Cert.ReferenceMemIdeal.Gen.facts) := by
  intro m g m' g' _ hargs
  refine ⟨fun c => val_main_v15 (m (c.tc.loc main_arg0)) (m (c.tc.loc main_arg1)) (m (c.tc.loc main_arg2)),
    fun c => val_main_v16 (m (c.tc.loc main_arg0)) (m (c.tc.loc main_arg1)) (m (c.tc.loc main_arg3)), ?_, ?_⟩
  · exact (θ_run _ _ _).mono (fun r h c => ⟨(h c).1.trans ((dats m 0 c).arrAt_eq_of_cover 3 _ (fun t _ => flushed3_eq m c t) covered3),
      (h c).2.1.trans ((dats m 0 c).arrAt_eq_of_cover 4 _ (fun t _ => flushed4_eq m c t) covered4), (h c).2.2⟩) (run_blocks m g)
  · refine (θ_run _ _ _).mono (fun r h c => ⟨(h c).1.trans ?_, (h c).2.1.trans ?_, (h c).2.2⟩) (Cert.ReferenceMemIdeal.Value.run m' g')
    · rw [Cert.ReferenceMemIdeal.Read.val_main_v15_eq, (hargs c).1, (hargs c).2.1, (hargs c).2.2.1]
    · rw [Cert.ReferenceMemIdeal.Read.val_main_v16_eq, (hargs c).1, (hargs c).2.1, (hargs c).2.2.2]

end Cert.Proof.Mem

end
-- ==== Proof.Moe.lean ====
/- The layer's expert mixture over the sample's rows: the kernel that adds one expert's share at each point of its grid,
   against the plain sum over the experts, index by index at the ideal instance. -/
module

public import proofs.«01_k».proof.Defs
public import proofs.«01_k».proof.Proof.Gen.KernelMoeIdeal.Value
public import proofs.«01_k».proof.Proof.Gen.ReferenceMoeIdeal.Read
public import proofs.«01_k».proof.Proof.Rms

@[expose] public section

set_option maxRecDepth 16384

noncomputable section

namespace Cert.Proof.Moe

open Cert.KernelMoeIdeal Cert.KernelMoeIdeal.Gen Cert.KernelMoeIdeal.Value
open Idealize.ShloMosaic Idealize.ShloMosaic.TcCoe Idealize.SL.Sem
open Cert.ReferenceMoeIdeal.Read

/-! ## What is computed -/

section Spec

variable (x : Vec Ideal S128x2176 .f32) (g : Vec Ideal S2048 .f32) (wg wu : Vec Ideal S32x2048x256 .f32)
  (wd : Vec Ideal S32x256x2048 .f32) (gf : Vec Ideal S2048 .f32)

/-- Row `t`'s normalised input. -/
abbrev normed (t : Fin 128) (k : Fin 2048) : EReal := rmsRow (fun k => x (ix2 t ⟨k.val, by omega⟩)) (fun k => g (ix1 k)) k

/-- Row `t` times column `f` of expert `e`'s first weights. -/
def proj (w : Vec Ideal S32x2048x256 .f32) (t : Fin 128) (e : Fin 32) (f : Fin 256) : EReal := ∑ k, normed x g t k * w (ix3 e k f)

/-- Unit `f` of expert `e`'s hidden layer at row `t`, weighted by the row's share of the expert. -/
def hid (t : Fin 128) (e : Fin 32) (f : Fin 256) : EReal :=
  proj x g wg t e f * Ideal.logistic (proj x g wg t e f) * proj x g wu t e f * x (ix2 t ⟨2052 + e.val, by omega⟩)

/-- What expert `e` adds to coordinate `d` of row `t`. -/
def share (t : Fin 128) (d : Fin 2048) (e : Fin 32) : EReal := ∑ f, hid x g wg wu t e f * wd (ix3 e f d)

/-- The row with every expert's share added. -/
def summed (t : Fin 128) (d : Fin 2048) : EReal := x (ix2 t ⟨d.val, by omega⟩) + ∑ e, share x g wg wu wd t d e

/-- The result's coordinate: the summed row, normalised. -/
def mixed (t : Fin 128) (d : Fin 2048) : EReal := rmsRow (summed x g wg wu wd t) (fun k => gf (ix1 k)) d

/-- The reference's normalised rows at an index. -/
theorem ref_h (t : Fin 128) (k : Fin 2048) : val_main_v14 (F := Ideal) x g (ix2 t k) = normed x g t k := by
  pointwise [val_main_v14, val_main_v13, val_main_v12, val_main_v11, val_main_v10, val_main_v9, val_main_v8, val_main_v7,
    val_main_v6, val_main_v5, val_main_v4, val_main_v3, val_main_v2, val_main_v0, val_main_cst, val_main_cst_0,
    val_main_cst_1, rmsRow]

theorem ref_hid (t : Fin 128) (e : Fin 32) (f : Fin 256) : val_main_v27 (F := Ideal) x g wg wu (ix3 t e f) = hid x g wg wu t e f := by
  have ha : val_main_v15 (F := Ideal) x g wg (ix3 t e f) = proj x g wg t e f := by
    unfold proj; simp only [← ref_h]; pointwise [val_main_v15]
  have hb : val_main_v16 (F := Ideal) x g wu (ix3 t e f) = proj x g wu t e f := by
    unfold proj; simp only [← ref_h]; pointwise [val_main_v16]
  unfold hid; rw [← ha, ← hb]
  pointwise [val_main_v27, val_main_v26, val_main_v25, val_main_v1, val_main_v24, val_main_v23, val_main_v22, val_main_v21, val_main_v20,
    val_main_v19, val_main_v18, val_main_v17, val_main_cst_2, val_main_cst_3]
  rfl

theorem ref_sum (t : Fin 128) (d : Fin 2048) : val_main_v29 (F := Ideal) x g wg wu wd (ix2 t d) = summed x g wg wu wd t d := by
  unfold summed share; simp only [← ref_hid]
  pointwise [val_main_v29, val_main_v28, val_main_v0]

/-- The reference's result at an index. -/
theorem ref_at (t : Fin 128) (d : Fin 2048) : val_main_v42 (F := Ideal) x g wg wu wd gf (ix2 t d) = mixed x g wg wu wd gf t d := by
  unfold mixed
  pointwise [val_main_v42, val_main_v41, val_main_v40, val_main_v39, val_main_v38, val_main_v37, val_main_v36, val_main_v35, val_main_v34,
    val_main_v33, val_main_v32, val_main_v31, val_main_v30, val_main_cst_4, val_main_cst_5, val_main_cst_6, rmsRow]
  simp only [ref_sum]

end Spec

/-! ## The payloads -/

/-- The normalised rows a point stores. -/
theorem pay3_at (x : Vec Ideal S128x2048 .f32) (g : Vec Ideal S1x2048 .f32) (t : Fin 128) (k : Fin 2048) :
    k0_pay3 x g (ix2 t k) = rmsRow (fun k => x (ix2 t k)) (fun k => g (ix2 0 k)) k := by
  pointwise [k0_pay3, rmsRow]

/-- The last point's result. -/
theorem pay2_at (x a : Vec Ideal S128x2048 .f32) (g : Vec Ideal S1x2048 .f32) (t : Fin 128) (k : Fin 2048) :
    k0_pay2 x a g (ix2 t k) = rmsRow (fun k => x (ix2 t k) + a (ix2 t k)) (fun k => g (ix2 0 k)) k := by
  pointwise [k0_pay2, rmsRow]

/-- The accumulator's start. -/
theorem pay4_at (t : Fin 128) (k : Fin 2048) : k0_pay4 (F := Ideal) (ix2 t k) = 0 := by
  pointwise [k0_pay4]

/-- The lane of expert `n`'s share, picked out of the record's lanes by comparing their numbers. -/
theorem lane_sum (n : ℕ) (hn : n < 32) (r : Fin 128 → EReal) :
    ∑ x : Fin 128, Scalar.select (IntOp.cmpi CmpIPredicate.eq (BitVec.ofNat 32 x.val) (Scalar.addi (BitVec.ofNat 32 n) 4#32)) (r x) (0 : EReal)
      = r ⟨4 + n, by omega⟩ := by
  have key : ∀ (n : Fin 32) (x : Fin 128),
      IntOp.cmpi CmpIPredicate.eq (BitVec.ofNat 32 x.val) (Scalar.addi (BitVec.ofNat 32 n.val) 4#32) = if x.val = 4 + n.val then 1#1 else 0#1 := by
    decide +kernel
  simp only [fun x => key ⟨n, hn⟩ x]
  rw [Finset.sum_eq_single ⟨4 + n, by omega⟩]
  · simp [Scalar.select]
  · intro x _ hx
    have : x.val ≠ 4 + n := fun h => hx (Fin.ext h)
    simp [Scalar.select, this]
  · simp

/-- What a point leaves in the accumulator: what it held, plus the point's expert's share. -/
theorem pay5_at (i : grid0.Coords) (a : Vec Ideal S128x2048 .f32) (h : Vec Ideal S128x2048 .bf16) (r : Vec Ideal S128x128 .f32)
    (wg wu : Vec Ideal S1x2048x256 .bf16) (wd : Vec Ideal S1x256x2048 .bf16) (t : Fin 128) (d : Fin 2048) :
    k0_pay5 i a h r wg wu wd (ix2 t d) = a (ix2 t d) + ∑ f : Fin 256,
      ((∑ k, h (ix2 t k) * wg (ix3 0 k f)) * Ideal.logistic (∑ k, h (ix2 t k) * wg (ix3 0 k f)) * (∑ k, h (ix2 t k) * wu (ix3 0 k f))
        * r (ix2 t ⟨4 + (i 1).val, by have : (i 1).val < 32 := (i 1).isLt; omega⟩)) * wd (ix3 0 f d) := by
  pointwise [k0_pay5]
  simp only [lane_sum (i 1).val (i 1).isLt (fun l => r (ix2 t l))]

/-! ## The cases' terms -/

section Cases

variable {F : FTy → Type} [FloatOps F]
variable (c : Dev nD) (i : grid0.Coords) (arg2 : Memref sig .tc .vmem S128x2176 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S128x2048 .f32) (harg8 : arg8.IsWhole) (arg9 : Memref sig .tc .vmem S128x2048 .bf16) (harg9 : arg9.IsWhole) (arg10 : Memref sig .tc .vmem S128x2048 .f32) (harg10 : arg10.IsWhole)
  (x0 : Vec F S128x2176 .f32) (x1 : Vec F S1x2048 .f32) (x2 x3 : Vec F S1x2048x256 .bf16) (x4 : Vec F S1x256x2048 .bf16) (x5 : Vec F S1x2048 .f32)
  (xs0 : Vec F S128x2048 .bf16) (xs1 : Vec F S128x2048 .f32)

theorem zeros3 : (![0, 0, 0] : Fin 3 → Nat) = fun _ => 0 := funext fun a => by fin_cases a <;> rfl

/-- The input block's rows and its record lanes. -/
abbrev rX : Rect S128x2176 := Rect.unit (s := S128x2176) ![0, 0] S128x2048.size inb_S128x2176_S128x2048_0_0
abbrev rR : Rect S128x2176 := Rect.unit (s := S128x2176) ![0, 2048] S128x128.size inb_S128x2176_S128x128_0_2048

theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5
      = k0_pay3 (View.ld x0 rX) x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero zeros2]
  simp only [View.readAt_eq_ld, harg2.read_unread, harg3.read_unread, View.ld_unit_zero (S := S1x2048) zeros2]

theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 x5
      = k0_pay1 (k0_pay5 i k0_pay4 (k0_pay3 (View.ld x0 rX) x1) (View.ld x0 rR) x2 x3 x4) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero zeros2]
  simp only [View.readAt_eq_ld, View.readCov_unit_zero (S := S128x2048) _ zeros2, harg2.read_unread, harg3.read_unread, harg4.read_unread, harg5.read_unread, harg6.read_unread,
    View.ld_unit_zero (S := S1x2048) zeros2, View.ld_unit_zero (S := S1x2048x256) zeros3, View.ld_unit_zero (S := S1x256x2048) zeros3]

theorem sout_B_1 (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 x4 x5 xs0 xs1
      = k0_pay1 (k0_pay5 i xs1 xs0 (View.ld x0 rR) x2 x3 x4) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero zeros2]
  simp only [View.readAt_eq_ld, harg2.read_unread, harg4.read_unread, harg5.read_unread, harg6.read_unread, harg9.read_unread, harg10.read_unread,
    View.ld_unit_zero (S := S128x2048) zeros2, View.ld_unit_zero (S := S1x2048x256) zeros3, View.ld_unit_zero (S := S1x256x2048) zeros3]

theorem sout_C_1 (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 x4 x5 xs0 xs1
      = k0_pay1 (k0_pay5 i xs1 xs0 (View.ld x0 rR) x2 x3 x4) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero zeros2]
  simp only [View.readAt_eq_ld, harg2.read_unread, harg4.read_unread, harg5.read_unread, harg6.read_unread, harg9.read_unread, harg10.read_unread,
    View.ld_unit_zero (S := S128x2048) zeros2, View.ld_unit_zero (S := S1x2048x256) zeros3, View.ld_unit_zero (S := S1x256x2048) zeros3]

theorem out_C_6 (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay2 (View.ld x0 rX) (k0_pay1 (k0_pay5 i xs1 xs0 (View.ld x0 rR) x2 x3 x4)) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero zeros2]
  simp only [View.readAt_eq_ld, View.readCov_unit_zero (S := S128x2048) _ zeros2, harg2.read_unread, harg4.read_unread, harg5.read_unread, harg6.read_unread, harg7.read_unread, harg9.read_unread, harg10.read_unread,
    View.ld_unit_zero (S := S1x2048) zeros2, View.ld_unit_zero (S := S128x2048) zeros2, View.ld_unit_zero (S := S1x2048x256) zeros3, View.ld_unit_zero (S := S1x256x2048) zeros3]

end Cases

/-! ## The run -/

variable (m : (ℓ : Loc nD τ sig) → Buf (Elt Ideal) ℓ) (ρ : Dev nD → PrngReg)

/-- The arrays the kernel finds: the weights cast and the gains as one row. -/
theorem V_g (c : Dev nD) : V m c main_v3 = shapeCast S1x2048 (m (c.tc.loc main_arg1)) shapeCasts_S2048_S1x2048 := by
  unfold V; after_results <;> rfl
theorem V_gf (c : Dev nD) : V m c main_v4 = shapeCast S1x2048 (m (c.tc.loc main_arg5)) shapeCasts_S2048_S1x2048 := by
  unfold V; after_results <;> rfl
theorem V_wg (c : Dev nD) : V m c main_v0 = m (c.tc.loc main_arg2) := by
  unfold V; after_results <;> rfl
theorem V_wu (c : Dev nD) : V m c main_v1 = m (c.tc.loc main_arg3) := by
  unfold V; after_results <;> rfl
theorem V_wd (c : Dev nD) : V m c main_v2 = m (c.tc.loc main_arg4) := by
  unfold V; after_results <;> rfl

/-- Gains as one row, at an index. -/
theorem gains_at (g : Vec Ideal S2048 .f32) (k : Fin 2048) : shapeCast S1x2048 g shapeCasts_S2048_S1x2048 (ix2 0 k) = g (ix1 k) := by
  pointwise

/-- Where the windows' blocks lie at each point: the weights' at expert `t`, the others at the origin. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val ∧ win0_2.index t (1 : Fin 3) = 0 ∧ win0_2.index t (2 : Fin 3) = 0 := (by decide +kernel : ∀ t : Fin grid0.N, _)
theorem idx3 : ∀ t : Fin cfg0.N, win0_3.index t (0 : Fin 3) = t.val ∧ win0_3.index t (1 : Fin 3) = 0 ∧ win0_3.index t (2 : Fin 3) = 0 := (by decide +kernel : ∀ t : Fin grid0.N, _)
theorem idx4 : ∀ t : Fin cfg0.N, win0_4.index t (0 : Fin 3) = t.val ∧ win0_4.index t (1 : Fin 3) = 0 ∧ win0_4.index t (2 : Fin 3) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem expert_of : ∀ t : Fin cfg0.N, ((grid0.coords t) 1).val = t.val := (by decide +kernel : ∀ t : Fin grid0.N, _)

/-- Point `t`'s expert. -/
abbrev ex (t : Fin cfg0.N) : Fin 32 := ⟨t.val, lt_of_lt_of_eq t.isLt N_0⟩

/-- The loaded blocks at an index. -/
theorem x_at (c : Dev nD) (t : Fin cfg0.N) (r : Fin 128) (k : Fin 2176) : iblk m c 0 t (ix2 r k) = m (c.tc.loc main_arg0) (ix2 r k) := by
  obtain ⟨e0, e1⟩ := idx0 t
  show V m c main_arg0 (((cfg0.win 0).blk t).view.emb (ix2 r k)) = _
  rw [V_main_arg0, show ((cfg0.win 0).blk t).view.emb (ix2 r k) = ix2 r k from funext fun a => Fin.ext (by
    match a with
    | ⟨0, _⟩ => show win0_0.index t (0 : Fin 2) * 128 + 1 * r.val = r.val; omega
    | ⟨1, _⟩ => show win0_0.index t (1 : Fin 2) * 2176 + 1 * k.val = k.val; omega)]
theorem g1_at (c : Dev nD) (t : Fin cfg0.N) (k : Fin 2048) : iblk m c 1 t (ix2 0 k) = m (c.tc.loc main_arg1) (ix1 k) := by
  obtain ⟨e0, e1⟩ := idx1 t
  show V m c main_v3 (((cfg0.win 1).blk t).view.emb (ix2 0 k)) = _
  rw [V_g, show ((cfg0.win 1).blk t).view.emb (ix2 0 k) = ix2 0 k from funext fun a => Fin.ext (by
    match a with
    | ⟨0, _⟩ => show win0_1.index t (0 : Fin 2) * 1 + 1 * 0 = 0; omega
    | ⟨1, _⟩ => show win0_1.index t (1 : Fin 2) * 2048 + 1 * k.val = k.val; omega)]
  exact gains_at _ _
theorem g5_at (c : Dev nD) (t : Fin cfg0.N) (k : Fin 2048) : iblk m c 5 t (ix2 0 k) = m (c.tc.loc main_arg5) (ix1 k) := by
  obtain ⟨e0, e1⟩ := idx5 t
  show V m c main_v4 (((cfg0.win 5).blk t).view.emb (ix2 0 k)) = _
  rw [V_gf, show ((cfg0.win 5).blk t).view.emb (ix2 0 k) = ix2 0 k from funext fun a => Fin.ext (by
    match a with
    | ⟨0, _⟩ => show win0_5.index t (0 : Fin 2) * 1 + 1 * 0 = 0; omega
    | ⟨1, _⟩ => show win0_5.index t (1 : Fin 2) * 2048 + 1 * k.val = k.val; omega)]
  exact gains_at _ _
theorem w2_at (c : Dev nD) (t : Fin cfg0.N) (k : Fin 2048) (f : Fin 256) : iblk m c 2 t (ix3 0 k f) = m (c.tc.loc main_arg2) (ix3 (ex t) k f) := by
  obtain ⟨e0, e1, e2⟩ := idx2 t
  show V m c main_v0 (((cfg0.win 2).blk t).view.emb (ix3 0 k f)) = _
  rw [V_wg, show ((cfg0.win 2).blk t).view.emb (ix3 0 k f) = ix3 (ex t) k f from funext fun a => Fin.ext (by
    match a with
    | ⟨0, _⟩ => show win0_2.index t (0 : Fin 3) * 1 + 1 * 0 = t.val; omega
    | ⟨1, _⟩ => show win0_2.index t (1 : Fin 3) * 2048 + 1 * k.val = k.val; omega
    | ⟨2, _⟩ => show win0_2.index t (2 : Fin 3) * 256 + 1 * f.val = f.val; omega)]
theorem w3_at (c : Dev nD) (t : Fin cfg0.N) (k : Fin 2048) (f : Fin 256) : iblk m c 3 t (ix3 0 k f) = m (c.tc.loc main_arg3) (ix3 (ex t) k f) := by
  obtain ⟨e0, e1, e2⟩ := idx3 t
  show V m c main_v1 (((cfg0.win 3).blk t).view.emb (ix3 0 k f)) = _
  rw [V_wu, show ((cfg0.win 3).blk t).view.emb (ix3 0 k f) = ix3 (ex t) k f from funext fun a => Fin.ext (by
    match a with
    | ⟨0, _⟩ => show win0_3.index t (0 : Fin 3) * 1 + 1 * 0 = t.val; omega
    | ⟨1, _⟩ => show win0_3.index t (1 : Fin 3) * 2048 + 1 * k.val = k.val; omega
    | ⟨2, _⟩ => show win0_3.index t (2 : Fin 3) * 256 + 1 * f.val = f.val; omega)]
theorem w4_at (c : Dev nD) (t : Fin cfg0.N) (k : Fin 256) (f : Fin 2048) : iblk m c 4 t (ix3 0 k f) = m (c.tc.loc main_arg4) (ix3 (ex t) k f) := by
  obtain ⟨e0, e1, e2⟩ := idx4 t
  show V m c main_v2 (((cfg0.win 4).blk t).view.emb (ix3 0 k f)) = _
  rw [V_wd, show ((cfg0.win 4).blk t).view.emb (ix3 0 k f) = ix3 (ex t) k f from funext fun a => Fin.ext (by
    match a with
    | ⟨0, _⟩ => show win0_4.index t (0 : Fin 3) * 1 + 1 * 0 = t.val; omega
    | ⟨1, _⟩ => show win0_4.index t (1 : Fin 3) * 256 + 1 * k.val = k.val; omega
    | ⟨2, _⟩ => show win0_4.index t (2 : Fin 3) * 2048 + 1 * f.val = f.val; omega)]

/-- What expert `n` adds, in the launch's arrays; past the last expert nothing. -/
def shareOf (c : Dev nD) (r : Fin 128) (d : Fin 2048) (n : ℕ) : EReal :=
  if h : n < 32 then share (m (c.tc.loc main_arg0)) (m (c.tc.loc main_arg1)) (m (c.tc.loc main_arg2)) (m (c.tc.loc main_arg3)) (m (c.tc.loc main_arg4)) r d ⟨n, h⟩ else 0

/-- The input block's rows and record lanes, read at an index. -/
theorem ldX (c : Dev nD) (t : Fin cfg0.N) (r : Fin 128) (k : Fin 2048) :
    View.ld (iblk m c 0 t) rX (ix2 r k) = m (c.tc.loc main_arg0) (ix2 r ⟨k.val, by omega⟩) :=
  (show View.ld (iblk m c 0 t) rX (ix2 r k) = iblk m c 0 t (ix2 r ⟨k.val, by omega⟩) from by pointwise).trans (x_at m c t r _)
theorem ldR (c : Dev nD) (t : Fin cfg0.N) (r : Fin 128) (k : Fin 128) :
    View.ld (iblk m c 0 t) rR (ix2 r k) = m (c.tc.loc main_arg0) (ix2 r ⟨2048 + k.val, by omega⟩) :=
  (show View.ld (iblk m c 0 t) rR (ix2 r k) = iblk m c 0 t (ix2 r ⟨2048 + k.val, by omega⟩) from by pointwise).trans (x_at m c t r _)

/-- One point's step: over the normalised rows it adds its expert's share to what the accumulator held. -/
theorem step_at (c : Dev nD) (t : Fin cfg0.N) (a : Vec Ideal S128x2048 .f32) (h : Vec Ideal S128x2048 .bf16)
    (hh : ∀ r k, h (ix2 r k) = normed (m (c.tc.loc main_arg0)) (m (c.tc.loc main_arg1)) r k) (r : Fin 128) (d : Fin 2048) :
    k0_pay1 (k0_pay5 (grid0.coords t) a h (View.ld (iblk m c 0 t) rR) (iblk m c 2 t) (iblk m c 3 t) (iblk m c 4 t)) (ix2 r d)
      = a (ix2 r d) + shareOf m c r d t.val := by
  have ht : t.val < 32 := lt_of_lt_of_eq t.isLt N_0
  rw [show ∀ v : FVec Ideal S128x2048 .f32, k0_pay1 v = v from fun v => by unfold k0_pay1; exact shapeCast_self _ _, pay5_at]
  unfold shareOf; rw [dif_pos ht]
  unfold share hid proj
  simp only [hh, w2_at, w3_at, w4_at, ldR]
  have hl : ∀ h', (⟨2048 + (4 + ((grid0.coords t) 1).val), h'⟩ : Fin 2176) = ⟨2052 + t.val, by omega⟩ := fun _ =>
    Fin.ext (by show 2048 + (4 + ((grid0.coords t) 1).val) = 2052 + t.val; rw [expert_of]; omega)
  simp only [hl]

/-- After point `n` the carried rows are the normalised input and the accumulator holds the shares of the experts so far. -/
theorem carried (c : Dev nD) : ∀ (n : ℕ) (hn : n < cfg0.N),
    (∀ r k, (outsAt0 m c n hn).2.1 (ix2 r k) = normed (m (c.tc.loc main_arg0)) (m (c.tc.loc main_arg1)) r k)
      ∧ ∀ r d, (outsAt0 m c n hn).2.2 (ix2 r d) = ∑ e ∈ Finset.range (n + 1), shareOf m c r d e := by
  intro n
  induction n with
  | zero =>
    intro hn
    have e := outsAt0_A m c ⟨0, hn⟩ rfl (by show ¬0 % 32 = 31; decide)
    have h0 : ∀ r k, k0_pay3 (View.ld (iblk m c 0 ⟨0, hn⟩) rX) (iblk m c 1 ⟨0, hn⟩) (ix2 r k)
        = normed (m (c.tc.loc main_arg0)) (m (c.tc.loc main_arg1)) r k := fun r k => by
      rw [pay3_at]; simp only [ldX, g1_at]
    refine ⟨fun r k => ?_, fun r d => ?_⟩
    · rw [show outsAt0 m c 0 hn = _ from e]; dsimp only; rw [sout_A_0]; exact h0 r k
    · rw [show outsAt0 m c 0 hn = _ from e]; dsimp only; rw [sout_A_1]
      refine (step_at m c ⟨0, hn⟩ _ _ h0 r d).trans ?_
      rw [Finset.sum_range_one]
      exact (congrArg (· + shareOf m c r d 0) (pay4_at r d)).trans (zero_add _)
  | succ n ih =>
    intro hn
    have hN : cfg0.N = 32 := N_0
    obtain ⟨i0, i1⟩ := ih (Nat.lt_of_succ_lt hn)
    have h0 : ¬(n + 1) % 32 = 0 := by omega
    by_cases h1 : (n + 1) % 32 = 31
    · have e := outsAt0_C m c ⟨n + 1, hn⟩ h0 h1
      refine ⟨fun r k => ?_, fun r d => ?_⟩
      · rw [show outsAt0 m c (n + 1) hn = _ from e]; exact i0 r k
      · rw [show outsAt0 m c (n + 1) hn = _ from e]; dsimp only; rw [sout_C_1]
        refine (step_at m c ⟨n + 1, hn⟩ _ _ i0 r d).trans ?_
        rw [Finset.sum_range_succ]
        exact congrArg (· + shareOf m c r d (n + 1)) (i1 r d)
    · have e := outsAt0_B m c ⟨n + 1, hn⟩ h0 h1
      refine ⟨fun r k => ?_, fun r d => ?_⟩
      · rw [show outsAt0 m c (n + 1) hn = _ from e]; exact i0 r k
      · rw [show outsAt0 m c (n + 1) hn = _ from e]; dsimp only; rw [sout_B_1]
        refine (step_at m c ⟨n + 1, hn⟩ _ _ i0 r d).trans ?_
        rw [Finset.sum_range_succ]
        exact congrArg (· + shareOf m c r d (n + 1)) (i1 r d)

/-- The array the last point leaves is the reference's result. -/
theorem result_eq (c : Dev nD) : G6 m c = val_main_v42 (F := Ideal) (m (c.tc.loc main_arg0)) (m (c.tc.loc main_arg1)) (m (c.tc.loc main_arg2))
    (m (c.tc.loc main_arg3)) (m (c.tc.loc main_arg4)) (m (c.tc.loc main_arg5)) := by
  have hN : cfg0.N = 32 := N_0
  have h31 : 31 < cfg0.N := by omega
  rw [G6_last, ← outsAt0_sweep m c 31 h31]
  funext j
  obtain ⟨r, d, rfl⟩ : ∃ (a : Fin 128) (b : Fin 2048), j = ix2 a b := ⟨j 0, j 1, eq_ix2 j⟩
  obtain ⟨i0, i1⟩ := carried m c 30 (by omega)
  have e := outsAt0_C m c ⟨31, h31⟩ (by show ¬31 % 32 = 0; decide) (by show 31 % 32 = 31; decide)
  rw [show outsAt0 m c 31 h31 = _ from e]
  dsimp only
  rw [out_C_6, pay2_at, ref_at]
  unfold mixed
  refine congrArg₂ (fun a b => rmsRow a b d) (funext fun k => ?_) (funext fun k => g5_at m c _ k)
  refine (congrArg₂ (fun a b : EReal => a + b) (ldX m c ⟨31, h31⟩ r k) (step_at m c ⟨31, h31⟩ _ _ i0 r k)).trans ?_
  unfold summed
  refine congrArg (fun a : EReal => _ + a) ?_
  refine (congrArg (· + shareOf m c r k 31) (i1 r k)).trans ?_
  rw [← Finset.sum_range_succ, Finset.sum_range]
  unfold shareOf
  simp

/-- The kernel's result is the reference's. -/
theorem algebraic : Cert.algebraic_KernelMoeIdeal_ReferenceMoeIdeal
    (hKernelMoeIdeal := Cert.KernelMoeIdeal.Gen.facts) (hReferenceMoeIdeal := Cert.ReferenceMoeIdeal.Gen.facts) := by
  intro m g m' g' _ hargs
  refine ⟨fun c => G6 m c, run m g, ?_⟩
  refine (θ_run _ _ _).mono (fun r h c => ?_) (Cert.ReferenceMoeIdeal.Value.run m' g')
  obtain ⟨h0, hk⟩ := h c
  obtain ⟨a0, a1, a2, a3, a4, a5⟩ := hargs c
  refine ⟨h0.trans ?_, hk⟩
  show _ = G6 m c
  rw [result_eq, val_main_v42_eq, a0, a1, a2, a3, a4, a5]

end Cert.Proof.Moe

end
-- ==== Proof.MixTerm.lean ====
/- The mixer's kernel: what each case of its body leaves in the result's block and in the carried rows, as terms over the
   point's blocks and the rows before it. -/
module

public import proofs.«01_k».proof.Proof.Gen.KernelMixIdeal.Value
public import proofs.«01_k».proof.Proof.Rms

@[expose] public section

set_option maxRecDepth 16384

noncomputable section

namespace Cert.Proof.Mix

open Cert.KernelMixIdeal Cert.KernelMixIdeal.Gen
open Idealize.ShloMosaic Idealize.ShloMosaic.TcCoe Idealize.SL.Sem

variable {F : FTy → Type} [FloatOps F]

theorem zeros3 : (![0, 0, 0] : Fin 3 → Nat) = fun _ => 0 := funext fun a => by fin_cases a <;> rfl

section Terms

variable (E : Vec F S528x1024 .f32) (i : grid0.Coords) (x0 : Vec F S1x512x2048 .f32) (x1 : Vec F S1x512x1024 .bf16) (x2 : Vec F S1x512x1024 .f32) (x3 : Vec F S1x16x1024 .f32) (x4 : Vec F S1x256x512 .bf16) (x5 : Vec F S1x256x512 .bf16) (x6 : Vec F S4x256x256 .bf16) (x7 : Vec F S1x1024 .f32) (x8 : Vec F S2048x2048 .bf16) (x9 : Vec F S1x2048 .f32) (x10 : Vec F S2048x512 .bf16) (x11 : Vec F S512x2048 .bf16) (x12 : Vec F S1x2048 .f32) (x13 : Vec F S2048x128 .bf16) (x14 : Vec F S1x128 .f32)

/-- The attention's share of the output projection; the pooled groups after their weights. -/
def tA : FVec F S512x2048 .f32 := k0_pay5 x1 (View.ld x8 (Rect.unit (s := S2048x2048) ![0, 0] S1024x2048.size inb_S2048x2048_S1024x2048_0_0))
def tG0 : FVec F S512x256 .bf16 := k0_pay8 (k0_pay7 i (View.ld E (Rect.unit (s := S528x1024) ![16, 0] S512x256.size inb_S528x1024_S512x256_16_0)) (View.ld E (Rect.unit (s := S528x1024) ![15, 0] S512x256.size inb_S528x1024_S512x256_15_0))) (View.ld x2 (Rect.unit (s := S1x512x1024) ![0, 0, 0] S1x512x256.size inb_S1x512x1024_S1x512x256_0_0_0)) (View.ld x6 (Rect.unit (s := S4x256x256) ![0, 0, 0] S1x256x256.size inb_S4x256x256_S1x256x256_0_0_0)) (View.ld x7 (Rect.unit (s := S1x1024) ![0, 0] S1x256.size inb_S1x1024_S1x256_0_0))
def tG1 : FVec F S512x256 .bf16 := k0_pay10 (k0_pay9 (k0_pay6 i) (View.ld E (Rect.unit (s := S528x1024) ![16, 256] S512x256.size inb_S528x1024_S512x256_16_256)) (View.ld E (Rect.unit (s := S528x1024) ![15, 256] S512x256.size inb_S528x1024_S512x256_15_256)) (View.ld E (Rect.unit (s := S528x1024) ![14, 256] S512x256.size inb_S528x1024_S512x256_14_256)) (View.ld E (Rect.unit (s := S528x1024) ![13, 256] S512x256.size inb_S528x1024_S512x256_13_256)) (View.ld x2 (Rect.unit (s := S1x512x1024) ![0, 0, 256] S1x512x256.size inb_S1x512x1024_S1x512x256_0_0_256)) (View.ld x6 (Rect.unit (s := S4x256x256) ![1, 0, 0] S1x256x256.size inb_S4x256x256_S1x256x256_1_0_0))) (View.ld x7 (Rect.unit (s := S1x1024) ![0, 256] S1x256.size inb_S1x1024_S1x256_0_256))
def tG2 : FVec F S512x256 .bf16 := k0_pay12 (k0_pay11 (k0_pay6 i) (View.ld E (Rect.unit (s := S528x1024) ![16, 512] S512x256.size inb_S528x1024_S512x256_16_512)) (View.ld E (Rect.unit (s := S528x1024) ![15, 512] S512x256.size inb_S528x1024_S512x256_15_512)) (View.ld E (Rect.unit (s := S528x1024) ![14, 512] S512x256.size inb_S528x1024_S512x256_14_512)) (View.ld E (Rect.unit (s := S528x1024) ![13, 512] S512x256.size inb_S528x1024_S512x256_13_512)) (View.ld E (Rect.unit (s := S528x1024) ![12, 512] S512x256.size inb_S528x1024_S512x256_12_512)) (View.ld E (Rect.unit (s := S528x1024) ![11, 512] S512x256.size inb_S528x1024_S512x256_11_512)) (View.ld E (Rect.unit (s := S528x1024) ![10, 512] S512x256.size inb_S528x1024_S512x256_10_512)) (View.ld E (Rect.unit (s := S528x1024) ![9, 512] S512x256.size inb_S528x1024_S512x256_9_512)) (View.ld x2 (Rect.unit (s := S1x512x1024) ![0, 0, 512] S1x512x256.size inb_S1x512x1024_S1x512x256_0_0_512)) (View.ld x6 (Rect.unit (s := S4x256x256) ![2, 0, 0] S1x256x256.size inb_S4x256x256_S1x256x256_2_0_0))) (View.ld x7 (Rect.unit (s := S1x1024) ![0, 512] S1x256.size inb_S1x1024_S1x256_0_512))
def tS3 : FVec F S512x256 .f32 := k0_pay13 (View.ld E (Rect.unit (s := S528x1024) ![16, 768] S512x256.size inb_S528x1024_S512x256_16_768)) (View.ld E (Rect.unit (s := S528x1024) ![15, 768] S512x256.size inb_S528x1024_S512x256_15_768)) (View.ld E (Rect.unit (s := S528x1024) ![14, 768] S512x256.size inb_S528x1024_S512x256_14_768)) (View.ld E (Rect.unit (s := S528x1024) ![13, 768] S512x256.size inb_S528x1024_S512x256_13_768)) (View.ld E (Rect.unit (s := S528x1024) ![12, 768] S512x256.size inb_S528x1024_S512x256_12_768)) (View.ld E (Rect.unit (s := S528x1024) ![11, 768] S512x256.size inb_S528x1024_S512x256_11_768)) (View.ld E (Rect.unit (s := S528x1024) ![10, 768] S512x256.size inb_S528x1024_S512x256_10_768)) (View.ld E (Rect.unit (s := S528x1024) ![9, 768] S512x256.size inb_S528x1024_S512x256_9_768)) (View.ld E (Rect.unit (s := S528x1024) ![8, 768] S512x256.size inb_S528x1024_S512x256_8_768)) (View.ld E (Rect.unit (s := S528x1024) ![7, 768] S512x256.size inb_S528x1024_S512x256_7_768)) (View.ld E (Rect.unit (s := S528x1024) ![6, 768] S512x256.size inb_S528x1024_S512x256_6_768)) (View.ld E (Rect.unit (s := S528x1024) ![5, 768] S512x256.size inb_S528x1024_S512x256_5_768)) (View.ld E (Rect.unit (s := S528x1024) ![4, 768] S512x256.size inb_S528x1024_S512x256_4_768))

/-- The rows after attention and pool, and the sums of their squares. -/
def tX1 : FVec F S512x2048 .f32 :=
  k0_pay14 (tA x1 x8) (k0_pay6 i) (tG0 E i x2 x6 x7) (tG1 E i x2 x6 x7) (tG2 E i x2 x6 x7) (tS3 E) (View.ld E (Rect.unit (s := S528x1024) ![3, 768] S512x256.size inb_S528x1024_S512x256_3_768)) (View.ld E (Rect.unit (s := S528x1024) ![2, 768] S512x256.size inb_S528x1024_S512x256_2_768)) (View.ld E (Rect.unit (s := S528x1024) ![1, 768] S512x256.size inb_S528x1024_S512x256_1_768)) (View.ld x2 (Rect.unit (s := S1x512x1024) ![0, 0, 768] S1x512x256.size inb_S1x512x1024_S1x512x256_0_0_768)) (View.ld x6 (Rect.unit (s := S4x256x256) ![3, 0, 0] S1x256x256.size inb_S4x256x256_S1x256x256_3_0_0)) (View.ld x7 (Rect.unit (s := S1x1024) ![0, 768] S1x256.size inb_S1x1024_S1x256_0_768)) x0 (View.ld x8 (Rect.unit (s := S2048x2048) ![1024, 0] S1024x2048.size inb_S2048x2048_S1024x2048_1024_0))
def tQ : FVec F S512 .f32 :=
  k0_pay16 (tA x1 x8) (k0_pay6 i) (tG0 E i x2 x6 x7) (tG1 E i x2 x6 x7) (tG2 E i x2 x6 x7) (tS3 E) (View.ld E (Rect.unit (s := S528x1024) ![3, 768] S512x256.size inb_S528x1024_S512x256_3_768)) (View.ld E (Rect.unit (s := S528x1024) ![2, 768] S512x256.size inb_S528x1024_S512x256_2_768)) (View.ld E (Rect.unit (s := S528x1024) ![1, 768] S512x256.size inb_S528x1024_S512x256_1_768)) (View.ld x2 (Rect.unit (s := S1x512x1024) ![0, 0, 768] S1x512x256.size inb_S1x512x1024_S1x512x256_0_0_768)) (View.ld x6 (Rect.unit (s := S4x256x256) ![3, 0, 0] S1x256x256.size inb_S4x256x256_S1x256x256_3_0_0)) (View.ld x7 (Rect.unit (s := S1x1024) ![0, 768] S1x256.size inb_S1x1024_S1x256_0_768)) x0 (View.ld x8 (Rect.unit (s := S2048x2048) ![1024, 0] S1024x2048.size inb_S2048x2048_S1024x2048_1024_0))

end Terms

section Attn

variable (X : FVec F S512x2048 .f32) (Q : FVec F S512 .f32) (x4 x5 : Vec F S1x256x512 .bf16) (x9 : Vec F S1x2048 .f32) (x10 : Vec F S2048x512 .bf16)
  (x11 : Vec F S512x2048 .bf16) (x12 : Vec F S1x2048 .f32)

/-- The four heads over the memory. -/
def tH0 : FVec F S512x128 .bf16 := k0_pay23 (k0_pay21 X (k0_pay15 x9) Q x10 (View.ld x4 (Rect.unit (s := S1x256x512) ![0, 0, 0] S1x256x128.size inb_S1x256x512_S1x256x128_0_0_0))) (k0_pay22 X (k0_pay15 x9) Q x10 (View.ld x4 (Rect.unit (s := S1x256x512) ![0, 0, 0] S1x256x128.size inb_S1x256x512_S1x256x128_0_0_0))) (View.ld x5 (Rect.unit (s := S1x256x512) ![0, 0, 0] S1x256x128.size inb_S1x256x512_S1x256x128_0_0_0))
def tH1 : FVec F S512x128 .bf16 := k0_pay24 (k0_pay18 X (k0_pay15 x9) Q x10 (View.ld x4 (Rect.unit (s := S1x256x512) ![0, 0, 128] S1x256x128.size inb_S1x256x512_S1x256x128_0_0_128))) (View.ld x5 (Rect.unit (s := S1x256x512) ![0, 0, 128] S1x256x128.size inb_S1x256x512_S1x256x128_0_0_128))
def tL2 : FVec F S512x256 .f32 := k0_pay19 X (k0_pay15 x9) Q x10 (View.ld x4 (Rect.unit (s := S1x256x512) ![0, 0, 256] S1x256x128.size inb_S1x256x512_S1x256x128_0_0_256))
def tL3 : FVec F S512x256 .f32 := k0_pay20 X (k0_pay15 x9) Q x10 (View.ld x4 (Rect.unit (s := S1x256x512) ![0, 0, 384] S1x256x128.size inb_S1x256x512_S1x256x128_0_0_384))

/-- The rows after the memory's attention: as a block, and normalised up to the gains. -/
def tX2 : FVec F S512x2048 .f32 :=
  k0_pay29 X (tL3 X Q x4 x9 x10) (tH0 X Q x4 x5 x9 x10) (tH1 X Q x4 x5 x9 x10) (k0_pay26 (tL2 X Q x4 x9 x10)) (k0_pay27 (tL2 X Q x4 x9 x10)) (k0_pay28 (View.ld x5 (Rect.unit (s := S1x256x512) ![0, 0, 256] S1x256x128.size inb_S1x256x512_S1x256x128_0_0_256))) (constant S512x128 .f32 0x00000000#32) (View.ld x5 (Rect.unit (s := S1x256x512) ![0, 0, 384] S1x256x128.size inb_S1x256x512_S1x256x128_0_0_384)) x11
def tB2 : FVec F S1x512x2048 .f32 :=
  k0_pay30 X (tL3 X Q x4 x9 x10) (tH0 X Q x4 x5 x9 x10) (tH1 X Q x4 x5 x9 x10) (k0_pay26 (tL2 X Q x4 x9 x10)) (k0_pay27 (tL2 X Q x4 x9 x10)) (k0_pay28 (View.ld x5 (Rect.unit (s := S1x256x512) ![0, 0, 256] S1x256x128.size inb_S1x256x512_S1x256x128_0_0_256))) (constant S512x128 .f32 0x00000000#32) (View.ld x5 (Rect.unit (s := S1x256x512) ![0, 0, 384] S1x256x128.size inb_S1x256x512_S1x256x128_0_0_384)) x11
def tN2 : FVec F S512x2048 .f32 :=
  k0_pay31 X (tL3 X Q x4 x9 x10) (tH0 X Q x4 x5 x9 x10) (tH1 X Q x4 x5 x9 x10) (k0_pay26 (tL2 X Q x4 x9 x10)) (k0_pay27 (tL2 X Q x4 x9 x10)) (k0_pay28 (View.ld x5 (Rect.unit (s := S1x256x512) ![0, 0, 256] S1x256x128.size inb_S1x256x512_S1x256x128_0_0_256))) (constant S512x128 .f32 0x00000000#32) (View.ld x5 (Rect.unit (s := S1x256x512) ![0, 0, 384] S1x256x128.size inb_S1x256x512_S1x256x128_0_0_384)) x11

end Attn

section Record

variable (N G : FVec F S512x2048 .f32) (x13 : Vec F S2048x128 .bf16) (x14 : Vec F S1x128 .f32)

/-- The experts' logits in their lanes; the record. -/
def tE : FVec F S512x128 .f32 := k0_pay38 N G x13 x14
def tR : FVec F S1x512x128 .f32 :=
  k0_pay1 k0_pay34 (k0_pay43 k0_pay34 (tE N G x13 x14)) (k0_pay46 k0_pay34 (k0_pay37 N G x13 x14) (tE N G x13 x14)) (k0_pay47 k0_pay34 (tE N G x13 x14))
    (k0_pay48 k0_pay34 (tE N G x13 x14)) (Scalar.ofBits .f32 0x00000000#32) (k0_pay49 k0_pay34 (k0_pay37 N G x13 x14) (tE N G x13 x14))

end Record

/-- The two stores of the result's block. -/
abbrev rX : Rect S1x512x2176 := (Rect.unit (s := S1x512x2176) ![0, 0, 0] S1x512x2048.size inb_S1x512x2176_S1x512x2048_0_0_0)
abbrev rR : Rect S1x512x2176 := (Rect.unit (s := S1x512x2176) ![0, 0, 2048] S1x512x128.size inb_S1x512x2176_S1x512x128_0_0_2048)

/-- The block a point writes, over the rows `E` it finds before and at its own. -/
def tOut (E : Vec F S528x1024 .f32) (i : grid0.Coords) (x0 : Vec F S1x512x2048 .f32) (x1 : Vec F S1x512x1024 .bf16) (x2 : Vec F S1x512x1024 .f32) (x3 : Vec F S1x16x1024 .f32) (x4 : Vec F S1x256x512 .bf16) (x5 : Vec F S1x256x512 .bf16) (x6 : Vec F S4x256x256 .bf16) (x7 : Vec F S1x1024 .f32) (x8 : Vec F S2048x2048 .bf16) (x9 : Vec F S1x2048 .f32) (x10 : Vec F S2048x512 .bf16) (x11 : Vec F S512x2048 .bf16) (x12 : Vec F S1x2048 .f32) (x13 : Vec F S2048x128 .bf16) (x14 : Vec F S1x128 .f32) : Vec F S1x512x2176 .f32 :=
  View.canon [⟨rR, tR (tN2 (tX1 E i x0 x1 x2 x6 x7 x8) (tQ E i x0 x1 x2 x6 x7 x8) x4 x5 x9 x10 x11) (k0_pay32 x12) x13 x14⟩,
    ⟨rX, tB2 (tX1 E i x0 x1 x2 x6 x7 x8) (tQ E i x0 x1 x2 x6 x7 x8) x4 x5 x9 x10 x11⟩]

/-- The carried rows: sixteen before the block's, then the block's. -/
abbrev rH : Rect S528x1024 := (Rect.unit (s := S528x1024) ![0, 0] S16x1024.size inb_S528x1024_S16x1024_0_0)
abbrev rU : Rect S528x1024 := (Rect.unit (s := S528x1024) ![16, 0] S512x1024.size inb_S528x1024_S512x1024_16_0)
abbrev rT : Rect S528x1024 := (Rect.unit (s := S528x1024) ![512, 0] S16x1024.size inb_S528x1024_S16x1024_512_0)

/-- The rows at a first point of a sequence, and at a later one. -/
def extA (x2 : Vec F S1x512x1024 .f32) (x3 : Vec F S1x16x1024 .f32) : Vec F S528x1024 .f32 := View.canon [⟨rU, k0_pay4 x2⟩, ⟨rH, k0_pay2 x3⟩]
def extB (x2 : Vec F S1x512x1024 .f32) (xs : Vec F S528x1024 .f32) : Vec F S528x1024 .f32 := View.canon [⟨rU, k0_pay4 x2⟩, ⟨rH, k0_pay3 (View.ld xs rT)⟩]

/-- A load of what was stored is the load of the contents. -/
theorem readCov_ld (v : View sig .tc .vmem S528x1024 .f32) (L : List (View.Piece (Elt F) S528x1024 .f32)) (r : Rect S528x1024) :
    v.readCov L r.toLoadRect = View.ld (View.canon L) r := View.readCov_eq_canon' v L _

section Cases

variable (c : Dev nD) (i : grid0.Coords) (arg2 : Memref sig .tc .vmem S1x512x2048 .f32) (harg2 : arg2.IsWhole) (arg3 : Memref sig .tc .vmem S1x512x1024 .bf16) (harg3 : arg3.IsWhole) (arg4 : Memref sig .tc .vmem S1x512x1024 .f32) (harg4 : arg4.IsWhole) (arg5 : Memref sig .tc .vmem S1x16x1024 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x512 .bf16) (harg12 : arg12.IsWhole) (arg13 : Memref sig .tc .vmem S512x2048 .bf16) (harg13 : arg13.IsWhole) (arg14 : Memref sig .tc .vmem S1x2048 .f32) (harg14 : arg14.IsWhole) (arg15 : Memref sig .tc .vmem S2048x128 .bf16) (harg15 : arg15.IsWhole) (arg16 : Memref sig .tc .vmem S1x128 .f32) (harg16 : arg16.IsWhole) (arg17 : Memref sig .tc .vmem S1x512x2176 .f32) (harg17 : arg17.IsWhole) (arg18 : Memref sig .tc .vmem S528x1024 .f32) (harg18 : arg18.IsWhole)
  (x0 : Vec F S1x512x2048 .f32) (x1 : Vec F S1x512x1024 .bf16) (x2 : Vec F S1x512x1024 .f32) (x3 : Vec F S1x16x1024 .f32) (x4 : Vec F S1x256x512 .bf16) (x5 : Vec F S1x256x512 .bf16) (x6 : Vec F S4x256x256 .bf16) (x7 : Vec F S1x1024 .f32) (x8 : Vec F S2048x2048 .bf16) (x9 : Vec F S1x2048 .f32) (x10 : Vec F S2048x512 .bf16) (x11 : Vec F S512x2048 .bf16) (x12 : Vec F S1x2048 .f32) (x13 : Vec F S2048x128 .bf16) (x14 : Vec F S1x128 .f32) (xs0 : Vec F S528x1024 .f32)

theorem soutA (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 = (extA x2 x3) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14)]
  unfold kernelRun0_A
  dsimp only
  sl_unfold_words
  simp only [readCov_ld, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S1x512x2048) zeros3, View.ld_unit_zero (S := S1x512x1024) zeros3, View.ld_unit_zero (S := S1x16x1024) zeros3, View.ld_unit_zero (S := S1x2048) zeros2, View.ld_unit_zero (S := S2048x512) zeros2, View.ld_unit_zero (S := S512x2048) zeros2, View.ld_unit_zero (S := S2048x128) zeros2, View.ld_unit_zero (S := S1x128) zeros2]
  rfl

theorem ooutA (hc0 : cond0_0 i) (hc1 : ¬cond0_1 i) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 = tOut (extA x2 x3) i x0 x1 x2 x3 x4 x5 x6 x7 x8 x9 x10 x11 x12 x13 x14 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14)]
  unfold kernelRun0_A
  dsimp only
  sl_unfold_words
  simp only [readCov_ld, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S1x512x2048) zeros3, View.ld_unit_zero (S := S1x512x1024) zeros3, View.ld_unit_zero (S := S1x16x1024) zeros3, View.ld_unit_zero (S := S1x2048) zeros2, View.ld_unit_zero (S := S2048x512) zeros2, View.ld_unit_zero (S := S512x2048) zeros2, View.ld_unit_zero (S := S2048x128) zeros2, View.ld_unit_zero (S := S1x128) zeros2]
  rfl

theorem soutB (hc0 : ¬cond0_0 i) (hc1 : cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = (extB x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_B
  dsimp only
  sl_unfold_words
  simp only [readCov_ld, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S1x512x2048) zeros3, View.ld_unit_zero (S := S1x512x1024) zeros3, View.ld_unit_zero (S := S1x16x1024) zeros3, View.ld_unit_zero (S := S1x2048) zeros2, View.ld_unit_zero (S := S2048x512) zeros2, View.ld_unit_zero (S := S512x2048) zeros2, View.ld_unit_zero (S := S2048x128) zeros2, View.ld_unit_zero (S := S1x128) zeros2]
  rfl

theorem ooutB (hc0 : ¬cond0_0 i) (hc1 : cond0_1 i) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = tOut (extB x2 xs0) i x0 x1 x2 x3 x4 x5 x6 x7 x8 x9 x10 x11 x12 x13 x14 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_B
  dsimp only
  sl_unfold_words
  simp only [readCov_ld, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S1x512x2048) zeros3, View.ld_unit_zero (S := S1x512x1024) zeros3, View.ld_unit_zero (S := S1x16x1024) zeros3, View.ld_unit_zero (S := S1x2048) zeros2, View.ld_unit_zero (S := S2048x512) zeros2, View.ld_unit_zero (S := S512x2048) zeros2, View.ld_unit_zero (S := S2048x128) zeros2, View.ld_unit_zero (S := S1x128) zeros2]
  rfl

end Cases

end Cert.Proof.Mix

end
-- ==== Proof.MixReal.lean ====
/- The extended reals that are real numbers, and the operations that keep them so: sums, products, quotients by what is not
   zero, exponentials, the root's reciprocal of a positive number, the largest of a row, the normalised row. -/
module

public import proofs.«01_k».proof.Proof.Rms

@[expose] public section

noncomputable section

namespace Cert.Proof.Mix

open Idealize.ShloMosaic

/-- `x` is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.mul {x y : EReal} : IsR x → IsR y → IsR (x * y) := fun ⟨a, ha⟩ ⟨b, hb⟩ => ⟨a * b, by rw [ha, hb, EReal.coe_mul]⟩
theorem IsR.ne_bot {x : EReal} : IsR x → x ≠ ⊥ := fun ⟨a, ha⟩ => by rw [ha]; exact EReal.coe_ne_bot a
theorem IsR.ne_top {x : EReal} : IsR x → x ≠ ⊤ := fun ⟨a, ha⟩ => by rw [ha]; exact EReal.coe_ne_top a
theorem IsR.bot_lt {x : EReal} (h : IsR x) : ⊥ < x := bot_lt_iff_ne_bot.2 h.ne_bot

theorem IsR.sum {ι : Type} (s : Finset ι) (f : ι → EReal) (h : ∀ i ∈ s, IsR (f i)) : IsR (∑ i ∈ s, f i) :=
  Finset.sum_induction f IsR (fun _ _ => IsR.add) isR_zero h

theorem IsR.inv {x : EReal} : IsR x → IsR x⁻¹ := fun ⟨a, ha⟩ => ⟨a⁻¹, by rw [ha, EReal.coe_inv]⟩

/-- A quotient by what is not zero is the product with the inverse. -/
theorem div_of_ne {x y : EReal} (h : y ≠ 0) : Ideal.div x y = x * y⁻¹ := by
  unfold Ideal.div; exact if_neg h

theorem IsR.div {x y : EReal} (hx : IsR x) (hy : IsR y) (h : y ≠ 0) : IsR (Ideal.div x y) := by
  rw [div_of_ne h]; exact hx.mul hy.inv

theorem exp_coe (r : ℝ) : Ideal.exp (r : EReal) = (Real.exp r : EReal) := rfl
theorem IsR.exp {x : EReal} : IsR x → IsR (Ideal.exp x) := fun ⟨a, ha⟩ => ⟨Real.exp a, by rw [ha, exp_coe]⟩
theorem IsR.exp_pos {x : EReal} : IsR x → 0 < Ideal.exp x := fun ⟨a, ha⟩ => by
  rw [ha, exp_coe]; exact EReal.coe_pos.2 (Real.exp_pos a)

theorem IsR.rsqrt {x : EReal} (h : IsR x) (hp : 0 < x) : IsR (Ideal.rsqrt x) := by
  obtain ⟨a, rfl⟩ := h
  have ha : 0 < a := EReal.coe_pos.1 hp
  refine ⟨(√a)⁻¹, ?_⟩
  show (if a < 0 then (⊥ : EReal) else if a = 0 then ⊤ else _) = _
  rw [if_neg (not_lt.2 ha.le), if_neg ha.ne']

/-- The largest of a row, starting from −∞: an upper bound that some element attains. -/
def top {n : ℕ} (f : Fin n → EReal) : EReal := Finset.fold max ⊥ f Finset.univ

theorem le_top_row {n : ℕ} (f : Fin n → EReal) (i : Fin n) : f i ≤ top f := (Finset.le_fold_max _).2 (Or.inr ⟨i, Finset.mem_univ i, le_rfl⟩)

theorem top_eq {n : ℕ} (f : Fin n → EReal) (i : Fin n) (h : ∀ c, f c ≤ f i) : top f = f i :=
  le_antisymm ((Finset.fold_max_le _).2 ⟨bot_le, fun c _ => h c⟩) (le_top_row f i)

theorem top_mem {n : ℕ} [NeZero n] (f : Fin n → EReal) : ∃ i, top f = f i := by
  obtain ⟨i, _, hi⟩ := Finset.exists_max_image Finset.univ f ⟨0, Finset.mem_univ _⟩
  exact ⟨i, top_eq f i fun c => hi c (Finset.mem_univ c)⟩

/-- The words of −∞, +∞, 0, 1, 4, 8 and 128. -/
theorem bits_bot : Ideal.ofBits FTy.f32 4286578688#32 = (⊥ : EReal) := by simp [Ideal.ofBits, Ideal.ieee]
theorem bits_top : Ideal.ofBits FTy.f32 2139095040#32 = (⊤ : EReal) := by simp [Ideal.ofBits, Ideal.ieee]
theorem bits_one : Ideal.ofBits FTy.f32 1065353216#32 = ((1 : ℝ) : EReal) := by
  simp [Ideal.ofBits, Ideal.ieee, -EReal.coe_mul]; norm_num
theorem bits_four : Ideal.ofBits FTy.f32 1082130432#32 = ((4 : ℝ) : EReal) := by
  simp [Ideal.ofBits, Ideal.ieee, -EReal.coe_mul]; norm_num
theorem bits_eight : Ideal.ofBits FTy.f32 1090519040#32 = ((8 : ℝ) : EReal) := by
  simp [Ideal.ofBits, Ideal.ieee, -EReal.coe_mul]; norm_num
theorem bits_128 : Ideal.ofBits FTy.f32 1124073472#32 = ((128 : ℝ) : EReal) := by
  simp [Ideal.ofBits, Ideal.ieee, -EReal.coe_mul]; norm_num
theorem bits_2048 : Ideal.ofBits FTy.f32 1157627904#32 = ((2048 : ℝ) : EReal) := by
  simp [Ideal.ofBits, Ideal.ieee, -EReal.coe_mul]; norm_num
theorem bits_eps : Ideal.ofBits FTy.f32 897988541#32 = ((8796093 / 8796093022208 : ℝ) : EReal) := by
  simp [Ideal.ofBits, Ideal.ieee, -EReal.coe_mul]; norm_num
theorem bits_scale : IsR (Ideal.ofBits FTy.f32 1035273459#32) := by
  refine ⟨11863283 / 134217728, ?_⟩
  simp [Ideal.ofBits, Ideal.ieee, -EReal.coe_mul]; norm_num

/-- The normalised row of a row of reals with real gains is a row of reals. -/
theorem isR_rms (x g : Fin 2048 → EReal) (hx : ∀ k, IsR (x k)) (hg : ∀ k, IsR (g k)) (k : Fin 2048) : IsR (rmsRow x g k) := by
  unfold rmsRow
  have hs : IsR (∑ j, x j * x j) := IsR.sum _ _ fun j _ => (hx j).mul (hx j)
  have h0 : 0 ≤ ∑ j, x j * x j := Finset.sum_nonneg fun j _ => by
    obtain ⟨a, ha⟩ := hx j
    rw [ha, ← EReal.coe_mul]; exact EReal.coe_nonneg.2 (mul_self_nonneg a)
  obtain ⟨s, hs⟩ := hs
  rw [hs] at h0 ⊢
  have hs0 : 0 ≤ s := EReal.coe_nonneg.1 h0
  have e : Ideal.div (s : EReal) (Ideal.ofBits FTy.f32 1157627904#32) + Ideal.ofBits FTy.f32 897988541#32
      = ((s * (2048 : ℝ)⁻¹ + 8796093 / 8796093022208 : ℝ) : EReal) := by
    rw [bits_2048, bits_eps, div_of_ne (by exact_mod_cast (by norm_num : (2048 : ℝ) ≠ 0)), ← EReal.coe_inv, ← EReal.coe_mul, ← EReal.coe_add]
  rw [e]
  exact ((hx k).mul ((isR_coe _).rsqrt (EReal.coe_pos.2 (by positivity)))).mul (hg k)

end Cert.Proof.Mix

end
-- ==== Proof.MixRoute.lean ====
/- Who comes first in a row, the earlier of two equal elements counting as the larger: what the largest and its least place
   read, what a stable descending sort leaves in front, and the router's record computed from either. -/
module

public import proofs.«01_k».proof.Proof.MixReal
public import Idealize.ShloMosaic.Lib.SortFacts

@[expose] public section

noncomputable section

namespace Cert.Proof.Mix

open Idealize.ShloMosaic

/-- Element `b` comes before element `c`: it is larger, or as large and earlier. -/
def Bef {n : ℕ} (f : Fin n → EReal) (b c : Fin n) : Prop := f c < f b ∨ (f c = f b ∧ b < c)

/-- `i` comes before all the others. -/
def First {n : ℕ} (f : Fin n → EReal) (i : Fin n) : Prop := ∀ c, c ≠ i → Bef f i c

/-- `k` comes before all the others but `i`. -/
def Second {n : ℕ} (f : Fin n → EReal) (i k : Fin n) : Prop := k ≠ i ∧ ∀ c, c ≠ i → c ≠ k → Bef f k c

theorem Bef.le {n : ℕ} {f : Fin n → EReal} {b c : Fin n} (h : Bef f b c) : f c ≤ f b := by
  rcases h with h | h
  · exact h.le
  · exact h.1.le

theorem Bef.trans {n : ℕ} {f : Fin n → EReal} {a b c : Fin n} (h : Bef f a b) (h' : Bef f b c) : Bef f a c := by
  rcases h with h | ⟨h, k⟩
  · exact Or.inl (lt_of_le_of_lt h'.le h)
  · rcases h' with h' | ⟨h', k'⟩
    · exact Or.inl (h ▸ h')
    · exact Or.inr ⟨h'.trans h, k.trans k'⟩

theorem First.le {n : ℕ} {f : Fin n → EReal} {i : Fin n} (h : First f i) (c : Fin n) : f c ≤ f i := by
  by_cases e : c = i
  · rw [e]
  · exact (h c e).le

/-- The number of lane `l`. -/
abbrev lane (l : Fin 128) : EReal := ((l.val : ℝ) : EReal)

/-- The least lane that holds the row's largest. -/
def low (f : Fin 128 → EReal) : EReal :=
  Finset.fold min ⊤ (fun l => if f l = top f then lane l else ((128 : ℝ) : EReal)) Finset.univ

theorem top_first {n : ℕ} {f : Fin n → EReal} {i : Fin n} (h : First f i) : top f = f i := top_eq f i h.le

theorem low_first {f : Fin 128 → EReal} {i : Fin 128} (h : First f i) : low f = lane i := by
  unfold low; rw [top_first h]
  refine le_antisymm ((Finset.fold_min_le _).2 (Or.inr ⟨i, Finset.mem_univ i, by rw [if_pos rfl]⟩)) ((Finset.le_fold_min _).2 ⟨le_top, fun l _ => ?_⟩)
  by_cases e : l = i
  · rw [e, if_pos rfl]
  · rcases h l e with h' | ⟨h', k⟩
    · rw [if_neg h'.ne]; exact EReal.coe_le_coe_iff.2 (by have := i.isLt; exact_mod_cast this.le)
    · rw [if_pos h']; exact EReal.coe_le_coe_iff.2 (by exact_mod_cast (show i.val ≤ l.val from k.le))

/-! ## The stable descending sort -/

theorem pairwise_insert {n : ℕ} (f : Fin n → EReal) (a : Fin n) (l : List (Fin n)) (hl : l.Pairwise (Bef f)) (ha : ∀ b ∈ l, a < b) :
    (insertBefore (fun x y => decide (f y < f x)) a l).Pairwise (Bef f) := by
  induction l with
  | nil => exact List.pairwise_singleton _ _
  | cons b l ih =>
    rw [List.pairwise_cons] at hl
    unfold insertBefore
    split
    · rename_i h
      refine List.pairwise_cons.2 ⟨fun c hc => ?_, ih hl.2 fun c hc => ha c (List.mem_cons_of_mem _ hc)⟩
      rcases List.mem_cons.1 ((perm_insertBefore _ a l).mem_iff.1 hc) with rfl | hc
      · exact Or.inl (of_decide_eq_true h)
      · exact hl.1 c hc
    · rename_i h
      have hab : Bef f a b := by
        rcases lt_trichotomy (f a) (f b) with g | g | g
        · exact absurd (decide_eq_true g) h
        · exact Or.inr ⟨g.symm, ha b List.mem_cons_self⟩
        · exact Or.inl g
      refine List.pairwise_cons.2 ⟨fun c hc => ?_, List.pairwise_cons.2 hl⟩
      rcases List.mem_cons.1 hc with rfl | hc
      · exact hab
      · exact hab.trans (hl.1 c hc)

theorem pairwise_sort {n : ℕ} (f : Fin n → EReal) (l : List (Fin n)) (hl : l.Pairwise (· < ·)) :
    (stableSort (fun x y => decide (f y < f x)) l).Pairwise (Bef f) := by
  induction l with
  | nil => exact List.Pairwise.nil
  | cons a l ih =>
    rw [List.pairwise_cons] at hl
    unfold stableSort
    exact pairwise_insert f a _ (ih hl.2) fun b hb => hl.1 b ((perm_stableSort _ l).mem_iff.1 hb)

/-- Of two places of the sorted row the earlier holds what comes before. -/
theorem sorted_bef {n : ℕ} (f : Fin n → EReal) (p q : Fin n) (h : p < q) :
    Bef f (sortedFrom (fun x y => decide (f y < f x)) p) (sortedFrom (fun x y => decide (f y < f x)) q) := by
  have := List.pairwise_iff_get.1 (pairwise_sort f (List.finRange n) (List.pairwise_lt_finRange n))
  unfold sortedFrom
  exact this _ _ (show p.val < q.val from h)

theorem sorted_first {n : ℕ} (f : Fin (n + 1) → EReal) : First f (sortedFrom (fun x y => decide (f y < f x)) 0) := by
  intro c hc
  obtain ⟨q, rfl⟩ := sortedFrom_surjective (fun x y => decide (f y < f x)) c
  exact sorted_bef f 0 q (Fin.pos_of_ne_zero fun e => hc (by rw [e]))

theorem sorted_second {n : ℕ} (f : Fin (n + 2) → EReal) :
    Second f (sortedFrom (fun x y => decide (f y < f x)) 0) (sortedFrom (fun x y => decide (f y < f x)) 1) := by
  refine ⟨fun e => ?_, fun c h0 h1 => ?_⟩
  · have := sortedFrom_injective _ e
    exact absurd this (by simp)
  · obtain ⟨q, rfl⟩ := sortedFrom_surjective (fun x y => decide (f y < f x)) c
    refine sorted_bef f 1 q ?_
    have a : q ≠ 0 := fun e => h0 (by rw [e])
    have b : q ≠ 1 := fun e => h1 (by rw [e])
    rw [Fin.lt_def]
    have a' : q.val ≠ 0 := fun e => a (Fin.ext e)
    have b' : q.val ≠ 1 := fun e => b (Fin.ext e)
    show 1 % (n + 2) < q.val
    rw [Nat.mod_eq_of_lt (by omega)]; omega

/-! ## The record -/

section Record

variable (gl : Fin 4 → EReal) (el : Fin 32 → EReal)

/-- Group `i`'s experts' logits. -/
abbrev inGroup (i : Fin 4) (e : Fin 8) : EReal := el ⟨8 * i.val + e.val, by omega⟩

/-- The chosen group's share: one over the sum of the exponentials of the differences from the largest logit. -/
def share (i : Fin 4) : EReal := Ideal.div 1 (∑ g, Ideal.exp (gl g - gl i))

/-- How much less than the first expert's the second's weight is. -/
def ratio (i : Fin 4) (j k : Fin 8) : EReal := Ideal.exp (inGroup el i k - inGroup el i j)

/-- The record's lane `l` when group `i` is chosen, in it expert `j` first and expert `k` second: their numbers in order at
    lanes 0 and 1, their weights at lane 4 plus their number. -/
def record (i : Fin 4) (j k : Fin 8) (l : Fin 128) : EReal :=
  if l.val = 0 then (((8 * i.val + min j.val k.val : ℕ) : ℝ) : EReal)
  else if l.val = 1 then (((8 * i.val + max j.val k.val : ℕ) : ℝ) : EReal)
  else if l.val = 4 + (8 * i.val + j.val) then Ideal.div (share gl i) (1 + ratio el i j k)
  else if l.val = 4 + (8 * i.val + k.val) then Ideal.div (share gl i * ratio el i j k) (1 + ratio el i j k)
  else 0

end Record

/-! ## The record from the lanes -/

section Lanes

variable (lg : Fin 128 → EReal)

/-- The groups' logits, the other lanes at −∞; the chosen group; its experts' logits, the other lanes at −∞; the first
    expert's lane; the row without it; the second's lane. -/
def glm (l : Fin 128) : EReal := if lane l < ((4 : ℝ) : EReal) then lg l else ⊥
def elm (l : Fin 128) : EReal :=
  if ((4 : ℝ) : EReal) + low (glm lg) * ((8 : ℝ) : EReal) ≤ lane l ∧ lane l < ((4 : ℝ) : EReal) + low (glm lg) * ((8 : ℝ) : EReal) + ((8 : ℝ) : EReal) then lg l else ⊥
def elr (f : Fin 128 → EReal) (l : Fin 128) : EReal := if lane l = low f then ⊥ else f l

def kratio (f : Fin 128 → EReal) : EReal := Ideal.exp (top (elr f) - top f)
def kshare : EReal := Ideal.div ((1 : ℝ) : EReal) (∑ l, Ideal.exp (glm lg l - top (glm lg)))

/-- The record as the lanes compute it. -/
def krec (l : Fin 128) : EReal :=
  (if lane l = low (elm lg) then Ideal.div (kshare lg) (((1 : ℝ) : EReal) + kratio (elm lg)) else 0)
    + (if lane l = low (elr (elm lg)) then Ideal.div (kshare lg * kratio (elm lg)) (((1 : ℝ) : EReal) + kratio (elm lg)) else 0)
    + (if lane l = 0 then min (low (elm lg)) (low (elr (elm lg))) - ((4 : ℝ) : EReal)
        else if lane l = ((1 : ℝ) : EReal) then max (low (elm lg)) (low (elr (elm lg))) - ((4 : ℝ) : EReal) else 0)

theorem group_lt (g : Fin 4) : g.val < 128 := by omega

theorem expert_lt (e : Fin 32) : 4 + e.val < 128 := by omega

variable (gl : Fin 4 → EReal) (el : Fin 32 → EReal) (hg : ∀ g : Fin 4, lg ⟨g.val, group_lt g⟩ = gl g)
  (he : ∀ e : Fin 32, lg ⟨4 + e.val, expert_lt e⟩ = el e) (rg : ∀ g, IsR (gl g)) (re : ∀ e, IsR (el e))

theorem glm_lo (l : Fin 128) (h : l.val < 4) : glm lg l = lg l :=
  if_pos (EReal.coe_lt_coe_iff.2 (by exact_mod_cast h))
theorem glm_hi (l : Fin 128) (h : ¬l.val < 4) : glm lg l = ⊥ :=
  if_neg fun h' => h (by exact_mod_cast EReal.coe_lt_coe_iff.1 h')

include hg rg in
/-- The first of the groups is the first of the masked lanes. -/
theorem first_glm {i : Fin 4} (hi : First gl i) : First (glm lg) ⟨i.val, by omega⟩ := by
  intro c hc
  have ei : glm lg ⟨i.val, by omega⟩ = gl i := (glm_lo lg _ i.isLt).trans (hg i)
  by_cases h : c.val < 4
  · have ec : glm lg c = gl ⟨c.val, h⟩ := (glm_lo lg c h).trans (hg ⟨c.val, h⟩)
    have := hi ⟨c.val, h⟩ fun e => hc (Fin.ext (by simpa using congrArg Fin.val e))
    unfold Bef; rw [ei, ec]; exact this
  · refine Or.inl ?_
    rw [ei, glm_hi lg c h]; exact (rg i).bot_lt

include hg rg in
theorem low_glm {i : Fin 4} (hi : First gl i) : low (glm lg) = ((i.val : ℝ) : EReal) := low_first (first_glm lg gl hg rg hi)

include hg rg in
/-- The group's share is the same summed over all the lanes. -/
theorem kshare_eq {i : Fin 4} (hi : First gl i) : kshare lg = share gl i := by
  unfold kshare share
  rw [top_first (first_glm lg gl hg rg hi), (glm_lo lg ⟨i.val, by omega⟩ i.isLt).trans (hg i)]
  refine congrArg₂ Ideal.div rfl ?_
  rw [show (∑ l : Fin 128, Ideal.exp (glm lg l - gl i)) = ∑ l : Fin (4 + 124), Ideal.exp (glm lg l - gl i) from rfl, Fin.sum_univ_add]
  rw [show ∑ x : Fin 124, Ideal.exp (glm lg (Fin.natAdd 4 x) - gl i) = 0 from Finset.sum_eq_zero fun x _ => by
    rw [glm_hi lg (Fin.natAdd 4 x) (by simp)]
    obtain ⟨r, hr⟩ := rg i
    rw [hr, EReal.bot_sub]; rfl, add_zero]
  exact Finset.sum_congr rfl fun x _ => by
    rw [glm_lo lg (Fin.castAdd 124 x) (by simp)]
    exact congrArg (fun a => Ideal.exp (a - gl i)) (hg x)

include hg rg in
theorem elm_in {i : Fin 4} (hi : First gl i) (l : Fin 128) :
    elm lg l = if 4 + 8 * i.val ≤ l.val ∧ l.val < 12 + 8 * i.val then lg l else ⊥ := by
  unfold elm
  rw [low_glm lg gl hg rg hi, ← EReal.coe_mul, ← EReal.coe_add, ← EReal.coe_add]
  refine if_congr (and_congr ?_ ?_) rfl rfl
  · rw [EReal.coe_le_coe_iff]
    rw [show (4 : ℝ) + (i.val : ℝ) * 8 = ((4 + 8 * i.val : ℕ) : ℝ) by push_cast; ring]
    exact Nat.cast_le
  · rw [EReal.coe_lt_coe_iff]
    rw [show (4 : ℝ) + (i.val : ℝ) * 8 + 8 = ((12 + 8 * i.val : ℕ) : ℝ) by push_cast; ring]
    exact Nat.cast_lt

/-- Lane of expert `j` of group `i`. -/
abbrev at8 (i : Fin 4) (j : Fin 8) : Fin 128 := ⟨4 + (8 * i.val + j.val), by omega⟩

include hg rg he in
theorem elm_at {i : Fin 4} (hi : First gl i) (j : Fin 8) : elm lg (at8 i j) = inGroup el i j := by
  rw [elm_in lg gl hg rg hi, if_pos ⟨by show _ ≤ 4 + (8 * i.val + j.val); omega, by show 4 + (8 * i.val + j.val) < _; omega⟩]
  exact he ⟨8 * i.val + j.val, by omega⟩

include hg rg in
theorem elm_out {i : Fin 4} (hi : First gl i) (l : Fin 128) (h : ∀ j, l ≠ at8 i j) : elm lg l = ⊥ := by
  rw [elm_in lg gl hg rg hi, if_neg]
  rintro ⟨a, b⟩
  exact h ⟨l.val - (4 + 8 * i.val), by omega⟩ (Fin.ext (by show l.val = 4 + (8 * i.val + (l.val - (4 + 8 * i.val))); omega))

theorem at8_lt {i : Fin 4} {j k : Fin 8} (h : j < k) : at8 i j < at8 i k := by
  rw [Fin.lt_def] at h ⊢; show 4 + (8 * i.val + j.val) < 4 + (8 * i.val + k.val); omega

theorem at8_inj {i : Fin 4} {j k : Fin 8} (h : at8 i j = at8 i k) : j = k := by
  have := congrArg Fin.val h
  exact Fin.ext (by change 4 + (8 * i.val + j.val) = 4 + (8 * i.val + k.val) at this; omega)

include hg rg he re in
theorem first_elm {i : Fin 4} (hi : First gl i) {j : Fin 8} (hj : First (inGroup el i) j) : First (elm lg) (at8 i j) := by
  intro c hc
  unfold Bef; rw [elm_at lg gl el hg he rg hi]
  by_cases h : ∃ b, c = at8 i b
  · obtain ⟨b, rfl⟩ := h
    rw [elm_at lg gl el hg he rg hi]
    rcases hj b fun e => hc (by rw [e]) with h' | ⟨h', k⟩
    · exact Or.inl h'
    · exact Or.inr ⟨h', at8_lt k⟩
  · refine Or.inl ?_
    rw [elm_out lg gl hg rg hi c fun b e => h ⟨b, e⟩]; exact (re _).bot_lt

theorem lane_inj {a b : Fin 128} : lane a = lane b ↔ a = b :=
  ⟨fun h => Fin.ext (by exact_mod_cast EReal.coe_injective h), fun h => by rw [h]⟩

include hg rg he re in
theorem first_elr {i : Fin 4} (hi : First gl i) {j k : Fin 8} (hj : First (inGroup el i) j) (hk : Second (inGroup el i) j k) :
    First (elr (elm lg)) (at8 i k) ∧ elr (elm lg) (at8 i k) = inGroup el i k := by
  have e : ∀ l, elr (elm lg) l = if l = at8 i j then ⊥ else elm lg l := fun l => by
    unfold elr; rw [low_first (first_elm lg gl el hg he rg re hi hj)]
    exact if_congr lane_inj rfl rfl
  have ek : elr (elm lg) (at8 i k) = inGroup el i k := by
    rw [e, if_neg fun h => hk.1 (at8_inj h), elm_at lg gl el hg he rg hi]
  refine ⟨fun c hc => ?_, ek⟩
  unfold Bef; rw [ek, e]
  by_cases h : ∃ b, c = at8 i b
  · obtain ⟨b, rfl⟩ := h
    by_cases hb : b = j
    · rw [if_pos (by rw [hb])]; exact Or.inl (re _).bot_lt
    · rw [if_neg fun h => hb (at8_inj h), elm_at lg gl el hg he rg hi]
      rcases hk.2 b hb fun e => hc (by rw [e]) with h' | ⟨h', k⟩
      · exact Or.inl h'
      · exact Or.inr ⟨h', at8_lt k⟩
  · refine Or.inl ?_
    rw [if_neg fun e => h ⟨j, e⟩, elm_out lg gl hg rg hi c fun b e => h ⟨b, e⟩]; exact (re _).bot_lt

include hg rg he re in
/-- The lanes' record is the record. -/
theorem krec_eq {i : Fin 4} (hi : First gl i) {j k : Fin 8} (hj : First (inGroup el i) j) (hk : Second (inGroup el i) j k) (l : Fin 128) :
    krec lg l = record gl el i j k l := by
  have f1 := first_elm lg gl el hg he rg re hi hj
  obtain ⟨f2, e2⟩ := first_elr lg gl el hg he rg re hi hj hk
  have er : kratio (elm lg) = ratio el i j k := by
    unfold kratio ratio; rw [top_first f1, top_first f2, e2, elm_at lg gl el hg he rg hi]
  unfold krec
  rw [er, kshare_eq lg gl hg rg hi, low_first f1, low_first f2]
  have one : ((1 : ℝ) : EReal) = 1 := rfl
  have c0 : (lane l = 0) ↔ l.val = 0 :=
    ⟨fun h => by exact_mod_cast (EReal.coe_eq_zero.1 h), fun h => by show ((l.val : ℝ) : EReal) = 0; rw [h]; simp⟩
  have c1 : (lane l = ((1 : ℝ) : EReal)) ↔ l.val = 1 :=
    ⟨fun h => by exact_mod_cast EReal.coe_injective h, fun h => by show ((l.val : ℝ) : EReal) = _; rw [h]; simp⟩
  have ca : ∀ b : Fin 8, (lane l = lane (at8 i b)) ↔ l.val = 4 + (8 * i.val + b.val) := fun b =>
    lane_inj.trans ⟨fun h => congrArg Fin.val h, fun h => Fin.ext h⟩
  simp only [c0, c1, ca]
  rw [one]
  have hne : k.val ≠ j.val := fun e => hk.1 (Fin.ext e)
  unfold record
  have mn : min (lane (at8 i j)) (lane (at8 i k)) - ((4 : ℝ) : EReal) = (((8 * i.val + min j.val k.val : ℕ) : ℝ) : EReal) := by
    rw [← EReal.coe_strictMono.monotone.map_min, ← EReal.coe_sub]
    refine congrArg _ ?_
    show min ((4 + (8 * i.val + j.val) : ℕ) : ℝ) ((4 + (8 * i.val + k.val) : ℕ) : ℝ) - 4 = _
    rw [← Nat.cast_min, show min (4 + (8 * i.val + j.val)) (4 + (8 * i.val + k.val)) = 4 + (8 * i.val + min j.val k.val) by omega]
    push_cast; ring
  have mx : max (lane (at8 i j)) (lane (at8 i k)) - ((4 : ℝ) : EReal) = (((8 * i.val + max j.val k.val : ℕ) : ℝ) : EReal) := by
    rw [← EReal.coe_strictMono.monotone.map_max, ← EReal.coe_sub]
    refine congrArg _ ?_
    show max ((4 + (8 * i.val + j.val) : ℕ) : ℝ) ((4 + (8 * i.val + k.val) : ℕ) : ℝ) - 4 = _
    rw [← Nat.cast_max, show max (4 + (8 * i.val + j.val)) (4 + (8 * i.val + k.val)) = 4 + (8 * i.val + max j.val k.val) by omega]
    push_cast; ring
  rw [mn, mx]
  split_ifs <;> first | omega | simp

end Lanes

end Cert.Proof.Mix

end
-- ==== Proof.MixSpec.lean ====
/- The mixer's row as scalar functions: a pooled group, the row after attention and pool, a head over the memory, the row
   after it, the router's logits; that real arguments give real values; and the sums the two programs order differently. -/
module

public import proofs.«01_k».proof.Proof.MixRoute

@[expose] public section

noncomputable section

namespace Cert.Proof.Mix

open Idealize.ShloMosaic

/-- How many rows a window of `w` ending at row `t` holds, as the programs count them. -/
def cnt (t : ℕ) (w : BitVec 32) : EReal := FloatOps.sitofp (F := Ideal) FTy.f32 (IntOp.minsi (IntOp.addi (BitVec.ofNat 32 t) 1#32) w)

/-- Row `t`'s windowed mean less its own value; `us s` is the value `s` rows before. -/
def dev (us : ℕ → EReal) (t w : ℕ) : EReal := Ideal.div (∑ s ∈ Finset.range w, us s) (cnt t (BitVec.ofNat 32 w)) - us 0

/-- The four windows. -/
def win (g : Fin 4) : ℕ := ![2, 4, 8, 16] g

/-- The pooled row: each group's deviations through its weights, times its scale. -/
def poolRow (dv : Fin 4 → Fin 256 → EReal) (wp : Fin 4 → Fin 256 → Fin 256 → EReal) (ps : Fin 1024 → EReal) (e : Fin 1024) : EReal :=
  (∑ c, dv ⟨e.val / 256, by omega⟩ c * wp ⟨e.val / 256, by omega⟩ c ⟨e.val % 256, by omega⟩) * ps e

/-- The row after the output projection of attention and pool. -/
def x1Row (x : Fin 2048 → EReal) (a p : Fin 1024 → EReal) (wo : Fin 2048 → Fin 2048 → EReal) (d : Fin 2048) : EReal :=
  x d + ∑ k : Fin 1024, a k * wo ⟨k.val, by omega⟩ d + ∑ k : Fin 1024, p k * wo ⟨1024 + k.val, by omega⟩ d

/-- A column of the queries. -/
def qRow (h : Fin 2048 → EReal) (w : Fin 2048 → Fin 512 → EReal) (c : Fin 512) : EReal := ∑ k, h k * w k c

/-- Head `hd`'s scaled product with memory row `m`. -/
def lgt (q : Fin 512 → EReal) (mk : Fin 256 → Fin 512 → EReal) (hd : Fin 4) (m : Fin 256) : EReal :=
  (∑ j : Fin 128, q ⟨128 * hd.val + j.val, by omega⟩ * mk m ⟨128 * hd.val + j.val, by omega⟩) * Ideal.ofBits FTy.f32 1035273459#32

/-- The average of `v` with the weights `exp (l − max l)`. -/
def att (l v : Fin 256 → EReal) : EReal := Ideal.div (∑ m, Ideal.exp (l m - top l) * v m) (∑ m, Ideal.exp (l m - top l))

/-- The heads side by side. -/
def oRow (q : Fin 512 → EReal) (mk mv : Fin 256 → Fin 512 → EReal) (c : Fin 512) : EReal :=
  att (lgt q mk ⟨c.val / 128, by omega⟩) fun m => mv m c

/-- The row after the memory's attention. -/
def x2Row (x1 : Fin 2048 → EReal) (o : Fin 512 → EReal) (w : Fin 512 → Fin 2048 → EReal) (d : Fin 2048) : EReal := x1 d + ∑ c, o c * w c d

/-- A router's logit. -/
def router {n : ℕ} (h : Fin 2048 → EReal) (w : Fin 2048 → Fin n → EReal) (b : Fin n → EReal) (g : Fin n) : EReal := ∑ k, h k * w k g + b g

/-! ## Real values -/

theorem cnt_facts : ∀ t : Fin 4096, ∀ g : Fin 4,
    (IntOp.minsi (IntOp.addi (BitVec.ofNat 32 t.val) 1#32) (BitVec.ofNat 32 (win g))).toInt ≠ 0 := by
  decide +kernel

theorem cnt_real (t : ℕ) (w : BitVec 32) : IsR (cnt t w) := ⟨_, rfl⟩
theorem cnt_ne (t : ℕ) (ht : t < 4096) (g : Fin 4) : cnt t (BitVec.ofNat 32 (win g)) ≠ 0 := by
  have := cnt_facts ⟨t, ht⟩ g
  intro h
  apply this
  have h' : (((IntOp.minsi (IntOp.addi (BitVec.ofNat 32 t) 1#32) (BitVec.ofNat 32 (win g))).toInt : ℝ) : EReal) = 0 := h
  exact_mod_cast EReal.coe_eq_zero.1 h'

theorem dev_real (us : ℕ → EReal) (hu : ∀ s, IsR (us s)) (t : ℕ) (ht : t < 4096) (g : Fin 4) : IsR (dev us t (win g)) :=
  ((IsR.sum _ _ fun s _ => hu s).div (cnt_real _ _) (cnt_ne t ht g)).sub (hu 0)

theorem pool_real {dv : Fin 4 → Fin 256 → EReal} {wp : Fin 4 → Fin 256 → Fin 256 → EReal} {ps : Fin 1024 → EReal}
    (h : ∀ g c, IsR (dv g c)) (hw : ∀ g c d, IsR (wp g c d)) (hs : ∀ e, IsR (ps e)) (e : Fin 1024) : IsR (poolRow dv wp ps e) :=
  (IsR.sum _ _ fun c _ => (h _ c).mul (hw _ c _)).mul (hs e)

theorem x1_real {x : Fin 2048 → EReal} {a p : Fin 1024 → EReal} {wo : Fin 2048 → Fin 2048 → EReal}
    (hx : ∀ d, IsR (x d)) (ha : ∀ k, IsR (a k)) (hp : ∀ k, IsR (p k)) (hw : ∀ k d, IsR (wo k d)) (d : Fin 2048) : IsR (x1Row x a p wo d) :=
  ((hx d).add (IsR.sum _ _ fun k _ => (ha k).mul (hw _ d))).add (IsR.sum _ _ fun k _ => (hp k).mul (hw _ d))

theorem q_real {h : Fin 2048 → EReal} {w : Fin 2048 → Fin 512 → EReal} (hh : ∀ k, IsR (h k)) (hw : ∀ k c, IsR (w k c)) (c : Fin 512) : IsR (qRow h w c) :=
  IsR.sum _ _ fun k _ => (hh k).mul (hw k c)

theorem lgt_real {q : Fin 512 → EReal} {mk : Fin 256 → Fin 512 → EReal} (hq : ∀ c, IsR (q c)) (hm : ∀ m c, IsR (mk m c)) (hd : Fin 4) (m : Fin 256) :
    IsR (lgt q mk hd m) := (IsR.sum _ _ fun j _ => (hq _).mul (hm m _)).mul bits_scale

theorem top_real {n : ℕ} [NeZero n] (l : Fin n → EReal) (hl : ∀ m, IsR (l m)) : IsR (top l) := by
  obtain ⟨i, hi⟩ := top_mem l
  rw [hi]; exact hl i

/-- The sum of the weights is a positive real. -/
theorem expsum {n : ℕ} [NeZero n] (l : Fin n → EReal) (M : EReal) (hl : ∀ m, IsR (l m)) (hM : IsR M) :
    IsR (∑ m, Ideal.exp (l m - M)) ∧ 0 < ∑ m, Ideal.exp (l m - M) := by
  refine ⟨IsR.sum _ _ fun m _ => ((hl m).sub hM).exp, ?_⟩
  have h0 : ∀ m, 0 ≤ Ideal.exp (l m - M) := fun m => ((hl m).sub hM).exp_pos.le
  exact lt_of_lt_of_le ((hl 0).sub hM).exp_pos (Finset.single_le_sum (f := fun m => Ideal.exp (l m - M)) (fun m _ => h0 m) (Finset.mem_univ 0))

theorem att_real (l v : Fin 256 → EReal) (hl : ∀ m, IsR (l m)) (hv : ∀ m, IsR (v m)) : IsR (att l v) := by
  obtain ⟨a, b⟩ := expsum l (top l) hl (top_real l hl)
  exact (IsR.sum _ _ fun m _ => ((hl m).sub (top_real l hl)).exp.mul (hv m)).div a b.ne'

theorem o_real {q : Fin 512 → EReal} {mk mv : Fin 256 → Fin 512 → EReal} (hq : ∀ c, IsR (q c)) (hm : ∀ m c, IsR (mk m c)) (hv : ∀ m c, IsR (mv m c))
    (c : Fin 512) : IsR (oRow q mk mv c) := att_real _ _ (fun m => lgt_real hq hm _ m) fun m => hv m c

theorem x2_real {x1 : Fin 2048 → EReal} {o : Fin 512 → EReal} {w : Fin 512 → Fin 2048 → EReal} (h : ∀ d, IsR (x1 d)) (ho : ∀ c, IsR (o c))
    (hw : ∀ c d, IsR (w c d)) (d : Fin 2048) : IsR (x2Row x1 o w d) := (h d).add (IsR.sum _ _ fun c _ => (ho c).mul (hw c d))

theorem router_real {n : ℕ} {h : Fin 2048 → EReal} {w : Fin 2048 → Fin n → EReal} {b : Fin n → EReal} (hh : ∀ k, IsR (h k)) (hw : ∀ k g, IsR (w k g))
    (hb : ∀ g, IsR (b g)) (g : Fin n) : IsR (router h w b g) := (IsR.sum _ _ fun k _ => (hh k).mul (hw k g)).add (hb g)

/-! ## Sums in the other order -/

/-- The average as the sum of the quotients' products. -/
theorem att_eq (l v : Fin 256 → EReal) (hl : ∀ m, IsR (l m)) :
    ∑ m, v m * Ideal.div (Ideal.exp (l m - top l)) (∑ m, Ideal.exp (l m - top l)) = att l v := by
  obtain ⟨a, b⟩ := expsum l (top l) hl (top_real l hl)
  unfold att
  obtain ⟨s, hs⟩ := a
  rw [hs] at b ⊢
  have s0 : 0 < s := EReal.coe_pos.1 b
  rw [div_of_ne b.ne', ← EReal.coe_inv]
  have hi : (0 : EReal) ≤ ((s⁻¹ : ℝ) : EReal) := EReal.coe_nonneg.2 (inv_nonneg.2 s0.le)
  rw [show (∑ m, Ideal.exp (l m - top l) * v m) * ((s⁻¹ : ℝ) : EReal) = ∑ m, Ideal.exp (l m - top l) * v m * ((s⁻¹ : ℝ) : EReal) from
    map_sum (⟨⟨fun x => x * ((s⁻¹ : ℝ) : EReal), zero_mul _⟩,
      fun x y => EReal.right_distrib_of_nonneg_of_ne_top hi (EReal.coe_ne_top _) x y⟩ : EReal →+ EReal) _ _]
  refine Finset.sum_congr rfl fun m _ => ?_
  rw [div_of_ne b.ne', ← EReal.coe_inv, ← mul_assoc, mul_comm (v m)]

/-- The largest of the groups' shares is the chosen group's. -/
theorem top_share (gl : Fin 4 → EReal) (rg : ∀ g, IsR (gl g)) {i : Fin 4} (hi : First gl i) :
    top (fun g => Ideal.div (Ideal.exp (gl g - top gl)) (∑ g, Ideal.exp (gl g - top gl))) = share gl i := by
  rw [top_first hi]
  obtain ⟨a, b⟩ := expsum gl (gl i) rg (rg i)
  unfold share
  have e1 : Ideal.exp (gl i - gl i) = 1 := by
    obtain ⟨r, hr⟩ := rg i
    rw [hr, ← EReal.coe_sub, sub_self, exp_coe, Real.exp_zero]; rfl
  rw [top_eq _ i, e1]
  intro c
  rw [e1]
  obtain ⟨s, hs⟩ := a
  rw [hs] at b ⊢
  rw [div_of_ne b.ne', div_of_ne b.ne', ← EReal.coe_inv]
  refine mul_le_mul_of_nonneg_right ?_ (EReal.coe_nonneg.2 (inv_nonneg.2 (EReal.coe_pos.1 b).le))
  have hc := hi.le c
  obtain ⟨r, hr⟩ := rg i
  obtain ⟨r', hr'⟩ := rg c
  rw [hr, hr'] at hc ⊢
  rw [← EReal.coe_sub, exp_coe]
  have : Real.exp (r' - r) ≤ 1 := Real.exp_le_one_iff.2 (sub_nonpos.2 (EReal.coe_le_coe_iff.1 hc))
  exact_mod_cast this

/-- The two experts' weights: each exponential over their sum, times the group's share. -/
theorem weights (el : Fin 32 → EReal) (re : ∀ e, IsR (el e)) (S : EReal) (i : Fin 4) {j k : Fin 8} (hj : First (inGroup el i) j) :
    top ![inGroup el i j, inGroup el i k] = inGroup el i j
      ∧ Ideal.div (Ideal.exp (inGroup el i j - inGroup el i j)) (Ideal.exp (inGroup el i j - inGroup el i j) + Ideal.exp (inGroup el i k - inGroup el i j)) * S
        = Ideal.div S (1 + ratio el i j k)
      ∧ Ideal.div (Ideal.exp (inGroup el i k - inGroup el i j)) (Ideal.exp (inGroup el i j - inGroup el i j) + Ideal.exp (inGroup el i k - inGroup el i j)) * S
        = Ideal.div (S * ratio el i j k) (1 + ratio el i j k) := by
  have e1 : Ideal.exp (inGroup el i j - inGroup el i j) = 1 := by
    obtain ⟨r, hr⟩ := re (⟨8 * i.val + j.val, by omega⟩)
    rw [show inGroup el i j = (r : EReal) from hr, ← EReal.coe_sub, sub_self, exp_coe, Real.exp_zero]; rfl
  refine ⟨top_eq _ (0 : Fin 2) fun c => ?_, ?_, ?_⟩
  · match c with
    | 0 => exact le_rfl
    | 1 => exact hj.le k
  all_goals
    rw [e1]
    change Ideal.div _ (1 + ratio el i j k) * S = _
    have hr : IsR (ratio el i j k) := ((re _).sub (re _)).exp
    have hp : 0 < ratio el i j k := IsR.exp_pos ((re _).sub (re _))
    have hne : (1 + ratio el i j k) ≠ 0 := (lt_of_lt_of_le zero_lt_one (le_add_of_nonneg_right hp.le)).ne'
    rw [div_of_ne hne, div_of_ne hne]
  · rw [one_mul, mul_comm]
  · change ratio el i j k * _ * S = _
    rw [mul_comm, mul_assoc]

/-- The experts' weights at lane `4 + e`, as a sum over the two of a mark times a weight. -/
theorem combine (gl : Fin 4 → EReal) (el : Fin 32 → EReal) (i : Fin 4) {j k : Fin 8} (hne : k ≠ j) (e : Fin 32) (w0 w1 : EReal)
    (h0 : w0 = Ideal.div (share gl i) (1 + ratio el i j k)) (h1 : w1 = Ideal.div (share gl i * ratio el i j k) (1 + ratio el i j k)) :
    (if e.val = 8 * i.val + j.val then w0 else 0) + (if e.val = 8 * i.val + k.val then w1 else 0) = record gl el i j k ⟨4 + e.val, by omega⟩ := by
  have hn : k.val ≠ j.val := fun h => hne (Fin.ext h)
  unfold record
  dsimp only
  rw [← h0, ← h1]
  split_ifs <;> first | omega | simp

/-! ## Differences of prefix sums -/

theorem window_sum (v : ℕ → EReal) (hv : ∀ n, IsR (v n)) (a w : ℕ) :
    (∑ n ∈ Finset.range (a + w), v n) - (∑ n ∈ Finset.range a, v n) = ∑ s ∈ Finset.range w, v (a + w - 1 - s) := by
  rw [Finset.sum_range_add]
  obtain ⟨p, hp⟩ := IsR.sum (Finset.range a) v fun n _ => hv n
  obtain ⟨q, hq⟩ := IsR.sum (Finset.range w) (fun s => v (a + s)) fun n _ => hv _
  rw [← Finset.sum_range_reflect (fun s => v (a + s)) w] at hq ⊢
  have e : ∀ s ∈ Finset.range w, v (a + (w - 1 - s)) = v (a + w - 1 - s) := fun s hs => by
    rw [Finset.mem_range] at hs
    exact congrArg v (by omega)
  rw [Finset.sum_congr rfl e] at hq ⊢
  rw [hp, hq, ← EReal.coe_add, ← EReal.coe_sub, add_sub_cancel_left]

end Cert.Proof.Mix

end
-- ==== Proof.MixKer.lean ====
/- The mixer's kernel: what its terms are at an index, over the blocks a point loads and the rows it carries. -/
module

public import proofs.«01_k».proof.Proof.MixTerm
public import proofs.«01_k».proof.Proof.MixSpec

@[expose] public section

set_option maxRecDepth 16384

noncomputable section

namespace Cert.Proof.Mix

open Cert.KernelMixIdeal Cert.KernelMixIdeal.Gen
open Idealize.ShloMosaic Idealize.ShloMosaic.TcCoe Idealize.SL.Sem

/-- A row's place in its sequence, as the kernel counts it. -/
theorem pos_of : ∀ (j : Fin 8) (r : Fin 512), IntOp.addi (Scalar.addi 0#32 (Scalar.muli (BitVec.ofNat 32 j.val) 512#32)) (BitVec.ofNat 32 r.val) = BitVec.ofNat 32 (512 * j.val + r.val) := by
  decide +kernel

/-- The carried rows upwards from the block's row `r`, in column `c`. -/
def col (E : Vec Ideal S528x1024 .f32) (r : Fin 512) (c : Fin 1024) (s : ℕ) : EReal := E (ix2 ⟨16 + r.val - s, by omega⟩ c)

theorem back (n : ℕ) : 16 + n - 1 = 15 + n ∧ 16 + n - 2 = 14 + n ∧ 16 + n - 3 = 13 + n ∧ 16 + n - 4 = 12 + n ∧ 16 + n - 5 = 11 + n
    ∧ 16 + n - 6 = 10 + n ∧ 16 + n - 7 = 9 + n ∧ 16 + n - 8 = 8 + n ∧ 16 + n - 9 = 7 + n ∧ 16 + n - 10 = 6 + n ∧ 16 + n - 11 = 5 + n
    ∧ 16 + n - 12 = 4 + n ∧ 16 + n - 13 = 3 + n ∧ 16 + n - 14 = 2 + n ∧ 16 + n - 15 = 1 + n ∧ 16 + n - 0 = 16 + n := by omega

section Pool

variable (E : Vec Ideal S528x1024 .f32) (i : grid0.Coords) (x0 : Vec Ideal S1x512x2048 .f32) (x1 : Vec Ideal S1x512x1024 .bf16) (x2 : Vec Ideal S1x512x1024 .f32)
  (x6 : Vec Ideal S4x256x256 .bf16) (x7 : Vec Ideal S1x1024 .f32) (x8 : Vec Ideal S2048x2048 .bf16) (r : Fin 512)

/-- Group `g`'s deviation at the block's row `r`, column `c`. -/
def kdv (g : Fin 4) (c : Fin 256) : EReal :=
  Ideal.div (∑ s ∈ Finset.range (win g), col E r ⟨256 * g.val + c.val, by omega⟩ s) (cnt (512 * (i 1).val + r.val) (BitVec.ofNat 32 (win g)))
    - x2 (ix3 0 r ⟨256 * g.val + c.val, by omega⟩)

/-- The block's pooled row. -/
def kpool (e : Fin 1024) : EReal := poolRow (kdv E i x2 r) (fun g c d => x6 (ix3 g c d)) (fun e => x7 (ix2 0 e)) e

theorem poolRow_at (dv : Fin 4 → Fin 256 → EReal) (wp : Fin 4 → Fin 256 → Fin 256 → EReal) (ps : Fin 1024 → EReal) (g : Fin 4) (d : Fin 256) (e : Fin 1024)
    (h : e.val = 256 * g.val + d.val) : poolRow dv wp ps e = (∑ c, dv g c * wp g c d) * ps e := by
  have h1 : (⟨e.val / 256, by omega⟩ : Fin 4) = g := Fin.ext (by show e.val / 256 = _; omega)
  have h2 : (⟨e.val % 256, by omega⟩ : Fin 256) = d := Fin.ext (by show e.val % 256 = _; omega)
  unfold poolRow; rw [h1, h2]

theorem tG0_at (d : Fin 256) (e : Fin 1024) (he : e.val = d.val) : tG0 E i x2 x6 x7 (ix2 r d) = kpool E i x2 x6 x7 r e := by
  unfold kpool
  rw [poolRow_at _ _ _ 0 d e (by rw [he]; exact (Nat.zero_add _).symm)]
  obtain ⟨e, h⟩ := e; subst he
  unfold kdv
  simp only [show win 0 = 2 from rfl, Finset.sum_range_succ, Finset.sum_range_zero, zero_add, cnt, ← pos_of (i 1) r, col, back, Fin.val_zero, Nat.mul_zero]
  unfold tG0
  pointwise [k0_pay8, k0_pay7, k0_pay6]
theorem tG1_at (d : Fin 256) (e : Fin 1024) (he : e.val = 256 + d.val) : tG1 E i x2 x6 x7 (ix2 r d) = kpool E i x2 x6 x7 r e := by
  unfold kpool
  rw [poolRow_at _ _ _ 1 d e he]
  obtain ⟨e, h⟩ := e; subst he
  unfold kdv
  simp only [show win 1 = 4 from rfl, Finset.sum_range_succ, Finset.sum_range_zero, zero_add, cnt, ← pos_of (i 1) r, col, back, show ((1 : Fin 4) : ℕ) = 1 from rfl, Nat.mul_one]
  unfold tG1
  pointwise [k0_pay10, k0_pay9, k0_pay6]
theorem tG2_at (d : Fin 256) (e : Fin 1024) (he : e.val = 512 + d.val) : tG2 E i x2 x6 x7 (ix2 r d) = kpool E i x2 x6 x7 r e := by
  unfold kpool
  rw [poolRow_at _ _ _ 2 d e he]
  obtain ⟨e, h⟩ := e; subst he
  unfold kdv
  simp only [show win 2 = 8 from rfl, Finset.sum_range_succ, Finset.sum_range_zero, zero_add, cnt, ← pos_of (i 1) r, col, back, show 256 * ((2 : Fin 4) : ℕ) = 512 from rfl]
  unfold tG2
  pointwise [k0_pay12, k0_pay11, k0_pay6]
theorem tS3_at (d : Fin 256) : tS3 E (ix2 r d) = ∑ s ∈ Finset.range 13, col E r ⟨768 + d.val, by omega⟩ s := by
  simp only [Finset.sum_range_succ, Finset.sum_range_zero, zero_add, col, back]
  unfold tS3
  pointwise [k0_pay13]
theorem tA_at (d : Fin 2048) : tA x1 x8 (ix2 r d) = ∑ k : Fin 1024, x1 (ix3 0 r k) * x8 (ix2 ⟨k.val, by omega⟩ d) := by
  unfold tA
  pointwise [k0_pay5]

/-- The block's row after attention and pool. -/
def kx1 (d : Fin 2048) : EReal :=
  x1Row (fun d => x0 (ix3 0 r d)) (fun k => x1 (ix3 0 r k)) (kpool E i x2 x6 x7 r) (fun k d => x8 (ix2 k d)) d
theorem tX1_at (d : Fin 2048) : tX1 E i x0 x1 x2 x6 x7 x8 (ix2 r d) = kx1 E i x0 x1 x2 x6 x7 x8 r d := by
  unfold kx1 x1Row
  rw [← tA_at]
  unfold tX1
  pointwise [k0_pay14, k0_pay6]
  refine congrArg (_ + ·) (Finset.sum_congr rfl fun k _ => congrArg (· * _) ?_)
  by_cases h0 : k.val < 256
  · exact (dif_pos h0).trans (tG0_at E i x2 x6 x7 r _ k rfl)
  refine (dif_neg h0).trans ?_
  by_cases h1 : k.val - 256 < 256
  · exact (dif_pos h1).trans (tG1_at E i x2 x6 x7 r _ k (by show k.val = 256 + (k.val - 256); omega))
  refine (dif_neg h1).trans ?_
  by_cases h2 : k.val - 256 - 256 < 256
  · exact (dif_pos h2).trans (tG2_at E i x2 x6 x7 r _ k (by show k.val = 512 + (k.val - 256 - 256); omega))
  refine (dif_neg h2).trans ?_
  have hk : k.val = 768 + (k.val - 256 - 256 - 256) := by omega
  unfold kpool
  rw [poolRow_at _ _ _ 3 ⟨k.val - 256 - 256 - 256, by omega⟩ k hk]
  unfold kdv
  simp only [show win 3 = 16 from rfl, tS3_at, Finset.sum_range_succ, Finset.sum_range_zero, zero_add, cnt, ← pos_of (i 1) r, col, back, show 256 * ((3 : Fin 4) : ℕ) = 768 from rfl]
  refine congrArg (_ * ·) (congrArg x7 ?_)
  exact congrArg (ix2 0) (Fin.ext hk.symm)
theorem tQ_at : tQ E i x0 x1 x2 x6 x7 x8 (ix1 r) = ∑ d, tX1 E i x0 x1 x2 x6 x7 x8 (ix2 r d) * tX1 E i x0 x1 x2 x6 x7 x8 (ix2 r d) := by
  unfold tQ tX1
  pointwise [k0_pay16]

end Pool

section Attn

variable (X : FVec Ideal S512x2048 .f32) (Q : FVec Ideal S512 .f32) (x4 x5 : Vec Ideal S1x256x512 .bf16) (x9 : Vec Ideal S1x2048 .f32) (x10 : Vec Ideal S2048x512 .bf16)
  (x11 : Vec Ideal S512x2048 .bf16) (x12 : Vec Ideal S1x2048 .f32) (r : Fin 512)

/-- The block's queries over its normalised row; its head's scaled products; the heads; the row after them. -/
def kq (c : Fin 512) : EReal := qRow (rmsRow (fun d => X (ix2 r d)) fun d => x9 (ix2 0 d)) (fun k c => x10 (ix2 k c)) c
def klg (hd : Fin 4) (m : Fin 256) : EReal := lgt (kq X x9 x10 r) (fun m c => x4 (ix3 0 m c)) hd m
def ko (c : Fin 512) : EReal := oRow (kq X x9 x10 r) (fun m c => x4 (ix3 0 m c)) (fun m c => x5 (ix3 0 m c)) c
def kx2 (d : Fin 2048) : EReal := x2Row (fun d => X (ix2 r d)) (ko X x4 x5 x9 x10 r) (fun c d => x11 (ix2 c d)) d

theorem bits_bot' : Ideal.ofBits FTy.f32 4286578688#32 = ⊥ := bits_bot
theorem top_fold (f : Fin 256 → EReal) : Finset.fold max (Ideal.ofBits FTy.f32 4286578688#32) f Finset.univ = top f := by
  rw [bits_bot]; rfl

variable (hQ : Q (ix1 r) = ∑ d, X (ix2 r d) * X (ix2 r d))

include hQ in
theorem pay17_at (c : Fin 512) : k0_pay17 X (k0_pay15 x9) Q x10 (ix2 r c) = kq X x9 x10 r c := by
  unfold kq qRow
  pointwise [k0_pay17, k0_pay15, rmsRow]
  rw [hQ]
include hQ in
theorem pay18_at (m : Fin 256) : k0_pay18 X (k0_pay15 x9) Q x10 (View.ld x4 (Rect.unit (s := S1x256x512) ![0, 0, 128] S1x256x128.size inb_S1x256x512_S1x256x128_0_0_128)) (ix2 r m) * Ideal.ofBits FTy.f32 1035273459#32
    = klg X x4 x9 x10 r 1 m := by
  unfold klg lgt
  simp only [← pay17_at X Q x9 x10 r hQ]
  pointwise [k0_pay18]
include hQ in
theorem tL2_at (m : Fin 256) : tL2 X Q x4 x9 x10 (ix2 r m) * Ideal.ofBits FTy.f32 1035273459#32 = klg X x4 x9 x10 r 2 m := by
  unfold klg lgt tL2
  simp only [← pay17_at X Q x9 x10 r hQ]
  pointwise [k0_pay19]
include hQ in
theorem tL3_at (m : Fin 256) : tL3 X Q x4 x9 x10 (ix2 r m) * Ideal.ofBits FTy.f32 1035273459#32 = klg X x4 x9 x10 r 3 m := by
  unfold klg lgt tL3
  simp only [← pay17_at X Q x9 x10 r hQ]
  pointwise [k0_pay20]
include hQ in
theorem pay21_at (m : Fin 256) : k0_pay21 X (k0_pay15 x9) Q x10 (View.ld x4 (Rect.unit (s := S1x256x512) ![0, 0, 0] S1x256x128.size inb_S1x256x512_S1x256x128_0_0_0)) (ix2 r m)
    = klg X x4 x9 x10 r 0 m := by
  unfold klg lgt
  simp only [← pay17_at X Q x9 x10 r hQ]
  pointwise [k0_pay21]
include hQ in
theorem tH0_at (j : Fin 128) : tH0 X Q x4 x5 x9 x10 (ix2 r j) = att (klg X x4 x9 x10 r 0) fun m => x5 (ix3 0 m ⟨j.val, by omega⟩) := by
  unfold att
  rw [← top_fold]
  simp only [← pay21_at X Q x4 x9 x10 r hQ]
  unfold tH0
  pointwise [k0_pay23, k0_pay22]
include hQ in
theorem tH1_at (j : Fin 128) : tH1 X Q x4 x5 x9 x10 (ix2 r j) = att (klg X x4 x9 x10 r 1) fun m => x5 (ix3 0 m ⟨128 + j.val, by omega⟩) := by
  unfold att
  rw [← top_fold]
  simp only [← pay18_at X Q x4 x9 x10 r hQ]
  unfold tH1
  pointwise [k0_pay24]
include hQ in
theorem tX2_at (d : Fin 2048) : tX2 X Q x4 x5 x9 x10 x11 (ix2 r d) = kx2 X x4 x5 x9 x10 x11 r d := by
  unfold kx2 x2Row tX2
  pointwise [k0_pay29, k0_pay28, k0_pay27, k0_pay26, k0_pay25]
  refine congrArg (_ + ·) (Finset.sum_congr rfl fun k _ => congrArg (· * _) ?_)
  simp only [tL2_at X Q x4 x9 x10 r hQ, tL3_at X Q x4 x9 x10 r hQ, top_fold]
  change _ = att (klg X x4 x9 x10 r ⟨k.val / 128, by omega⟩) _
  have hk : k.val < 512 := k.isLt
  by_cases h0 : k.val < 128
  · refine (dif_pos h0).trans ((tH0_at X Q x4 x5 x9 x10 r hQ ⟨k.val, h0⟩).trans ?_)
    rw [show (⟨k.val / 128, by omega⟩ : Fin 4) = 0 from Fin.ext (by show k.val / 128 = 0; omega)]
  refine (dif_neg h0).trans ?_
  by_cases h1 : k.val - 128 < 128
  · refine (dif_pos h1).trans ((tH1_at X Q x4 x5 x9 x10 r hQ ⟨k.val - 128, h1⟩).trans ?_)
    rw [show (⟨k.val / 128, by omega⟩ : Fin 4) = 1 from Fin.ext (by show k.val / 128 = 1; omega)]
    exact congrArg (att _) (funext fun m => congrArg x5 (congrArg (ix3 0 m) (Fin.ext (by show 128 + (k.val - 128) = k.val; omega))))
  refine (dif_neg h1).trans ?_
  by_cases h2 : k.val - 128 - 128 < 128
  · refine (dif_pos h2).trans ?_
    rw [show (⟨k.val / 128, by omega⟩ : Fin 4) = 2 from Fin.ext (by show k.val / 128 = 2; omega)]
    exact congrArg (att _) (funext fun m => congrArg x5 (congrArg (ix3 0 m) (Fin.ext (by show 256 + (k.val - 128 - 128) = k.val; omega))))
  · refine (dif_neg h2).trans ?_
    rw [show (⟨k.val / 128, by omega⟩ : Fin 4) = 3 from Fin.ext (by show k.val / 128 = 3; omega)]
    exact congrArg (att _) (funext fun m => congrArg x5 (congrArg (ix3 0 m) (Fin.ext (by show 384 + (k.val - 128 - 128 - 128) = k.val; omega))))
include hQ in
theorem tB2_at (d : Fin 2048) : tB2 X Q x4 x5 x9 x10 x11 (ix3 0 r d) = kx2 X x4 x5 x9 x10 x11 r d := by
  rw [← tX2_at X Q x4 x5 x9 x10 x11 r hQ]
  unfold tB2 tX2
  pointwise [k0_pay30]
include hQ in
theorem tN2_at (d : Fin 2048) : tN2 X Q x4 x5 x9 x10 x11 (ix2 r d) * k0_pay32 x12 (ix2 r d)
    = rmsRow (kx2 X x4 x5 x9 x10 x11 r) (fun d => x12 (ix2 0 d)) d := by
  rw [show kx2 X x4 x5 x9 x10 x11 r = fun d => tX2 X Q x4 x5 x9 x10 x11 (ix2 r d) from funext fun d => (tX2_at X Q x4 x5 x9 x10 x11 r hQ d).symm]
  unfold tN2 tX2
  pointwise [k0_pay31, k0_pay32, rmsRow]
end Attn

section Record

variable (N G : FVec Ideal S512x2048 .f32) (x13 : Vec Ideal S2048x128 .bf16) (x14 : Vec Ideal S1x128 .f32) (r : Fin 512)

/-- The router's logit at a lane. -/
theorem pay33_at (l : Fin 128) : k0_pay33 N G x13 x14 (ix2 r l)
    = router (fun k => N (ix2 r k) * G (ix2 r k)) (fun k l => x13 (ix2 k l)) (fun l => x14 (ix2 0 l)) l := by
  unfold router
  pointwise [k0_pay33]

theorem lane_bits : ∀ l : Fin 128, (BitVec.ofNat 32 l.val).toInt = (l.val : ℤ) := by decide +kernel
/-- A lane's number, as the kernel counts it. -/
theorem lane_of (l : Fin 128) : FloatOps.sitofp (F := Ideal) FTy.f32 (BitVec.ofNat 32 l.val) = lane l := by
  show (((BitVec.ofNat 32 l.val).toInt : ℝ) : EReal) = _
  rw [lane_bits l]; norm_cast
theorem top_fold' (f : Fin 128 → EReal) : Finset.fold max (Ideal.ofBits FTy.f32 4286578688#32) f Finset.univ = top f := by
  rw [bits_bot]; rfl
theorem fold_low (f : Fin 128 → EReal) : Finset.fold min (Ideal.ofBits FTy.f32 2139095040#32) (fun l => if f l = top f then lane l else Ideal.ofBits FTy.f32 1124073472#32) Finset.univ = low f := by
  rw [bits_top, bits_128]; rfl
theorem fold_glm (f : Fin 128 → EReal) : (fun l => if lane l < ((4 : ℝ) : EReal) then f l else ⊥) = glm f := rfl

theorem fold_low_glm (f : Fin 128 → EReal) :
    Finset.fold min (Ideal.ofBits FTy.f32 2139095040#32)
      (fun l => if (if lane l < ((4 : ℝ) : EReal) then f l else ⊥) = top (glm f) then lane l else Ideal.ofBits FTy.f32 1124073472#32) Finset.univ = low (glm f) := fold_low _
theorem select_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, Scalar.select, IntOp.andi]

theorem tE_at (l : Fin 128) : tE N G x13 x14 (ix2 r l) = elm (fun l => k0_pay33 N G x13 x14 (ix2 r l)) l := by
  unfold tE
  pointwise [k0_pay38, k0_pay36, k0_pay35, k0_pay34]
  simp only [lane_of, top_fold', fold_low, bits_four, bits_eight, bits_bot, bits_one, fold_glm, fold_low_glm, select_and]
  rfl
theorem share_at : k0_pay37 N G x13 x14 (ix2 r 0) = kshare (fun l => k0_pay33 N G x13 x14 (ix2 r l)) := by
  pointwise [k0_pay37, k0_pay36, k0_pay35, k0_pay34]
  simp only [lane_of, top_fold', fold_low, bits_four, bits_eight, bits_bot, bits_one, fold_glm]
  unfold kshare
  rw [EReal.coe_one]
  rfl

theorem tR_at (l : Fin 128) : tR N G x13 x14 (ix3 0 r l) = krec (fun l => k0_pay33 N G x13 x14 (ix2 r l)) l := by
  unfold tR
  pointwise [k0_pay1, k0_pay43, k0_pay46, k0_pay47, k0_pay48, k0_pay49, k0_pay45, k0_pay44, k0_pay42, k0_pay41, k0_pay40, k0_pay39, k0_pay34]
  simp only [lane_of, top_fold', fold_low, bits_four, bits_eight, bits_bot, bits_one, tE_at, share_at]
  unfold krec kratio
  rw [EReal.coe_one]
  rfl
end Record

/-! ## What the stores leave -/

/-- The carried rows at an index: the sixteen before the block's, then the block's. -/
theorem ext_at (a : Vec Ideal S512x1024 .f32) (b : Vec Ideal S16x1024 .f32) (ρ : Fin 528) (c : Fin 1024) :
    View.canon (Val := Elt Ideal) (e := .f32) [⟨rU, a⟩, ⟨rH, b⟩] (ix2 ρ c)
      = if h : ρ.val < 16 then b (ix2 ⟨ρ.val, h⟩ c) else a (ix2 ⟨ρ.val - 16, by omega⟩ c) := by
  refine View.canon_apply_of_pieces (Val := Elt Ideal) (e := .f32) (S := S528x1024)
    (fun y : S528x1024.Idx => (if h : (y 0).val < 16 then b (ix2 ⟨(y 0).val, h⟩ (y 1)) else a (ix2 ⟨(y 0).val - 16, by have : (y 0).val < 528 := (y 0).isLt; omega⟩ (y 1)) : EReal)) _ ?_ (ix2 ρ c) ?_
  · intro pc hpc x
    rcases List.mem_cons.mp hpc with rfl | hpc
    · have hx : (rU.idx x 0).val = 16 + (x 0).val := by show 16 + 1 * (x 0).val = _; omega
      have hy : rU.idx x 1 = x 1 := Fin.ext (by show 0 + 1 * (x 1).val = _; omega)
      refine Eq.trans ?_ (dif_neg (by show ¬(rU.idx x 0).val < 16; rw [hx]; omega)).symm
      refine congrArg a ((eq_ix2 x).trans (congrArg₂ ix2 (Fin.ext ?_) hy.symm))
      show (x 0).val = (rU.idx x 0).val - 16
      omega
    rcases List.mem_cons.mp hpc with rfl | hpc
    · have hl : (x 0).val < 16 := (x 0).isLt
      have hx : (rH.idx x 0).val = (x 0).val := by show 0 + 1 * (x 0).val = _; omega
      have hy : rH.idx x 1 = x 1 := Fin.ext (by show 0 + 1 * (x 1).val = _; omega)
      refine Eq.trans ?_ (dif_pos (by show (rH.idx x 0).val < 16; rw [hx]; exact hl)).symm
      exact congrArg b ((eq_ix2 x).trans (congrArg₂ ix2 (Fin.ext hx.symm) hy.symm))
    nomatch hpc
  · have hc : c.val < 1024 := c.isLt
    have hρ : ρ.val < 528 := ρ.isLt
    by_cases h : ρ.val < 16
    · refine ⟨⟨rH, b⟩, List.mem_cons_of_mem _ List.mem_cons_self, ?_⟩
      show ix2 ρ c ∈ rH.set
      rw [Rect.mem_set_unit]
      intro a
      match a with
      | ⟨0, _⟩ => show 0 ≤ ρ.val ∧ ρ.val < 0 + 16; omega
      | ⟨1, _⟩ => show 0 ≤ c.val ∧ c.val < 0 + 1024; omega
    · refine ⟨⟨rU, a⟩, List.mem_cons_self, ?_⟩
      show ix2 ρ c ∈ rU.set
      rw [Rect.mem_set_unit]
      intro a
      match a with
      | ⟨0, _⟩ => show 16 ≤ ρ.val ∧ ρ.val < 16 + 512; omega
      | ⟨1, _⟩ => show 0 ≤ c.val ∧ c.val < 0 + 1024; omega

theorem ix3_of {p q n : ℕ} {a a' : Fin p} {b b' : Fin q} {c c' : Fin n} (h0 : a = a') (h1 : b = b') (h2 : c = c') : ix3 a b c = ix3 a' b' c' := by
  subst h0; subst h1; subst h2; rfl

/-- The result's block at an index: the rows, then the record's lanes. -/
theorem out_at (a : Vec Ideal S1x512x128 .f32) (b : Vec Ideal S1x512x2048 .f32) (r : Fin 512) (l : Fin 2176) :
    View.canon (Val := Elt Ideal) (e := .f32) [⟨rR, a⟩, ⟨rX, b⟩] (ix3 0 r l)
      = if h : l.val < 2048 then b (ix3 0 r ⟨l.val, h⟩) else a (ix3 0 r ⟨l.val - 2048, by omega⟩) := by
  refine View.canon_apply_of_pieces (Val := Elt Ideal) (e := .f32) (S := S1x512x2176)
    (fun y : S1x512x2176.Idx => (if h : (y 2).val < 2048 then b (ix3 (y 0) (y 1) ⟨(y 2).val, h⟩) else a (ix3 (y 0) (y 1) ⟨(y 2).val - 2048, by have : (y 2).val < 2176 := (y 2).isLt; omega⟩) : EReal)) _ ?_ (ix3 0 r l) ?_
  · intro pc hpc x
    rcases List.mem_cons.mp hpc with rfl | hpc
    · have hx : (rR.idx x 2).val = 2048 + (x 2).val := by show 2048 + 1 * (x 2).val = _; omega
      have h0 : rR.idx x 0 = x 0 := Fin.ext (by show 0 + 1 * (x 0).val = _; omega)
      have h1 : rR.idx x 1 = x 1 := Fin.ext (by show 0 + 1 * (x 1).val = _; omega)
      refine Eq.trans ?_ (dif_neg (by show ¬(rR.idx x 2).val < 2048; rw [hx]; omega)).symm
      have h2 : (⟨(rR.idx x 2).val - 2048, by have : (rR.idx x 2).val < 2176 := (rR.idx x 2).isLt; omega⟩ : Fin 128) = x 2 := Fin.ext (by show (rR.idx x 2).val - 2048 = (x 2).val; omega)
      refine congrArg a ((eq_ix3 x).trans (ix3_of h0.symm h1.symm h2.symm))
    rcases List.mem_cons.mp hpc with rfl | hpc
    · have hl : (x 2).val < 2048 := (x 2).isLt
      have hx : (rX.idx x 2).val = (x 2).val := by show 0 + 1 * (x 2).val = _; omega
      have h0 : rX.idx x 0 = x 0 := Fin.ext (by show 0 + 1 * (x 0).val = _; omega)
      have h1 : rX.idx x 1 = x 1 := Fin.ext (by show 0 + 1 * (x 1).val = _; omega)
      refine Eq.trans ?_ (dif_pos (by show (rX.idx x 2).val < 2048; rw [hx]; exact hl)).symm
      have h2 : (⟨(rX.idx x 2).val, by rw [hx]; exact hl⟩ : Fin 2048) = x 2 := Fin.ext hx
      refine congrArg b ((eq_ix3 x).trans (ix3_of h0.symm h1.symm h2.symm))
    nomatch hpc
  · have hl : l.val < 2176 := l.isLt
    have hr : r.val < 512 := r.isLt
    by_cases h : l.val < 2048
    · refine ⟨⟨rX, b⟩, List.mem_cons_of_mem _ List.mem_cons_self, ?_⟩
      show ix3 0 r l ∈ rX.set
      rw [Rect.mem_set_unit]
      intro a
      match a with
      | ⟨0, _⟩ => show 0 ≤ 0 ∧ 0 < 0 + 1; omega
      | ⟨1, _⟩ => show 0 ≤ r.val ∧ r.val < 0 + 512; omega
      | ⟨2, _⟩ => show 0 ≤ l.val ∧ l.val < 0 + 2048; omega
    · refine ⟨⟨rR, a⟩, List.mem_cons_self, ?_⟩
      show ix3 0 r l ∈ rR.set
      rw [Rect.mem_set_unit]
      intro a
      match a with
      | ⟨0, _⟩ => show 0 ≤ 0 ∧ 0 < 0 + 1; omega
      | ⟨1, _⟩ => show 0 ≤ r.val ∧ r.val < 0 + 512; omega
      | ⟨2, _⟩ => show 2048 ≤ l.val ∧ l.val < 2048 + 128; omega

/-- The rows at a sequence's first point, and at a later one. -/
theorem extA_at (x2 : Vec Ideal S1x512x1024 .f32) (x3 : Vec Ideal S1x16x1024 .f32) (ρ : Fin 528) (c : Fin 1024) :
    extA x2 x3 (ix2 ρ c) = if h : ρ.val < 16 then x3 (ix3 0 ⟨ρ.val, h⟩ c) else x2 (ix3 0 ⟨ρ.val - 16, by omega⟩ c) := by
  unfold extA
  rw [ext_at]
  split
  · pointwise [k0_pay2]
  · pointwise [k0_pay4]
theorem extB_at (x2 : Vec Ideal S1x512x1024 .f32) (xs : Vec Ideal S528x1024 .f32) (ρ : Fin 528) (c : Fin 1024) :
    extB x2 xs (ix2 ρ c) = if h : ρ.val < 16 then xs (ix2 ⟨512 + ρ.val, by omega⟩ c) else x2 (ix3 0 ⟨ρ.val - 16, by omega⟩ c) := by
  unfold extB
  rw [ext_at]
  split
  · pointwise [k0_pay3]
  · pointwise [k0_pay4]

/-- The result's block at an index, in the row functions. -/
theorem tOut_at (E : Vec Ideal S528x1024 .f32) (i : grid0.Coords) (x0 : Vec Ideal S1x512x2048 .f32) (x1 : Vec Ideal S1x512x1024 .bf16) (x2 : Vec Ideal S1x512x1024 .f32) (x3 : Vec Ideal S1x16x1024 .f32)
    (x4 x5 : Vec Ideal S1x256x512 .bf16) (x6 : Vec Ideal S4x256x256 .bf16) (x7 : Vec Ideal S1x1024 .f32) (x8 : Vec Ideal S2048x2048 .bf16) (x9 : Vec Ideal S1x2048 .f32)
    (x10 : Vec Ideal S2048x512 .bf16) (x11 : Vec Ideal S512x2048 .bf16) (x12 : Vec Ideal S1x2048 .f32) (x13 : Vec Ideal S2048x128 .bf16) (x14 : Vec Ideal S1x128 .f32) (r : Fin 512) (l : Fin 2176) :
    tOut E i x0 x1 x2 x3 x4 x5 x6 x7 x8 x9 x10 x11 x12 x13 x14 (ix3 0 r l)
      = if h : l.val < 2048 then kx2 (tX1 E i x0 x1 x2 x6 x7 x8) x4 x5 x9 x10 x11 r ⟨l.val, h⟩
        else krec (router (rmsRow (kx2 (tX1 E i x0 x1 x2 x6 x7 x8) x4 x5 x9 x10 x11 r) fun d => x12 (ix2 0 d)) (fun k l => x13 (ix2 k l)) (fun l => x14 (ix2 0 l))) ⟨l.val - 2048, by omega⟩ := by
  have hQ := tQ_at E i x0 x1 x2 x6 x7 x8 r
  unfold tOut
  rw [out_at]
  split
  · exact tB2_at _ _ x4 x5 x9 x10 x11 r hQ _
  · rw [tR_at]
    refine congrArg (fun f => krec f _) (funext fun l => ?_)
    rw [pay33_at]
    refine congrArg (fun f => router f _ _ l) (funext fun k => ?_)
    exact tN2_at _ _ x4 x5 x9 x10 x11 x12 r hQ k

end Cert.Proof.Mix

end
-- ==== Proof.MixPool.lean ====
/- The mixer's reference read at an index: the pooled groups from differences of prefix sums, and the
   row after attention and pool. -/
module

public import proofs.«01_k».proof.Proof.Gen.ReferenceMixIdeal.Read
public import proofs.«01_k».proof.Proof.MixSpec

@[expose] public section

set_option maxRecDepth 16384

noncomputable section

namespace Cert.Proof.Mix

open Cert.ReferenceMixIdeal Cert.ReferenceMixIdeal.Read
open Idealize.ShloMosaic Idealize.ShloMosaic.TcCoe

/-! ## Prefix sums -/

/-- A left fold of additions is the start plus the sum. -/
theorem foldl_add {ι : Type} (f : ι → EReal) (l : List ι) (z : EReal) : l.foldl (fun r n => r + f n) z = z + (l.map f).sum := by
  induction l generalizing z with
  | nil => simp
  | cons a l ih => rw [List.foldl_cons, ih, List.map_cons, List.sum_cons, add_assoc]

theorem sum_finRange (n : ℕ) (f : ℕ → EReal) : ((List.finRange n).map fun i => f i.val).sum = ∑ i ∈ Finset.range n, f i := by
  rw [Finset.sum_range, ← List.ofFn_eq_map, List.sum_ofFn]

/-- The window's positions run down its long axis. -/
theorem win_numel : (⟨3, ![1, 4111, 1]⟩ : Shape).numel = 4111 := by decide +kernel
theorem win_symm (n : Fin (⟨3, ![1, 4111, 1]⟩ : Shape).numel) :
    ((⟨3, ![1, 4111, 1]⟩ : Shape).rowMajor.symm n 0).val = 0 ∧ ((⟨3, ![1, 4111, 1]⟩ : Shape).rowMajor.symm n 1).val = n.val
      ∧ ((⟨3, ![1, 4111, 1]⟩ : Shape).rowMajor.symm n 2).val = 0 := by
  have e : ((⟨3, ![1, 4111, 1]⟩ : Shape).rowMajor ((⟨3, ![1, 4111, 1]⟩ : Shape).rowMajor.symm n)).val = n.val := by rw [Equiv.apply_symm_apply]
  rw [Shape.rowMajor_val_three] at e
  have h0 : ((⟨3, ![1, 4111, 1]⟩ : Shape).rowMajor.symm n 0).val < 1 := ((⟨3, ![1, 4111, 1]⟩ : Shape).rowMajor.symm n 0).isLt
  have h2 : ((⟨3, ![1, 4111, 1]⟩ : Shape).rowMajor.symm n 2).val < 1 := ((⟨3, ![1, 4111, 1]⟩ : Shape).rowMajor.symm n 2).isLt
  change (((⟨3, ![1, 4111, 1]⟩ : Shape).rowMajor.symm n 0).val * 4111 + ((⟨3, ![1, 4111, 1]⟩ : Shape).rowMajor.symm n 1).val) * 1 + ((⟨3, ![1, 4111, 1]⟩ : Shape).rowMajor.symm n 2).val = n.val at e
  omega

/-- The running sum along the rows: entry `j` is the sum of the entries up to it. -/
theorem prefix_at (x : Vec Ideal S8x4111x1024 .f32) (init : Vec Ideal S_ .f32) (h : S8x4111x1024.ReduceWindows ![1, 4111, 1] ![1, 1, 1] ![0, 4110, 0] ![0, 0, 0] S8x4111x1024)
    (hu : 0 < S_.numel) (b : Fin 8) (c : Fin 1024) (f : ℕ → EReal) (hx : ∀ i : Fin 4111, x (ix3 b i c) = f i.val) (hi : init (Shape.Idx.first hu) = 0) (j : Fin 4111) :
    Host.reduceWindowAdd (F := Ideal) (φ := .f32) ![1, 4111, 1] ![1, 1, 1] ![0, 4110, 0] ![0, 0, 0] x init h hu (ix3 b j c) = ∑ s ∈ Finset.range (j.val + 1), f s := by
  unfold Host.reduceWindowAdd
  rw [Ideal.hostReduceWindowAdd_def, hi]
  unfold Ideal.hostReduceWindowAdd Host.reduceWindow
  have hj := j.isLt
  refine (foldl_add (ι := Fin (⟨3, ![1, 4111, 1]⟩ : Shape).numel) _ _ _).trans ?_
  rw [zero_add]
  let G : ℕ → EReal := fun w => if 4110 ≤ j.val + w then f (j.val + w - 4110) else 0
  refine (congrArg List.sum (List.map_congr_left (g := fun n => G n.val) fun n _ => ?_)).trans ((sum_finRange _ G).trans ?_)
  · obtain ⟨w0, w1, w2⟩ := win_symm n
    have hn : n.val < 4111 := lt_of_lt_of_eq n.isLt win_numel
    have hb := b.isLt
    have hc := c.isLt
    change _ = if 4110 ≤ j.val + n.val then f (j.val + n.val - 4110) else 0
    dsimp only
    split
    · next hin =>
      have h1 := hin 1
      change 4110 ≤ j.val * 1 + ((⟨3, ![1, 4111, 1]⟩ : Shape).rowMajor.symm n 1).val ∧ j.val * 1 + ((⟨3, ![1, 4111, 1]⟩ : Shape).rowMajor.symm n 1).val - 4110 < 4111 at h1
      rw [w1] at h1
      rw [if_pos (by omega)]
      refine (congrArg x (funext fun a => Fin.ext ?_)).trans (hx ⟨j.val + n.val - 4110, by omega⟩)
      match a with
      | ⟨0, _⟩ => show b.val * 1 + ((⟨3, ![1, 4111, 1]⟩ : Shape).rowMajor.symm n 0).val - 0 = b.val; omega
      | ⟨1, _⟩ => show j.val * 1 + ((⟨3, ![1, 4111, 1]⟩ : Shape).rowMajor.symm n 1).val - 4110 = j.val + n.val - 4110; omega
      | ⟨2, _⟩ => show c.val * 1 + ((⟨3, ![1, 4111, 1]⟩ : Shape).rowMajor.symm n 2).val - 0 = c.val; omega
    · next hin =>
      rw [if_neg fun hle => hin fun a => by
        match a with
        | ⟨0, _⟩ =>
          show 0 ≤ b.val * 1 + ((⟨3, ![1, 4111, 1]⟩ : Shape).rowMajor.symm n 0).val ∧ b.val * 1 + ((⟨3, ![1, 4111, 1]⟩ : Shape).rowMajor.symm n 0).val - 0 < 8
          omega
        | ⟨1, _⟩ =>
          show 4110 ≤ j.val * 1 + ((⟨3, ![1, 4111, 1]⟩ : Shape).rowMajor.symm n 1).val ∧ j.val * 1 + ((⟨3, ![1, 4111, 1]⟩ : Shape).rowMajor.symm n 1).val - 4110 < 4111
          omega
        | ⟨2, _⟩ =>
          show 0 ≤ c.val * 1 + ((⟨3, ![1, 4111, 1]⟩ : Shape).rowMajor.symm n 2).val ∧ c.val * 1 + ((⟨3, ![1, 4111, 1]⟩ : Shape).rowMajor.symm n 2).val - 0 < 1024
          omega]
  · rw [show (⟨3, ![1, 4111, 1]⟩ : Shape).numel = (4110 - j.val) + (j.val + 1) from win_numel.trans (by omega), Finset.sum_range_add,
      Finset.sum_eq_zero fun w hw => (if_neg (by have := Finset.mem_range.1 hw; omega) : G w = 0), zero_add]
    refine Finset.sum_congr rfl fun w _ => ?_
    refine (if_pos (by omega) : G _ = _).trans ?_
    exact congrArg f (by omega)

section Ref

variable (x0 : Vec Ideal S8x4096x2048 .f32) (x1 : Vec Ideal S8x4096x1024 .bf16) (x2 : Vec Ideal S8x4096x1024 .f32) (x3 x4 : Vec Ideal S8x256x512 .f32)
  (x5 : Vec Ideal S4x256x256 .f32) (x6 : Vec Ideal S1024 .f32) (x7 : Vec Ideal S2048x2048 .f32) (x8 : Vec Ideal S2048 .f32) (x9 : Vec Ideal S2048x512 .f32)
  (x10 : Vec Ideal S512x2048 .f32) (x11 : Vec Ideal S2048 .f32) (b : Fin 8) (t : Fin 4096)

/-- A sequence's pool input with fifteen zero rows before it. -/
def padded (c : Fin 1024) (n : ℕ) : EReal := if h : 15 ≤ n ∧ n - 15 < 4096 then x2 (ix3 b ⟨n - 15, h.2⟩ c) else 0

theorem padded_real (hu : ∀ b t c, IsR (x2 (ix3 b t c))) (c : Fin 1024) (n : ℕ) : IsR (padded x2 b c n) := by
  unfold padded; split
  · exact hu _ _ _
  · exact isR_zero

/-- The values upwards from row `t`. -/
def up (c : Fin 1024) (s : ℕ) : EReal := padded x2 b c (15 + t.val - s)

theorem up_zero (c : Fin 1024) : up x2 b t c 0 = x2 (ix3 b t c) := by
  unfold up padded
  rw [dif_pos (by omega)]
  exact congrArg (fun n => x2 (ix3 b n c)) (Fin.ext (by show 15 + t.val - 0 - 15 = t.val; omega))

theorem v1_at (c : Fin 1024) (i : Fin 4111) : val_main_v1 (F := Ideal) x2 (ix3 b i c) = padded x2 b c i.val := by
  unfold padded
  pointwise [val_main_v1, val_main_v0, val_main_cst]
  have := i.isLt
  split
  · rw [dif_neg (by omega)]
  · rw [dif_pos (by omega)]

theorem v4_at (c : Fin 1024) (p : Fin 4112) : val_main_v4 (F := Ideal) x2 (ix3 b p c) = ∑ s ∈ Finset.range p.val, padded x2 b c s := by
  have h2 : ∀ j : Fin 4111, val_main_v2 (F := Ideal) x2 (ix3 b j c) = ∑ s ∈ Finset.range (j.val + 1), padded x2 b c s := fun j =>
    prefix_at _ _ _ _ b c _ (v1_at x2 b c) (by pointwise [val_main_call0_call0_v0, val_main_call0_call0_cst]) j
  pointwise [val_main_v4, val_main_v3, val_main_cst_0]
  split
  · rw [show p.val = 0 by omega]; simp
  · rw [h2]
    exact congrArg (fun n => ∑ s ∈ Finset.range n, padded x2 b c s) (by show p.val - 1 + 1 = p.val; omega)

/-- A window's sum as the difference of two running sums. -/
theorem diff_at (hu : ∀ b t c, IsR (x2 (ix3 b t c))) (c : Fin 1024) (w : ℕ) (hw : w ≤ 16) (p q : Fin 4112) (hp : p.val = 16 + t.val) (hq : q.val = 16 - w + t.val) :
    val_main_v4 (F := Ideal) x2 (ix3 b p c) - val_main_v4 (F := Ideal) x2 (ix3 b q c) = ∑ s ∈ Finset.range w, up x2 b t c s := by
  rw [v4_at, v4_at, show p.val = q.val + w by omega, window_sum _ (padded_real x2 b hu c)]
  refine Finset.sum_congr rfl fun s _ => ?_
  unfold up
  exact congrArg (padded x2 b c) (by omega)

variable (hu : ∀ b t c, IsR (x2 (ix3 b t c)))

include hu in
theorem v16_at (c : Fin 256) : val_main_v16 (F := Ideal) x2 (ix3 b t c) = Ideal.div (∑ s ∈ Finset.range 2, up x2 b t ⟨c.val, by omega⟩ s) (cnt t.val 2#32) := by
  rw [← diff_at x2 b t hu ⟨c.val, by omega⟩ 2 (by omega) ⟨16 + t.val, by omega⟩ ⟨14 + t.val, by omega⟩ rfl rfl]
  unfold cnt
  pointwise [val_main_v16, val_main_v15, val_main_v14, val_main_v13, val_main_v12, val_main_v11, val_main_v10, val_main_v9, val_main_v8, val_main_v7, val_main_v6,
    val_main_v5, val_main_c, val_main_c_1]
include hu in
theorem v27_at (c : Fin 256) : val_main_v27 (F := Ideal) x2 (ix3 b t c) = Ideal.div (∑ s ∈ Finset.range 4, up x2 b t ⟨256 + c.val, by omega⟩ s) (cnt t.val 4#32) := by
  rw [← diff_at x2 b t hu ⟨256 + c.val, by omega⟩ 4 (by omega) ⟨16 + t.val, by omega⟩ ⟨12 + t.val, by omega⟩ rfl rfl]
  unfold cnt
  pointwise [val_main_v27, val_main_v26, val_main_v25, val_main_v24, val_main_v23, val_main_v22, val_main_v21, val_main_v20, val_main_v19, val_main_v18, val_main_v17,
    val_main_v5, val_main_c_2, val_main_c_3]
include hu in
theorem v38_at (c : Fin 256) : val_main_v38 (F := Ideal) x2 (ix3 b t c) = Ideal.div (∑ s ∈ Finset.range 8, up x2 b t ⟨512 + c.val, by omega⟩ s) (cnt t.val 8#32) := by
  rw [← diff_at x2 b t hu ⟨512 + c.val, by omega⟩ 8 (by omega) ⟨16 + t.val, by omega⟩ ⟨8 + t.val, by omega⟩ rfl rfl]
  unfold cnt
  pointwise [val_main_v38, val_main_v37, val_main_v36, val_main_v35, val_main_v34, val_main_v33, val_main_v32, val_main_v31, val_main_v30, val_main_v29, val_main_v28,
    val_main_v5, val_main_c_4, val_main_c_5]
include hu in
theorem v49_at (c : Fin 256) : val_main_v49 (F := Ideal) x2 (ix3 b t c) = Ideal.div (∑ s ∈ Finset.range 16, up x2 b t ⟨768 + c.val, by omega⟩ s) (cnt t.val 16#32) := by
  rw [← diff_at x2 b t hu ⟨768 + c.val, by omega⟩ 16 (by omega) ⟨16 + t.val, by omega⟩ ⟨t.val, by omega⟩ rfl (by show t.val = 16 - 16 + t.val; omega)]
  unfold cnt
  pointwise [val_main_v49, val_main_v48, val_main_v47, val_main_v46, val_main_v45, val_main_v44, val_main_v43, val_main_v42, val_main_v41, val_main_v40, val_main_v39,
    val_main_v5, val_main_c_6, val_main_c_7]

include hu in
/-- A group's deviation. -/
theorem v56_at (g : Fin 4) (c : Fin 256) : val_main_v56 (F := Ideal) x2 (ix4 b t g c) = dev (up x2 b t ⟨256 * g.val + c.val, by omega⟩) t.val (win g) := by
  unfold dev
  rw [up_zero]
  pointwise [val_main_v56, val_main_v55, val_main_v54, val_main_v53, val_main_v52, val_main_v51, val_main_v50]
  refine congrArg₂ (fun a b : EReal => a - b) ?_ (congrArg (fun n => x2 (ix3 b t n)) (Fin.ext (by show g.val * 256 + c.val = 256 * g.val + c.val; omega)))
  match g with
  | 0 => refine (dif_pos (by decide)).trans ((v16_at x2 b t hu c).trans ?_); simp only [Fin.val_zero, Nat.mul_zero, Nat.zero_add]; rfl
  | 1 => exact (dif_neg (by decide)).trans ((dif_pos (by decide)).trans (v27_at x2 b t hu c))
  | 2 => exact (dif_neg (by decide)).trans ((dif_neg (by decide)).trans ((dif_pos (by decide)).trans (v38_at x2 b t hu c)))
  | 3 => exact (dif_neg (by decide)).trans ((dif_neg (by decide)).trans ((dif_neg (by decide)).trans (v49_at x2 b t hu c)))

/-- The pooled row. -/
def rpool (e : Fin 1024) : EReal :=
  poolRow (fun g c => dev (up x2 b t ⟨256 * g.val + c.val, by omega⟩) t.val (win g)) (fun g c d => x5 (ix3 g c d)) (fun e => x6 (ix1 e)) e

include hu in
theorem v62_at (e : Fin 1024) : val_main_v62 (F := Ideal) x2 x5 x6 (ix3 b t e) = rpool x2 x5 x6 b t e := by
  unfold rpool poolRow
  simp only [← v56_at x2 b t hu]
  pointwise [val_main_v62, val_main_v61, val_main_v60, val_main_v59, val_main_v58, val_main_v57]
  refine congrArg (· * _) (Finset.sum_congr rfl fun c _ => ?_)
  rw [v56_at x2 b t hu, mul_comm]

/-- The row after attention and pool. -/
def rx1 (d : Fin 2048) : EReal :=
  x1Row (fun d => x0 (ix3 b t d)) (fun k => x1 (ix3 b t k)) (rpool x2 x5 x6 b t) (fun k d => x7 (ix2 k d)) d

include hu in
theorem v66_at (d : Fin 2048) : val_main_v66 (F := Ideal) x0 x1 x2 x5 x6 x7 (ix3 b t d) = rx1 x0 x1 x2 x5 x6 x7 b t d := by
  unfold rx1 x1Row
  simp only [← v62_at x2 x5 x6 b t hu]
  pointwise [val_main_v66, val_main_v65, val_main_v64, val_main_v63]
  rw [add_assoc]

end Ref

end Cert.Proof.Mix

end
-- ==== Proof.MixAttn.lean ====
/- The mixer's reference read at an index: the memory's attention and the row after it. -/
module

public import proofs.«01_k».proof.Proof.MixPool

@[expose] public section

set_option maxRecDepth 16384

noncomputable section

namespace Cert.Proof.Mix

open Cert.ReferenceMixIdeal Cert.ReferenceMixIdeal.Read
open Idealize.ShloMosaic Idealize.ShloMosaic.TcCoe

section Ref

variable (x0 : Vec Ideal S8x4096x2048 .f32) (x1 : Vec Ideal S8x4096x1024 .bf16) (x2 : Vec Ideal S8x4096x1024 .f32) (x3 x4 : Vec Ideal S8x256x512 .f32)
  (x5 : Vec Ideal S4x256x256 .f32) (x6 : Vec Ideal S1024 .f32) (x7 : Vec Ideal S2048x2048 .f32) (x8 : Vec Ideal S2048 .f32) (x9 : Vec Ideal S2048x512 .f32)
  (x10 : Vec Ideal S512x2048 .f32) (x11 : Vec Ideal S2048 .f32) (b : Fin 8) (t : Fin 4096) (hu : ∀ b t c, IsR (x2 (ix3 b t c)))

/-- The normalised row, its queries, the heads, the row after them. -/
def rq (c : Fin 512) : EReal := qRow (rmsRow (rx1 x0 x1 x2 x5 x6 x7 b t) fun k => x8 (ix1 k)) (fun k c => x9 (ix2 k c)) c
def rlg (hd : Fin 4) (m : Fin 256) : EReal := lgt (rq x0 x1 x2 x5 x6 x7 x8 x9 b t) (fun m c => x3 (ix3 b m c)) hd m
def ro (c : Fin 512) : EReal := oRow (rq x0 x1 x2 x5 x6 x7 x8 x9 b t) (fun m c => x3 (ix3 b m c)) (fun m c => x4 (ix3 b m c)) c
def rx2 (d : Fin 2048) : EReal := x2Row (rx1 x0 x1 x2 x5 x6 x7 b t) (ro x0 x1 x2 x3 x4 x5 x6 x7 x8 x9 b t) (fun c d => x10 (ix2 c d)) d

include hu in
theorem v79_at (k : Fin 2048) : val_main_v79 (F := Ideal) x0 x1 x2 x5 x6 x7 x8 (ix3 b t k) = rmsRow (rx1 x0 x1 x2 x5 x6 x7 b t) (fun k => x8 (ix1 k)) k := by
  rw [show rx1 x0 x1 x2 x5 x6 x7 b t = fun d => val_main_v66 (F := Ideal) x0 x1 x2 x5 x6 x7 (ix3 b t d) from funext fun d => (v66_at x0 x1 x2 x5 x6 x7 b t hu d).symm]
  pointwise [val_main_v79, val_main_v78, val_main_v77, val_main_v76, val_main_v75, val_main_v74, val_main_v73, val_main_v72, val_main_v71, val_main_v70, val_main_v69,
    val_main_v68, val_main_v67, val_main_cst_8, val_main_cst_9, val_main_cst_10, rmsRow]
include hu in
theorem v82_at (c : Fin 512) : val_main_v82 (F := Ideal) x0 x1 x2 x5 x6 x7 x8 x9 (ix3 b t c) = rq x0 x1 x2 x5 x6 x7 x8 x9 b t c := by
  unfold rq qRow
  simp only [← v79_at x0 x1 x2 x5 x6 x7 x8 b t hu]
  pointwise [val_main_v82]
include hu in
theorem v86_at (hd : Fin 4) (m : Fin 256) : val_main_v86 (F := Ideal) x0 x1 x2 x3 x5 x6 x7 x8 x9 (ix4 b hd t m) = rlg x0 x1 x2 x3 x5 x6 x7 x8 x9 b t hd m := by
  unfold rlg lgt
  simp only [← v82_at x0 x1 x2 x5 x6 x7 x8 x9 b t hu]
  pointwise [val_main_v86, val_main_v85, val_main_v84, val_main_v83, val_main_v80, val_main_cst_11]
  simp only [Nat.mul_comm]
theorem row_max (A : FVec Ideal S8x4x4096x256 .f32) (c : FVec Ideal S_ .f32) (b : Fin 8) (hd : Fin 4) (t : Fin 4096)
    (h : S8x4x4096x256.ReducesTo [3] S8x4x4096) (h0 : 0 < S_.numel) :
    Host.reduce FloatOps.maximumf A c h h0 (ix3 b hd t) = Finset.fold max (c (Shape.Idx.first h0)) (fun m => A (ix4 b hd t m)) Finset.univ := by
  pointwise
theorem top_fold4 {n : ℕ} (f : Fin n → EReal) : Finset.fold max (Ideal.ofBits FTy.f32 4286578688#32) f Finset.univ = top f := by
  rw [bits_bot]; rfl
theorem bot_max (a : EReal) : max (Ideal.ofBits FTy.f32 4286578688#32) a = a := by
  rw [bits_bot]; exact max_eq_right bot_le
include hu in
theorem v89_at (hd : Fin 4) : val_main_v89 (F := Ideal) x0 x1 x2 x3 x5 x6 x7 x8 x9 (ix3 b hd t) = top (rlg x0 x1 x2 x3 x5 x6 x7 x8 x9 b t hd) := by
  have h : val_main_v89 (F := Ideal) x0 x1 x2 x3 x5 x6 x7 x8 x9 (ix3 b hd t) = max (Ideal.ofBits FTy.f32 4286578688#32)
      (Finset.fold max (Ideal.ofBits FTy.f32 4286578688#32) (fun m => val_main_v86 (F := Ideal) x0 x1 x2 x3 x5 x6 x7 x8 x9 (ix4 b hd t m)) Finset.univ) := by
    rw [val_main_v89_apply, val_main_v88_apply]
    unfold val_main_v87
    rw [row_max, val_main_cst_12_apply, val_main_cst_13_apply]
    rfl
  rw [h, bot_max, top_fold4]
  exact congrArg top (funext fun m => v86_at x0 x1 x2 x3 x5 x6 x7 x8 x9 b t hu hd m)
include hu in
theorem v97_at (hd : Fin 4) (m : Fin 256) : val_main_v97 (F := Ideal) x0 x1 x2 x3 x5 x6 x7 x8 x9 (ix4 b hd t m)
    = Ideal.div (Ideal.exp (rlg x0 x1 x2 x3 x5 x6 x7 x8 x9 b t hd m - top (rlg x0 x1 x2 x3 x5 x6 x7 x8 x9 b t hd)))
        (∑ m, Ideal.exp (rlg x0 x1 x2 x3 x5 x6 x7 x8 x9 b t hd m - top (rlg x0 x1 x2 x3 x5 x6 x7 x8 x9 b t hd))) := by
  have h : val_main_v97 (F := Ideal) x0 x1 x2 x3 x5 x6 x7 x8 x9 (ix4 b hd t m)
      = Ideal.div (Ideal.exp (val_main_v86 (F := Ideal) x0 x1 x2 x3 x5 x6 x7 x8 x9 (ix4 b hd t m) - val_main_v89 (F := Ideal) x0 x1 x2 x3 x5 x6 x7 x8 x9 (ix3 b hd t)))
        (∑ m : Fin 256, Ideal.exp (val_main_v86 (F := Ideal) x0 x1 x2 x3 x5 x6 x7 x8 x9 (ix4 b hd t m) - val_main_v89 (F := Ideal) x0 x1 x2 x3 x5 x6 x7 x8 x9 (ix3 b hd t))) := by
    unfold val_main_v97 val_main_v96 val_main_v95 val_main_v94 val_main_v93 val_main_v92 val_main_v91 val_main_v90
    generalize val_main_v86 (F := Ideal) x0 x1 x2 x3 x5 x6 x7 x8 x9 = A
    generalize val_main_v89 (F := Ideal) x0 x1 x2 x3 x5 x6 x7 x8 x9 = B
    pointwise [val_main_cst_14]
  rw [h, v89_at x0 x1 x2 x3 x5 x6 x7 x8 x9 b t hu, v86_at x0 x1 x2 x3 x5 x6 x7 x8 x9 b t hu]
  simp only [v86_at x0 x1 x2 x3 x5 x6 x7 x8 x9 b t hu]

variable (hlg : ∀ hd m, IsR (rlg x0 x1 x2 x3 x5 x6 x7 x8 x9 b t hd m))

include hu hlg in
theorem v100_at (c : Fin 512) : val_main_v100 (F := Ideal) x0 x1 x2 x3 x4 x5 x6 x7 x8 x9 (ix3 b t c) = ro x0 x1 x2 x3 x4 x5 x6 x7 x8 x9 b t c := by
  refine Eq.trans ?_ (att_eq (rlg x0 x1 x2 x3 x5 x6 x7 x8 x9 b t ⟨c.val / 128, by omega⟩) (fun m => x4 (ix3 b m c)) (hlg _))
  simp only [← v97_at x0 x1 x2 x3 x5 x6 x7 x8 x9 b t hu]
  pointwise [val_main_v100, val_main_v99, val_main_v98, val_main_v81]
include hu hlg in
theorem v102_at (d : Fin 2048) : val_main_v102 (F := Ideal) x0 x1 x2 x3 x4 x5 x6 x7 x8 x9 x10 (ix3 b t d) = rx2 x0 x1 x2 x3 x4 x5 x6 x7 x8 x9 x10 b t d := by
  unfold rx2 x2Row
  simp only [← v100_at x0 x1 x2 x3 x4 x5 x6 x7 x8 x9 b t hu hlg]
  rw [← v66_at x0 x1 x2 x5 x6 x7 b t hu]
  pointwise [val_main_v102, val_main_v101]
include hu hlg in
theorem v115_at (k : Fin 2048) : val_main_v115 (F := Ideal) x0 x1 x2 x3 x4 x5 x6 x7 x8 x9 x10 x11 (ix3 b t k)
    = rmsRow (rx2 x0 x1 x2 x3 x4 x5 x6 x7 x8 x9 x10 b t) (fun k => x11 (ix1 k)) k := by
  rw [show rx2 x0 x1 x2 x3 x4 x5 x6 x7 x8 x9 x10 b t = fun d => val_main_v102 (F := Ideal) x0 x1 x2 x3 x4 x5 x6 x7 x8 x9 x10 (ix3 b t d)
    from funext fun d => (v102_at x0 x1 x2 x3 x4 x5 x6 x7 x8 x9 x10 b t hu hlg d).symm]
  pointwise [val_main_v115, val_main_v114, val_main_v113, val_main_v112, val_main_v111, val_main_v110, val_main_v109, val_main_v108, val_main_v107, val_main_v106, val_main_v105,
    val_main_v104, val_main_v103, val_main_cst_15, val_main_cst_16, val_main_cst_17, rmsRow]

end Ref

end Cert.Proof.Mix

end
-- ==== Proof.MixGate.lean ====
module
public import proofs.«01_k».proof.Proof.MixAttn
@[expose] public section
set_option maxRecDepth 16384
noncomputable section
namespace Cert.Proof.Mix
open Cert.ReferenceMixIdeal Cert.ReferenceMixIdeal.Read
open Idealize.ShloMosaic Idealize.ShloMosaic.TcCoe
/-- The greatest-first order of a row along the last axis, as the sort of the row. -/
theorem before_eq {s : Shape} (d : Fin s.rank) (G : FVec Ideal s .f32) (j : s.Idx) (f : Fin (s.size d) → EReal) (hf : ∀ k, G (j.along d k) = f k) :
    (fun k k' => FloatOps.cmpfTotal (F := Ideal) (φ := .f32) .gt (G (j.along d k)) (G (j.along d k')) == 1#1) = fun x y => decide (f y < f x) := by
  funext x y
  rw [hf, hf]
  show (BitVec.ofBool (decide (f y < f x)) == 1#1) = _
  cases decide (f y < f x) <;> rfl

theorem rank4 : 2 < S8x4096x4.rank := by decide

theorem rank8 : 2 < S8x4096x8.rank := by decide

theorem along4 (b : Fin 8) (t : Fin 4096) (p k : Fin 4) : Shape.Idx.along (s := S8x4096x4) (ix3 b t p) 2 k = ix3 b t k :=
  funext fun a => by match a with | ⟨0, _⟩ => rfl | ⟨1, _⟩ => rfl | ⟨2, _⟩ => rfl

theorem along8 (b : Fin 8) (t : Fin 4096) (p k : Fin 8) : Shape.Idx.along (s := S8x4096x8) (ix3 b t p) 2 k = ix3 b t k :=
  funext fun a => by match a with | ⟨0, _⟩ => rfl | ⟨1, _⟩ => rfl | ⟨2, _⟩ => rfl

theorem slice1 (b : Fin 8) (t : Fin 4096) {α : Type} (v : S8x4096x4.Idx → α) (h) :
    extractStridedSlice S8x4096x1 (fun _ => 0) v h (ix3 b t 0) = v (ix3 b t 0) := by pointwise

theorem slice2 (b : Fin 8) (t : Fin 4096) (p : Fin 2) {α : Type} (v : S8x4096x8.Idx → α) (h) :
    extractStridedSlice S8x4096x2 (fun _ => 0) v h (ix3 b t p) = v (ix3 b t ⟨p.val, by omega⟩) := by pointwise

/-- The number of the greatest of the four. -/
theorem topk_first (G : FVec Ideal S8x4096x4 .f32) (b : Fin 8) (t : Fin 4096) (f : Fin 4 → EReal) (hf : ∀ g, G (ix3 b t g) = f g) (h) :
    (Host.topK S8x4096x1 2 (FloatOps.cmpfTotal (F := Ideal) (φ := .f32) .gt) G h).2 (ix3 b t 0) = BitVec.ofNat 32 (sortedFrom (fun x y => decide (f y < f x)) 0).val := by
  unfold Host.topK Host.sort2
  dsimp only
  simp only [dif_pos (show 2 < S8x4096x4.rank by decide)]
  rw [slice1]
  have e := before_eq (s := S8x4096x4) ⟨2, rank4⟩ G (ix3 b t 0) f fun k => (congrArg G (along4 b t 0 k)).trans (hf k)
  rw [e]
  rfl

theorem topk_both (G : FVec Ideal S8x4096x8 .f32) (b : Fin 8) (t : Fin 4096) (p : Fin 2) (f : Fin 8 → EReal) (hf : ∀ g, G (ix3 b t g) = f g) (h) :
    (Host.topK S8x4096x2 2 (FloatOps.cmpfTotal (F := Ideal) (φ := .f32) .gt) G h).1 (ix3 b t p) = f (sortedFrom (fun x y => decide (f y < f x)) ⟨p.val, by omega⟩)
    ∧ (Host.topK S8x4096x2 2 (FloatOps.cmpfTotal (F := Ideal) (φ := .f32) .gt) G h).2 (ix3 b t p)
      = BitVec.ofNat 32 (sortedFrom (fun x y => decide (f y < f x)) (⟨p.val, by omega⟩ : Fin 8)).val := by
  have e := before_eq (s := S8x4096x8) ⟨2, rank8⟩ G (ix3 b t ⟨p.val, by omega⟩) f
    fun k => (congrArg G (along8 b t ⟨p.val, by omega⟩ k)).trans (hf k)
  unfold Host.topK Host.sort2
  dsimp only
  simp only [dif_pos (show 2 < S8x4096x8.rank by decide)]
  rw [slice2, slice2, e]
  exact ⟨(congrArg G (along8 b t _ _)).trans (hf _), rfl⟩
theorem row_max4 (A : FVec Ideal S8x4096x4 .f32) (c : FVec Ideal S_ .f32) (b : Fin 8) (t : Fin 4096) (h : S8x4096x4.ReducesTo [2] S8x4096) (h0 : 0 < S_.numel) :
    Host.reduce FloatOps.maximumf A c h h0 (ix2 b t) = Finset.fold max (c (Shape.Idx.first h0)) (fun m => A (ix3 b t m)) Finset.univ := by
  pointwise

theorem row_max2 (A : FVec Ideal S8x4096x2 .f32) (c : FVec Ideal S_ .f32) (b : Fin 8) (t : Fin 4096) (h : S8x4096x2.ReducesTo [2] S8x4096) (h0 : 0 < S_.numel) :
    Host.reduce FloatOps.maximumf A c h h0 (ix2 b t) = Finset.fold max (c (Shape.Idx.first h0)) (fun m => A (ix3 b t m)) Finset.univ := by
  pointwise

theorem row_min2 (A : IVec S8x4096x2 32) (c : IVec S_ 32) (b : Fin 8) (t : Fin 4096) (h : S8x4096x2.ReducesTo [2] S8x4096) (h0 : 0 < S_.numel) :
    Host.reduce IntOp.minsi A c h h0 (ix2 b t) = IntOp.minsi (A (ix3 b t 0)) (IntOp.minsi (A (ix3 b t 1)) (c (Shape.Idx.first h0))) := by
  refine Eq.trans (b := Finset.fold IntOp.minsi (c (Shape.Idx.first h0)) (fun m => A (ix3 b t m)) Finset.univ) (by pointwise) rfl

theorem row_maxi2 (A : IVec S8x4096x2 32) (c : IVec S_ 32) (b : Fin 8) (t : Fin 4096) (h : S8x4096x2.ReducesTo [2] S8x4096) (h0 : 0 < S_.numel) :
    Host.reduce IntOp.maxsi A c h h0 (ix2 b t) = IntOp.maxsi (A (ix3 b t 0)) (IntOp.maxsi (A (ix3 b t 1)) (c (Shape.Idx.first h0))) := by
  refine Eq.trans (b := Finset.fold IntOp.maxsi (c (Shape.Idx.first h0)) (fun m => A (ix3 b t m)) Finset.univ) (by pointwise) rfl

theorem one_hot (i g : Fin 32) : FloatOps.uitofp (F := Ideal) FTy.f32 (IntOp.cmpi .eq (BitVec.ofNat 32 i.val) (BitVec.ofNat 32 g.val)) = if g = i then 1 else 0 := by
  have h : IntOp.cmpi .eq (BitVec.ofNat 32 i.val) (BitVec.ofNat 32 g.val) = if g = i then 1#1 else 0#1 := by
    revert i g; decide +kernel
  rw [h]
  split_ifs
  · show ((((1#1 : BitVec 1).toNat : ℝ) : EReal)) = 1
    norm_num
  · show ((((0#1 : BitVec 1).toNat : ℝ) : EReal)) = 0
    norm_num

theorem hot (n : ℕ) (hn : n < 32) (e : Fin 32) (w : EReal) :
    FloatOps.uitofp (F := Ideal) FTy.f32 (IntOp.cmpi .eq (BitVec.ofNat 32 n) (BitVec.ofNat 32 e.val)) * w = if e.val = n then w else 0 := by
  rw [one_hot ⟨n, hn⟩ e]
  simp only [Fin.ext_iff, ite_mul, one_mul, zero_mul]

theorem record_zero (gl : Fin 4 → EReal) (el : Fin 32 → EReal) (i : Fin 4) (j k : Fin 8) (l : Fin 128) (h : l.val = 2 ∨ l.val = 3 ∨ 36 ≤ l.val) :
    record gl el i j k l = 0 := by
  unfold record
  rw [if_neg (by omega), if_neg (by omega), if_neg (by omega), if_neg (by omega)]

/-- The pieces side by side: the residual, the two numbers, zeros, the weights, zeros. -/
theorem ladder (R : Fin 2048 → EReal) (N : Fin 2 → EReal) (W : Fin 32 → EReal) (gl : Fin 4 → EReal) (el : Fin 32 → EReal) (i : Fin 4) (j k : Fin 8)
    (n0 : N 0 = (((8 * i.val + min j.val k.val : ℕ) : ℝ) : EReal)) (n1 : N 1 = (((8 * i.val + max j.val k.val : ℕ) : ℝ) : EReal))
    (w : ∀ e, W e = record gl el i j k ⟨4 + e.val, by omega⟩) (l : Fin 2176) :
    (if h : l.val < 2048 then R ⟨l.val, h⟩
      else if h : l.val - 2048 < 2 then N ⟨l.val - 2048, h⟩
      else if l.val - 2048 - 2 < 2 then 0
      else if h : l.val - 2048 - 2 - 2 < 32 then W ⟨l.val - 2048 - 2 - 2, h⟩ else 0)
    = if h : l.val < 2048 then R ⟨l.val, h⟩ else record gl el i j k ⟨l.val - 2048, by omega⟩ := by
  by_cases h : l.val < 2048
  · rw [dif_pos h, dif_pos h]
  rw [dif_neg h, dif_neg h]
  by_cases h1 : l.val - 2048 < 2
  · rw [dif_pos h1]
    unfold record
    dsimp only
    by_cases h0 : l.val - 2048 = 0
    · rw [if_pos h0, ← n0]
      exact congrArg (fun k => N k) (Fin.ext h0)
    · rw [if_neg h0, if_pos (by omega), ← n1]
      exact congrArg (fun k => N k) (Fin.ext (show l.val - 2048 = 1 by omega))
  rw [dif_neg h1]
  by_cases h2 : l.val - 2048 - 2 < 2
  · rw [if_pos h2, record_zero _ _ _ _ _ _ (by dsimp only; omega)]
  rw [if_neg h2]
  by_cases h3 : l.val - 2048 - 2 - 2 < 32
  · rw [dif_pos h3, w]
    exact congrArg _ (Fin.ext (show 4 + (l.val - 2048 - 2 - 2) = l.val - 2048 by omega))
  · rw [dif_neg h3, record_zero _ _ _ _ _ _ (by dsimp only; omega)]

theorem number (i : Fin 4) (j : Fin 8) :
    IntOp.addi (IntOp.muli (BitVec.ofNat 32 i.val) 8#32) (BitVec.ofNat 32 j.val) = BitVec.ofNat 32 (8 * i.val + j.val) := by
  revert i j; decide +kernel

theorem least (i : Fin 4) (j k : Fin 8) :
    IntOp.minsi (BitVec.ofNat 32 (8 * i.val + j.val)) (IntOp.minsi (BitVec.ofNat 32 (8 * i.val + k.val)) 2147483647#32) = BitVec.ofNat 32 (8 * i.val + min j.val k.val) := by
  revert i j k; decide +kernel

theorem most (i : Fin 4) (j k : Fin 8) :
    IntOp.maxsi (BitVec.ofNat 32 (8 * i.val + j.val)) (IntOp.maxsi (BitVec.ofNat 32 (8 * i.val + k.val)) 2147483648#32) = BitVec.ofNat 32 (8 * i.val + max j.val k.val) := by
  revert i j k; decide +kernel

theorem as_float (n : ℕ) (h : n < 64) : FloatOps.sitofp (F := Ideal) FTy.f32 (BitVec.ofNat 32 n) = ((n : ℝ) : EReal) := by
  show ((((BitVec.ofNat 32 n).toInt : ℝ) : EReal)) = _
  have e : (BitVec.ofNat 32 n).toInt = (n : ℤ) := by
    rw [BitVec.toInt_eq_toNat_of_lt] <;> rw [BitVec.toNat_ofNat] <;> omega
  rw [e, Int.cast_natCast]

section Ref
variable (x0 : Vec Ideal S8x4096x2048 .f32) (x1 : Vec Ideal S8x4096x1024 .bf16) (x2 : Vec Ideal S8x4096x1024 .f32) (x3 x4 : Vec Ideal S8x256x512 .f32)
  (x5 : Vec Ideal S4x256x256 .f32) (x6 : Vec Ideal S1024 .f32) (x7 : Vec Ideal S2048x2048 .f32) (x8 : Vec Ideal S2048 .f32) (x9 : Vec Ideal S2048x512 .f32)
  (x10 : Vec Ideal S512x2048 .f32) (x11 : Vec Ideal S2048 .f32) (b : Fin 8) (t : Fin 4096) (hu : ∀ b t c, IsR (x2 (ix3 b t c)))
variable (hlg : ∀ hd m, IsR (rlg x0 x1 x2 x3 x5 x6 x7 x8 x9 b t hd m))
  (x12 : Vec Ideal S2048x4 .f32) (x13 : Vec Ideal S4 .f32) (x14 : Vec Ideal S2048x32 .f32) (x15 : Vec Ideal S32 .f32)

/-- The groups' logits of a row. -/
def rgl (g : Fin 4) : EReal :=
  router (rmsRow (rx2 x0 x1 x2 x3 x4 x5 x6 x7 x8 x9 x10 b t) fun k => x11 (ix1 k)) (fun k g => x12 (ix2 k g)) (fun g => x13 (ix1 g)) g

/-- The experts' logits of a row. -/
def rel (e : Fin 32) : EReal :=
  router (rmsRow (rx2 x0 x1 x2 x3 x4 x5 x6 x7 x8 x9 x10 b t) fun k => x11 (ix1 k)) (fun k e => x14 (ix2 k e)) (fun e => x15 (ix1 e)) e

/-- The chosen group, and the expert at place `p` of the chosen group's order. -/
def gsel (gl : Fin 4 → EReal) : Fin 4 := sortedFrom (fun x y => decide (gl y < gl x)) 0

def esel (gl : Fin 4 → EReal) (el : Fin 32 → EReal) (p : Fin 8) : Fin 8 :=
  sortedFrom (fun x y => decide (inGroup el (gsel gl) y < inGroup el (gsel gl) x)) p

include hu hlg in
theorem v119_at (g : Fin 4) : val_main_v119 (F := Ideal) x0 x1 x2 x3 x4 x5 x6 x7 x8 x9 x10 x11 x12 x13 (ix3 b t g) = rgl x0 x1 x2 x3 x4 x5 x6 x7 x8 x9 x10 x11 b t x12 x13 g := by
  unfold rgl router
  simp only [← v115_at x0 x1 x2 x3 x4 x5 x6 x7 x8 x9 x10 x11 b t hu hlg]
  unfold val_main_v119 val_main_v118 val_main_v117 val_main_v116
  generalize val_main_v115 (F := Ideal) x0 x1 x2 x3 x4 x5 x6 x7 x8 x9 x10 x11 = H
  pointwise

include hu hlg in
theorem v136_at (e : Fin 32) : val_main_v136 (F := Ideal) x0 x1 x2 x3 x4 x5 x6 x7 x8 x9 x10 x11 x14 x15 (ix3 b t e) = rel x0 x1 x2 x3 x4 x5 x6 x7 x8 x9 x10 x11 b t x14 x15 e := by
  unfold rel router
  simp only [← v115_at x0 x1 x2 x3 x4 x5 x6 x7 x8 x9 x10 x11 b t hu hlg]
  unfold val_main_v136 val_main_v135 val_main_v134 val_main_v133
  generalize val_main_v115 (F := Ideal) x0 x1 x2 x3 x4 x5 x6 x7 x8 x9 x10 x11 = H
  pointwise

include hu hlg in
theorem v120_at : val_main_v120 (F := Ideal) x0 x1 x2 x3 x4 x5 x6 x7 x8 x9 x10 x11 x12 x13 (ix2 b t) = BitVec.ofNat 32 (gsel (rgl x0 x1 x2 x3 x4 x5 x6 x7 x8 x9 x10 x11 b t x12 x13)).val := by
  refine Eq.trans ?_ (topk_first (val_main_v119 (F := Ideal) x0 x1 x2 x3 x4 x5 x6 x7 x8 x9 x10 x11 x12 x13) b t _ (v119_at x0 x1 x2 x3 x4 x5 x6 x7 x8 x9 x10 x11 b t hu hlg x12 x13) (by decide))
  show val_main_v120 (F := Ideal) x0 x1 x2 x3 x4 x5 x6 x7 x8 x9 x10 x11 x12 x13 (ix2 b t) = val_main_indices (F := Ideal) x0 x1 x2 x3 x4 x5 x6 x7 x8 x9 x10 x11 x12 x13 (ix3 b t 0)
  unfold val_main_v120
  generalize val_main_indices (F := Ideal) x0 x1 x2 x3 x4 x5 x6 x7 x8 x9 x10 x11 x12 x13 = I
  pointwise

include hu hlg in
theorem v123_at : val_main_v123 (F := Ideal) x0 x1 x2 x3 x4 x5 x6 x7 x8 x9 x10 x11 x12 x13 (ix2 b t) = top (rgl x0 x1 x2 x3 x4 x5 x6 x7 x8 x9 x10 x11 b t x12 x13) := by
  have h : val_main_v123 (F := Ideal) x0 x1 x2 x3 x4 x5 x6 x7 x8 x9 x10 x11 x12 x13 (ix2 b t) = max (Ideal.ofBits FTy.f32 4286578688#32)
      (Finset.fold max (Ideal.ofBits FTy.f32 4286578688#32) (fun m => val_main_v119 (F := Ideal) x0 x1 x2 x3 x4 x5 x6 x7 x8 x9 x10 x11 x12 x13 (ix3 b t m)) Finset.univ) := by
    rw [val_main_v123_apply, val_main_v122_apply]
    unfold val_main_v121
    rw [row_max4, val_main_cst_18_apply, val_main_cst_19_apply]
    rfl
  rw [h, top_fold4, bot_max]
  exact congrArg top (funext (v119_at x0 x1 x2 x3 x4 x5 x6 x7 x8 x9 x10 x11 b t hu hlg x12 x13))

include hu hlg in
theorem v131_at (g : Fin 4) : val_main_v131 (F := Ideal) x0 x1 x2 x3 x4 x5 x6 x7 x8 x9 x10 x11 x12 x13 (ix3 b t g)
    = Ideal.div (Ideal.exp (rgl x0 x1 x2 x3 x4 x5 x6 x7 x8 x9 x10 x11 b t x12 x13 g - top (rgl x0 x1 x2 x3 x4 x5 x6 x7 x8 x9 x10 x11 b t x12 x13))) (∑ g, Ideal.exp (rgl x0 x1 x2 x3 x4 x5 x6 x7 x8 x9 x10 x11 b t x12 x13 g - top (rgl x0 x1 x2 x3 x4 x5 x6 x7 x8 x9 x10 x11 b t x12 x13))) := by
  have h : val_main_v131 (F := Ideal) x0 x1 x2 x3 x4 x5 x6 x7 x8 x9 x10 x11 x12 x13 (ix3 b t g)
      = Ideal.div (Ideal.exp (val_main_v119 (F := Ideal) x0 x1 x2 x3 x4 x5 x6 x7 x8 x9 x10 x11 x12 x13 (ix3 b t g) - val_main_v123 (F := Ideal) x0 x1 x2 x3 x4 x5 x6 x7 x8 x9 x10 x11 x12 x13 (ix2 b t)))
        (∑ g : Fin 4, Ideal.exp (val_main_v119 (F := Ideal) x0 x1 x2 x3 x4 x5 x6 x7 x8 x9 x10 x11 x12 x13 (ix3 b t g) - val_main_v123 (F := Ideal) x0 x1 x2 x3 x4 x5 x6 x7 x8 x9 x10 x11 x12 x13 (ix2 b t))) := by
    unfold val_main_v131 val_main_v130 val_main_v129 val_main_v128 val_main_v127 val_main_v126 val_main_v125 val_main_v124
    generalize val_main_v119 (F := Ideal) x0 x1 x2 x3 x4 x5 x6 x7 x8 x9 x10 x11 x12 x13 = A
    generalize val_main_v123 (F := Ideal) x0 x1 x2 x3 x4 x5 x6 x7 x8 x9 x10 x11 x12 x13 = B
    pointwise [val_main_cst_20]
  rw [h, v123_at x0 x1 x2 x3 x4 x5 x6 x7 x8 x9 x10 x11 b t hu hlg]
  simp only [v119_at x0 x1 x2 x3 x4 x5 x6 x7 x8 x9 x10 x11 b t hu hlg]

variable (rg : ∀ g, IsR (rgl x0 x1 x2 x3 x4 x5 x6 x7 x8 x9 x10 x11 b t x12 x13 g)) (re : ∀ e, IsR (rel x0 x1 x2 x3 x4 x5 x6 x7 x8 x9 x10 x11 b t x14 x15 e))

include hu hlg rg in
theorem v132_at : val_main_v132 (F := Ideal) x0 x1 x2 x3 x4 x5 x6 x7 x8 x9 x10 x11 x12 x13 (ix2 b t) = share (rgl x0 x1 x2 x3 x4 x5 x6 x7 x8 x9 x10 x11 b t x12 x13) (gsel (rgl x0 x1 x2 x3 x4 x5 x6 x7 x8 x9 x10 x11 b t x12 x13)) := by
  unfold val_main_v132
  rw [row_max4, val_main_cst_21_apply]
  refine Eq.trans ?_ (top_share _ rg (sorted_first (n := 3) (rgl x0 x1 x2 x3 x4 x5 x6 x7 x8 x9 x10 x11 b t x12 x13)))
  refine (top_fold4 _).trans (congrArg top (funext (v131_at x0 x1 x2 x3 x4 x5 x6 x7 x8 x9 x10 x11 b t hu hlg x12 x13)))

include hu hlg in
theorem v138_at (g : Fin 4) : val_main_v138 (F := Ideal) x0 x1 x2 x3 x4 x5 x6 x7 x8 x9 x10 x11 x12 x13 (ix3 b t g) = if g = gsel (rgl x0 x1 x2 x3 x4 x5 x6 x7 x8 x9 x10 x11 b t x12 x13) then 1 else 0 := by
  have h : val_main_v138 (F := Ideal) x0 x1 x2 x3 x4 x5 x6 x7 x8 x9 x10 x11 x12 x13 (ix3 b t g)
      = FloatOps.uitofp (F := Ideal) FTy.f32 (IntOp.cmpi .eq (val_main_v120 (F := Ideal) x0 x1 x2 x3 x4 x5 x6 x7 x8 x9 x10 x11 x12 x13 (ix2 b t)) (BitVec.ofNat 32 g.val)) := by
    unfold val_main_v138 val_main_call1_v4 val_main_call1_v3 val_main_call1_v2 val_main_call1_v1 val_main_call1_v0
    generalize val_main_v120 (F := Ideal) x0 x1 x2 x3 x4 x5 x6 x7 x8 x9 x10 x11 x12 x13 = I
    pointwise
  rw [h, v120_at x0 x1 x2 x3 x4 x5 x6 x7 x8 x9 x10 x11 b t hu hlg]
  refine (one_hot ⟨(gsel (rgl x0 x1 x2 x3 x4 x5 x6 x7 x8 x9 x10 x11 b t x12 x13)).val, by omega⟩ ⟨g.val, by omega⟩).trans ?_
  simp only [Fin.mk.injEq, Fin.ext_iff]

include hu hlg in
theorem v139_at (e : Fin 8) : val_main_v139 (F := Ideal) x0 x1 x2 x3 x4 x5 x6 x7 x8 x9 x10 x11 x12 x13 x14 x15 (ix3 b t e) = inGroup (rel x0 x1 x2 x3 x4 x5 x6 x7 x8 x9 x10 x11 b t x14 x15) (gsel (rgl x0 x1 x2 x3 x4 x5 x6 x7 x8 x9 x10 x11 b t x12 x13)) e := by
  have h : val_main_v139 (F := Ideal) x0 x1 x2 x3 x4 x5 x6 x7 x8 x9 x10 x11 x12 x13 x14 x15 (ix3 b t e)
      = ∑ g : Fin 4, val_main_v136 (F := Ideal) x0 x1 x2 x3 x4 x5 x6 x7 x8 x9 x10 x11 x14 x15 (ix3 b t ⟨8 * g.val + e.val, by omega⟩) * val_main_v138 (F := Ideal) x0 x1 x2 x3 x4 x5 x6 x7 x8 x9 x10 x11 x12 x13 (ix3 b t g) := by
    unfold val_main_v139 val_main_v137
    generalize val_main_v136 (F := Ideal) x0 x1 x2 x3 x4 x5 x6 x7 x8 x9 x10 x11 x14 x15 = U
    generalize val_main_v138 (F := Ideal) x0 x1 x2 x3 x4 x5 x6 x7 x8 x9 x10 x11 x12 x13 = W
    refine Eq.trans (b := ∑ g : Fin 4, U (ix3 b t ⟨g.val * 8 + e.val, by omega⟩) * W (ix3 b t g)) (by pointwise) ?_
    refine Finset.sum_congr rfl fun g _ => ?_
    simp only [mul_comm g.val 8]
  rw [h]
  simp only [v136_at x0 x1 x2 x3 x4 x5 x6 x7 x8 x9 x10 x11 b t hu hlg, v138_at x0 x1 x2 x3 x4 x5 x6 x7 x8 x9 x10 x11 b t hu hlg, mul_ite, mul_one, mul_zero, Finset.sum_ite_eq', Finset.mem_univ, if_true]

include hu hlg in
theorem values_at (p : Fin 2) : val_main_values_22 (F := Ideal) x0 x1 x2 x3 x4 x5 x6 x7 x8 x9 x10 x11 x12 x13 x14 x15 (ix3 b t p)
    = inGroup (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) ⟨p.val, by omega⟩) := by
  unfold val_main_values_22
  exact (topk_both _ b t p _ (v139_at x0 x1 x2 x3 x4 x5 x6 x7 x8 x9 x10 x11 b t hu hlg x12 x13 x14 x15) _).1

include hu hlg in
theorem indices_at (p : Fin 2) : val_main_indices_23 (F := Ideal) x0 x1 x2 x3 x4 x5 x6 x7 x8 x9 x10 x11 x12 x13 x14 x15 (ix3 b t p)
    = BitVec.ofNat 32 (esel (rgl x0 x1 x2 x3 x4 x5 x6 x7 x8 x9 x10 x11 b t x12 x13) (rel x0 x1 x2 x3 x4 x5 x6 x7 x8 x9 x10 x11 b t x14 x15) ⟨p.val, by omega⟩).val := by
  unfold val_main_indices_23
  exact (topk_both _ b t p _ (v139_at x0 x1 x2 x3 x4 x5 x6 x7 x8 x9 x10 x11 b t hu hlg x12 x13 x14 x15) _).2

include hu hlg in
theorem v142_at : val_main_v142 (F := Ideal) x0 x1 x2 x3 x4 x5 x6 x7 x8 x9 x10 x11 x12 x13 x14 x15 (ix2 b t) = top ![inGroup (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 0), inGroup (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 1)] := by
  have h : val_main_v142 (F := Ideal) x0 x1 x2 x3 x4 x5 x6 x7 x8 x9 x10 x11 x12 x13 x14 x15 (ix2 b t) = max (Ideal.ofBits FTy.f32 4286578688#32)
      (Finset.fold max (Ideal.ofBits FTy.f32 4286578688#32) (fun m => val_main_values_22 (F := Ideal) x0 x1 x2 x3 x4 x5 x6 x7 x8 x9 x10 x11 x12 x13 x14 x15 (ix3 b t m)) Finset.univ) := by
    rw [val_main_v142_apply, val_main_v141_apply]
    unfold val_main_v140
    rw [row_max2, val_main_cst_24_apply, val_main_cst_25_apply]
    rfl
  rw [h, top_fold4, bot_max]
  refine congrArg top (funext fun p => (values_at x0 x1 x2 x3 x4 x5 x6 x7 x8 x9 x10 x11 b t hu hlg x12 x13 x14 x15 p).trans ?_)
  match p with
  | ⟨0, _⟩ => rfl
  | ⟨1, _⟩ => rfl

include hu hlg rg re in
theorem v153_at : val_main_v153 (F := Ideal) x0 x1 x2 x3 x4 x5 x6 x7 x8 x9 x10 x11 x12 x13 x14 x15 (ix3 b t 0)
      = Ideal.div (share (rgl x0 x1 x2 x3 x4 x5 x6 x7 x8 x9 x10 x11 b t x12 x13) (gsel (rgl x0 x1 x2 x3 x4 x5 x6 x7 x8 x9 x10 x11 b t x12 x13))) (1 + ratio (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 0) (esel (rgl x0 x1 x2 x3 x4 x5 x6 x7 x8 x9 x10 x11 b t x12 x13) (rel x0 x1 x2 x3 x4 x5 x6 x7 x8 x9 x10 x11 b t x14 x15) 1))
    ∧ val_main_v153 (F := Ideal) x0 x1 x2 x3 x4 x5 x6 x7 x8 x9 x10 x11 x12 x13 x14 x15 (ix3 b t 1)
      = Ideal.div (share (rgl x0 x1 x2 x3 x4 x5 x6 x7 x8 x9 x10 x11 b t x12 x13) (gsel (rgl x0 x1 x2 x3 x4 x5 x6 x7 x8 x9 x10 x11 b t x12 x13)) * ratio (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 0) (esel (rgl x0 x1 x2 x3 x4 x5 x6 x7 x8 x9 x10 x11 b t x12 x13) (rel x0 x1 x2 x3 x4 x5 x6 x7 x8 x9 x10 x11 b t x14 x15) 1)) (1 + ratio (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 0) (esel (rgl x0 x1 x2 x3 x4 x5 x6 x7 x8 x9 x10 x11 b t x12 x13) (rel x0 x1 x2 x3 x4 x5 x6 x7 x8 x9 x10 x11 b t x14 x15) 1)) := by
  have h : ∀ p : Fin 2, val_main_v153 (F := Ideal) x0 x1 x2 x3 x4 x5 x6 x7 x8 x9 x10 x11 x12 x13 x14 x15 (ix3 b t p)
      = Ideal.div (Ideal.exp (val_main_values_22 (F := Ideal) x0 x1 x2 x3 x4 x5 x6 x7 x8 x9 x10 x11 x12 x13 x14 x15 (ix3 b t p) - val_main_v142 (F := Ideal) x0 x1 x2 x3 x4 x5 x6 x7 x8 x9 x10 x11 x12 x13 x14 x15 (ix2 b t)))
          (∑ p : Fin 2, Ideal.exp (val_main_values_22 (F := Ideal) x0 x1 x2 x3 x4 x5 x6 x7 x8 x9 x10 x11 x12 x13 x14 x15 (ix3 b t p) - val_main_v142 (F := Ideal) x0 x1 x2 x3 x4 x5 x6 x7 x8 x9 x10 x11 x12 x13 x14 x15 (ix2 b t)))
        * val_main_v132 (F := Ideal) x0 x1 x2 x3 x4 x5 x6 x7 x8 x9 x10 x11 x12 x13 (ix2 b t) := fun p => by
    unfold val_main_v153 val_main_v152 val_main_v151 val_main_v150 val_main_v149 val_main_v148 val_main_v147 val_main_v146 val_main_v145 val_main_v144 val_main_v143
    generalize val_main_values_22 (F := Ideal) x0 x1 x2 x3 x4 x5 x6 x7 x8 x9 x10 x11 x12 x13 x14 x15 = U
    generalize val_main_v142 (F := Ideal) x0 x1 x2 x3 x4 x5 x6 x7 x8 x9 x10 x11 x12 x13 x14 x15 = W
    generalize val_main_v132 (F := Ideal) x0 x1 x2 x3 x4 x5 x6 x7 x8 x9 x10 x11 x12 x13 = Z
    pointwise [val_main_cst_26]
  obtain ⟨w, w0, w1⟩ := weights (rel x0 x1 x2 x3 x4 x5 x6 x7 x8 x9 x10 x11 b t x14 x15) re (share (rgl x0 x1 x2 x3 x4 x5 x6 x7 x8 x9 x10 x11 b t x12 x13) (gsel (rgl x0 x1 x2 x3 x4 x5 x6 x7 x8 x9 x10 x11 b t x12 x13))) (gsel (rgl x0 x1 x2 x3 x4 x5 x6 x7 x8 x9 x10 x11 b t x12 x13)) (k := (esel (rgl x0 x1 x2 x3 x4 x5 x6 x7 x8 x9 x10 x11 b t x12 x13) (rel x0 x1 x2 x3 x4 x5 x6 x7 x8 x9 x10 x11 b t x14 x15) 1))
    (sorted_first (n := 7) (inGroup (rel x0 x1 x2 x3 x4 x5 x6 x7 x8 x9 x10 x11 b t x14 x15) (gsel (rgl x0 x1 x2 x3 x4 x5 x6 x7 x8 x9 x10 x11 b t x12 x13))))
  have m := (v142_at x0 x1 x2 x3 x4 x5 x6 x7 x8 x9 x10 x11 b t hu hlg x12 x13 x14 x15).trans w
  constructor
  · rw [h, Fin.sum_univ_two, m, v132_at x0 x1 x2 x3 x4 x5 x6 x7 x8 x9 x10 x11 b t hu hlg x12 x13 rg, values_at x0 x1 x2 x3 x4 x5 x6 x7 x8 x9 x10 x11 b t hu hlg, values_at x0 x1 x2 x3 x4 x5 x6 x7 x8 x9 x10 x11 b t hu hlg]
    exact w0
  · rw [h, Fin.sum_univ_two, m, v132_at x0 x1 x2 x3 x4 x5 x6 x7 x8 x9 x10 x11 b t hu hlg x12 x13 rg, values_at x0 x1 x2 x3 x4 x5 x6 x7 x8 x9 x10 x11 b t hu hlg, values_at x0 x1 x2 x3 x4 x5 x6 x7 x8 x9 x10 x11 b t hu hlg]
    exact w1

include hu hlg in
theorem v158_at (p : Fin 2) : val_main_v158 (F := Ideal) x0 x1 x2 x3 x4 x5 x6 x7 x8 x9 x10 x11 x12 x13 x14 x15 (ix3 b t p) = BitVec.ofNat 32 (8 * (gsel (rgl x0 x1 x2 x3 x4 x5 x6 x7 x8 x9 x10 x11 b t x12 x13)).val + (esel (rgl x0 x1 x2 x3 x4 x5 x6 x7 x8 x9 x10 x11 b t x12 x13) (rel x0 x1 x2 x3 x4 x5 x6 x7 x8 x9 x10 x11 b t x14 x15) ⟨p.val, by omega⟩).val) := by
  have h : val_main_v158 (F := Ideal) x0 x1 x2 x3 x4 x5 x6 x7 x8 x9 x10 x11 x12 x13 x14 x15 (ix3 b t p)
      = IntOp.addi (IntOp.muli (val_main_v120 (F := Ideal) x0 x1 x2 x3 x4 x5 x6 x7 x8 x9 x10 x11 x12 x13 (ix2 b t)) 8#32) (val_main_indices_23 (F := Ideal) x0 x1 x2 x3 x4 x5 x6 x7 x8 x9 x10 x11 x12 x13 x14 x15 (ix3 b t p)) := by
    unfold val_main_v158 val_main_v157 val_main_v156 val_main_v155 val_main_v154
    generalize val_main_v120 (F := Ideal) x0 x1 x2 x3 x4 x5 x6 x7 x8 x9 x10 x11 x12 x13 = I
    generalize val_main_indices_23 (F := Ideal) x0 x1 x2 x3 x4 x5 x6 x7 x8 x9 x10 x11 x12 x13 x14 x15 = J
    pointwise [val_main_c_27]
  rw [h, v120_at x0 x1 x2 x3 x4 x5 x6 x7 x8 x9 x10 x11 b t hu hlg, indices_at x0 x1 x2 x3 x4 x5 x6 x7 x8 x9 x10 x11 b t hu hlg]
  exact number _ _

include hu hlg rg re in
theorem v163_at (e : Fin 32) : val_main_v163 (F := Ideal) x0 x1 x2 x3 x4 x5 x6 x7 x8 x9 x10 x11 x12 x13 x14 x15 (ix3 b t e)
    = record (rgl x0 x1 x2 x3 x4 x5 x6 x7 x8 x9 x10 x11 b t x12 x13) (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 0) (esel (rgl x0 x1 x2 x3 x4 x5 x6 x7 x8 x9 x10 x11 b t x12 x13) (rel x0 x1 x2 x3 x4 x5 x6 x7 x8 x9 x10 x11 b t x14 x15) 1) ⟨4 + e.val, by omega⟩ := by
  have h : val_main_v163 (F := Ideal) x0 x1 x2 x3 x4 x5 x6 x7 x8 x9 x10 x11 x12 x13 x14 x15 (ix3 b t e)
      = ∑ p : Fin 2, FloatOps.uitofp (F := Ideal) FTy.f32 (IntOp.cmpi .eq (val_main_v158 (F := Ideal) x0 x1 x2 x3 x4 x5 x6 x7 x8 x9 x10 x11 x12 x13 x14 x15 (ix3 b t p)) (BitVec.ofNat 32 e.val))
          * val_main_v153 (F := Ideal) x0 x1 x2 x3 x4 x5 x6 x7 x8 x9 x10 x11 x12 x13 x14 x15 (ix3 b t p) := by
    unfold val_main_v163 val_main_v162 val_main_v161 val_main_v160 val_main_v159 val_main_call2_v4 val_main_call2_v3 val_main_call2_v2 val_main_call2_v1 val_main_call2_v0
    generalize val_main_v158 (F := Ideal) x0 x1 x2 x3 x4 x5 x6 x7 x8 x9 x10 x11 x12 x13 x14 x15 = I
    generalize val_main_v153 (F := Ideal) x0 x1 x2 x3 x4 x5 x6 x7 x8 x9 x10 x11 x12 x13 x14 x15 = W
    pointwise [val_main_cst_28]
  obtain ⟨w0, w1⟩ := v153_at x0 x1 x2 x3 x4 x5 x6 x7 x8 x9 x10 x11 b t hu hlg x12 x13 x14 x15 rg re
  have k : esel (rgl x0 x1 x2 x3 x4 x5 x6 x7 x8 x9 x10 x11 b t x12 x13) (rel x0 x1 x2 x3 x4 x5 x6 x7 x8 x9 x10 x11 b t x14 x15) 1 ≠ esel (rgl x0 x1 x2 x3 x4 x5 x6 x7 x8 x9 x10 x11 b t x12 x13) (rel x0 x1 x2 x3 x4 x5 x6 x7 x8 x9 x10 x11 b t x14 x15) 0 := (sorted_second (n := 6) (inGroup (rel x0 x1 x2 x3 x4 x5 x6 x7 x8 x9 x10 x11 b t x14 x15) (gsel (rgl x0 x1 x2 x3 x4 x5 x6 x7 x8 x9 x10 x11 b t x12 x13)))).1
  have v0 : val_main_v158 (F := Ideal) x0 x1 x2 x3 x4 x5 x6 x7 x8 x9 x10 x11 x12 x13 x14 x15 (ix3 b t 0) = BitVec.ofNat 32 (8 * (gsel (rgl x0 x1 x2 x3 x4 x5 x6 x7 x8 x9 x10 x11 b t x12 x13)).val + (esel (rgl x0 x1 x2 x3 x4 x5 x6 x7 x8 x9 x10 x11 b t x12 x13) (rel x0 x1 x2 x3 x4 x5 x6 x7 x8 x9 x10 x11 b t x14 x15) 0).val) := v158_at x0 x1 x2 x3 x4 x5 x6 x7 x8 x9 x10 x11 b t hu hlg x12 x13 x14 x15 0
  have v1 : val_main_v158 (F := Ideal) x0 x1 x2 x3 x4 x5 x6 x7 x8 x9 x10 x11 x12 x13 x14 x15 (ix3 b t 1) = BitVec.ofNat 32 (8 * (gsel (rgl x0 x1 x2 x3 x4 x5 x6 x7 x8 x9 x10 x11 b t x12 x13)).val + (esel (rgl x0 x1 x2 x3 x4 x5 x6 x7 x8 x9 x10 x11 b t x12 x13) (rel x0 x1 x2 x3 x4 x5 x6 x7 x8 x9 x10 x11 b t x14 x15) 1).val) := v158_at x0 x1 x2 x3 x4 x5 x6 x7 x8 x9 x10 x11 b t hu hlg x12 x13 x14 x15 1
  rw [h, Fin.sum_univ_two, v0, v1, hot _ (by omega), hot _ (by omega)]
  exact combine (rgl x0 x1 x2 x3 x4 x5 x6 x7 x8 x9 x10 x11 b t x12 x13) (rel x0 x1 x2 x3 x4 x5 x6 x7 x8 x9 x10 x11 b t x14 x15) (gsel (rgl x0 x1 x2 x3 x4 x5 x6 x7 x8 x9 x10 x11 b t x12 x13)) k e _ _ w0 w1

include hu hlg in
theorem v169_at : val_main_v169 (F := Ideal) x0 x1 x2 x3 x4 x5 x6 x7 x8 x9 x10 x11 x12 x13 x14 x15 (ix3 b t 0) = (((8 * (gsel (rgl x0 x1 x2 x3 x4 x5 x6 x7 x8 x9 x10 x11 b t x12 x13)).val + min (esel (rgl x0 x1 x2 x3 x4 x5 x6 x7 x8 x9 x10 x11 b t x12 x13) (rel x0 x1 x2 x3 x4 x5 x6 x7 x8 x9 x10 x11 b t x14 x15) 0).val (esel (rgl x0 x1 x2 x3 x4 x5 x6 x7 x8 x9 x10 x11 b t x12 x13) (rel x0 x1 x2 x3 x4 x5 x6 x7 x8 x9 x10 x11 b t x14 x15) 1).val : ℕ) : ℝ) : EReal)
    ∧ val_main_v169 (F := Ideal) x0 x1 x2 x3 x4 x5 x6 x7 x8 x9 x10 x11 x12 x13 x14 x15 (ix3 b t 1) = (((8 * (gsel (rgl x0 x1 x2 x3 x4 x5 x6 x7 x8 x9 x10 x11 b t x12 x13)).val + max (esel (rgl x0 x1 x2 x3 x4 x5 x6 x7 x8 x9 x10 x11 b t x12 x13) (rel x0 x1 x2 x3 x4 x5 x6 x7 x8 x9 x10 x11 b t x14 x15) 0).val (esel (rgl x0 x1 x2 x3 x4 x5 x6 x7 x8 x9 x10 x11 b t x12 x13) (rel x0 x1 x2 x3 x4 x5 x6 x7 x8 x9 x10 x11 b t x14 x15) 1).val : ℕ) : ℝ) : EReal) := by
  have h0 : val_main_v169 (F := Ideal) x0 x1 x2 x3 x4 x5 x6 x7 x8 x9 x10 x11 x12 x13 x14 x15 (ix3 b t 0) = FloatOps.sitofp (F := Ideal) FTy.f32 (val_main_v164 (F := Ideal) x0 x1 x2 x3 x4 x5 x6 x7 x8 x9 x10 x11 x12 x13 x14 x15 (ix2 b t)) := by
    unfold val_main_v169 val_main_v168 val_main_v167 val_main_v166
    generalize val_main_v164 (F := Ideal) x0 x1 x2 x3 x4 x5 x6 x7 x8 x9 x10 x11 x12 x13 x14 x15 = I
    generalize val_main_v165 (F := Ideal) x0 x1 x2 x3 x4 x5 x6 x7 x8 x9 x10 x11 x12 x13 x14 x15 = J
    pointwise
  have h1 : val_main_v169 (F := Ideal) x0 x1 x2 x3 x4 x5 x6 x7 x8 x9 x10 x11 x12 x13 x14 x15 (ix3 b t 1) = FloatOps.sitofp (F := Ideal) FTy.f32 (val_main_v165 (F := Ideal) x0 x1 x2 x3 x4 x5 x6 x7 x8 x9 x10 x11 x12 x13 x14 x15 (ix2 b t)) := by
    unfold val_main_v169 val_main_v168 val_main_v167 val_main_v166
    generalize val_main_v164 (F := Ideal) x0 x1 x2 x3 x4 x5 x6 x7 x8 x9 x10 x11 x12 x13 x14 x15 = I
    generalize val_main_v165 (F := Ideal) x0 x1 x2 x3 x4 x5 x6 x7 x8 x9 x10 x11 x12 x13 x14 x15 = J
    pointwise
  have m0 : val_main_v164 (F := Ideal) x0 x1 x2 x3 x4 x5 x6 x7 x8 x9 x10 x11 x12 x13 x14 x15 (ix2 b t) = BitVec.ofNat 32 (8 * (gsel (rgl x0 x1 x2 x3 x4 x5 x6 x7 x8 x9 x10 x11 b t x12 x13)).val + min (esel (rgl x0 x1 x2 x3 x4 x5 x6 x7 x8 x9 x10 x11 b t x12 x13) (rel x0 x1 x2 x3 x4 x5 x6 x7 x8 x9 x10 x11 b t x14 x15) 0).val (esel (rgl x0 x1 x2 x3 x4 x5 x6 x7 x8 x9 x10 x11 b t x12 x13) (rel x0 x1 x2 x3 x4 x5 x6 x7 x8 x9 x10 x11 b t x14 x15) 1).val) := by
    unfold val_main_v164
    rw [row_min2, v158_at x0 x1 x2 x3 x4 x5 x6 x7 x8 x9 x10 x11 b t hu hlg, v158_at x0 x1 x2 x3 x4 x5 x6 x7 x8 x9 x10 x11 b t hu hlg]
    exact least _ _ _
  have m1 : val_main_v165 (F := Ideal) x0 x1 x2 x3 x4 x5 x6 x7 x8 x9 x10 x11 x12 x13 x14 x15 (ix2 b t) = BitVec.ofNat 32 (8 * (gsel (rgl x0 x1 x2 x3 x4 x5 x6 x7 x8 x9 x10 x11 b t x12 x13)).val + max (esel (rgl x0 x1 x2 x3 x4 x5 x6 x7 x8 x9 x10 x11 b t x12 x13) (rel x0 x1 x2 x3 x4 x5 x6 x7 x8 x9 x10 x11 b t x14 x15) 0).val (esel (rgl x0 x1 x2 x3 x4 x5 x6 x7 x8 x9 x10 x11 b t x12 x13) (rel x0 x1 x2 x3 x4 x5 x6 x7 x8 x9 x10 x11 b t x14 x15) 1).val) := by
    unfold val_main_v165
    rw [row_maxi2, v158_at x0 x1 x2 x3 x4 x5 x6 x7 x8 x9 x10 x11 b t hu hlg, v158_at x0 x1 x2 x3 x4 x5 x6 x7 x8 x9 x10 x11 b t hu hlg]
    exact most _ _ _
  rw [h0, h1, m0, m1]
  exact ⟨as_float _ (by omega), as_float _ (by omega)⟩

include hu hlg rg re in
/-- The reference's row: the residual, then the router's record. -/
theorem v172_at (l : Fin 2176) : val_main_v172 (F := Ideal) x0 x1 x2 x3 x4 x5 x6 x7 x8 x9 x10 x11 x12 x13 x14 x15 (ix3 b t l)
    = if h : l.val < 2048 then rx2 x0 x1 x2 x3 x4 x5 x6 x7 x8 x9 x10 b t ⟨l.val, h⟩
      else record (rgl x0 x1 x2 x3 x4 x5 x6 x7 x8 x9 x10 x11 b t x12 x13) (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 0) (esel (rgl x0 x1 x2 x3 x4 x5 x6 x7 x8 x9 x10 x11 b t x12 x13) (rel x0 x1 x2 x3 x4 x5 x6 x7 x8 x9 x10 x11 b t x14 x15) 1) ⟨l.val - 2048, by omega⟩ := by
  obtain ⟨n0, n1⟩ := v169_at x0 x1 x2 x3 x4 x5 x6 x7 x8 x9 x10 x11 b t hu hlg x12 x13 x14 x15
  have w := v163_at x0 x1 x2 x3 x4 x5 x6 x7 x8 x9 x10 x11 b t hu hlg x12 x13 x14 x15 rg re
  have r := v102_at x0 x1 x2 x3 x4 x5 x6 x7 x8 x9 x10 b t hu hlg
  unfold val_main_v172 val_main_v171 val_main_v170
  generalize val_main_v169 (F := Ideal) x0 x1 x2 x3 x4 x5 x6 x7 x8 x9 x10 x11 x12 x13 x14 x15 = N at n0 n1
  generalize val_main_v163 (F := Ideal) x0 x1 x2 x3 x4 x5 x6 x7 x8 x9 x10 x11 x12 x13 x14 x15 = W at w
  generalize val_main_v102 (F := Ideal) x0 x1 x2 x3 x4 x5 x6 x7 x8 x9 x10 = R at r
  rw [show rx2 x0 x1 x2 x3 x4 x5 x6 x7 x8 x9 x10 b t = fun d => R (ix3 b t d) from funext fun d => (r d).symm]
  pointwise [val_main_cst_31, val_main_cst_32]
  exact ladder (fun d => R (ix3 b t d)) (fun p => N (ix3 b t p)) (fun e => W (ix3 b t e)) (rgl x0 x1 x2 x3 x4 x5 x6 x7 x8 x9 x10 x11 b t x12 x13) (rel x0 x1 x2 x3 x4 x5 x6 x7 x8 x9 x10 x11 b t x14 x15) (gsel (rgl x0 x1 x2 x3 x4 x5 x6 x7 x8 x9 x10 x11 b t x12 x13)) (esel (rgl x0 x1 x2 x3 x4 x5 x6 x7 x8 x9 x10 x11 b t x12 x13) (rel x0 x1 x2 x3 x4 x5 x6 x7 x8 x9 x10 x11 b t x14 x15) 0) (esel (rgl x0 x1 x2 x3 x4 x5 x6 x7 x8 x9 x10 x11 b t x12 x13) (rel x0 x1 x2 x3 x4 x5 x6 x7 x8 x9 x10 x11 b t x14 x15) 1) n0 n1 w l

end Ref

end Cert.Proof.Mix

end
-- ==== Proof.MixRow.lean ====
/- One point's block of the attention-and-router kernel is the reference's rows of its chunk, once the block's inputs are the
   arrays' and the carried rows are the sequence's. -/
module

public import proofs.«01_k».proof.Proof.MixKer
public import proofs.«01_k».proof.Proof.MixGate

@[expose] public section

set_option maxRecDepth 16384

noncomputable section

namespace Cert.Proof.Mix

open Cert.KernelMixIdeal Cert.ReferenceMixIdeal.Read
open Idealize.ShloMosaic Idealize.ShloMosaic.TcCoe

/-- Row `r` of chunk `j` in the sequence. -/
abbrev rowOf (j : Fin 8) (r : Fin 512) : Fin 4096 := ⟨512 * j.val + r.val, by omega⟩

/-- The lanes of the routers' heads. -/
theorem lane_group (g : Fin 4) : g.val < 128 := by omega
theorem lane_expert (e : Fin 32) : 4 + e.val < 128 := by omega

section Row

variable (x0 : Vec Ideal S8x4096x2048 .f32) (x1 : Vec Ideal S8x4096x1024 .bf16) (x2 : Vec Ideal S8x4096x1024 .f32) (x3 x4 : Vec Ideal S8x256x512 .f32)
  (x5 : Vec Ideal S4x256x256 .f32) (x6 : Vec Ideal S1024 .f32) (x7 : Vec Ideal S2048x2048 .f32) (x8 : Vec Ideal S2048 .f32) (x9 : Vec Ideal S2048x512 .f32)
  (x10 : Vec Ideal S512x2048 .f32) (x11 : Vec Ideal S2048 .f32) (x12 : Vec Ideal S2048x4 .f32) (x13 : Vec Ideal S4 .f32) (x14 : Vec Ideal S2048x32 .f32) (x15 : Vec Ideal S32 .f32)
  (f0 : ∀ b t d, IsR (x0 (ix3 b t d))) (f1 : ∀ b t d, IsR (x1 (ix3 b t d))) (hu : ∀ b t d, IsR (x2 (ix3 b t d))) (f3 : ∀ b t d, IsR (x3 (ix3 b t d)))
  (f4 : ∀ b t d, IsR (x4 (ix3 b t d))) (f5 : ∀ g c d, IsR (x5 (ix3 g c d))) (f6 : ∀ d, IsR (x6 (ix1 d))) (f7 : ∀ c d, IsR (x7 (ix2 c d)))
  (f8 : ∀ d, IsR (x8 (ix1 d))) (f9 : ∀ c d, IsR (x9 (ix2 c d))) (f10 : ∀ c d, IsR (x10 (ix2 c d))) (f11 : ∀ d, IsR (x11 (ix1 d)))
  (f12 : ∀ c d, IsR (x12 (ix2 c d))) (f13 : ∀ d, IsR (x13 (ix1 d))) (f14 : ∀ c d, IsR (x14 (ix2 c d))) (f15 : ∀ d, IsR (x15 (ix1 d)))
  (b : Fin 8)

section Reals

variable (t : Fin 4096)

include f0 f1 hu f5 f6 f7 in
theorem rx1_real (d : Fin 2048) : IsR (rx1 x0 x1 x2 x5 x6 x7 b t d) :=
  x1_real (fun _ => f0 _ _ _) (fun _ => f1 _ _ _)
    (fun k => pool_real (fun g c => dev_real _ (fun s => padded_real x2 b hu _ _) t.val t.isLt g) (fun _ _ _ => f5 _ _ _) (fun _ => f6 _) k) (fun _ _ => f7 _ _) d

include f0 f1 hu f5 f6 f7 f8 f9 in
theorem rq_real (c : Fin 512) : IsR (rq x0 x1 x2 x5 x6 x7 x8 x9 b t c) :=
  q_real (isR_rms _ _ (rx1_real x0 x1 x2 x5 x6 x7 f0 f1 hu f5 f6 f7 b t) fun _ => f8 _) (fun _ _ => f9 _ _) c

include f0 f1 hu f3 f5 f6 f7 f8 f9 in
theorem rlg_real (hd : Fin 4) (m : Fin 256) : IsR (rlg x0 x1 x2 x3 x5 x6 x7 x8 x9 b t hd m) :=
  lgt_real (rq_real x0 x1 x2 x5 x6 x7 x8 x9 f0 f1 hu f5 f6 f7 f8 f9 b t) (fun _ _ => f3 _ _ _) hd m

include f0 f1 hu f3 f4 f5 f6 f7 f8 f9 f10 in
theorem rx2_real (d : Fin 2048) : IsR (rx2 x0 x1 x2 x3 x4 x5 x6 x7 x8 x9 x10 b t d) :=
  x2_real (rx1_real x0 x1 x2 x5 x6 x7 f0 f1 hu f5 f6 f7 b t)
    (o_real (rq_real x0 x1 x2 x5 x6 x7 x8 x9 f0 f1 hu f5 f6 f7 f8 f9 b t) (fun _ _ => f3 _ _ _) fun _ _ => f4 _ _ _) (fun _ _ => f10 _ _) d

include f0 f1 hu f3 f4 f5 f6 f7 f8 f9 f10 f11 f12 f13 in
theorem rgl_real (g : Fin 4) : IsR (rgl x0 x1 x2 x3 x4 x5 x6 x7 x8 x9 x10 x11 b t x12 x13 g) :=
  router_real (isR_rms _ _ (rx2_real x0 x1 x2 x3 x4 x5 x6 x7 x8 x9 x10 f0 f1 hu f3 f4 f5 f6 f7 f8 f9 f10 b t) fun _ => f11 _) (fun _ _ => f12 _ _) (fun _ => f13 _) g

include f0 f1 hu f3 f4 f5 f6 f7 f8 f9 f10 f11 f14 f15 in
theorem rel_real (e : Fin 32) : IsR (rel x0 x1 x2 x3 x4 x5 x6 x7 x8 x9 x10 x11 b t x14 x15 e) :=
  router_real (isR_rms _ _ (rx2_real x0 x1 x2 x3 x4 x5 x6 x7 x8 x9 x10 f0 f1 hu f3 f4 f5 f6 f7 f8 f9 f10 b t) fun _ => f11 _) (fun _ _ => f14 _ _) (fun _ => f15 _) e

end Reals

variable (j : Fin 8) (i : grid0.Coords) (hi : (i 1).val = j.val) (E : Vec Ideal S528x1024 .f32)
  (hE : ∀ ρ c, E (ix2 ρ c) = padded x2 b c (512 * j.val + ρ.val - 1))
  (y0 : Vec Ideal S1x512x2048 .f32) (y1 : Vec Ideal S1x512x1024 .bf16) (y2 : Vec Ideal S1x512x1024 .f32) (y3 : Vec Ideal S1x16x1024 .f32)
  (y4 y5 : Vec Ideal S1x256x512 .bf16) (y6 : Vec Ideal S4x256x256 .bf16) (y7 : Vec Ideal S1x1024 .f32) (y8 : Vec Ideal S2048x2048 .bf16) (y9 : Vec Ideal S1x2048 .f32)
  (y10 : Vec Ideal S2048x512 .bf16) (y11 : Vec Ideal S512x2048 .bf16) (y12 : Vec Ideal S1x2048 .f32) (y13 : Vec Ideal S2048x128 .bf16) (y14 : Vec Ideal S1x128 .f32)
  (h0 : ∀ r d, y0 (ix3 0 r d) = x0 (ix3 b (rowOf j r) d)) (h1 : ∀ r d, y1 (ix3 0 r d) = x1 (ix3 b (rowOf j r) d)) (h2 : ∀ r d, y2 (ix3 0 r d) = x2 (ix3 b (rowOf j r) d))
  (h4 : ∀ c d, y4 (ix3 0 c d) = x3 (ix3 b c d)) (h5 : ∀ c d, y5 (ix3 0 c d) = x4 (ix3 b c d)) (h6 : ∀ g c d, y6 (ix3 g c d) = x5 (ix3 g c d))
  (h7 : ∀ d, y7 (ix2 0 d) = x6 (ix1 d)) (h8 : ∀ c d, y8 (ix2 c d) = x7 (ix2 c d)) (h9 : ∀ d, y9 (ix2 0 d) = x8 (ix1 d)) (h10 : ∀ c d, y10 (ix2 c d) = x9 (ix2 c d))
  (h11 : ∀ c d, y11 (ix2 c d) = x10 (ix2 c d)) (h12 : ∀ d, y12 (ix2 0 d) = x11 (ix1 d))
  (h13 : ∀ k (g : Fin 4), y13 (ix2 k ⟨g.val, lane_group g⟩) = x12 (ix2 k g)) (h13' : ∀ k (e : Fin 32), y13 (ix2 k ⟨4 + e.val, lane_expert e⟩) = x14 (ix2 k e))
  (h14 : ∀ g : Fin 4, y14 (ix2 0 ⟨g.val, lane_group g⟩) = x13 (ix1 g)) (h14' : ∀ e : Fin 32, y14 (ix2 0 ⟨4 + e.val, lane_expert e⟩) = x15 (ix1 e))
  (r : Fin 512)

include hE in
/-- A carried column going up from a row is the sequence's. -/
theorem col_eq (c : Fin 1024) (s : ℕ) (hs : s < 16) : col E r c s = up x2 b (rowOf j r) c s := by
  unfold col up
  rw [hE]
  exact congrArg (padded x2 b c) (by show 512 * j.val + (16 + r.val - s) - 1 = 15 + (512 * j.val + r.val) - s; omega)

include hE hi h2 in
theorem kdv_eq (g : Fin 4) (c : Fin 256) : kdv E i y2 r g c = dev (up x2 b (rowOf j r) ⟨256 * g.val + c.val, by omega⟩) (512 * j.val + r.val) (win g) := by
  unfold kdv dev
  rw [hi, h2, up_zero]
  have hw : win g ≤ 16 := by fin_cases g <;> decide
  rw [Finset.sum_congr rfl fun s hs => col_eq x2 b j E hE r _ s (lt_of_lt_of_le (Finset.mem_range.1 hs) hw)]

include hE hi h0 h1 h2 h6 h7 h8 in
theorem kx1_eq (d : Fin 2048) : tX1 E i y0 y1 y2 y6 y7 y8 (ix2 r d) = rx1 x0 x1 x2 x5 x6 x7 b (rowOf j r) d := by
  rw [tX1_at]
  unfold kx1 rx1 kpool rpool
  rw [show kdv E i y2 r = fun g c => dev (up x2 b (rowOf j r) ⟨256 * g.val + c.val, by omega⟩) (512 * j.val + r.val) (win g)
    from funext fun g => funext fun c => kdv_eq x2 b j i hi E hE y2 h2 r g c]
  simp only [h0, h1, h6, h7, h8]

include hE hi h0 h1 h2 h4 h5 h6 h7 h8 h9 h10 h11 in
theorem kx2_eq (d : Fin 2048) : kx2 (tX1 E i y0 y1 y2 y6 y7 y8) y4 y5 y9 y10 y11 r d = rx2 x0 x1 x2 x3 x4 x5 x6 x7 x8 x9 x10 b (rowOf j r) d := by
  unfold kx2 ko kq rx2 ro rq
  simp only [kx1_eq x0 x1 x2 x5 x6 x7 b j i hi E hE y0 y1 y2 y6 y7 y8 h0 h1 h2 h6 h7 h8, h4, h5, h9, h10, h11]

include f0 f1 hu f3 f4 f5 f6 f7 f8 f9 f10 f11 f12 f13 f14 f15 hE hi h0 h1 h2 h4 h5 h6 h7 h8 h9 h10 h11 h12 h13 h13' h14 h14' in
/-- The block's rows are the reference's. -/
theorem block_eq (l : Fin 2176) : tOut E i y0 y1 y2 y3 y4 y5 y6 y7 y8 y9 y10 y11 y12 y13 y14 (ix3 0 r l)
    = val_main_v172 (F := Ideal) x0 x1 x2 x3 x4 x5 x6 x7 x8 x9 x10 x11 x12 x13 x14 x15 (ix3 b (rowOf j r) l) := by
  have rg := rgl_real x0 x1 x2 x3 x4 x5 x6 x7 x8 x9 x10 x11 x12 x13 f0 f1 hu f3 f4 f5 f6 f7 f8 f9 f10 f11 f12 f13 b (rowOf j r)
  have re := rel_real x0 x1 x2 x3 x4 x5 x6 x7 x8 x9 x10 x11 x14 x15 f0 f1 hu f3 f4 f5 f6 f7 f8 f9 f10 f11 f14 f15 b (rowOf j r)
  have hlg := rlg_real x0 x1 x2 x3 x5 x6 x7 x8 x9 f0 f1 hu f3 f5 f6 f7 f8 f9 b (rowOf j r)
  have k2 : kx2 (tX1 E i y0 y1 y2 y6 y7 y8) y4 y5 y9 y10 y11 r = rx2 x0 x1 x2 x3 x4 x5 x6 x7 x8 x9 x10 b (rowOf j r) :=
    funext (kx2_eq x0 x1 x2 x3 x4 x5 x6 x7 x8 x9 x10 b j i hi E hE y0 y1 y2 y4 y5 y6 y7 y8 y9 y10 y11 h0 h1 h2 h4 h5 h6 h7 h8 h9 h10 h11 r)
  rw [tOut_at, v172_at x0 x1 x2 x3 x4 x5 x6 x7 x8 x9 x10 x11 b (rowOf j r) hu hlg x12 x13 x14 x15 rg re, k2]
  by_cases h : l.val < 2048
  · rw [dif_pos h, dif_pos h]
  rw [dif_neg h, dif_neg h]
  refine krec_eq _ (rgl x0 x1 x2 x3 x4 x5 x6 x7 x8 x9 x10 x11 b (rowOf j r) x12 x13) (rel x0 x1 x2 x3 x4 x5 x6 x7 x8 x9 x10 x11 b (rowOf j r) x14 x15) (fun g => ?_) (fun e => ?_) rg re (sorted_first (n := 3) _) (sorted_first (n := 7) _) (sorted_second (n := 6) _) _
  · unfold rgl router
    simp only [h12, h13, h14]
  · unfold rel router
    simp only [h12, h13', h14']

end Row

end Cert.Proof.Mix

end
-- ==== Proof.MixFin.lean ====
/- The attention-and-router kernel's precondition read back: every element of every argument is a real number. -/
module

public import proofs.«01_k».proof.Proof.Gen.Pre_finite_mix
public import proofs.«01_k».proof.Proof.MixReal
public import Idealize.ShloMosaic.Lib.ReduceAll

@[expose] public section

set_option maxRecDepth 16384

noncomputable section

namespace Cert.Proof.Mix

open Cert.Pre_finite_mix Cert.Pre_finite_mix.Gen
open Idealize.ShloMosaic

instance : Subsingleton S_.Idx := ⟨fun a b => funext fun i => i.elim0⟩

/-- An element whose absolute value compares below infinity is a real number. -/
theorem real_of (x : EReal) (h : FloatOps.cmpf (F := Ideal) (φ := .f32) .olt (max x (-x)) (Ideal.ofBits FTy.f32 0x7F800000#32) = 1#1) : IsR x := by
  rw [show Ideal.ofBits FTy.f32 0x7F800000#32 = ⊤ from bits_top] at h
  have h' : BitVec.ofBool (decide (max x (-x) < ⊤)) = 1#1 := h
  have hd : max x (-x) < ⊤ := by
    by_contra hn
    rw [decide_eq_false hn] at h'
    exact absurd h' (by decide)
  induction x with
  | bot => exact absurd hd (by simp)
  | top => exact absurd hd (by simp)
  | coe r => exact ⟨r, rfl⟩

/-- The same of a whole array. -/
theorem all_real {s : Shape} (x : FVec Ideal s .f32) {axes : List (Fin s.rank)} (hb : S_.BroadcastsInDim s (![] : Fin 0 → Fin s.rank)) (h : s.ReducesTo axes S_) (h0 : 0 < S_.numel)
    (e : Host.reduce IntOp.andi (cmpf .olt (Host.absf x) (broadcastInDim s ![] hb (constant (F := Ideal) S_ .f32 0x7F800000#32))) (constantI S_ 1 1#1) h h0 = fun _ => 1#1) (i : s.Idx) :
    IsR (x i) :=
  real_of (x i) (Host.reduce_andi_all _ _ h h0 (Shape.Idx.first h0) (congrFun e _) i)

theorem both {a b : IVec S_ 1} (h : andi a b = fun _ => 1#1) : (a = fun _ => 1#1) ∧ b = fun _ => 1#1 :=
  ⟨funext fun i => (IntOp.andi_eq_one.1 (congrFun h i)).1, funext fun i => (IntOp.andi_eq_one.1 (congrFun h i)).2⟩

variable (x0 : FVec Ideal S8x4096x2048 .f32) (x1 : FVec Ideal S8x4096x1024 .bf16) (x2 : FVec Ideal S8x4096x1024 .f32) (x3 x4 : FVec Ideal S8x256x512 .f32)
  (x5 : FVec Ideal S4x256x256 .f32) (x6 : FVec Ideal S1024 .f32) (x7 : FVec Ideal S2048x2048 .f32) (x8 : FVec Ideal S2048 .f32) (x9 : FVec Ideal S2048x512 .f32)
  (x10 : FVec Ideal S512x2048 .f32) (x11 : FVec Ideal S2048 .f32) (x12 : FVec Ideal S2048x4 .f32) (x13 : FVec Ideal S4 .f32) (x14 : FVec Ideal S2048x32 .f32) (x15 : FVec Ideal S32 .f32)

/-- Every argument is real when the precondition holds. -/
theorem finite_args (h : Cert.Pre_finite_mix.fn (F := Ideal) x0 x1 x2 x3 x4 x5 x6 x7 x8 x9 x10 x11 x12 x13 x14 x15 = fun _ => 1#1) :
    ((∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) ∧ (∀ i, IsR (x7 i)))
      ∧ (∀ i, IsR (x8 i)) ∧ (∀ i, IsR (x9 i)) ∧ (∀ i, IsR (x10 i)) ∧ (∀ i, IsR (x11 i)) ∧ (∀ i, IsR (x12 i)) ∧ (∀ i, IsR (x13 i)) ∧ (∀ i, IsR (x14 i)) ∧ (∀ i, IsR (x15 i)) := by
  unfold Cert.Pre_finite_mix.fn fn_part1 at h
  dsimp only at h
  obtain ⟨h, e15⟩ := both h
  obtain ⟨h, e14⟩ := both h
  obtain ⟨h, e13⟩ := both h
  obtain ⟨h, e12⟩ := both h
  obtain ⟨h, e11⟩ := both h
  obtain ⟨h, e10⟩ := both h
  obtain ⟨h, e9⟩ := both h
  obtain ⟨h, e8⟩ := both h
  obtain ⟨h, e7⟩ := both h
  obtain ⟨h, e6⟩ := both h
  obtain ⟨h, e5⟩ := both h
  obtain ⟨h, e4⟩ := both h
  obtain ⟨h, e3⟩ := both h
  obtain ⟨h, e2⟩ := both h
  obtain ⟨e0, e1⟩ := both h
  unfold fn_all_finite at e0
  unfold fn_all_finite_0 at e1
  unfold fn_all_finite_1 at e2
  unfold fn_all_finite_2 at e3 e4
  unfold fn_all_finite_3 at e5
  unfold fn_all_finite_4 at e6
  unfold fn_all_finite_5 at e7
  unfold fn_all_finite_6 at e8 e11
  unfold fn_all_finite_7 at e9
  unfold fn_all_finite_8 at e10
  unfold fn_all_finite_9 at e12
  unfold fn_all_finite_10 at e13
  unfold fn_all_finite_11 at e14
  unfold fn_all_finite_12 at e15
  exact ⟨⟨all_real _ _ _ _ e0, all_real (fun i => x1 i) _ _ _ e1, all_real _ _ _ _ e2, all_real _ _ _ _ e3, all_real _ _ _ _ e4, all_real _ _ _ _ e5, all_real _ _ _ _ e6, all_real _ _ _ _ e7⟩,
    all_real _ _ _ _ e8, all_real _ _ _ _ e9, all_real _ _ _ _ e10, all_real _ _ _ _ e11, all_real _ _ _ _ e12, all_real _ _ _ _ e13, all_real _ _ _ _ e14, all_real _ _ _ _ e15⟩

end Cert.Proof.Mix

end
-- ==== Proof.Mix.lean ====
/- The attention-and-router kernel's run: the carried rows, and the equality with the reference. -/
module

public import proofs.«01_k».proof.Defs
public import proofs.«01_k».proof.Proof.Gen.KernelMixIdeal.Value
public import proofs.«01_k».proof.Proof.Gen.KernelMix.Frame
public import proofs.«01_k».proof.Proof.Gen.KernelMixIdeal.Frame
public import proofs.«01_k».proof.Proof.Gen.ReferenceMixIdeal.Read
public import proofs.«01_k».proof.Proof.Gen.Pre_finite_mix
public import proofs.«01_k».proof.Proof.MixRow
public import proofs.«01_k».proof.Proof.MixFin

@[expose] public section

set_option maxRecDepth 16384

noncomputable section

namespace Cert.Proof.Mix

open Cert.KernelMixIdeal Cert.KernelMixIdeal.Gen Cert.KernelMixIdeal.Value Cert.ReferenceMixIdeal.Read
open Idealize.ShloMosaic

variable (m : (ℓ : Loc nD τ sig) → Buf (Elt Ideal) ℓ) (ρ : Dev nD → PrngReg)

/-- The arrays the kernel finds: the weights cast, the gains and the biases as one row, the routers' heads side by side. -/
theorem V_mk (c : Dev nD) : V m c main_v6 = m (c.tc.loc main_arg3) := by
  unfold V; after_results <;> rfl
theorem V_mv (c : Dev nD) : V m c main_v7 = m (c.tc.loc main_arg4) := by
  unfold V; after_results <;> rfl
theorem V_wp (c : Dev nD) : V m c main_v8 = m (c.tc.loc main_arg5) := by
  unfold V; after_results <;> rfl
theorem V_wq (c : Dev nD) : V m c main_v9 = m (c.tc.loc main_arg7) := by
  unfold V; after_results <;> rfl
theorem V_wa (c : Dev nD) : V m c main_v10 = m (c.tc.loc main_arg9) := by
  unfold V; after_results <;> rfl
theorem V_wb (c : Dev nD) : V m c main_v11 = m (c.tc.loc main_arg10) := by
  unfold V; after_results <;> rfl
theorem V_r6 (c : Dev nD) : V m c main_v15 = shapeCast S1x1024 (m (c.tc.loc main_arg6)) shapeCasts_S1024_S1x1024 := by
  unfold V; after_results <;> rfl
theorem V_r8 (c : Dev nD) : V m c main_v16 = shapeCast S1x2048 (m (c.tc.loc main_arg8)) shapeCasts_S2048_S1x2048 := by
  unfold V; after_results <;> rfl
theorem V_r11 (c : Dev nD) : V m c main_v17 = shapeCast S1x2048 (m (c.tc.loc main_arg11)) shapeCasts_S2048_S1x2048 := by
  unfold V; after_results <;> rfl

/-- The two routers' matrices side by side, filled up with zeros. -/
def heads (a : Vec Ideal S2048x4 .f32) (b : Vec Ideal S2048x32 .f32) : Vec Ideal S2048x128 .f32 :=
  concatenate S2048x128 1 [⟨S2048x4, a⟩, ⟨S2048x32, b⟩, ⟨S2048x92, broadcastInDim S2048x92 ![] bcast_S_S2048x92 (constant (F := Ideal) S_ .f32 0x00000000#32)⟩] concatenates_S2048x4_S2048x32_S2048x92_S2048x128_d1

/-- Their biases likewise. -/
def biases (a : Vec Ideal S4 .f32) (b : Vec Ideal S32 .f32) : Vec Ideal S1x128 .f32 :=
  shapeCast S1x128 (concatenate S128 0 [⟨S4, a⟩, ⟨S32, b⟩, ⟨S92, broadcastInDim S92 ![] bcast_S_S92 (constant (F := Ideal) S_ .f32 0x00000000#32)⟩] concatenates_S4_S32_S92_S128_d0) shapeCasts_S128_S1x128

/-- The zeros before a sequence's first row. -/
def zeros16 : Vec Ideal S8x16x1024 .f32 :=
  concatenate S8x16x1024 1 [⟨S8x1x1024, broadcastInDim S8x1x1024 ![] bcast_S_S8x1x1024 (constant (F := Ideal) S_ .f32 0x00000000#32)⟩, ⟨S8x15x1024, broadcastInDim S8x15x1024 ![] bcast_S_S8x15x1024 (constant (F := Ideal) S_ .f32 0x00000000#32)⟩] concatenates_S8x1x1024_S8x15x1024_S8x16x1024_d1

theorem V_heads (c : Dev nD) : V m c main_v12 = heads (m (c.tc.loc main_arg12)) (m (c.tc.loc main_arg14)) := by
  unfold V; after_results <;> rfl
theorem V_biases (c : Dev nD) : V m c main_v4 = biases (m (c.tc.loc main_arg13)) (m (c.tc.loc main_arg15)) := by
  unfold V; after_results <;> rfl
theorem V_zeros (c : Dev nD) : V m c main_v14 = zeros16 := by
  unfold V; after_results <;> rfl

theorem heads_group (a : Vec Ideal S2048x4 .f32) (b : Vec Ideal S2048x32 .f32) (k : Fin 2048) (g : Fin 4) :
    heads a b (ix2 k ⟨g.val, lane_group g⟩) = a (ix2 k g) := by
  unfold heads
  pointwise
theorem heads_expert (a : Vec Ideal S2048x4 .f32) (b : Vec Ideal S2048x32 .f32) (k : Fin 2048) (e : Fin 32) :
    heads a b (ix2 k ⟨4 + e.val, lane_expert e⟩) = b (ix2 k e) := by
  unfold heads
  pointwise
theorem biases_group (a : Vec Ideal S4 .f32) (b : Vec Ideal S32 .f32) (g : Fin 4) : biases a b (ix2 0 ⟨g.val, lane_group g⟩) = a (ix1 g) := by
  unfold biases
  pointwise
theorem biases_expert (a : Vec Ideal S4 .f32) (b : Vec Ideal S32 .f32) (e : Fin 32) : biases a b (ix2 0 ⟨4 + e.val, lane_expert e⟩) = b (ix1 e) := by
  unfold biases
  pointwise
theorem zeros16_at (b : Fin 8) (r : Fin 16) (d : Fin 1024) : zeros16 (ix3 b r d) = 0 := by
  unfold zeros16
  pointwise
  split <;> rfl

/-- A row vector read at an index. -/
theorem row1024_at (g : Vec Ideal S1024 .f32) (k : Fin 1024) : shapeCast S1x1024 g shapeCasts_S1024_S1x1024 (ix2 0 k) = g (ix1 k) := by
  pointwise
theorem row2048_at (g : Vec Ideal S2048 .f32) (k : Fin 2048) : shapeCast S1x2048 g shapeCasts_S2048_S1x2048 (ix2 0 k) = g (ix1 k) := by
  pointwise

/-- Where the windows' blocks lie at each point: the rows' at sequence and chunk, the memories' at the sequence, the weights' at the origin. -/
theorem idx0 : ∀ t : Fin cfg0.N, win0_0.index t (0 : Fin 3) = t.val / 8 ∧ win0_0.index t (1 : Fin 3) = t.val % 8 ∧ win0_0.index t (2 : Fin 3) = 0 := (by decide +kernel : ∀ t : Fin grid0.N, _)
theorem idx1 : ∀ t : Fin cfg0.N, win0_1.index t (0 : Fin 3) = t.val / 8 ∧ win0_1.index t (1 : Fin 3) = t.val % 8 ∧ win0_1.index t (2 : Fin 3) = 0 := (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 0 := (by decide +kernel : ∀ t : Fin grid0.N, _)
theorem idx15 : ∀ t : Fin cfg0.N, win0_15.index t (0 : Fin 3) = t.val / 8 ∧ win0_15.index t (1 : Fin 3) = t.val % 8 ∧ win0_15.index t (2 : Fin 3) = 0 := (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 := (by decide +kernel : ∀ t : Fin grid0.N, _)
theorem idx4 : ∀ t : Fin cfg0.N, win0_4.index t (0 : Fin 3) = t.val / 8 ∧ win0_4.index t (1 : Fin 3) = 0 ∧ win0_4.index t (2 : Fin 3) = 0 := (by decide +kernel : ∀ t : Fin grid0.N, _)
theorem idx5 : ∀ t : Fin cfg0.N, win0_5.index t (0 : Fin 3) = t.val / 8 ∧ win0_5.index t (1 : Fin 3) = 0 ∧ win0_5.index t (2 : Fin 3) = 0 := (by decide +kernel : ∀ t : Fin grid0.N, _)
theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx14 : ∀ t : Fin cfg0.N, win0_14.index t (0 : Fin 2) = 0 ∧ win0_14.index t (1 : Fin 2) = 0 := (by decide +kernel : ∀ t : Fin grid0.N, _)
theorem chunk_of : ∀ t : Fin cfg0.N, ((grid0.coords t) 1).val = t.val % 8 := (by decide +kernel : ∀ t : Fin grid0.N, _)

/-- Point `t`'s sequence and chunk. -/
abbrev sq (t : Fin cfg0.N) : Fin 8 := ⟨t.val / 8, by have := lt_of_lt_of_eq t.isLt N_0; omega⟩
abbrev ch (t : Fin cfg0.N) : Fin 8 := ⟨t.val % 8, by omega⟩

/-- The loaded blocks at an index. -/
theorem y0_at (c : Dev nD) (t : Fin cfg0.N) (r : Fin 512) (d : Fin 2048) : iblk m c 0 t (ix3 0 r d) = m (c.tc.loc main_arg0) (ix3 (sq t) (rowOf (ch t) r) d) := by
  obtain ⟨e0, e1, e2⟩ := idx0 t
  show V m c main_arg0 (((cfg0.win 0).blk t).view.emb (ix3 0 r d)) = _
  rw [V_main_arg0, show ((cfg0.win 0).blk t).view.emb (ix3 0 r d) = ix3 (sq t) (rowOf (ch t) r) d from funext fun a => Fin.ext (by
    match a with
    | ⟨0, _⟩ => show win0_0.index t (0 : Fin 3) * 1 + 1 * 0 = t.val / 8; omega
    | ⟨1, _⟩ => show win0_0.index t (1 : Fin 3) * 512 + 1 * r.val = 512 * (t.val % 8) + r.val; omega
    | ⟨2, _⟩ => show win0_0.index t (2 : Fin 3) * 2048 + 1 * d.val = d.val; omega)]
theorem y1_at (c : Dev nD) (t : Fin cfg0.N) (r : Fin 512) (d : Fin 1024) : iblk m c 1 t (ix3 0 r d) = m (c.tc.loc main_arg1) (ix3 (sq t) (rowOf (ch t) r) d) := by
  obtain ⟨e0, e1, e2⟩ := idx1 t
  show V m c main_arg1 (((cfg0.win 1).blk t).view.emb (ix3 0 r d)) = _
  rw [V_main_arg1, show ((cfg0.win 1).blk t).view.emb (ix3 0 r d) = ix3 (sq t) (rowOf (ch t) r) d from funext fun a => Fin.ext (by
    match a with
    | ⟨0, _⟩ => show win0_1.index t (0 : Fin 3) * 1 + 1 * 0 = t.val / 8; omega
    | ⟨1, _⟩ => show win0_1.index t (1 : Fin 3) * 512 + 1 * r.val = 512 * (t.val % 8) + r.val; omega
    | ⟨2, _⟩ => show win0_1.index t (2 : Fin 3) * 1024 + 1 * d.val = d.val; omega)]
theorem y2_at (c : Dev nD) (t : Fin cfg0.N) (r : Fin 512) (d : Fin 1024) : iblk m c 2 t (ix3 0 r d) = m (c.tc.loc main_arg2) (ix3 (sq t) (rowOf (ch t) r) d) := by
  obtain ⟨e0, e1, e2⟩ := idx2 t
  show V m c main_arg2 (((cfg0.win 2).blk t).view.emb (ix3 0 r d)) = _
  rw [V_main_arg2, show ((cfg0.win 2).blk t).view.emb (ix3 0 r d) = ix3 (sq t) (rowOf (ch t) r) d from funext fun a => Fin.ext (by
    match a with
    | ⟨0, _⟩ => show win0_2.index t (0 : Fin 3) * 1 + 1 * 0 = t.val / 8; omega
    | ⟨1, _⟩ => show win0_2.index t (1 : Fin 3) * 512 + 1 * r.val = 512 * (t.val % 8) + r.val; omega
    | ⟨2, _⟩ => show win0_2.index t (2 : Fin 3) * 1024 + 1 * d.val = d.val; omega)]
theorem y3_at (c : Dev nD) (t : Fin cfg0.N) (r : Fin 16) (d : Fin 1024) : iblk m c 3 t (ix3 0 r d) = (0 : EReal) := by
  obtain ⟨e0, e1, e2⟩ := idx3 t
  show V m c main_v14 (((cfg0.win 3).blk t).view.emb (ix3 0 r d)) = _
  rw [V_zeros, show ((cfg0.win 3).blk t).view.emb (ix3 0 r d) = ix3 (sq t) r d from funext fun a => Fin.ext (by
    match a with
    | ⟨0, _⟩ => show win0_3.index t (0 : Fin 3) * 1 + 1 * 0 = t.val / 8; omega
    | ⟨1, _⟩ => show win0_3.index t (1 : Fin 3) * 16 + 1 * r.val = r.val; omega
    | ⟨2, _⟩ => show win0_3.index t (2 : Fin 3) * 1024 + 1 * d.val = d.val; omega)]
  exact zeros16_at _ _ _
theorem y4_at (c : Dev nD) (t : Fin cfg0.N) (r : Fin 256) (d : Fin 512) : iblk m c 4 t (ix3 0 r d) = m (c.tc.loc main_arg3) (ix3 (sq t) r d) := by
  obtain ⟨e0, e1, e2⟩ := idx4 t
  show V m c main_v6 (((cfg0.win 4).blk t).view.emb (ix3 0 r d)) = _
  rw [V_mk, show ((cfg0.win 4).blk t).view.emb (ix3 0 r d) = ix3 (sq t) r d from funext fun a => Fin.ext (by
    match a with
    | ⟨0, _⟩ => show win0_4.index t (0 : Fin 3) * 1 + 1 * 0 = t.val / 8; omega
    | ⟨1, _⟩ => show win0_4.index t (1 : Fin 3) * 256 + 1 * r.val = r.val; omega
    | ⟨2, _⟩ => show win0_4.index t (2 : Fin 3) * 512 + 1 * d.val = d.val; omega)]
theorem y5_at (c : Dev nD) (t : Fin cfg0.N) (r : Fin 256) (d : Fin 512) : iblk m c 5 t (ix3 0 r d) = m (c.tc.loc main_arg4) (ix3 (sq t) r d) := by
  obtain ⟨e0, e1, e2⟩ := idx5 t
  show V m c main_v7 (((cfg0.win 5).blk t).view.emb (ix3 0 r d)) = _
  rw [V_mv, show ((cfg0.win 5).blk t).view.emb (ix3 0 r d) = ix3 (sq t) r d from funext fun a => Fin.ext (by
    match a with
    | ⟨0, _⟩ => show win0_5.index t (0 : Fin 3) * 1 + 1 * 0 = t.val / 8; omega
    | ⟨1, _⟩ => show win0_5.index t (1 : Fin 3) * 256 + 1 * r.val = r.val; omega
    | ⟨2, _⟩ => show win0_5.index t (2 : Fin 3) * 512 + 1 * d.val = d.val; omega)]
theorem y6_at (c : Dev nD) (t : Fin cfg0.N) (g : Fin 4) (r d : Fin 256) : iblk m c 6 t (ix3 g r d) = m (c.tc.loc main_arg5) (ix3 g r d) := by
  obtain ⟨e0, e1, e2⟩ := idx6 t
  show V m c main_v8 (((cfg0.win 6).blk t).view.emb (ix3 g r d)) = _
  rw [V_wp, show ((cfg0.win 6).blk t).view.emb (ix3 g r d) = ix3 g r d from funext fun a => Fin.ext (by
    match a with
    | ⟨0, _⟩ => show win0_6.index t (0 : Fin 3) * 4 + 1 * g.val = g.val; omega
    | ⟨1, _⟩ => show win0_6.index t (1 : Fin 3) * 256 + 1 * r.val = r.val; omega
    | ⟨2, _⟩ => show win0_6.index t (2 : Fin 3) * 256 + 1 * d.val = d.val; omega)]
theorem y7_at (c : Dev nD) (t : Fin cfg0.N) (d : Fin 1024) : iblk m c 7 t (ix2 0 d) = m (c.tc.loc main_arg6) (ix1 d) := by
  obtain ⟨e0, e1⟩ := idx7 t
  show V m c main_v15 (((cfg0.win 7).blk t).view.emb (ix2 0 d)) = _
  rw [V_r6, show ((cfg0.win 7).blk t).view.emb (ix2 0 d) = ix2 0 d from funext fun a => Fin.ext (by
    match a with
    | ⟨0, _⟩ => show win0_7.index t (0 : Fin 2) * 1 + 1 * 0 = 0; omega
    | ⟨1, _⟩ => show win0_7.index t (1 : Fin 2) * 1024 + 1 * d.val = d.val; omega)]
  exact row1024_at _ _
theorem y9_at (c : Dev nD) (t : Fin cfg0.N) (d : Fin 2048) : iblk m c 9 t (ix2 0 d) = m (c.tc.loc main_arg8) (ix1 d) := by
  obtain ⟨e0, e1⟩ := idx9 t
  show V m c main_v16 (((cfg0.win 9).blk t).view.emb (ix2 0 d)) = _
  rw [V_r8, show ((cfg0.win 9).blk t).view.emb (ix2 0 d) = ix2 0 d from funext fun a => Fin.ext (by
    match a with
    | ⟨0, _⟩ => show win0_9.index t (0 : Fin 2) * 1 + 1 * 0 = 0; omega
    | ⟨1, _⟩ => show win0_9.index t (1 : Fin 2) * 2048 + 1 * d.val = d.val; omega)]
  exact row2048_at _ _
theorem y12_at (c : Dev nD) (t : Fin cfg0.N) (d : Fin 2048) : iblk m c 12 t (ix2 0 d) = m (c.tc.loc main_arg11) (ix1 d) := by
  obtain ⟨e0, e1⟩ := idx12 t
  show V m c main_v17 (((cfg0.win 12).blk t).view.emb (ix2 0 d)) = _
  rw [V_r11, show ((cfg0.win 12).blk t).view.emb (ix2 0 d) = ix2 0 d from funext fun a => Fin.ext (by
    match a with
    | ⟨0, _⟩ => show win0_12.index t (0 : Fin 2) * 1 + 1 * 0 = 0; omega
    | ⟨1, _⟩ => show win0_12.index t (1 : Fin 2) * 2048 + 1 * d.val = d.val; omega)]
  exact row2048_at _ _
theorem y8_at (c : Dev nD) (t : Fin cfg0.N) (r : Fin 2048) (d : Fin 2048) : iblk m c 8 t (ix2 r d) = m (c.tc.loc main_arg7) (ix2 r d) := by
  obtain ⟨e0, e1⟩ := idx8 t
  show V m c main_v9 (((cfg0.win 8).blk t).view.emb (ix2 r d)) = _
  rw [V_wq, show ((cfg0.win 8).blk t).view.emb (ix2 r d) = ix2 r d from funext fun a => Fin.ext (by
    match a with
    | ⟨0, _⟩ => show win0_8.index t (0 : Fin 2) * 2048 + 1 * r.val = r.val; omega
    | ⟨1, _⟩ => show win0_8.index t (1 : Fin 2) * 2048 + 1 * d.val = d.val; omega)]
theorem y10_at (c : Dev nD) (t : Fin cfg0.N) (r : Fin 2048) (d : Fin 512) : iblk m c 10 t (ix2 r d) = m (c.tc.loc main_arg9) (ix2 r d) := by
  obtain ⟨e0, e1⟩ := idx10 t
  show V m c main_v10 (((cfg0.win 10).blk t).view.emb (ix2 r d)) = _
  rw [V_wa, show ((cfg0.win 10).blk t).view.emb (ix2 r d) = ix2 r d from funext fun a => Fin.ext (by
    match a with
    | ⟨0, _⟩ => show win0_10.index t (0 : Fin 2) * 2048 + 1 * r.val = r.val; omega
    | ⟨1, _⟩ => show win0_10.index t (1 : Fin 2) * 512 + 1 * d.val = d.val; omega)]
theorem y11_at (c : Dev nD) (t : Fin cfg0.N) (r : Fin 512) (d : Fin 2048) : iblk m c 11 t (ix2 r d) = m (c.tc.loc main_arg10) (ix2 r d) := by
  obtain ⟨e0, e1⟩ := idx11 t
  show V m c main_v11 (((cfg0.win 11).blk t).view.emb (ix2 r d)) = _
  rw [V_wb, show ((cfg0.win 11).blk t).view.emb (ix2 r d) = ix2 r d from funext fun a => Fin.ext (by
    match a with
    | ⟨0, _⟩ => show win0_11.index t (0 : Fin 2) * 512 + 1 * r.val = r.val; omega
    | ⟨1, _⟩ => show win0_11.index t (1 : Fin 2) * 2048 + 1 * d.val = d.val; omega)]
theorem y13_at (c : Dev nD) (t : Fin cfg0.N) (r : Fin 2048) (d : Fin 128) : iblk m c 13 t (ix2 r d) = heads (m (c.tc.loc main_arg12)) (m (c.tc.loc main_arg14)) (ix2 r d) := by
  obtain ⟨e0, e1⟩ := idx13 t
  show V m c main_v12 (((cfg0.win 13).blk t).view.emb (ix2 r d)) = _
  rw [V_heads, show ((cfg0.win 13).blk t).view.emb (ix2 r d) = ix2 r d from funext fun a => Fin.ext (by
    match a with
    | ⟨0, _⟩ => show win0_13.index t (0 : Fin 2) * 2048 + 1 * r.val = r.val; omega
    | ⟨1, _⟩ => show win0_13.index t (1 : Fin 2) * 128 + 1 * d.val = d.val; omega)]
theorem y14_at (c : Dev nD) (t : Fin cfg0.N) (d : Fin 128) : iblk m c 14 t (ix2 0 d) = biases (m (c.tc.loc main_arg13)) (m (c.tc.loc main_arg15)) (ix2 0 d) := by
  obtain ⟨e0, e1⟩ := idx14 t
  show V m c main_v4 (((cfg0.win 14).blk t).view.emb (ix2 0 d)) = _
  rw [V_biases, show ((cfg0.win 14).blk t).view.emb (ix2 0 d) = ix2 0 d from funext fun a => Fin.ext (by
    match a with
    | ⟨0, _⟩ => show win0_14.index t (0 : Fin 2) * 1 + 1 * 0 = 0; omega
    | ⟨1, _⟩ => show win0_14.index t (1 : Fin 2) * 128 + 1 * d.val = d.val; omega)]

/-- A sequence's rows with zeros before them, at a row that is one of the sequence's own. -/
theorem padded_own (u : Vec Ideal S8x4096x1024 .f32) (b : Fin 8) (d : Fin 1024) (n : ℕ) (t : Fin 4096) (h : n = 15 + t.val) : padded u b d n = u (ix3 b t d) := by
  unfold padded
  rw [dif_pos ⟨by omega, by omega⟩]
  exact congrArg (fun z => u (ix3 b z d)) (Fin.ext (by show n - 15 = t.val; omega))

/-- The rows a first chunk extends: zeros and its own. -/
theorem first_rows (c : Dev nD) (t : Fin cfg0.N) (h0 : t.val % 8 = 0) (r : Fin 528) (d : Fin 1024) :
    extA (iblk m c 2 t) (iblk m c 3 t) (ix2 r d) = padded (m (c.tc.loc main_arg2)) (sq t) d (512 * (t.val % 8) + r.val - 1) := by
  rw [extA_at]
  by_cases h : r.val < 16
  · rw [dif_pos h, y3_at]
    unfold padded
    rw [dif_neg (by omega)]
  · rw [dif_neg h, y2_at]
    exact (padded_own _ _ _ _ _ (by show _ = 15 + (512 * (t.val % 8) + (r.val - 16)); omega)).symm

/-- The rows a later chunk extends: the last of the chunk before and its own. -/
theorem later_rows (c : Dev nD) (t : Fin cfg0.N) (h1 : 1 ≤ t.val % 8) (s : Vec Ideal S528x1024 .f32)
    (hs : ∀ r d, s (ix2 r d) = padded (m (c.tc.loc main_arg2)) (sq t) d (512 * (t.val % 8 - 1) + r.val - 1)) (r : Fin 528) (d : Fin 1024) :
    extB (iblk m c 2 t) s (ix2 r d) = padded (m (c.tc.loc main_arg2)) (sq t) d (512 * (t.val % 8) + r.val - 1) := by
  rw [extB_at]
  by_cases h : r.val < 16
  · rw [dif_pos h, hs]
    exact congrArg (padded _ _ _) (by show 512 * (t.val % 8 - 1) + (512 + r.val) - 1 = _; omega)
  · rw [dif_neg h, y2_at]
    exact (padded_own _ _ _ _ _ (by show _ = 15 + (512 * (t.val % 8) + (r.val - 16)); omega)).symm

/-- After every point the scratch holds its chunk's rows and the fifteen before them. -/
theorem carried (c : Dev nD) : ∀ (n : ℕ) (hn : n < cfg0.N) (r : Fin 528) (d : Fin 1024),
    (outsAt0 m c n hn).2 (ix2 r d) = padded (m (c.tc.loc main_arg2)) (sq ⟨n, hn⟩) d (512 * (n % 8) + r.val - 1) := by
  intro n
  induction n with
  | zero =>
    intro hn r d
    have e := outsAt0_A m c ⟨0, hn⟩ rfl (by show ¬1 ≤ 0 % 8; decide)
    rw [show outsAt0 m c 0 hn = _ from e]
    dsimp only
    rw [soutA]
    exact first_rows m c ⟨0, hn⟩ rfl r d
  | succ n ih =>
    intro hn r d
    by_cases h0 : (n + 1) % 8 = 0
    · have e := outsAt0_A m c ⟨n + 1, hn⟩ h0 (by show ¬1 ≤ (n + 1) % 8; omega)
      rw [show outsAt0 m c (n + 1) hn = _ from e]
      dsimp only
      rw [soutA]
      exact first_rows m c ⟨n + 1, hn⟩ h0 r d
    · have h1 : 1 ≤ (n + 1) % 8 := by omega
      have e := outsAt0_B m c ⟨n + 1, hn⟩ h0 h1
      rw [show outsAt0 m c (n + 1) hn = _ from e]
      dsimp only
      rw [soutB]
      refine later_rows m c ⟨n + 1, hn⟩ h1 _ (fun r d => (ih (Nat.lt_of_succ_lt hn) r d).trans ?_) r d
      exact congrArg₂ (fun a b => padded _ a d b) (Fin.ext (by show n / 8 = (n + 1) / 8; omega)) (by show 512 * (n % 8) + r.val - 1 = 512 * ((n + 1) % 8 - 1) + r.val - 1; omega)

/-- What a point writes, of the rows it extends, is the reference's block. -/
theorem written (hp : Cert.Pre_KernelMixIdeal_finite_mix (hPre_finite_mix := Cert.Pre_finite_mix.Gen.facts) m) (c : Dev nD) (t : Fin cfg0.N) (E : Vec Ideal S528x1024 .f32)
    (hE : ∀ r d, E (ix2 r d) = padded (m (c.tc.loc main_arg2)) (sq t) d (512 * (t.val % 8) + r.val - 1)) (r : Fin 512) (l : Fin 2176) :
    tOut E (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r l)
      = val_main_v172 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 (sq t) (rowOf (ch t) r) l) := by
  obtain ⟨⟨f0, f1, f2, f3, f4, f5, f6, f7⟩, f8, f9, f10, f11, f12, f13, f14, f15⟩ := finite_args _ _ _ _ _ _ _ _ _ _ _ _ _ _ _ _ (hp c)
  exact block_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15))
    (fun _ _ _ => f0 _) (fun _ _ _ => f1 _) (fun _ _ _ => f2 _) (fun _ _ _ => f3 _) (fun _ _ _ => f4 _) (fun _ _ _ => f5 _) (fun _ => f6 _) (fun _ _ => f7 _)
    (fun _ => f8 _) (fun _ _ => f9 _) (fun _ _ => f10 _) (fun _ => f11 _) (fun _ _ => f12 _) (fun _ => f13 _) (fun _ _ => f14 _) (fun _ => f15 _)
    (sq t) (ch t) (grid0.coords t) (chunk_of t) E hE _ _ _ _ _ _ _ _ _ _ _ _ _ _ _
    (y0_at m c t) (y1_at m c t) (y2_at m c t) (y4_at m c t) (y5_at m c t) (y6_at m c t) (y7_at m c t) (y8_at m c t) (y9_at m c t) (y10_at m c t) (y11_at m c t) (y12_at m c t)
    (fun k g => (y13_at m c t k _).trans (heads_group _ _ k g)) (fun k e => (y13_at m c t k _).trans (heads_expert _ _ k e))
    (fun g => (y14_at m c t _).trans (biases_group _ _ g)) (fun e => (y14_at m c t _).trans (biases_expert _ _ e)) r l

/-- The block every point leaves. -/
theorem block_at (hp : Cert.Pre_KernelMixIdeal_finite_mix (hPre_finite_mix := Cert.Pre_finite_mix.Gen.facts) m) (c : Dev nD) (t : Fin cfg0.N) (r : Fin 512) (l : Fin 2176) :
    (outsAt0 m c t.val t.isLt).1 (ix3 0 r l) = val_main_v172 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 (sq t) (rowOf (ch t) r) l) := by
  by_cases h0 : t.val % 8 = 0
  · rw [outsAt0_A m c t h0 (by omega)]
    dsimp only
    rw [ooutA]
    exact written m hp c t _ (first_rows m c t h0) r l
  · have h1 : 1 ≤ t.val % 8 := by omega
    rw [outsAt0_B m c t h0 h1]
    dsimp only
    rw [ooutB]
    refine written m hp c t _ (later_rows m c t h1 _ fun r d => ?_) r l
    refine (carried m c (t.val - 1) _ r d).trans ?_
    exact congrArg₂ (fun a b => padded _ a d b) (Fin.ext (by show (t.val - 1) / 8 = t.val / 8; omega)) (by show 512 * ((t.val - 1) % 8) + r.val - 1 = 512 * (t.val % 8 - 1) + r.val - 1; omega)

/-- The array the points leave is the reference's result. -/
theorem result_eq (hp : Cert.Pre_KernelMixIdeal_finite_mix (hPre_finite_mix := Cert.Pre_finite_mix.Gen.facts) m) (c : Dev nD) :
    G15 m c = val_main_v172 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) := by
  have hN : cfg0.N = 64 := N_0
  funext j
  obtain ⟨b, q, l, rfl⟩ : ∃ (b : Fin 8) (q : Fin 4096) (l : Fin 2176), j = ix3 b q l := ⟨j 0, j 1, j 2, eq_ix3 j⟩
  have hp15 : pt15Of (ix3 b q l) = 8 * b.val + q.val / 512 := by
    show 8 * (b.val / 1 - 0) + 1 * (q.val / 512 - 0) + 1 * (l.val / 2176 - 0) = _
    omega
  have hn : pt15Of (ix3 b q l) < cfg0.N := by omega
  unfold G15
  rw [dif_pos hn, ← outsAt0_sweep m c _ hn]
  rw [show loc15Of (ix3 b q l) = ix3 0 (⟨q.val % 512, by omega⟩ : Fin 512) l from funext fun a => Fin.ext (by
    match a with
    | ⟨0, _⟩ => show b.val % 1 = 0; omega
    | ⟨1, _⟩ => rfl
    | ⟨2, _⟩ => show l.val % 2176 = l.val; omega)]
  refine (block_at m hp c ⟨_, hn⟩ _ l).trans ?_
  refine congrArg (val_main_v172 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15))) ?_
  exact congrArg₂ (fun a b => ix3 a b l) (Fin.ext (by show pt15Of (ix3 b q l) / 8 = b.val; omega)) (Fin.ext (by show 512 * (pt15Of (ix3 b q l) % 8) + q.val % 512 = q.val; omega))

/-- The kernel's result is the reference's. -/
theorem algebraic : Cert.algebraic_KernelMixIdeal_ReferenceMixIdeal_pre_finite_mix
    (hKernelMixIdeal := Cert.KernelMixIdeal.Gen.facts) (hReferenceMixIdeal := Cert.ReferenceMixIdeal.Gen.facts) (hPre_finite_mix := Cert.Pre_finite_mix.Gen.facts) := by
  intro m g m' g' hp hargs
  refine ⟨fun c => G15 m c, run m g, ?_⟩
  refine (θ_run _ _ _).mono (fun r h c => ?_) (Cert.ReferenceMixIdeal.Value.run m' g')
  obtain ⟨h0, hk⟩ := h c
  obtain ⟨a0, a1, a2, a3, a4, a5, a6, a7, a8, a9, a10, a11, a12, a13, a14, a15⟩ := hargs c
  refine ⟨h0.trans ?_, hk⟩
  show _ = G15 m c
  rw [result_eq m hp, val_main_v172_eq]
  show val_main_v172 (F := Ideal) (m' (c.tc.loc Cert.ReferenceMixIdeal.main_arg0)) (m' (c.tc.loc Cert.ReferenceMixIdeal.main_arg1)) (m' (c.tc.loc Cert.ReferenceMixIdeal.main_arg2)) (m' (c.tc.loc Cert.ReferenceMixIdeal.main_arg3)) (m' (c.tc.loc Cert.ReferenceMixIdeal.main_arg4)) (m' (c.tc.loc Cert.ReferenceMixIdeal.main_arg5)) (m' (c.tc.loc Cert.ReferenceMixIdeal.main_arg6)) (m' (c.tc.loc Cert.ReferenceMixIdeal.main_arg7)) (m' (c.tc.loc Cert.ReferenceMixIdeal.main_arg8)) (m' (c.tc.loc Cert.ReferenceMixIdeal.main_arg9)) (m' (c.tc.loc Cert.ReferenceMixIdeal.main_arg10)) (m' (c.tc.loc Cert.ReferenceMixIdeal.main_arg11)) (m' (c.tc.loc Cert.ReferenceMixIdeal.main_arg12)) (m' (c.tc.loc Cert.ReferenceMixIdeal.main_arg13)) (m' (c.tc.loc Cert.ReferenceMixIdeal.main_arg14)) (m' (c.tc.loc Cert.ReferenceMixIdeal.main_arg15)) = _
  rw [a0, a1, a2, a3, a4, a5, a6, a7, a8, a9, a10, a11, a12, a13, a14, a15]

end Cert.Proof.Mix

end
-- ==== Proof.ExpGate.lean ====
/- The router of the reference's expert mixture over the prompt's rows, read at an index: each row's logits, and the share
   every expert takes of the row. -/
module

public import proofs.«01_k».proof.Proof.MixGate
public import proofs.«01_k».proof.Proof.Gen.ReferenceExpertsIdeal.Read

@[expose] public section

set_option maxRecDepth 16384

noncomputable section

namespace Cert.Proof.Experts

open Cert.ReferenceExpertsIdeal Cert.ReferenceExpertsIdeal.Read
open Idealize.ShloMosaic Idealize.ShloMosaic.TcCoe
open Cert.Proof.Mix

section Ref
variable (x0 : Vec Ideal S8x4096x2048 .f32) (x1 : Vec Ideal S2048 .f32) (b : Fin 8) (t : Fin 4096)
  (x2 : Vec Ideal S2048x4 .f32) (x3 : Vec Ideal S4 .f32) (x4 : Vec Ideal S2048x32 .f32) (x5 : Vec Ideal S32 .f32)

/-- The reference's normalised rows. -/
theorem v12_at (k : Fin 2048) : val_main_v12 (F := Ideal) x0 x1 (ix3 b t k) = rmsRow (fun k => x0 (ix3 b t k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rmsRow]

/-- The groups' logits of a row. -/
def rgl (g : Fin 4) : EReal :=
  router (rmsRow (fun k => x0 (ix3 b t k)) fun k => x1 (ix1 k)) (fun k g => x2 (ix2 k g)) (fun g => x3 (ix1 g)) g

/-- The experts' logits of a row. -/
def rel (e : Fin 32) : EReal :=
  router (rmsRow (fun k => x0 (ix3 b t k)) fun k => x1 (ix1 k)) (fun k e => x4 (ix2 k e)) (fun e => x5 (ix1 e)) e

theorem v16_at (g : Fin 4) : val_main_v16 (F := Ideal) x0 x1 x2 x3 (ix3 b t g) = rgl x0 x1 b t x2 x3 g := by
  unfold rgl router
  simp only [← v12_at x0 x1 b t]
  unfold val_main_v16 val_main_v15 val_main_v14 val_main_v13
  generalize val_main_v12 (F := Ideal) x0 x1 = H
  pointwise

theorem v33_at (e : Fin 32) : val_main_v33 (F := Ideal) x0 x1 x4 x5 (ix3 b t e) = rel x0 x1 b t x4 x5 e := by
  unfold rel router
  simp only [← v12_at x0 x1 b t]
  unfold val_main_v33 val_main_v32 val_main_v31 val_main_v30
  generalize val_main_v12 (F := Ideal) x0 x1 = H
  pointwise

theorem v17_at : val_main_v17 (F := Ideal) x0 x1 x2 x3 (ix2 b t) = BitVec.ofNat 32 (gsel (rgl x0 x1 b t x2 x3)).val := by
  refine Eq.trans ?_ (topk_first (val_main_v16 (F := Ideal) x0 x1 x2 x3) b t _ (v16_at x0 x1 b t x2 x3) (by decide))
  show val_main_v17 (F := Ideal) x0 x1 x2 x3 (ix2 b t) = val_main_indices (F := Ideal) x0 x1 x2 x3 (ix3 b t 0)
  unfold val_main_v17
  generalize val_main_indices (F := Ideal) x0 x1 x2 x3 = I
  pointwise

theorem v20_at : val_main_v20 (F := Ideal) x0 x1 x2 x3 (ix2 b t) = top (rgl x0 x1 b t x2 x3) := by
  have h : val_main_v20 (F := Ideal) x0 x1 x2 x3 (ix2 b t) = max (Ideal.ofBits FTy.f32 4286578688#32)
      (Finset.fold max (Ideal.ofBits FTy.f32 4286578688#32) (fun m => val_main_v16 (F := Ideal) x0 x1 x2 x3 (ix3 b t m)) Finset.univ) := by
    rw [val_main_v20_apply, val_main_v19_apply]
    unfold val_main_v18
    rw [row_max4, val_main_cst_2_apply, val_main_cst_3_apply]
    rfl
  rw [h, top_fold4, bot_max]
  exact congrArg top (funext (v16_at x0 x1 b t x2 x3))

theorem v28_at (g : Fin 4) : val_main_v28 (F := Ideal) x0 x1 x2 x3 (ix3 b t g)
    = Ideal.div (Ideal.exp (rgl x0 x1 b t x2 x3 g - top (rgl x0 x1 b t x2 x3))) (∑ g, Ideal.exp (rgl x0 x1 b t x2 x3 g - top (rgl x0 x1 b t x2 x3))) := by
  have h : val_main_v28 (F := Ideal) x0 x1 x2 x3 (ix3 b t g)
      = Ideal.div (Ideal.exp (val_main_v16 (F := Ideal) x0 x1 x2 x3 (ix3 b t g) - val_main_v20 (F := Ideal) x0 x1 x2 x3 (ix2 b t)))
        (∑ g : Fin 4, Ideal.exp (val_main_v16 (F := Ideal) x0 x1 x2 x3 (ix3 b t g) - val_main_v20 (F := Ideal) x0 x1 x2 x3 (ix2 b t))) := by
    unfold val_main_v28 val_main_v27 val_main_v26 val_main_v25 val_main_v24 val_main_v23 val_main_v22 val_main_v21
    generalize val_main_v16 (F := Ideal) x0 x1 x2 x3 = A
    generalize val_main_v20 (F := Ideal) x0 x1 x2 x3 = B
    pointwise [val_main_cst_4]
  rw [h, v20_at x0 x1 b t]
  simp only [v16_at x0 x1 b t]

variable (rg : ∀ g, IsR (rgl x0 x1 b t x2 x3 g)) (re : ∀ e, IsR (rel x0 x1 b t x4 x5 e))

include rg in
theorem v29_at : val_main_v29 (F := Ideal) x0 x1 x2 x3 (ix2 b t) = share (rgl x0 x1 b t x2 x3) (gsel (rgl x0 x1 b t x2 x3)) := by
  unfold val_main_v29
  rw [row_max4, val_main_cst_5_apply]
  refine Eq.trans ?_ (top_share _ rg (sorted_first (n := 3) (rgl x0 x1 b t x2 x3)))
  refine (top_fold4 _).trans (congrArg top (funext (v28_at x0 x1 b t x2 x3)))

theorem v35_at (g : Fin 4) : val_main_v35 (F := Ideal) x0 x1 x2 x3 (ix3 b t g) = if g = gsel (rgl x0 x1 b t x2 x3) then 1 else 0 := by
  have h : val_main_v35 (F := Ideal) x0 x1 x2 x3 (ix3 b t g)
      = FloatOps.uitofp (F := Ideal) FTy.f32 (IntOp.cmpi .eq (val_main_v17 (F := Ideal) x0 x1 x2 x3 (ix2 b t)) (BitVec.ofNat 32 g.val)) := by
    unfold val_main_v35 val_main_call0_v4 val_main_call0_v3 val_main_call0_v2 val_main_call0_v1 val_main_call0_v0
    generalize val_main_v17 (F := Ideal) x0 x1 x2 x3 = I
    pointwise
  rw [h, v17_at x0 x1 b t]
  refine (one_hot ⟨(gsel (rgl x0 x1 b t x2 x3)).val, by omega⟩ ⟨g.val, by omega⟩).trans ?_
  simp only [Fin.mk.injEq, Fin.ext_iff]

theorem v36_at (e : Fin 8) : val_main_v36 (F := Ideal) x0 x1 x2 x3 x4 x5 (ix3 b t e) = inGroup (rel x0 x1 b t x4 x5) (gsel (rgl x0 x1 b t x2 x3)) e := by
  have h : val_main_v36 (F := Ideal) x0 x1 x2 x3 x4 x5 (ix3 b t e)
      = ∑ g : Fin 4, val_main_v33 (F := Ideal) x0 x1 x4 x5 (ix3 b t ⟨8 * g.val + e.val, by omega⟩) * val_main_v35 (F := Ideal) x0 x1 x2 x3 (ix3 b t g) := by
    unfold val_main_v36 val_main_v34
    generalize val_main_v33 (F := Ideal) x0 x1 x4 x5 = U
    generalize val_main_v35 (F := Ideal) x0 x1 x2 x3 = W
    refine Eq.trans (b := ∑ g : Fin 4, U (ix3 b t ⟨g.val * 8 + e.val, by omega⟩) * W (ix3 b t g)) (by pointwise) ?_
    refine Finset.sum_congr rfl fun g _ => ?_
    simp only [mul_comm g.val 8]
  rw [h]
  simp only [v33_at x0 x1 b t, v35_at x0 x1 b t, mul_ite, mul_one, mul_zero, Finset.sum_ite_eq', Finset.mem_univ, if_true]

theorem values_at (p : Fin 2) : val_main_values_6 (F := Ideal) x0 x1 x2 x3 x4 x5 (ix3 b t p)
    = inGroup (rel x0 x1 b t x4 x5) (gsel (rgl x0 x1 b t x2 x3)) (esel (rgl x0 x1 b t x2 x3) (rel x0 x1 b t x4 x5) ⟨p.val, by omega⟩) := by
  unfold val_main_values_6
  exact (topk_both _ b t p _ (v36_at x0 x1 b t x2 x3 x4 x5) _).1

theorem indices_at (p : Fin 2) : val_main_indices_7 (F := Ideal) x0 x1 x2 x3 x4 x5 (ix3 b t p)
    = BitVec.ofNat 32 (esel (rgl x0 x1 b t x2 x3) (rel x0 x1 b t x4 x5) ⟨p.val, by omega⟩).val := by
  unfold val_main_indices_7
  exact (topk_both _ b t p _ (v36_at x0 x1 b t x2 x3 x4 x5) _).2

theorem v39_at : val_main_v39 (F := Ideal) x0 x1 x2 x3 x4 x5 (ix2 b t) = top ![inGroup (rel x0 x1 b t x4 x5) (gsel (rgl x0 x1 b t x2 x3)) (esel (rgl x0 x1 b t x2 x3) (rel x0 x1 b t x4 x5) 0), inGroup (rel x0 x1 b t x4 x5) (gsel (rgl x0 x1 b t x2 x3)) (esel (rgl x0 x1 b t x2 x3) (rel x0 x1 b t x4 x5) 1)] := by
  have h : val_main_v39 (F := Ideal) x0 x1 x2 x3 x4 x5 (ix2 b t) = max (Ideal.ofBits FTy.f32 4286578688#32)
      (Finset.fold max (Ideal.ofBits FTy.f32 4286578688#32) (fun m => val_main_values_6 (F := Ideal) x0 x1 x2 x3 x4 x5 (ix3 b t m)) Finset.univ) := by
    rw [val_main_v39_apply, val_main_v38_apply]
    unfold val_main_v37
    rw [row_max2, val_main_cst_8_apply, val_main_cst_9_apply]
    rfl
  rw [h, top_fold4, bot_max]
  refine congrArg top (funext fun p => (values_at x0 x1 b t x2 x3 x4 x5 p).trans ?_)
  match p with
  | ⟨0, _⟩ => rfl
  | ⟨1, _⟩ => rfl

include rg re in
theorem v50_at : val_main_v50 (F := Ideal) x0 x1 x2 x3 x4 x5 (ix3 b t 0)
      = Ideal.div (share (rgl x0 x1 b t x2 x3) (gsel (rgl x0 x1 b t x2 x3))) (1 + ratio (rel x0 x1 b t x4 x5) (gsel (rgl x0 x1 b t x2 x3)) (esel (rgl x0 x1 b t x2 x3) (rel x0 x1 b t x4 x5) 0) (esel (rgl x0 x1 b t x2 x3) (rel x0 x1 b t x4 x5) 1))
    ∧ val_main_v50 (F := Ideal) x0 x1 x2 x3 x4 x5 (ix3 b t 1)
      = Ideal.div (share (rgl x0 x1 b t x2 x3) (gsel (rgl x0 x1 b t x2 x3)) * ratio (rel x0 x1 b t x4 x5) (gsel (rgl x0 x1 b t x2 x3)) (esel (rgl x0 x1 b t x2 x3) (rel x0 x1 b t x4 x5) 0) (esel (rgl x0 x1 b t x2 x3) (rel x0 x1 b t x4 x5) 1)) (1 + ratio (rel x0 x1 b t x4 x5) (gsel (rgl x0 x1 b t x2 x3)) (esel (rgl x0 x1 b t x2 x3) (rel x0 x1 b t x4 x5) 0) (esel (rgl x0 x1 b t x2 x3) (rel x0 x1 b t x4 x5) 1)) := by
  have h : ∀ p : Fin 2, val_main_v50 (F := Ideal) x0 x1 x2 x3 x4 x5 (ix3 b t p)
      = Ideal.div (Ideal.exp (val_main_values_6 (F := Ideal) x0 x1 x2 x3 x4 x5 (ix3 b t p) - val_main_v39 (F := Ideal) x0 x1 x2 x3 x4 x5 (ix2 b t)))
          (∑ p : Fin 2, Ideal.exp (val_main_values_6 (F := Ideal) x0 x1 x2 x3 x4 x5 (ix3 b t p) - val_main_v39 (F := Ideal) x0 x1 x2 x3 x4 x5 (ix2 b t)))
        * val_main_v29 (F := Ideal) x0 x1 x2 x3 (ix2 b t) := fun p => by
    unfold val_main_v50 val_main_v49 val_main_v48 val_main_v47 val_main_v46 val_main_v45 val_main_v44 val_main_v43 val_main_v42 val_main_v41 val_main_v40
    generalize val_main_values_6 (F := Ideal) x0 x1 x2 x3 x4 x5 = U
    generalize val_main_v39 (F := Ideal) x0 x1 x2 x3 x4 x5 = W
    generalize val_main_v29 (F := Ideal) x0 x1 x2 x3 = Z
    pointwise [val_main_cst_10]
  obtain ⟨w, w0, w1⟩ := weights (rel x0 x1 b t x4 x5) re (share (rgl x0 x1 b t x2 x3) (gsel (rgl x0 x1 b t x2 x3))) (gsel (rgl x0 x1 b t x2 x3)) (k := (esel (rgl x0 x1 b t x2 x3) (rel x0 x1 b t x4 x5) 1))
    (sorted_first (n := 7) (inGroup (rel x0 x1 b t x4 x5) (gsel (rgl x0 x1 b t x2 x3))))
  have m := (v39_at x0 x1 b t x2 x3 x4 x5).trans w
  constructor
  · rw [h, Fin.sum_univ_two, m, v29_at x0 x1 b t x2 x3 rg, values_at x0 x1 b t, values_at x0 x1 b t]
    exact w0
  · rw [h, Fin.sum_univ_two, m, v29_at x0 x1 b t x2 x3 rg, values_at x0 x1 b t, values_at x0 x1 b t]
    exact w1

theorem v55_at (p : Fin 2) : val_main_v55 (F := Ideal) x0 x1 x2 x3 x4 x5 (ix3 b t p) = BitVec.ofNat 32 (8 * (gsel (rgl x0 x1 b t x2 x3)).val + (esel (rgl x0 x1 b t x2 x3) (rel x0 x1 b t x4 x5) ⟨p.val, by omega⟩).val) := by
  have h : val_main_v55 (F := Ideal) x0 x1 x2 x3 x4 x5 (ix3 b t p)
      = IntOp.addi (IntOp.muli (val_main_v17 (F := Ideal) x0 x1 x2 x3 (ix2 b t)) 8#32) (val_main_indices_7 (F := Ideal) x0 x1 x2 x3 x4 x5 (ix3 b t p)) := by
    unfold val_main_v55 val_main_v54 val_main_v53 val_main_v52 val_main_v51
    generalize val_main_v17 (F := Ideal) x0 x1 x2 x3 = I
    generalize val_main_indices_7 (F := Ideal) x0 x1 x2 x3 x4 x5 = J
    pointwise [val_main_c]
  rw [h, v17_at x0 x1 b t, indices_at x0 x1 b t]
  exact number _ _

include rg re in
theorem v60_at (e : Fin 32) : val_main_v60 (F := Ideal) x0 x1 x2 x3 x4 x5 (ix3 b t e)
    = record (rgl x0 x1 b t x2 x3) (rel x0 x1 b t x4 x5) (gsel (rgl x0 x1 b t x2 x3)) (esel (rgl x0 x1 b t x2 x3) (rel x0 x1 b t x4 x5) 0) (esel (rgl x0 x1 b t x2 x3) (rel x0 x1 b t x4 x5) 1) ⟨4 + e.val, by omega⟩ := by
  have h : val_main_v60 (F := Ideal) x0 x1 x2 x3 x4 x5 (ix3 b t e)
      = ∑ p : Fin 2, FloatOps.uitofp (F := Ideal) FTy.f32 (IntOp.cmpi .eq (val_main_v55 (F := Ideal) x0 x1 x2 x3 x4 x5 (ix3 b t p)) (BitVec.ofNat 32 e.val))
          * val_main_v50 (F := Ideal) x0 x1 x2 x3 x4 x5 (ix3 b t p) := by
    unfold val_main_v60 val_main_v59 val_main_v58 val_main_v57 val_main_v56 val_main_call1_v4 val_main_call1_v3 val_main_call1_v2 val_main_call1_v1 val_main_call1_v0
    generalize val_main_v55 (F := Ideal) x0 x1 x2 x3 x4 x5 = I
    generalize val_main_v50 (F := Ideal) x0 x1 x2 x3 x4 x5 = W
    pointwise [val_main_cst_11]
  obtain ⟨w0, w1⟩ := v50_at x0 x1 b t x2 x3 x4 x5 rg re
  have k : esel (rgl x0 x1 b t x2 x3) (rel x0 x1 b t x4 x5) 1 ≠ esel (rgl x0 x1 b t x2 x3) (rel x0 x1 b t x4 x5) 0 := (sorted_second (n := 6) (inGroup (rel x0 x1 b t x4 x5) (gsel (rgl x0 x1 b t x2 x3)))).1
  have v0 : val_main_v55 (F := Ideal) x0 x1 x2 x3 x4 x5 (ix3 b t 0) = BitVec.ofNat 32 (8 * (gsel (rgl x0 x1 b t x2 x3)).val + (esel (rgl x0 x1 b t x2 x3) (rel x0 x1 b t x4 x5) 0).val) := v55_at x0 x1 b t x2 x3 x4 x5 0
  have v1 : val_main_v55 (F := Ideal) x0 x1 x2 x3 x4 x5 (ix3 b t 1) = BitVec.ofNat 32 (8 * (gsel (rgl x0 x1 b t x2 x3)).val + (esel (rgl x0 x1 b t x2 x3) (rel x0 x1 b t x4 x5) 1).val) := v55_at x0 x1 b t x2 x3 x4 x5 1
  rw [h, Fin.sum_univ_two, v0, v1, hot _ (by omega), hot _ (by omega)]
  exact combine (rgl x0 x1 b t x2 x3) (rel x0 x1 b t x4 x5) (gsel (rgl x0 x1 b t x2 x3)) k e _ _ w0 w1

end Ref

end Cert.Proof.Experts

end
-- ==== Proof.ExpRef.lean ====
/- The reference's expert mixture over the prompt's rows, read at an index: every expert's weighted share of a row, their sum
   over the row, and the normalised result; and that real arguments give real logits. -/
module

public import proofs.«01_k».proof.Proof.ExpGate

@[expose] public section

set_option maxRecDepth 16384

noncomputable section

namespace Cert.Proof.Experts

open Cert.ReferenceExpertsIdeal Cert.ReferenceExpertsIdeal.Read
open Idealize.ShloMosaic Idealize.ShloMosaic.TcCoe
open Cert.Proof.Mix

theorem lane_expert (e : Fin 32) : 4 + e.val < 128 := by omega

section Ref
variable (x0 : Vec Ideal S8x4096x2048 .f32) (x1 : Vec Ideal S2048 .f32) (x2 : Vec Ideal S2048x4 .f32) (x3 : Vec Ideal S4 .f32)
  (x4 : Vec Ideal S2048x32 .f32) (x5 : Vec Ideal S32 .f32) (x6 x7 : Vec Ideal S32x2048x256 .f32) (x8 : Vec Ideal S32x256x2048 .f32)
  (x9 : Vec Ideal S2048 .f32) (b : Fin 8) (t : Fin 4096)

/-- The row's normalised input. -/
def normed (k : Fin 2048) : EReal := rmsRow (fun k => x0 (ix3 b t k)) (fun k => x1 (ix1 k)) k

/-- The part expert `e` has in the row. -/
def part (e : Fin 32) : EReal := record (rgl x0 x1 b t x2 x3) (rel x0 x1 b t x4 x5) (gsel (rgl x0 x1 b t x2 x3)) (esel (rgl x0 x1 b t x2 x3) (rel x0 x1 b t x4 x5) 0) (esel (rgl x0 x1 b t x2 x3) (rel x0 x1 b t x4 x5) 1) ⟨4 + e.val, lane_expert e⟩

/-- The normalised row times column `f` of expert `e`'s first weights. -/
def proj (w : Vec Ideal S32x2048x256 .f32) (e : Fin 32) (f : Fin 256) : EReal := ∑ k, normed x0 x1 b t k * w (ix3 e k f)

/-- Unit `f` of expert `e`'s hidden layer, weighted by the expert's part in the row. -/
def hid (e : Fin 32) (f : Fin 256) : EReal :=
  proj x0 x1 b t x6 e f * Ideal.logistic (proj x0 x1 b t x6 e f) * proj x0 x1 b t x7 e f * part x0 x1 x2 x3 x4 x5 b t e

/-- What expert `e` adds to coordinate `d` of the row. -/
def share (d : Fin 2048) (e : Fin 32) : EReal := ∑ f, hid x0 x1 x2 x3 x4 x5 x6 x7 b t e f * x8 (ix3 e f d)

/-- The row with every expert's share added. -/
def summed (d : Fin 2048) : EReal := x0 (ix3 b t d) + ∑ e, share x0 x1 x2 x3 x4 x5 x6 x7 x8 b t d e

variable (rg : ∀ g, IsR (rgl x0 x1 b t x2 x3 g)) (re : ∀ e, IsR (rel x0 x1 b t x4 x5 e))

include rg re in
theorem ref_part (e : Fin 32) : val_main_v60 (F := Ideal) x0 x1 x2 x3 x4 x5 (ix3 b t e) = part x0 x1 x2 x3 x4 x5 b t e :=
  v60_at x0 x1 b t x2 x3 x4 x5 rg re e

include rg re in
theorem ref_hid (e : Fin 32) (f : Fin 256) : val_main_v73 (F := Ideal) x0 x1 x2 x3 x4 x5 x6 x7 (ix4 b t e f) = hid x0 x1 x2 x3 x4 x5 x6 x7 b t e f := by
  have ha : val_main_v61 (F := Ideal) x0 x1 x6 (ix4 b t e f) = proj x0 x1 b t x6 e f := by
    unfold proj normed; simp only [← v12_at]; unfold val_main_v61
    generalize val_main_v12 (F := Ideal) x0 x1 = H
    pointwise
  have hb : val_main_v62 (F := Ideal) x0 x1 x7 (ix4 b t e f) = proj x0 x1 b t x7 e f := by
    unfold proj normed; simp only [← v12_at]; unfold val_main_v62
    generalize val_main_v12 (F := Ideal) x0 x1 = H
    pointwise
  unfold hid
  rw [← ha, ← hb, ← ref_part x0 x1 x2 x3 x4 x5 b t rg re]
  unfold val_main_v73 val_main_v72 val_main_v71 val_main_v70 val_main_v69 val_main_v68 val_main_v67 val_main_v66 val_main_v65 val_main_v64 val_main_v63
  generalize val_main_v61 (F := Ideal) x0 x1 x6 = A
  generalize val_main_v62 (F := Ideal) x0 x1 x7 = B
  generalize val_main_v60 (F := Ideal) x0 x1 x2 x3 x4 x5 = C
  pointwise [val_main_cst_12, val_main_cst_13]
  rfl

include rg re in
theorem ref_sum (d : Fin 2048) : val_main_v75 (F := Ideal) x0 x1 x2 x3 x4 x5 x6 x7 x8 (ix3 b t d) = summed x0 x1 x2 x3 x4 x5 x6 x7 x8 b t d := by
  unfold summed share
  simp only [← ref_hid x0 x1 x2 x3 x4 x5 x6 x7 b t rg re]
  unfold val_main_v75 val_main_v74
  generalize val_main_v73 (F := Ideal) x0 x1 x2 x3 x4 x5 x6 x7 = H
  pointwise

include rg re in
/-- The reference's result at an index. -/
theorem ref_at (d : Fin 2048) : val_main_v88 (F := Ideal) x0 x1 x2 x3 x4 x5 x6 x7 x8 x9 (ix3 b t d)
    = rmsRow (summed x0 x1 x2 x3 x4 x5 x6 x7 x8 b t) (fun k => x9 (ix1 k)) d := by
  rw [show summed x0 x1 x2 x3 x4 x5 x6 x7 x8 b t = fun k => val_main_v75 (F := Ideal) x0 x1 x2 x3 x4 x5 x6 x7 x8 (ix3 b t k) from
    funext fun k => (ref_sum x0 x1 x2 x3 x4 x5 x6 x7 x8 b t rg re k).symm]
  unfold val_main_v88 val_main_v85 val_main_v84 val_main_v83 val_main_v82 val_main_v80 val_main_v78 val_main_v77 val_main_v76
  generalize val_main_v75 (F := Ideal) x0 x1 x2 x3 x4 x5 x6 x7 x8 = Y
  pointwise [val_main_v87, val_main_v86, val_main_v81, val_main_v79, val_main_cst_14, val_main_cst_15, val_main_cst_16, rmsRow]

end Ref

section Real
variable (x0 : Vec Ideal S8x4096x2048 .f32) (x1 : Vec Ideal S2048 .f32) (b : Fin 8) (t : Fin 4096)
  (f0 : ∀ i, IsR (x0 i)) (f1 : ∀ i, IsR (x1 i))

include f0 f1 in
theorem normed_real (k : Fin 2048) : IsR (normed x0 x1 b t k) := isR_rms _ _ (fun _ => f0 _) (fun _ => f1 _) k

include f0 f1 in
theorem rgl_real (x2 : Vec Ideal S2048x4 .f32) (x3 : Vec Ideal S4 .f32) (f2 : ∀ i, IsR (x2 i)) (f3 : ∀ i, IsR (x3 i)) (g : Fin 4) :
    IsR (rgl x0 x1 b t x2 x3 g) :=
  (IsR.sum _ _ fun k _ => (normed_real x0 x1 b t f0 f1 k).mul (f2 _)).add (f3 _)

include f0 f1 in
theorem rel_real (x4 : Vec Ideal S2048x32 .f32) (x5 : Vec Ideal S32 .f32) (f4 : ∀ i, IsR (x4 i)) (f5 : ∀ i, IsR (x5 i)) (e : Fin 32) :
    IsR (rel x0 x1 b t x4 x5 e) :=
  (IsR.sum _ _ fun k _ => (normed_real x0 x1 b t f0 f1 k).mul (f4 _)).add (f5 _)

end Real

end Cert.Proof.Experts

end
-- ==== Proof.ExpKer.lean ====
/- The kernel's expert mixture over the prompt's rows: what its stored values are at an index (the normalised rows, every lane's
   part in a row, one expert's share, the normalised sum), and what each point leaves. -/
module

public import proofs.«01_k».proof.Defs
public import proofs.«01_k».proof.Proof.Gen.KernelExpertsIdeal.Value
public import proofs.«01_k».proof.Proof.MixKer
public import proofs.«01_k».proof.Proof.Moe

@[expose] public section

set_option maxRecDepth 16384

noncomputable section

namespace Cert.Proof.Experts

open Cert.KernelExpertsIdeal Cert.KernelExpertsIdeal.Gen Cert.KernelExpertsIdeal.Value
open Idealize.ShloMosaic Idealize.ShloMosaic.TcCoe Idealize.SL.Sem
open Cert.Proof.Mix (krec kratio kshare elm elr glm low lane lane_of top top_fold' fold_low fold_glm fold_low_glm select_and bits_bot bits_top bits_one bits_four bits_eight)

/-! ## The stored values -/

/-- The normalised rows a tile's first point stores. -/
theorem pay3_at (x : Vec Ideal S512x2048 .f32) (g : Vec Ideal S1x2048 .f32) (t : Fin 512) (k : Fin 2048) :
    k0_pay3 x g (ix2 t k) = rmsRow (fun k => x (ix2 t k)) (fun k => g (ix2 0 k)) k := by
  pointwise [k0_pay3, rmsRow]

theorem pay19_at (x : Vec Ideal S512x2048 .f32) (g : Vec Ideal S1x2048 .f32) (t : Fin 512) (k : Fin 2048) :
    k0_pay19 (k0_pay4 x g) (ix2 t k) = rmsRow (fun k => x (ix2 t k)) (fun k => g (ix2 0 k)) k := by
  rw [← pay3_at]; unfold k0_pay19 k0_pay4; generalize k0_pay3 x g = H; pointwise

/-- A tile's last point's result. -/
theorem pay2_at (x a : Vec Ideal S512x2048 .f32) (g : Vec Ideal S1x2048 .f32) (t : Fin 512) (k : Fin 2048) :
    k0_pay2 x a g (ix2 t k) = rmsRow (fun k => x (ix2 t k) + a (ix2 t k)) (fun k => g (ix2 0 k)) k := by
  pointwise [k0_pay2, rmsRow]

/-- The accumulator's start. -/
theorem pay20_at (t : Fin 512) (k : Fin 2048) : k0_pay20 (F := Ideal) (ix2 t k) = 0 := by
  pointwise [k0_pay20]

/-- What a point leaves in the accumulator: what it held, plus the point's expert's share. -/
theorem pay21_at (i : grid0.Coords) (h : Vec Ideal S512x2048 .bf16) (wg wu : Vec Ideal S1x2048x256 .bf16) (r : Vec Ideal S512x128 .f32)
    (a : Vec Ideal S512x2048 .f32) (wd : Vec Ideal S1x256x2048 .bf16) (t : Fin 512) (d : Fin 2048) :
    k0_pay21 i h wg wu r a wd (ix2 t d) = a (ix2 t d) + ∑ f : Fin 256,
      ((∑ k, h (ix2 t k) * wg (ix3 0 k f)) * Ideal.logistic (∑ k, h (ix2 t k) * wg (ix3 0 k f)) * (∑ k, h (ix2 t k) * wu (ix3 0 k f))
        * r (ix2 t ⟨4 + (i 1).val, by have : (i 1).val < 32 := (i 1).isLt; omega⟩)) * wd (ix3 0 f d) := by
  pointwise [k0_pay21]
  simp only [Cert.Proof.Moe.lane_sum (i 1).val (i 1).isLt (fun l => r (ix2 t l))]

/-- The router's logit at a lane, as the kernel splits its factors. -/
theorem pay5_at (x : Vec Ideal S512x2048 .f32) (g : Vec Ideal S1x2048 .f32) (w v wl : Vec Ideal S2048x128 .bf16) (b : Vec Ideal S1x128 .f32) (r : Fin 512) (l : Fin 128) :
    k0_pay5 x g w v wl b (ix2 r l) = ∑ k, rmsRow (fun k => x (ix2 r k)) (fun k => g (ix2 0 k)) k * w (ix2 k l)
      + ∑ k, (rmsRow (fun k => x (ix2 r k)) (fun k => g (ix2 0 k)) k - rmsRow (fun k => x (ix2 r k)) (fun k => g (ix2 0 k)) k) * v (ix2 k l)
      + ∑ k, rmsRow (fun k => x (ix2 r k)) (fun k => g (ix2 0 k)) k * wl (ix2 k l) + b (ix2 0 l) := by
  simp only [← pay3_at]
  unfold k0_pay5 k0_pay4
  generalize k0_pay3 x g = H
  pointwise

section Parts
variable {F : FTy → Type} [FloatOps F]

/-- Every lane's part, from the logits. -/
def tG (L : FVec F S512x128 .f32) : FVec F S512x128 .f32 :=
  k0_pay18 (k0_pay6 (F := F)) (k0_pay11 L (k0_pay7 (F := F)) (k0_pay8 (F := F))) (k0_pay13 L (k0_pay6 (F := F)) (k0_pay7 (F := F)) (k0_pay8 (F := F))) (k0_pay14 L (k0_pay6 (F := F)) (k0_pay7 (F := F)) (k0_pay8 (F := F)))
    (k0_pay16 L (k0_pay6 (F := F)) (k0_pay7 (F := F)) (k0_pay8 (F := F))) (k0_pay17 L (k0_pay6 (F := F)) (k0_pay7 (F := F)) (k0_pay8 (F := F))) (Scalar.ofBits .f32 0x43000000#32)
end Parts

section Lanes
variable (L : FVec Ideal S512x128 .f32) (r : Fin 512)

theorem tE_at (l : Fin 128) : k0_pay12 L (k0_pay6 (F := Ideal)) (k0_pay7 (F := Ideal)) (k0_pay8 (F := Ideal)) (ix2 r l) = elm (fun l => L (ix2 r l)) l := by
  pointwise [k0_pay12, k0_pay10, k0_pay9, k0_pay8, k0_pay7, k0_pay6]
  simp only [lane_of, top_fold', fold_low, bits_four, bits_eight, bits_bot, bits_one, fold_glm, fold_low_glm, select_and]
  rfl
theorem share_at : k0_pay11 L (k0_pay7 (F := Ideal)) (k0_pay8 (F := Ideal)) (ix2 r 0) = kshare (fun l => L (ix2 r l)) := by
  pointwise [k0_pay11, k0_pay10, k0_pay9, k0_pay8, k0_pay7, k0_pay6]
  simp only [lane_of, top_fold', fold_low, bits_four, bits_eight, bits_bot, bits_one, fold_glm]
  unfold kshare
  rw [EReal.coe_one]
  rfl

/-- A lane's part in a row. -/
def kpart (lg : Fin 128 → EReal) (l : Fin 128) : EReal :=
  (if lane l = low (elm lg) then Ideal.div (kshare lg) (((1 : ℝ) : EReal) + kratio (elm lg)) else 0)
    + (if lane l = low (elr (elm lg)) then Ideal.div (kshare lg * kratio (elm lg)) (((1 : ℝ) : EReal) + kratio (elm lg)) else 0)

/-- Past the first two lanes it is the record's. -/
theorem kpart_eq (lg : Fin 128 → EReal) (l : Fin 128) (h : 2 ≤ l.val) : kpart lg l = krec lg l := by
  have h0 : lane l ≠ 0 := fun e => by
    have e' : (((l.val : ℝ) : EReal)) = 0 := e
    have := EReal.coe_eq_zero.1 e'
    have : l.val = 0 := by exact_mod_cast this
    omega
  have h1 : lane l ≠ ((1 : ℝ) : EReal) := fun e => by
    have e' : (((l.val : ℝ) : EReal)) = ((1 : ℝ) : EReal) := e
    have := EReal.coe_injective e'
    have : l.val = 1 := by exact_mod_cast this
    omega
  unfold krec
  rw [if_neg h0, if_neg h1, add_zero]
  rfl

theorem tG_at (l : Fin 128) : tG L (ix2 r l) = kpart (fun l => L (ix2 r l)) l := by
  have hE := tE_at L r
  have hS := share_at L r
  unfold tG k0_pay17 k0_pay16 k0_pay15 k0_pay14 k0_pay13
  generalize k0_pay12 L (k0_pay6 (F := Ideal)) (k0_pay7 (F := Ideal)) (k0_pay8 (F := Ideal)) = E at hE ⊢
  generalize k0_pay11 L (k0_pay7 (F := Ideal)) (k0_pay8 (F := Ideal)) = S at hS ⊢
  pointwise [k0_pay18, k0_pay6]
  simp only [lane_of, top_fold', fold_low, bits_four, bits_eight, bits_bot, bits_one, hE, hS]
  unfold kpart kratio
  rw [EReal.coe_one]
  rfl

end Lanes

/-! ## The cases' terms -/

section Cases

variable {F : FTy → Type} [FloatOps F]
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S1x256x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x128 .f32) (harg13 : arg13.IsWhole) (arg14 : Memref sig .tc .vmem S512x2048 .f32) (harg14 : arg14.IsWhole)
  (x0 : Vec F S512x2048 .f32) (x1 : Vec F S1x2048 .f32) (x2 x3 : Vec F S2048x128 .bf16) (x4 : Vec F S1x128 .f32) (x5 x6 : Vec F S1x2048x256 .bf16) (x7 : Vec F S1x256x2048 .bf16) (x8 : Vec F S1x2048 .f32)
  (xs0 : Vec F S512x2048 .bf16) (xs1 : Vec F S512x128 .f32) (xs2 : Vec F S512x2048 .f32)

theorem zeros3 : (![0, 0, 0] : Fin 3 → Nat) = fun _ => 0 := funext fun a => by fin_cases a <;> rfl

theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay19 (k0_pay4 x0 x1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero zeros2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x2048) zeros2, View.ld_unit_zero (S := S1x2048) zeros2, View.ld_unit_zero (S := S2048x128) zeros2, View.ld_unit_zero (S := S1x128) zeros2, View.ld_unit_zero (S := S512x128) zeros2, View.ld_unit_zero (S := S1x2048x256) zeros3, View.ld_unit_zero (S := S1x256x2048) zeros3]

theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = tG (k0_pay5 x0 x1 x2 x2 x3 x4) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero zeros2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x2048) zeros2, View.ld_unit_zero (S := S1x2048) zeros2, View.ld_unit_zero (S := S2048x128) zeros2, View.ld_unit_zero (S := S1x128) zeros2, View.ld_unit_zero (S := S512x128) zeros2, View.ld_unit_zero (S := S1x2048x256) zeros3, View.ld_unit_zero (S := S1x256x2048) zeros3]
  rfl

theorem sout_A_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay1 (k0_pay21 i (k0_pay19 (k0_pay4 x0 x1)) x5 x6 (tG (k0_pay5 x0 x1 x2 x2 x3 x4)) k0_pay20 x7) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S512x2048) zeros2]
  simp only [View.readAt_eq_ld, View.readCov_unit_zero (S := S512x2048) _ zeros2, View.readCov_unit_zero (S := S512x128) _ zeros2, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x2048) zeros2, View.ld_unit_zero (S := S1x2048) zeros2, View.ld_unit_zero (S := S2048x128) zeros2, View.ld_unit_zero (S := S1x128) zeros2, View.ld_unit_zero (S := S512x128) zeros2, View.ld_unit_zero (S := S1x2048x256) zeros3, View.ld_unit_zero (S := S1x256x2048) zeros3]
  rfl

theorem sout_B_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay1 (k0_pay21 i xs0 x5 x6 xs1 xs2 x7) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero zeros2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x2048) zeros2, View.ld_unit_zero (S := S1x2048) zeros2, View.ld_unit_zero (S := S2048x128) zeros2, View.ld_unit_zero (S := S1x128) zeros2, View.ld_unit_zero (S := S512x128) zeros2, View.ld_unit_zero (S := S1x2048x256) zeros3, View.ld_unit_zero (S := S1x256x2048) zeros3]

theorem sout_C_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay1 (k0_pay21 i xs0 x5 x6 xs1 xs2 x7) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero zeros2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x2048) zeros2, View.ld_unit_zero (S := S1x2048) zeros2, View.ld_unit_zero (S := S2048x128) zeros2, View.ld_unit_zero (S := S1x128) zeros2, View.ld_unit_zero (S := S512x128) zeros2, View.ld_unit_zero (S := S1x2048x256) zeros3, View.ld_unit_zero (S := S1x256x2048) zeros3]

theorem out_C_9 (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay2 x0 (k0_pay1 (k0_pay21 i xs0 x5 x6 xs1 xs2 x7)) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero zeros2]
  simp only [View.readAt_eq_ld, View.readCov_unit_zero (S := S512x2048) _ zeros2, View.readCov_unit_zero (S := S512x128) _ zeros2, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x2048) zeros2, View.ld_unit_zero (S := S1x2048) zeros2, View.ld_unit_zero (S := S2048x128) zeros2, View.ld_unit_zero (S := S1x128) zeros2, View.ld_unit_zero (S := S512x128) zeros2, View.ld_unit_zero (S := S1x2048x256) zeros3, View.ld_unit_zero (S := S1x256x2048) zeros3]

end Cases

end Cert.Proof.Experts

end
-- ==== Proof.Experts.lean ====
/- The expert mixture over the prompt's rows: the kernel's run, point by point, and the equality with the reference. -/
module

public import proofs.«01_k».proof.Defs
public import proofs.«01_k».proof.Proof.Gen.KernelExpertsIdeal.Value
public import proofs.«01_k».proof.Proof.Gen.KernelExperts.Frame
public import proofs.«01_k».proof.Proof.Gen.KernelExpertsIdeal.Frame
public import proofs.«01_k».proof.Proof.Gen.ReferenceExpertsIdeal.Read
public import proofs.«01_k».proof.Proof.Gen.Pre_finite_experts
public import proofs.«01_k».proof.Proof.ExpRef
public import proofs.«01_k».proof.Proof.ExpKer
public import proofs.«01_k».proof.Proof.Mix

@[expose] public section

set_option maxRecDepth 16384

noncomputable section

namespace Cert.Proof.Experts

section Pre
open Cert.Pre_finite_experts Cert.Pre_finite_experts.Gen
open Idealize.ShloMosaic
open Cert.Proof.Mix (IsR both all_real)

/-- Every row and every router's array is real when the precondition holds. -/
theorem finite_args (x0 : FVec Ideal S8x4096x2048 .f32) (x1 : FVec Ideal S2048 .f32) (x2 : FVec Ideal S2048x4 .f32) (x3 : FVec Ideal S4 .f32)
    (x4 : FVec Ideal S2048x32 .f32) (x5 : FVec Ideal S32 .f32) (x6 x7 : FVec Ideal S32x2048x256 .f32) (x8 : FVec Ideal S32x256x2048 .f32) (x9 : FVec Ideal S2048 .f32)
    (h : Cert.Pre_finite_experts.fn (F := Ideal) x0 x1 x2 x3 x4 x5 x6 x7 x8 x9 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) := by
  unfold Cert.Pre_finite_experts.fn at h
  dsimp only at h
  obtain ⟨h, e5⟩ := both h
  obtain ⟨h, e4⟩ := both h
  obtain ⟨h, e3⟩ := both h
  obtain ⟨h, e2⟩ := both h
  obtain ⟨e0, e1⟩ := both h
  unfold fn_all_finite at e0
  unfold fn_all_finite_0 at e1
  unfold fn_all_finite_1 at e2
  unfold fn_all_finite_2 at e3
  unfold fn_all_finite_3 at e4
  unfold fn_all_finite_4 at e5
  exact ⟨all_real _ _ _ _ e0, all_real _ _ _ _ e1, all_real _ _ _ _ e2, all_real _ _ _ _ e3, all_real _ _ _ _ e4, all_real _ _ _ _ e5⟩

end Pre

open Cert.KernelExpertsIdeal Cert.KernelExpertsIdeal.Gen Cert.KernelExpertsIdeal.Value Cert.ReferenceExpertsIdeal.Read
open Idealize.ShloMosaic
open Cert.Proof.Mix (IsR heads biases heads_group heads_expert biases_group biases_expert krec_eq router gsel esel sorted_first sorted_second)

variable (m : (ℓ : Loc nD τ sig) → Buf (Elt Ideal) ℓ) (ρ : Dev nD → PrngReg)

/-- The arrays the kernel finds: the rows, the gains as one row, the routers' heads side by side and what their rounding leaves,
    the biases, and the experts' weights cast. -/
theorem V_x (c : Dev nD) : V m c main_v9 = shapeCast S32768x2048 (m (c.tc.loc main_arg0)) shapeCasts_S8x4096x2048_S32768x2048 := by
  unfold V; after_results <;> rfl
theorem V_g (c : Dev nD) : V m c main_v13 = shapeCast S1x2048 (m (c.tc.loc main_arg1)) shapeCasts_S2048_S1x2048 := by
  unfold V; after_results <;> rfl
theorem V_gf (c : Dev nD) : V m c main_v14 = shapeCast S1x2048 (m (c.tc.loc main_arg9)) shapeCasts_S2048_S1x2048 := by
  unfold V; after_results <;> rfl
theorem V_heads (c : Dev nD) : V m c main_v2 = heads (m (c.tc.loc main_arg2)) (m (c.tc.loc main_arg4)) := by
  unfold V; after_results <;> rfl
theorem V_lo (c : Dev nD) : V m c main_v5 = subf (F := Ideal) (φ := .f32) (heads (m (c.tc.loc main_arg2)) (m (c.tc.loc main_arg4))) (heads (m (c.tc.loc main_arg2)) (m (c.tc.loc main_arg4))) := by
  unfold V; after_results <;> rfl
theorem V_biases (c : Dev nD) : V m c main_v8 = biases (m (c.tc.loc main_arg3)) (m (c.tc.loc main_arg5)) := by
  unfold V; after_results <;> rfl
theorem V_wg (c : Dev nD) : V m c main_v10 = m (c.tc.loc main_arg6) := by
  unfold V; after_results <;> rfl
theorem V_wu (c : Dev nD) : V m c main_v11 = m (c.tc.loc main_arg7) := by
  unfold V; after_results <;> rfl
theorem V_wd (c : Dev nD) : V m c main_v12 = m (c.tc.loc main_arg8) := by
  unfold V; after_results <;> rfl

/-- A row of all the rows, read at its sequence and place. -/
theorem rows_at (x : Vec Ideal S8x4096x2048 .f32) (n : Fin 32768) (k : Fin 2048) :
    shapeCast S32768x2048 x shapeCasts_S8x4096x2048_S32768x2048 (ix2 n k) = x (ix3 ⟨n.val / 4096, by omega⟩ ⟨n.val % 4096, by omega⟩ k) :=
  shapeCast_apply x shapeCasts_S8x4096x2048_S32768x2048 (ix2 n k) _ (by
    rewrite [Shape.rowMajor_val_three, Shape.rowMajor_val_two]
    show (n.val / 4096 * 4096 + n.val % 4096) * 2048 + k.val = n.val * 2048 + k.val
    omega)

/-- Where the windows' blocks lie at each point: the rows' at the tile, the experts' weights' at the expert, the others at the origin. -/
theorem idx0 : ∀ t : Fin cfg0.N, win0_0.index t (0 : Fin 2) = t.val / 32 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx5 : ∀ t : Fin cfg0.N, win0_5.index t (0 : Fin 3) = t.val % 32 ∧ win0_5.index t (1 : Fin 3) = 0 ∧ win0_5.index t (2 : Fin 3) = 0 := (by decide +kernel : ∀ t : Fin grid0.N, _)
theorem idx6 : ∀ t : Fin cfg0.N, win0_6.index t (0 : Fin 3) = t.val % 32 ∧ win0_6.index t (1 : Fin 3) = 0 ∧ win0_6.index t (2 : Fin 3) = 0 := (by decide +kernel : ∀ t : Fin grid0.N, _)
theorem idx7 : ∀ t : Fin cfg0.N, win0_7.index t (0 : Fin 3) = t.val % 32 ∧ win0_7.index t (1 : Fin 3) = 0 ∧ win0_7.index t (2 : Fin 3) = 0 := (by decide +kernel : ∀ t : Fin grid0.N, _)
theorem expert_of : ∀ t : Fin cfg0.N, ((grid0.coords t) 1).val = t.val % 32 := (by decide +kernel : ∀ t : Fin grid0.N, _)

/-- Point `t`'s expert, its tile, and the sequence and place of a tile's row. -/
abbrev ex (t : Fin cfg0.N) : Fin 32 := ⟨t.val % 32, Nat.mod_lt _ (by omega)⟩
theorem tile_lt (t : Fin cfg0.N) : t.val / 32 < 64 := by
  have : t.val < 2048 := lt_of_lt_of_eq t.isLt N_0
  omega
abbrev tile (t : Fin cfg0.N) : Fin 64 := ⟨t.val / 32, tile_lt t⟩
abbrev seq (p : Fin 64) : Fin 8 := ⟨p.val / 8, by omega⟩
abbrev place (p : Fin 64) (r : Fin 512) : Fin 4096 := ⟨512 * (p.val % 8) + r.val, by omega⟩

/-- The loaded blocks at an index. -/
theorem x_at (c : Dev nD) (t : Fin cfg0.N) (r : Fin 512) (k : Fin 2048) :
    iblk m c 0 t (ix2 r k) = m (c.tc.loc main_arg0) (ix3 (seq (tile t)) (place (tile t) r) k) := by
  obtain ⟨e0, e1⟩ := idx0 t
  have hl : t.val / 32 < 64 := tile_lt t
  show V m c main_v9 (((cfg0.win 0).blk t).view.emb (ix2 r k)) = _
  rw [V_x, show ((cfg0.win 0).blk t).view.emb (ix2 r k) = ix2 (⟨512 * (t.val / 32) + r.val, by omega⟩ : Fin 32768) k from funext fun a => Fin.ext (by
    match a with
    | ⟨0, _⟩ => show win0_0.index t (0 : Fin 2) * 512 + 1 * r.val = 512 * (t.val / 32) + r.val; omega
    | ⟨1, _⟩ => show win0_0.index t (1 : Fin 2) * 2048 + 1 * k.val = k.val; omega), rows_at]
  refine congrArg (m (c.tc.loc main_arg0)) (congrArg₂ (fun a b => ix3 a b k) (Fin.ext ?_) (Fin.ext ?_))
  · show (512 * (t.val / 32) + r.val) / 4096 = t.val / 32 / 8; omega
  · show (512 * (t.val / 32) + r.val) % 4096 = 512 * (t.val / 32 % 8) + r.val; omega
theorem g_at (c : Dev nD) (t : Fin cfg0.N) (k : Fin 2048) : iblk m c 1 t (ix2 0 k) = m (c.tc.loc main_arg1) (ix1 k) := by
  obtain ⟨e0, e1⟩ := idx1 t
  show V m c main_v13 (((cfg0.win 1).blk t).view.emb (ix2 0 k)) = _
  rw [V_g, show ((cfg0.win 1).blk t).view.emb (ix2 0 k) = ix2 0 k from funext fun a => Fin.ext (by
    match a with
    | ⟨0, _⟩ => show win0_1.index t (0 : Fin 2) * 1 + 1 * 0 = 0; omega
    | ⟨1, _⟩ => show win0_1.index t (1 : Fin 2) * 2048 + 1 * k.val = k.val; omega)]
  exact Cert.Proof.Moe.gains_at _ _
theorem gf_at (c : Dev nD) (t : Fin cfg0.N) (k : Fin 2048) : iblk m c 8 t (ix2 0 k) = m (c.tc.loc main_arg9) (ix1 k) := by
  obtain ⟨e0, e1⟩ := idx8 t
  show V m c main_v14 (((cfg0.win 8).blk t).view.emb (ix2 0 k)) = _
  rw [V_gf, show ((cfg0.win 8).blk t).view.emb (ix2 0 k) = ix2 0 k from funext fun a => Fin.ext (by
    match a with
    | ⟨0, _⟩ => show win0_8.index t (0 : Fin 2) * 1 + 1 * 0 = 0; omega
    | ⟨1, _⟩ => show win0_8.index t (1 : Fin 2) * 2048 + 1 * k.val = k.val; omega)]
  exact Cert.Proof.Moe.gains_at _ _
theorem wr_at (c : Dev nD) (t : Fin cfg0.N) (l : Fin 2048) (k : Fin 128) : iblk m c 2 t (ix2 l k) = heads (m (c.tc.loc main_arg2)) (m (c.tc.loc main_arg4)) (ix2 l k) := by
  obtain ⟨e0, e1⟩ := idx2 t
  show V m c main_v2 (((cfg0.win 2).blk t).view.emb (ix2 l k)) = _
  rw [V_heads, show ((cfg0.win 2).blk t).view.emb (ix2 l k) = ix2 l k from funext fun a => Fin.ext (by
    match a with
    | ⟨0, _⟩ => show win0_2.index t (0 : Fin 2) * 2048 + 1 * l.val = l.val; omega
    | ⟨1, _⟩ => show win0_2.index t (1 : Fin 2) * 128 + 1 * k.val = k.val; omega)]
theorem lo_at (c : Dev nD) (t : Fin cfg0.N) (l : Fin 2048) (k : Fin 128) : iblk m c 3 t (ix2 l k) = heads (m (c.tc.loc main_arg2)) (m (c.tc.loc main_arg4)) (ix2 l k) - heads (m (c.tc.loc main_arg2)) (m (c.tc.loc main_arg4)) (ix2 l k) := by
  obtain ⟨e0, e1⟩ := idx3 t
  show V m c main_v5 (((cfg0.win 3).blk t).view.emb (ix2 l k)) = _
  rw [V_lo, show ((cfg0.win 3).blk t).view.emb (ix2 l k) = ix2 l k from funext fun a => Fin.ext (by
    match a with
    | ⟨0, _⟩ => show win0_3.index t (0 : Fin 2) * 2048 + 1 * l.val = l.val; omega
    | ⟨1, _⟩ => show win0_3.index t (1 : Fin 2) * 128 + 1 * k.val = k.val; omega)]
  rfl
theorem b_at (c : Dev nD) (t : Fin cfg0.N) (k : Fin 128) : iblk m c 4 t (ix2 0 k) = biases (m (c.tc.loc main_arg3)) (m (c.tc.loc main_arg5)) (ix2 0 k) := by
  obtain ⟨e0, e1⟩ := idx4 t
  show V m c main_v8 (((cfg0.win 4).blk t).view.emb (ix2 0 k)) = _
  rw [V_biases, show ((cfg0.win 4).blk t).view.emb (ix2 0 k) = ix2 0 k from funext fun a => Fin.ext (by
    match a with
    | ⟨0, _⟩ => show win0_4.index t (0 : Fin 2) * 1 + 1 * 0 = 0; omega
    | ⟨1, _⟩ => show win0_4.index t (1 : Fin 2) * 128 + 1 * k.val = k.val; omega)]
theorem w5_at (c : Dev nD) (t : Fin cfg0.N) (k : Fin 2048) (f : Fin 256) : iblk m c 5 t (ix3 0 k f) = m (c.tc.loc main_arg6) (ix3 (ex t) k f) := by
  obtain ⟨e0, e1, e2⟩ := idx5 t
  show V m c main_v10 (((cfg0.win 5).blk t).view.emb (ix3 0 k f)) = _
  rw [V_wg, show ((cfg0.win 5).blk t).view.emb (ix3 0 k f) = ix3 (ex t) k f from funext fun a => Fin.ext (by
    match a with
    | ⟨0, _⟩ => show win0_5.index t (0 : Fin 3) * 1 + 1 * 0 = t.val % 32; omega
    | ⟨1, _⟩ => show win0_5.index t (1 : Fin 3) * 2048 + 1 * k.val = k.val; omega
    | ⟨2, _⟩ => show win0_5.index t (2 : Fin 3) * 256 + 1 * f.val = f.val; omega)]
theorem w6_at (c : Dev nD) (t : Fin cfg0.N) (k : Fin 2048) (f : Fin 256) : iblk m c 6 t (ix3 0 k f) = m (c.tc.loc main_arg7) (ix3 (ex t) k f) := by
  obtain ⟨e0, e1, e2⟩ := idx6 t
  show V m c main_v11 (((cfg0.win 6).blk t).view.emb (ix3 0 k f)) = _
  rw [V_wu, show ((cfg0.win 6).blk t).view.emb (ix3 0 k f) = ix3 (ex t) k f from funext fun a => Fin.ext (by
    match a with
    | ⟨0, _⟩ => show win0_6.index t (0 : Fin 3) * 1 + 1 * 0 = t.val % 32; omega
    | ⟨1, _⟩ => show win0_6.index t (1 : Fin 3) * 2048 + 1 * k.val = k.val; omega
    | ⟨2, _⟩ => show win0_6.index t (2 : Fin 3) * 256 + 1 * f.val = f.val; omega)]
theorem w7_at (c : Dev nD) (t : Fin cfg0.N) (k : Fin 256) (f : Fin 2048) : iblk m c 7 t (ix3 0 k f) = m (c.tc.loc main_arg8) (ix3 (ex t) k f) := by
  obtain ⟨e0, e1, e2⟩ := idx7 t
  show V m c main_v12 (((cfg0.win 7).blk t).view.emb (ix3 0 k f)) = _
  rw [V_wd, show ((cfg0.win 7).blk t).view.emb (ix3 0 k f) = ix3 (ex t) k f from funext fun a => Fin.ext (by
    match a with
    | ⟨0, _⟩ => show win0_7.index t (0 : Fin 3) * 1 + 1 * 0 = t.val % 32; omega
    | ⟨1, _⟩ => show win0_7.index t (1 : Fin 3) * 256 + 1 * k.val = k.val; omega
    | ⟨2, _⟩ => show win0_7.index t (2 : Fin 3) * 2048 + 1 * f.val = f.val; omega)]

/-- A real number less itself is nothing. -/
theorem real_sub_self {x : EReal} (h : IsR x) : x - x = 0 := by
  obtain ⟨r, rfl⟩ := h
  rw [← EReal.coe_sub, sub_self, EReal.coe_zero]

/-- A lane's logit: what the rounding leaves of rows and heads is nothing, as both are real. -/
theorem logit_at (c : Dev nD) (t : Fin cfg0.N) (r : Fin 512) (l : Fin 128) (u : Fin 2048 → EReal) (v : EReal)
    (f0 : ∀ i, IsR (m (c.tc.loc main_arg0) i)) (f1 : ∀ i, IsR (m (c.tc.loc main_arg1) i))
    (hu : ∀ k, heads (m (c.tc.loc main_arg2)) (m (c.tc.loc main_arg4)) (ix2 k l) = u k) (ru : ∀ k, IsR (u k)) (hv : biases (m (c.tc.loc main_arg3)) (m (c.tc.loc main_arg5)) (ix2 0 l) = v) :
    k0_pay5 (iblk m c 0 t) (iblk m c 1 t) (iblk m c 2 t) (iblk m c 2 t) (iblk m c 3 t) (iblk m c 4 t) (ix2 r l)
      = ∑ k, normed (m (c.tc.loc main_arg0)) (m (c.tc.loc main_arg1)) (seq (tile t)) (place (tile t) r) k * u k + v := by
  have hn : ∀ k, rmsRow (fun k => iblk m c 0 t (ix2 r k)) (fun k => iblk m c 1 t (ix2 0 k)) k = normed (m (c.tc.loc main_arg0)) (m (c.tc.loc main_arg1)) (seq (tile t)) (place (tile t) r) k := fun k => by
    simp only [x_at, g_at]; rfl
  refine (pay5_at _ _ _ _ _ _ r l).trans ?_
  simp only [hn, wr_at, lo_at, b_at, hu, hv, real_sub_self (ru _), real_sub_self (normed_real _ _ _ _ f0 f1 _), zero_mul, mul_zero, Finset.sum_const_zero, add_zero]

/-- What expert `n` adds to a row, in the launch's arrays; past the last expert nothing. -/
def shareOf (c : Dev nD) (b : Fin 8) (t : Fin 4096) (d : Fin 2048) (n : ℕ) : EReal :=
  if h : n < 32 then share (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) b t d ⟨n, h⟩ else 0

/-- What is carried past expert `j` of tile `p`: the normalised rows, every expert's part in them, and the shares so far. -/
def Holds (c : Dev nD) (p : Fin 64) (j : ℕ) (h : Vec Ideal S512x2048 .bf16) (q : Vec Ideal S512x128 .f32) (a : Vec Ideal S512x2048 .f32) : Prop :=
  (∀ r k, h (ix2 r k) = normed (m (c.tc.loc main_arg0)) (m (c.tc.loc main_arg1)) (seq p) (place p r) k)
    ∧ (∀ r e, q (ix2 r ⟨4 + e.val, lane_expert e⟩) = part (m (c.tc.loc main_arg0)) (m (c.tc.loc main_arg1)) (m (c.tc.loc main_arg2)) (m (c.tc.loc main_arg3)) (m (c.tc.loc main_arg4)) (m (c.tc.loc main_arg5)) (seq p) (place p r) e)
    ∧ ∀ r d, a (ix2 r d) = ∑ e ∈ Finset.range (j + 1), shareOf m c (seq p) (place p r) d e

/-- One point's step: it adds its expert's share to what the accumulator held. -/
theorem step_at (c : Dev nD) (t : Fin cfg0.N) (h : Vec Ideal S512x2048 .bf16) (q : Vec Ideal S512x128 .f32) (a : Vec Ideal S512x2048 .f32)
    (hh : ∀ r k, h (ix2 r k) = normed (m (c.tc.loc main_arg0)) (m (c.tc.loc main_arg1)) (seq (tile t)) (place (tile t) r) k)
    (hq : ∀ r e, q (ix2 r ⟨4 + e.val, lane_expert e⟩) = part (m (c.tc.loc main_arg0)) (m (c.tc.loc main_arg1)) (m (c.tc.loc main_arg2)) (m (c.tc.loc main_arg3)) (m (c.tc.loc main_arg4)) (m (c.tc.loc main_arg5)) (seq (tile t)) (place (tile t) r) e) (r : Fin 512) (d : Fin 2048) :
    k0_pay1 (k0_pay21 (grid0.coords t) h (iblk m c 5 t) (iblk m c 6 t) q a (iblk m c 7 t)) (ix2 r d)
      = a (ix2 r d) + shareOf m c (seq (tile t)) (place (tile t) r) d (t.val % 32) := by
  have ht : t.val % 32 < 32 := Nat.mod_lt _ (by omega)
  rw [show ∀ v : FVec Ideal S512x2048 .f32, k0_pay1 v = v from fun v => by unfold k0_pay1; exact shapeCast_self _ _, pay21_at]
  unfold shareOf; rw [dif_pos ht]
  unfold share hid proj
  simp only [hh, w5_at, w6_at, w7_at]
  have hl : ∀ h', q (ix2 r (⟨4 + ((grid0.coords t) 1).val, h'⟩ : Fin 128)) = part (m (c.tc.loc main_arg0)) (m (c.tc.loc main_arg1)) (m (c.tc.loc main_arg2)) (m (c.tc.loc main_arg3)) (m (c.tc.loc main_arg4)) (m (c.tc.loc main_arg5)) (seq (tile t)) (place (tile t) r) (ex t) := fun _ =>
    (congrArg (fun l => q (ix2 r l)) (Fin.ext (by show 4 + ((grid0.coords t) 1).val = 4 + t.val % 32; rw [expert_of]))).trans (hq r (ex t))
  simp only [hl]

section Run
variable (hp : Cert.Pre_KernelExpertsIdeal_finite_experts (hPre_finite_experts := Cert.Pre_finite_experts.Gen.facts) m)

include hp in
/-- The rows and the routers' arrays are real. -/
theorem real_args (c : Dev nD) : (∀ i, IsR (m (c.tc.loc main_arg0) i)) ∧ (∀ i, IsR (m (c.tc.loc main_arg1) i)) ∧ (∀ i, IsR (m (c.tc.loc main_arg2) i))
    ∧ (∀ i, IsR (m (c.tc.loc main_arg3) i)) ∧ (∀ i, IsR (m (c.tc.loc main_arg4) i)) ∧ (∀ i, IsR (m (c.tc.loc main_arg5) i)) :=
  finite_args _ _ _ _ _ _ _ _ _ _ (hp c)

include hp in
/-- The lanes of the tile's first point: every expert's part in a row. -/
theorem lanes_at (c : Dev nD) (t : Fin cfg0.N) (r : Fin 512) (e : Fin 32) :
    tG (k0_pay5 (iblk m c 0 t) (iblk m c 1 t) (iblk m c 2 t) (iblk m c 2 t) (iblk m c 3 t) (iblk m c 4 t)) (ix2 r ⟨4 + e.val, lane_expert e⟩)
      = part (m (c.tc.loc main_arg0)) (m (c.tc.loc main_arg1)) (m (c.tc.loc main_arg2)) (m (c.tc.loc main_arg3)) (m (c.tc.loc main_arg4)) (m (c.tc.loc main_arg5)) (seq (tile t)) (place (tile t) r) e := by
  obtain ⟨f0, f1, f2, f3, f4, f5⟩ := real_args m hp c
  rw [tG_at, kpart_eq _ _ (by show 2 ≤ 4 + e.val; omega)]
  unfold part
  refine krec_eq _ (rgl (m (c.tc.loc main_arg0)) (m (c.tc.loc main_arg1)) (seq (tile t)) (place (tile t) r) (m (c.tc.loc main_arg2)) (m (c.tc.loc main_arg3))) (rel (m (c.tc.loc main_arg0)) (m (c.tc.loc main_arg1)) (seq (tile t)) (place (tile t) r) (m (c.tc.loc main_arg4)) (m (c.tc.loc main_arg5))) (fun g => ?_) (fun e => ?_)
    (rgl_real _ _ _ _ f0 f1 _ _ f2 f3) (rel_real _ _ _ _ f0 f1 _ _ f4 f5) (sorted_first (n := 3) _) (sorted_first (n := 7) _) (sorted_second (n := 6) _) _
  · exact logit_at m c t r _ (fun k => m (c.tc.loc main_arg2) (ix2 k g)) _ f0 f1 (fun k => heads_group _ _ k g) (fun k => f2 _) (biases_group _ _ g)
  · exact logit_at m c t r _ (fun k => m (c.tc.loc main_arg4) (ix2 k e)) _ f0 f1 (fun k => heads_expert _ _ k e) (fun k => f4 _) (biases_expert _ _ e)

include hp in
/-- After a tile's first point. -/
theorem carried_first (c : Dev nD) (t : Fin cfg0.N) (h0 : t.val % 32 = 0) :
    Holds m c (tile t) 0 (outsAt0 m c t.val t.isLt).2.1 (outsAt0 m c t.val t.isLt).2.2.1 (outsAt0 m c t.val t.isLt).2.2.2 := by
  have e := outsAt0_A m c t h0 (by omega)
  have hh : ∀ r k, k0_pay19 (k0_pay4 (iblk m c 0 t) (iblk m c 1 t)) (ix2 r k) = normed (m (c.tc.loc main_arg0)) (m (c.tc.loc main_arg1)) (seq (tile t)) (place (tile t) r) k := fun r k => by
    rw [pay19_at]; simp only [x_at, g_at]; rfl
  rw [e]
  dsimp only
  rw [sout_A_0, sout_A_1, sout_A_2]
  refine ⟨hh, lanes_at m hp c t, fun r d => ?_⟩
  refine (step_at m c t _ _ _ hh (lanes_at m hp c t) r d).trans ?_
  rw [Finset.sum_range_one, h0]
  exact (congrArg (· + shareOf m c (seq (tile t)) (place (tile t) r) d 0) (pay20_at r d)).trans (zero_add _)

include hp in
/-- After every point. -/
theorem carried (c : Dev nD) : ∀ (n : ℕ) (hn : n < cfg0.N),
    Holds m c (tile ⟨n, hn⟩) (n % 32) (outsAt0 m c n hn).2.1 (outsAt0 m c n hn).2.2.1 (outsAt0 m c n hn).2.2.2 := by
  intro n
  induction n with
  | zero => exact fun hn => carried_first m hp c ⟨0, hn⟩ rfl
  | succ n ih =>
    intro hn
    by_cases h0 : (n + 1) % 32 = 0
    · rw [h0]; exact carried_first m hp c ⟨n + 1, hn⟩ h0
    · have i := ih (Nat.lt_of_succ_lt hn)
      rw [show tile ⟨n, Nat.lt_of_succ_lt hn⟩ = tile ⟨n + 1, hn⟩ from Fin.ext (by show n / 32 = (n + 1) / 32; omega)] at i
      obtain ⟨i0, i1, i2⟩ := i
      have hm : n % 32 + 1 = (n + 1) % 32 := by omega
      by_cases h1 : (n + 1) % 32 = 31
      · have e := outsAt0_C m c ⟨n + 1, hn⟩ h0 h1
        rw [show outsAt0 m c (n + 1) hn = _ from e]
        dsimp only
        rw [sout_C_2]
        refine ⟨i0, i1, fun r d => ?_⟩
        refine (step_at m c ⟨n + 1, hn⟩ _ _ _ i0 i1 r d).trans ?_
        rw [Finset.sum_range_succ]
        refine congrArg (· + shareOf m c (seq (tile ⟨n + 1, hn⟩)) (place (tile ⟨n + 1, hn⟩) r) d ((n + 1) % 32)) ?_
        exact (i2 r d).trans (by rw [hm])
      · have e := outsAt0_B m c ⟨n + 1, hn⟩ h0 h1
        rw [show outsAt0 m c (n + 1) hn = _ from e]
        dsimp only
        rw [sout_B_2]
        refine ⟨i0, i1, fun r d => ?_⟩
        refine (step_at m c ⟨n + 1, hn⟩ _ _ _ i0 i1 r d).trans ?_
        rw [Finset.sum_range_succ]
        refine congrArg (· + shareOf m c (seq (tile ⟨n + 1, hn⟩)) (place (tile ⟨n + 1, hn⟩) r) d ((n + 1) % 32)) ?_
        exact (i2 r d).trans (by rw [hm])

include hp in
/-- A tile's last point's result. -/
theorem block_at (c : Dev nD) (t : Fin cfg0.N) (h1 : t.val % 32 = 31) (r : Fin 512) (d : Fin 2048) :
    (outsAt0 m c t.val t.isLt).1 (ix2 r d)
      = rmsRow (summed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (seq (tile t)) (place (tile t) r)) (fun k => m (c.tc.loc main_arg9) (ix1 k)) d := by
  have e := outsAt0_C m c t (by omega) h1
  have i := (carried m hp c t.val t.isLt).2.2
  rw [e] at i ⊢
  dsimp only at i ⊢
  rw [sout_C_2] at i
  rw [out_C_9, pay2_at]
  refine congrArg₂ (fun a b => rmsRow a b d) (funext fun k => ?_) (funext fun k => gf_at m c t k)
  refine (congrArg₂ (fun a b : EReal => a + b) (x_at m c t r k) (i r k)).trans ?_
  unfold summed
  refine congrArg (fun a : EReal => _ + a) ?_
  rw [h1, Finset.sum_range]
  unfold shareOf
  simp

include hp in
/-- The array the launch leaves is the reference's result. -/
theorem result_eq (c : Dev nD) : G9 m c = val_main_v89 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
  have hN : cfg0.N = 2048 := N_0
  obtain ⟨f0, f1, f2, f3, f4, f5⟩ := real_args m hp c
  funext j
  obtain ⟨n, d, rfl⟩ : ∃ (a : Fin 32768) (b : Fin 2048), j = ix2 a b := ⟨j 0, j 1, eq_ix2 j⟩
  have hp9 : pt9Of (ix2 n d) = 32 * (n.val / 512) + 31 := by
    show 32 * (1 * (n.val / 512 - 0) + 1 * (d.val / 2048 - 0)) + 31 = _
    omega
  have hn : pt9Of (ix2 n d) < cfg0.N := by omega
  unfold G9
  rw [dif_pos hn, ← outsAt0_sweep m c _ hn]
  rw [show loc9Of (ix2 n d) = ix2 (⟨n.val % 512, by omega⟩ : Fin 512) d from funext fun a => Fin.ext (by
    match a with
    | ⟨0, _⟩ => rfl
    | ⟨1, _⟩ => show d.val % 2048 = d.val; omega)]
  refine (block_at m hp c ⟨_, hn⟩ (by show pt9Of (ix2 n d) % 32 = 31; omega) _ d).trans ?_
  rw [val_main_v89_apply, show idx_main_v89 (ix2 n d) = ix3 (seq (tile ⟨_, hn⟩)) (place (tile ⟨_, hn⟩) (⟨n.val % 512, by omega⟩ : Fin 512)) d from funext fun a => Fin.ext (by
    match a with
    | ⟨0, _⟩ => show (n.val * 2048 + d.val) / 8388608 = pt9Of (ix2 n d) / 32 / 8; omega
    | ⟨1, _⟩ => show (n.val * 2048 + d.val) / 2048 % 4096 = 512 * (pt9Of (ix2 n d) / 32 % 8) + n.val % 512; omega
    | ⟨2, _⟩ => show (n.val * 2048 + d.val) % 2048 = d.val; omega)]
  exact (ref_at _ _ _ _ _ _ _ _ _ _ _ _ (rgl_real _ _ _ _ f0 f1 _ _ f2 f3) (rel_real _ _ _ _ f0 f1 _ _ f4 f5) d).symm

end Run

/-- The kernel's result is the reference's. -/
theorem algebraic : Cert.algebraic_KernelExpertsIdeal_ReferenceExpertsIdeal_pre_finite_experts
    (hKernelExpertsIdeal := Cert.KernelExpertsIdeal.Gen.facts) (hReferenceExpertsIdeal := Cert.ReferenceExpertsIdeal.Gen.facts) (hPre_finite_experts := Cert.Pre_finite_experts.Gen.facts) := by
  intro m g m' g' hp hargs
  refine ⟨fun c => G9 m c, run m g, ?_⟩
  refine (θ_run _ _ _).mono (fun r h c => ?_) (Cert.ReferenceExpertsIdeal.Value.run m' g')
  obtain ⟨h0, hk⟩ := h c
  obtain ⟨a0, a1, a2, a3, a4, a5, a6, a7, a8, a9⟩ := hargs c
  refine ⟨h0.trans ?_, hk⟩
  show _ = G9 m c
  rw [result_eq m hp, val_main_v89_eq]
  show val_main_v89 (F := Ideal) (m' (c.tc.loc Cert.ReferenceExpertsIdeal.main_arg0)) (m' (c.tc.loc Cert.ReferenceExpertsIdeal.main_arg1)) (m' (c.tc.loc Cert.ReferenceExpertsIdeal.main_arg2)) (m' (c.tc.loc Cert.ReferenceExpertsIdeal.main_arg3)) (m' (c.tc.loc Cert.ReferenceExpertsIdeal.main_arg4)) (m' (c.tc.loc Cert.ReferenceExpertsIdeal.main_arg5)) (m' (c.tc.loc Cert.ReferenceExpertsIdeal.main_arg6)) (m' (c.tc.loc Cert.ReferenceExpertsIdeal.main_arg7)) (m' (c.tc.loc Cert.ReferenceExpertsIdeal.main_arg8)) (m' (c.tc.loc Cert.ReferenceExpertsIdeal.main_arg9)) = _
  rw [a0, a1, a2, a3, a4, a5, a6, a7, a8, a9]

end Cert.Proof.Experts

end
-- ==== Proof.lean ====
module

public import proofs.«01_k».proof.Defs
public import proofs.«01_k».proof.Proof.Dsa
public import proofs.«01_k».proof.Proof.Gen.KernelIn.Frame
public import proofs.«01_k».proof.Proof.Gen.KernelInIdeal.Frame
public import proofs.«01_k».proof.Proof.Gen.ReferenceInIdeal.Run
public import proofs.«01_k».proof.Proof.Gen.KernelInSample.Frame
public import proofs.«01_k».proof.Proof.Gen.KernelInSampleIdeal.Frame
public import proofs.«01_k».proof.Proof.Gen.ReferenceInSampleIdeal.Run
public import proofs.«01_k».proof.Proof.Gen.KernelMem.Frame
public import proofs.«01_k».proof.Proof.Gen.KernelMemIdeal.Frame
public import proofs.«01_k».proof.Proof.Gen.ReferenceMemIdeal.Run
public import proofs.«01_k».proof.Proof.Gen.KernelMoe.Frame
public import proofs.«01_k».proof.Proof.Gen.KernelMoeIdeal.Frame
public import proofs.«01_k».proof.Proof.Gen.ReferenceMoeIdeal.Run
public import proofs.«01_k».proof.Proof.Gen.KernelMix.Frame
public import proofs.«01_k».proof.Proof.Gen.KernelMixIdeal.Frame
public import proofs.«01_k».proof.Proof.Gen.ReferenceMixIdeal.Run
public import proofs.«01_k».proof.Proof.Gen.KernelExperts.Frame
public import proofs.«01_k».proof.Proof.Gen.KernelExpertsIdeal.Frame
public import proofs.«01_k».proof.Proof.Gen.ReferenceExpertsIdeal.Run
public import proofs.«01_k».proof.Proof.Gen.Pre_finite_mix
public import proofs.«01_k».proof.Proof.Gen.Pre_finite_experts
public import proofs.«01_k».proof.Proof.In
public import proofs.«01_k».proof.Proof.InSample
public import proofs.«01_k».proof.Proof.Mem
public import proofs.«01_k».proof.Proof.Moe
public import proofs.«01_k».proof.Proof.Mix
public import proofs.«01_k».proof.Proof.Experts

@[expose] public section

open Idealize.ShloMosaic Idealize.SL.Sem Idealize.ShloMosaic.StableHlo

/-- The frame of `ReferenceInIdeal`: it ends, and leaves its arguments and the counters as they were. -/
theorem Cert.Proof.frame_ReferenceInIdeal : Cert.quiescent_ReferenceInIdeal (hReferenceInIdeal := Cert.ReferenceInIdeal.Gen.facts) := by
  intro m ρ _
  refine (θ_run _ _ _).mono (fun r h => ⟨fun c => ?_, ?_⟩) (Cert.ReferenceInIdeal.Value.run m ρ)
  · have := h c; tauto
  · funext g; rcases g with ⟨_, ⟨⟨_, h⟩⟩ | ⟨⟨_, h⟩⟩⟩ <;> exact absurd h (Nat.not_lt_zero _)

/-- The frame of `ReferenceInSampleIdeal`: it ends, and leaves its arguments and the counters as they were. -/
theorem Cert.Proof.frame_ReferenceInSampleIdeal : Cert.quiescent_ReferenceInSampleIdeal (hReferenceInSampleIdeal := Cert.ReferenceInSampleIdeal.Gen.facts) := by
  intro m ρ _
  refine (θ_run _ _ _).mono (fun r h => ⟨fun c => ?_, ?_⟩) (Cert.ReferenceInSampleIdeal.Value.run m ρ)
  · have := h c; tauto
  · funext g; rcases g with ⟨_, ⟨⟨_, h⟩⟩ | ⟨⟨_, h⟩⟩⟩ <;> exact absurd h (Nat.not_lt_zero _)

/-- The frame of `ReferenceMemIdeal`: it ends, and leaves its arguments and the counters as they were. -/
theorem Cert.Proof.frame_ReferenceMemIdeal : Cert.quiescent_ReferenceMemIdeal (hReferenceMemIdeal := Cert.ReferenceMemIdeal.Gen.facts) := by
  intro m ρ _
  refine (θ_run _ _ _).mono (fun r h => ⟨fun c => ?_, ?_⟩) (Cert.ReferenceMemIdeal.Value.run m ρ)
  · have := h c; tauto
  · funext g; rcases g with ⟨_, ⟨⟨_, h⟩⟩ | ⟨⟨_, h⟩⟩⟩ <;> exact absurd h (Nat.not_lt_zero _)

/-- The frame of `ReferenceMoeIdeal`: it ends, and leaves its arguments and the counters as they were. -/
theorem Cert.Proof.frame_ReferenceMoeIdeal : Cert.quiescent_ReferenceMoeIdeal (hReferenceMoeIdeal := Cert.ReferenceMoeIdeal.Gen.facts) := by
  intro m ρ _
  refine (θ_run _ _ _).mono (fun r h => ⟨fun c => ?_, ?_⟩) (Cert.ReferenceMoeIdeal.Value.run m ρ)
  · have := h c; tauto
  · funext g; rcases g with ⟨_, ⟨⟨_, h⟩⟩ | ⟨⟨_, h⟩⟩⟩ <;> exact absurd h (Nat.not_lt_zero _)

/-- The frame of `ReferenceMixIdeal`: it ends, and leaves its arguments and the counters as they were. -/
theorem Cert.Proof.frame_ReferenceMixIdeal : Cert.quiescent_ReferenceMixIdeal (hReferenceMixIdeal := Cert.ReferenceMixIdeal.Gen.facts) := by
  intro m ρ _
  refine (θ_run _ _ _).mono (fun r h => ⟨fun c => ?_, ?_⟩) (Cert.ReferenceMixIdeal.Value.run m ρ)
  · have := h c; tauto
  · funext g; rcases g with ⟨_, ⟨⟨_, h⟩⟩ | ⟨⟨_, h⟩⟩⟩ <;> exact absurd h (Nat.not_lt_zero _)

/-- The frame of `ReferenceExpertsIdeal`: it ends, and leaves its arguments and the counters as they were. -/
theorem Cert.Proof.frame_ReferenceExpertsIdeal : Cert.quiescent_ReferenceExpertsIdeal (hReferenceExpertsIdeal := Cert.ReferenceExpertsIdeal.Gen.facts) := by
  intro m ρ _
  refine (θ_run _ _ _).mono (fun r h => ⟨fun c => ?_, ?_⟩) (Cert.ReferenceExpertsIdeal.Value.run m ρ)
  · have := h c; tauto
  · funext g; rcases g with ⟨_, ⟨⟨_, h⟩⟩ | ⟨⟨_, h⟩⟩⟩ <;> exact absurd h (Nat.not_lt_zero _)

/-- Everything claimed. -/
theorem Cert.Proof.claim : Cert.Claim :=
  ⟨Cert.Kernel.Gen.facts,
    Cert.KernelIn.Gen.facts,
    Cert.KernelInIdeal.Gen.facts,
    Cert.ReferenceInIdeal.Gen.facts,
    Cert.KernelInSample.Gen.facts,
    Cert.KernelInSampleIdeal.Gen.facts,
    Cert.ReferenceInSampleIdeal.Gen.facts,
    Cert.KernelMem.Gen.facts,
    Cert.KernelMemIdeal.Gen.facts,
    Cert.ReferenceMemIdeal.Gen.facts,
    Cert.KernelMoe.Gen.facts,
    Cert.KernelMoeIdeal.Gen.facts,
    Cert.ReferenceMoeIdeal.Gen.facts,
    Cert.KernelMix.Gen.facts,
    Cert.KernelMixIdeal.Gen.facts,
    Cert.ReferenceMixIdeal.Gen.facts,
    Cert.KernelExperts.Gen.facts,
    Cert.KernelExpertsIdeal.Gen.facts,
    Cert.ReferenceExpertsIdeal.Gen.facts,
    Cert.Pre_finite_mix.Gen.facts,
    Cert.Pre_finite_experts.Gen.facts,
    Cert.Proof.Dsa.frame,
    fun m ρ _ => Cert.KernelIn.Gen.frame m ρ,
    fun m ρ _ => Cert.KernelInIdeal.Gen.frame m ρ,
    Cert.Proof.frame_ReferenceInIdeal,
    fun m ρ _ => Cert.KernelInSample.Gen.frame m ρ,
    fun m ρ _ => Cert.KernelInSampleIdeal.Gen.frame m ρ,
    Cert.Proof.frame_ReferenceInSampleIdeal,
    fun m ρ _ => Cert.KernelMem.Gen.frame m ρ,
    fun m ρ _ => Cert.KernelMemIdeal.Gen.frame m ρ,
    Cert.Proof.frame_ReferenceMemIdeal,
    fun m ρ _ => Cert.KernelMoe.Gen.frame m ρ,
    fun m ρ _ => Cert.KernelMoeIdeal.Gen.frame m ρ,
    Cert.Proof.frame_ReferenceMoeIdeal,
    fun m ρ _ => Cert.KernelMix.Gen.frame m ρ,
    fun m ρ _ => Cert.KernelMixIdeal.Gen.frame m ρ,
    fun m ρ _ => Cert.KernelMixIdeal.Gen.frame m ρ,
    Cert.Proof.frame_ReferenceMixIdeal,
    fun m ρ _ => Cert.Proof.frame_ReferenceMixIdeal m ρ trivial,
    fun m ρ _ => Cert.KernelExperts.Gen.frame m ρ,
    fun m ρ _ => Cert.KernelExpertsIdeal.Gen.frame m ρ,
    fun m ρ _ => Cert.KernelExpertsIdeal.Gen.frame m ρ,
    Cert.Proof.frame_ReferenceExpertsIdeal,
    fun m ρ _ => Cert.Proof.frame_ReferenceExpertsIdeal m ρ trivial,
    trivial,
    Cert.Proof.In.algebraic,
    trivial,
    Cert.Proof.InSample.algebraic,
    trivial,
    Cert.Proof.Mem.algebraic,
    trivial,
    Cert.Proof.Moe.algebraic,
    trivial,
    Cert.Proof.Mix.algebraic,
    trivial,
    Cert.Proof.Experts.algebraic⟩

end
